-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_and_keys_finite [hPre_queries_and_keys_finite : Cert.Pre_queries_and_keys_finite.Facts] (m : (ℓ : Loc Cert.KernelIdeal.nD Cert.KernelIdeal.τ Cert.KernelIdeal.sig) → Buf (Elt Ideal) ℓ) : Prop :=
  ∀ c : Dev Cert.KernelIdeal.nD,
    (Cert.Pre_queries_and_keys_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_and_keys_finite [hPre_queries_and_keys_finite : Cert.Pre_queries_and_keys_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_and_keys_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 [hPre_pages_named : Cert.Pre_pages_named.Facts] (m : (ℓ : Loc Cert.Kernel10.nD Cert.Kernel10.τ Cert.Kernel10.sig) → Buf (Elt Bits) ℓ) : Prop :=
  ∀ c : Dev Cert.Kernel10.nD,
    (Cert.Pre_pages_named.fn (F := Bits) (m ((c.tc : Thread Cert.Kernel10.nD Cert.Kernel10.τ).loc Cert.Kernel10.main_arg0)) (m ((c.tc : Thread Cert.Kernel10.nD Cert.Kernel10.τ).loc Cert.Kernel10.main_arg1)) (m ((c.tc : Thread Cert.Kernel10.nD Cert.Kernel10.τ).loc Cert.Kernel10.main_arg2))) = (fun _ => 1#1)

def Pre_Kernel10Ideal [hPre_pages_named : Cert.Pre_pages_named.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_pages_named.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) = (fun _ => 1#1)

def Pre_Kernel10Ideal_pages_named_and_finite [hPre_pages_named_and_finite : Cert.Pre_pages_named_and_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_pages_named_and_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))).1 = (fun _ => 1#1)
    ∧ (Cert.Pre_pages_named_and_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))).2.1 = (fun _ => 1#1)
    ∧ (Cert.Pre_pages_named_and_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))).2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_pages_named_and_finite [hPre_pages_named_and_finite : Cert.Pre_pages_named_and_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_pages_named_and_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))).1 = (fun _ => 1#1)
    ∧ (Cert.Pre_pages_named_and_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))).2.1 = (fun _ => 1#1)
    ∧ (Cert.Pre_pages_named_and_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_queries_and_keys_finite [hKernelIdeal : Cert.KernelIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_and_keys_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_queries_and_keys_finite [hReferenceIdeal : Cert.ReferenceIdeal.Facts] [hPre_queries_and_keys_finite : Cert.Pre_queries_and_keys_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_and_keys_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] [hPre_pages_named : Cert.Pre_pages_named.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] [hPre_pages_named : Cert.Pre_pages_named.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_pages_named_and_finite [hKernel10Ideal : Cert.Kernel10Ideal.Facts] [hPre_pages_named_and_finite : Cert.Pre_pages_named_and_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_pages_named_and_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_pages_named_and_finite [hReference10Ideal : Cert.Reference10Ideal.Facts] [hPre_pages_named_and_finite : Cert.Pre_pages_named_and_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_pages_named_and_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal_pre_queries_and_keys_finite [hKernelIdeal : Cert.KernelIdeal.Facts] [hReferenceIdeal : Cert.ReferenceIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_and_keys_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v28) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v40) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v11) = v1 c
          ∧ r.2.mem ((c.tc : Thread Cert.Reference4Ideal.nD Cert.Reference4Ideal.τ).loc Cert.Reference4Ideal.main_v12) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_v36) = v1 c
          ∧ r.2.mem ((c.tc : Thread Cert.Reference6Ideal.nD Cert.Reference6Ideal.τ).loc Cert.Reference6Ideal.main_v37) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v34) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal_pre_pages_named_and_finite [hKernel10Ideal : Cert.Kernel10Ideal.Facts] [hReference10Ideal : Cert.Reference10Ideal.Facts] [hPre_pages_named_and_finite : Cert.Pre_pages_named_and_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_pages_named_and_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v47) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_queries_and_keys_finite : Cert.Pre_queries_and_keys_finite.Facts) (hPre_pages_named : Cert.Pre_pages_named.Facts) (hPre_pages_named_and_finite : Cert.Pre_pages_named_and_finite.Facts),
    quiescent_Kernel (hKernel := hKernel)
    ∧ quiescent_KernelIdeal (hKernelIdeal := hKernelIdeal)
    ∧ quiescent_KernelIdeal_pre_queries_and_keys_finite (hKernelIdeal := hKernelIdeal) (hPre_queries_and_keys_finite := hPre_queries_and_keys_finite)
    ∧ quiescent_ReferenceIdeal (hReferenceIdeal := hReferenceIdeal)
    ∧ quiescent_ReferenceIdeal_pre_queries_and_keys_finite (hReferenceIdeal := hReferenceIdeal) (hPre_queries_and_keys_finite := hPre_queries_and_keys_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10) (hPre_pages_named := hPre_pages_named)
    ∧ quiescent_Kernel10Ideal (hKernel10Ideal := hKernel10Ideal) (hPre_pages_named := hPre_pages_named)
    ∧ quiescent_Kernel10Ideal_pre_pages_named_and_finite (hKernel10Ideal := hKernel10Ideal) (hPre_pages_named_and_finite := hPre_pages_named_and_finite)
    ∧ quiescent_Reference10Ideal (hReference10Ideal := hReference10Ideal)
    ∧ quiescent_Reference10Ideal_pre_pages_named_and_finite (hReference10Ideal := hReference10Ideal) (hPre_pages_named_and_finite := hPre_pages_named_and_finite)
    ∧ preserves_Kernel_KernelIdeal
    ∧ algebraic_KernelIdeal_ReferenceIdeal_pre_queries_and_keys_finite (hKernelIdeal := hKernelIdeal) (hReferenceIdeal := hReferenceIdeal) (hPre_queries_and_keys_finite := hPre_queries_and_keys_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_pages_named_and_finite (hKernel10Ideal := hKernel10Ideal) (hReference10Ideal := hReference10Ideal) (hPre_pages_named_and_finite := hPre_pages_named_and_finite)
-- ==== Pre_pages_named.lean ====
abbrev S128x8x1536 : Shape := ⟨3, ![128, 8, 1536]⟩
abbrev S2x2560x1024x128 : Shape := ⟨4, ![2, 2560, 1024, 128]⟩
abbrev S128x16 : Shape := ⟨2, ![128, 16]⟩
abbrev S_ : Shape := ⟨0, ![]⟩

class Facts : Prop where
  bcast_S_S128x16 : S_.BroadcastsInDim S128x16 (![] : Fin 0 → Fin S128x16.rank)

variable [Facts]

def fn {F : FTy → Type} [FloatOps F] (main_arg0 : FVec F S128x8x1536 .f32) (main_arg1 : FVec F S2x2560x1024x128 .f32) (main_arg2 : IVec S128x16 32) : IVec S128x16 1 :=
  let main_c : IVec S_ 32 := constantI S_ 32 0#32
  let main_v0 : IVec S128x16 32 := broadcastInDim S128x16 ![] bcast_S_S128x16 main_c
  let main_v1 : IVec S128x16 1 := cmpi .sge main_arg2 main_v0
  let main_c_0 : IVec S_ 32 := constantI S_ 32 2560#32
  let main_v2 : IVec S128x16 32 := broadcastInDim S128x16 ![] bcast_S_S128x16 main_c_0
  let main_v3 : IVec S128x16 1 := cmpi .slt main_arg2 main_v2
  let main_v4 : IVec S128x16 1 := andi main_v1 main_v3
  main_v4
-- ==== Pre_pages_named_and_finite.lean ====
abbrev S128x8x1536 : Shape := ⟨3, ![128, 8, 1536]⟩
abbrev S2x2560x1024x128 : Shape := ⟨4, ![2, 2560, 1024, 128]⟩
abbrev S128x16 : Shape := ⟨2, ![128, 16]⟩
abbrev S1x2560x1024x128 : Shape := ⟨4, ![1, 2560, 1024, 128]⟩
abbrev S2560x1024x128 : Shape := ⟨3, ![2560, 1024, 128]⟩
abbrev S2560x128x8x128 : Shape := ⟨4, ![2560, 128, 8, 128]⟩
abbrev S2560x128x4x128 : Shape := ⟨4, ![2560, 128, 4, 128]⟩
abbrev S_ : Shape := ⟨0, ![]⟩
abbrev S128x8x1024 : Shape := ⟨3, ![128, 8, 1024]⟩

class Facts : Prop where
  slices_S2x2560x1024x128_S1x2560x1024x128_0_0_0_0 : S2x2560x1024x128.Slices ![0, 0, 0, 0] S1x2560x1024x128
  shapeCasts_S1x2560x1024x128_S2560x1024x128 : S1x2560x1024x128.ShapeCasts S2560x1024x128
  shapeCasts_S2560x1024x128_S2560x128x8x128 : S2560x1024x128.ShapeCasts S2560x128x8x128
  slices_S2560x128x8x128_S2560x128x4x128_0_0_0_0 : S2560x128x8x128.Slices ![0, 0, 0, 0] S2560x128x4x128
  bcast_S_S128x16 : S_.BroadcastsInDim S128x16 (![] : Fin 0 → Fin S128x16.rank)
  slices_S128x8x1536_S128x8x1024_0_0_0 : S128x8x1536.Slices ![0, 0, 0] S128x8x1024
  bcast_S_S128x8x1024 : S_.BroadcastsInDim S128x8x1024 (![] : Fin 0 → Fin S128x8x1024.rank)
  bcast_S_S2560x128x4x128 : S_.BroadcastsInDim S2560x128x4x128 (![] : Fin 0 → Fin S2560x128x4x128.rank)

variable [Facts]

def fn {F : FTy → Type} [FloatOps F] (main_arg0 : FVec F S128x8x1536 .f32) (main_arg1 : FVec F S2x2560x1024x128 .f32) (main_arg2 : IVec S128x16 32) : IVec S128x16 1 × IVec S128x8x1024 1 × IVec S2560x128x4x128 1 :=
  let main_v0 : FVec F S1x2560x1024x128 .f32 := (extractStridedSlice S1x2560x1024x128 ![0, 0, 0, 0] · slices_S2x2560x1024x128_S1x2560x1024x128_0_0_0_0) main_arg1
  let main_v1 : FVec F S2560x1024x128 .f32 := shapeCast S2560x1024x128 main_v0 shapeCasts_S1x2560x1024x128_S2560x1024x128
  let main_v2 : FVec F S2560x128x8x128 .f32 := shapeCast S2560x128x8x128 main_v1 shapeCasts_S2560x1024x128_S2560x128x8x128
  let main_v3 : FVec F S2560x128x4x128 .f32 := (extractStridedSlice S2560x128x4x128 ![0, 0, 0, 0] · slices_S2560x128x8x128_S2560x128x4x128_0_0_0_0) main_v2
  let main_c : IVec S_ 32 := constantI S_ 32 0#32
  let main_v4 : IVec S128x16 32 := broadcastInDim S128x16 ![] bcast_S_S128x16 main_c
  let main_v5 : IVec S128x16 1 := cmpi .sge main_arg2 main_v4
  let main_c_0 : IVec S_ 32 := constantI S_ 32 2560#32
  let main_v6 : IVec S128x16 32 := broadcastInDim S128x16 ![] bcast_S_S128x16 main_c_0
  let main_v7 : IVec S128x16 1 := cmpi .slt main_arg2 main_v6
  let main_v8 : IVec S128x16 1 := andi main_v5 main_v7
  let main_v9 : FVec F S128x8x1024 .f32 := (extractStridedSlice S128x8x1024 ![0, 0, 0] · slices_S128x8x1536_S128x8x1024_0_0_0) main_arg0
  let main_v10 : FVec F S128x8x1024 .f32 := Host.absf main_v9
  let main_cst : FVec F S_ .f32 := constant S_ .f32 0x7F800000#32
  let main_v11 : FVec F S128x8x1024 .f32 := broadcastInDim S128x8x1024 ![] bcast_S_S128x8x1024 main_cst
  let main_v12 : IVec S128x8x1024 1 := cmpf .olt main_v10 main_v11
  let main_v13 : FVec F S2560x128x4x128 .f32 := Host.absf main_v3
  let main_cst_1 : FVec F S_ .f32 := constant S_ .f32 0x7F800000#32
  let main_v14 : FVec F S2560x128x4x128 .f32 := broadcastInDim S2560x128x4x128 ![] bcast_S_S2560x128x4x128 main_cst_1
  let main_v15 : IVec S2560x128x4x128 1 := cmpf .olt main_v13 main_v14
  (main_v8, main_v12, main_v15)
-- ==== Pre_queries_and_keys_finite.lean ====
abbrev S8192x5120 : Shape := ⟨2, ![8192, 5120]⟩
abbrev S8192x1024 : Shape := ⟨2, ![8192, 1024]⟩
abbrev S_ : Shape := ⟨0, ![]⟩

class Facts : Prop where
  slices_S8192x5120_S8192x1024_0_2048 : S8192x5120.Slices ![0, 2048] S8192x1024
  bitsLt_bf16_f32 : FTy.bits .bf16 < FTy.bits .f32
  bcast_S_S8192x1024 : S_.BroadcastsInDim S8192x1024 (![] : Fin 0 → Fin S8192x1024.rank)

variable [Facts]

def fn {F : FTy → Type} [FloatOps F] (main_arg0 : FVec F S8192x5120 .bf16) : IVec S8192x1024 1 :=
  let main_v0 : FVec F S8192x1024 .bf16 := (extractStridedSlice S8192x1024 ![0, 2048] · slices_S8192x5120_S8192x1024_0_2048) main_arg0
  let main_v1 : FVec F S8192x1024 .f32 := (extf .f32 · bitsLt_bf16_f32) main_v0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  main_v4
-- ==== Kernel.lean ====
abbrev S8192x5120 : Shape := ⟨2, ![8192, 5120]⟩
abbrev S8192x512 : Shape := ⟨2, ![8192, 512]⟩
abbrev S512x128 : Shape := ⟨2, ![512, 128]⟩
abbrev S2048x128 : Shape := ⟨2, ![2048, 128]⟩
abbrev S256x256 : Shape := ⟨2, ![256, 256]⟩
abbrev S512x1 : Shape := ⟨2, ![512, 1]⟩
abbrev S512x256 : Shape := ⟨2, ![512, 256]⟩
abbrev S256x128 : Shape := ⟨2, ![256, 128]⟩
abbrev S512 : Shape := ⟨1, ![512]⟩

abbrev nBuf : Space → Nat
  | .hbm => 2
  | .vmem => 8
  | .smem => 0
  | _ => 0

abbrev bufTy : (tb : Table) → Fin (tcTables nBuf tb) → BufTy
  | .hbm, ⟨0, _⟩ => ⟨S8192x5120, .bf16⟩
  | .hbm, ⟨1, _⟩ => ⟨S8192x512, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .bf16⟩
  | .local _ .vmem, ⟨7, _⟩ => ⟨S512x128, .bf16⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  let c256_i32 : BitVec 32 := 256#32
  let v14 : BitVec 32 := Scalar.addi v0 c256_i32
  v14
def k0_off1 (i : grid0.Coords) (c256_i32 : BitVec 32) : Fin 2 → Nat :=
  let arg2 : BitVec 32 := BitVec.ofNat 32 (i 2).val
  let c512_i32 : BitVec 32 := 512#32
  let v0 : BitVec 32 := Scalar.muli arg2 c512_i32
  let v14 : BitVec 32 := Scalar.addi v0 c256_i32
  let v15 : BitVec 32 := v14
  let v17 : Index := Scalar.indexCast v15
  let c0_4 : Index := 0#32
  ![v17.toNat, 0]
def k0_mult2 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v69 : BitVec 32 := Scalar.addi v0 c0_i32
  v69
@[reducible] def k0_t1_loop (i : grid0.Coords) : Scf.Loop 32 :=
  let c0_i32_46 : BitVec 32 := 0#32
  let arg2 : BitVec 32 := BitVec.ofNat 32 (i 2).val
  let c512_i32 : BitVec 32 := 512#32
  let v0 : BitVec 32 := Scalar.muli arg2 c512_i32
  let c0_i32_41 : BitVec 32 := 0#32
  let v125 : BitVec 1 := Scalar.cmpi .sgt v0 c0_i32_41
  let v126 : BitVec 32 := Scalar.extui v125
  let c0_i32_42 : BitVec 32 := 0#32
  let v127 : BitVec 1 := Scalar.cmpi .slt v0 c0_i32_42
  let v128 : BitVec 32 := Scalar.extui v127
  let v129 : BitVec 32 := Scalar.subi v126 v128
  let c256_i32_40 : BitVec 32 := 256#32
  let c0_i32_43 : BitVec 32 := 0#32
  let v130 : BitVec 1 := Scalar.cmpi .sgt c256_i32_40 c0_i32_43
  let v131 : BitVec 32 := Scalar.extui v130
  let c0_i32_44 : BitVec 32 := 0#32
  let v132 : BitVec 1 := Scalar.cmpi .slt c256_i32_40 c0_i32_44
  let v133 : BitVec 32 := Scalar.extui v132
  let v134 : BitVec 32 := Scalar.subi v131 v133
  let v135 : BitVec 1 := Scalar.cmpi .ne v129 v134
  let v136 : BitVec 32 := Scalar.remsi v0 c256_i32_40
  let c0_i32_45 : BitVec 32 := 0#32
  let v137 : BitVec 1 := Scalar.cmpi .ne v136 c0_i32_45
  let v138 : BitVec 1 := Scalar.andi v135 v137
  let v124 : BitVec 32 := Scalar.divsi v0 c256_i32_40
  let c1_i32 : BitVec 32 := 1#32
  let v139 : BitVec 32 := Scalar.subi v124 c1_i32
  let v140 : BitVec 32 := Scalar.select v138 v139 v124
  let v141 : BitVec 32 := Scalar.subi v140 c0_i32_46
  let c1_i32_47 : BitVec 32 := 1#32
  let v143 : BitVec 32 := Scalar.divsi v141 c1_i32_47
  let v144 : BitVec 32 := Scalar.muli v143 c1_i32_47
  let v145 : BitVec 32 := Scalar.addi c0_i32_46 v144
  let c1_i32_48 : BitVec 32 := 1#32
  ⟨c0_i32_46, v145, c1_i32_48⟩
def k0_mult3 (i : grid0.Coords) (k0_t1 : Fin (k0_t1_loop i).trips) : BitVec 32 :=
  let arg2 : BitVec 32 := BitVec.ofNat 32 (i 2).val
  let c512_i32 : BitVec 32 := 512#32
  let v0 : BitVec 32 := Scalar.muli arg2 c512_i32
  let c0_i32_41 : BitVec 32 := 0#32
  let v125 : BitVec 1 := Scalar.cmpi .sgt v0 c0_i32_41
  let v126 : BitVec 32 := Scalar.extui v125
  let c0_i32_42 : BitVec 32 := 0#32
  let v127 : BitVec 1 := Scalar.cmpi .slt v0 c0_i32_42
  let v128 : BitVec 32 := Scalar.extui v127
  let v129 : BitVec 32 := Scalar.subi v126 v128
  let c256_i32_40 : BitVec 32 := 256#32
  let c0_i32_43 : BitVec 32 := 0#32
  let v130 : BitVec 1 := Scalar.cmpi .sgt c256_i32_40 c0_i32_43
  let v131 : BitVec 32 := Scalar.extui v130
  let c0_i32_44 : BitVec 32 := 0#32
  let v132 : BitVec 1 := Scalar.cmpi .slt c256_i32_40 c0_i32_44
  let v133 : BitVec 32 := Scalar.extui v132
  let v134 : BitVec 32 := Scalar.subi v131 v133
  let v135 : BitVec 1 := Scalar.cmpi .ne v129 v134
  let v136 : BitVec 32 := Scalar.remsi v0 c256_i32_40
  let c0_i32_45 : BitVec 32 := 0#32
  let v137 : BitVec 1 := Scalar.cmpi .ne v136 c0_i32_45
  let v138 : BitVec 1 := Scalar.andi v135 v137
  let v124 : BitVec 32 := Scalar.divsi v0 c256_i32_40
  let c1_i32 : BitVec 32 := 1#32
  let v139 : BitVec 32 := Scalar.subi v124 c1_i32
  let v140 : BitVec 32 := Scalar.select v138 v139 v124
  let c1_i32_52 : BitVec 32 := 1#32
  let v150 : BitVec 32 := Scalar.subi v140 c1_i32_52
  let c0_i32_46 : BitVec 32 := 0#32
  let c1_i32_48 : BitVec 32 := 1#32
  let arg7 : BitVec 32 := Scf.iv c0_i32_46 c1_i32_48 k0_t1
  let v151 : BitVec 32 := Scalar.subi v150 arg7
  let c256_i32_53 : BitVec 32 := 256#32
  let v152 : BitVec 32 := Scalar.muli v151 c256_i32_53
  v152
def k0_off2 (i : grid0.Coords) (k0_t1 : Fin (k0_t1_loop i).trips) : Fin 2 → Nat :=
  let arg2 : BitVec 32 := BitVec.ofNat 32 (i 2).val
  let c512_i32 : BitVec 32 := 512#32
  let v0 : BitVec 32 := Scalar.muli arg2 c512_i32
  let c0_i32_41 : BitVec 32 := 0#32
  let v125 : BitVec 1 := Scalar.cmpi .sgt v0 c0_i32_41
  let v126 : BitVec 32 := Scalar.extui v125
  let c0_i32_42 : BitVec 32 := 0#32
  let v127 : BitVec 1 := Scalar.cmpi .slt v0 c0_i32_42
  let v128 : BitVec 32 := Scalar.extui v127
  let v129 : BitVec 32 := Scalar.subi v126 v128
  let c256_i32_40 : BitVec 32 := 256#32
  let c0_i32_43 : BitVec 32 := 0#32
  let v130 : BitVec 1 := Scalar.cmpi .sgt c256_i32_40 c0_i32_43
  let v131 : BitVec 32 := Scalar.extui v130
  let c0_i32_44 : BitVec 32 := 0#32
  let v132 : BitVec 1 := Scalar.cmpi .slt c256_i32_40 c0_i32_44
  let v133 : BitVec 32 := Scalar.extui v132
  let v134 : BitVec 32 := Scalar.subi v131 v133
  let v135 : BitVec 1 := Scalar.cmpi .ne v129 v134
  let v136 : BitVec 32 := Scalar.remsi v0 c256_i32_40
  let c0_i32_45 : BitVec 32 := 0#32
  let v137 : BitVec 1 := Scalar.cmpi .ne v136 c0_i32_45
  let v138 : BitVec 1 := Scalar.andi v135 v137
  let v124 : BitVec 32 := Scalar.divsi v0 c256_i32_40
  let c1_i32 : BitVec 32 := 1#32
  let v139 : BitVec 32 := Scalar.subi v124 c1_i32
  let v140 : BitVec 32 := Scalar.select v138 v139 v124
  let c1_i32_52 : BitVec 32 := 1#32
  let v150 : BitVec 32 := Scalar.subi v140 c1_i32_52
  let c0_i32_46 : BitVec 32 := 0#32
  let c1_i32_48 : BitVec 32 := 1#32
  let arg7 : BitVec 32 := Scf.iv c0_i32_46 c1_i32_48 k0_t1
  let v151 : BitVec 32 := Scalar.subi v150 arg7
  let c256_i32_53 : BitVec 32 := 256#32
  let v152 : BitVec 32 := Scalar.muli v151 c256_i32_53
  let v153 : BitVec 32 := v152
  let v155 : Index := Scalar.indexCast v153
  let c0_56 : Index := 0#32
  ![v155.toNat, 0]
@[reducible] def k0_t2_loop (i : grid0.Coords) : Scf.Loop 32 :=
  let c0_i32_46 : BitVec 32 := 0#32
  let arg2 : BitVec 32 := BitVec.ofNat 32 (i 2).val
  let c512_i32 : BitVec 32 := 512#32
  let v0 : BitVec 32 := Scalar.muli arg2 c512_i32
  let c0_i32_41 : BitVec 32 := 0#32
  let v125 : BitVec 1 := Scalar.cmpi .sgt v0 c0_i32_41
  let v126 : BitVec 32 := Scalar.extui v125
  let c0_i32_42 : BitVec 32 := 0#32
  let v127 : BitVec 1 := Scalar.cmpi .slt v0 c0_i32_42
  let v128 : BitVec 32 := Scalar.extui v127
  let v129 : BitVec 32 := Scalar.subi v126 v128
  let c256_i32_40 : BitVec 32 := 256#32
  let c0_i32_43 : BitVec 32 := 0#32
  let v130 : BitVec 1 := Scalar.cmpi .sgt c256_i32_40 c0_i32_43
  let v131 : BitVec 32 := Scalar.extui v130
  let c0_i32_44 : BitVec 32 := 0#32
  let v132 : BitVec 1 := Scalar.cmpi .slt c256_i32_40 c0_i32_44
  let v133 : BitVec 32 := Scalar.extui v132
  let v134 : BitVec 32 := Scalar.subi v131 v133
  let v135 : BitVec 1 := Scalar.cmpi .ne v129 v134
  let v136 : BitVec 32 := Scalar.remsi v0 c256_i32_40
  let c0_i32_45 : BitVec 32 := 0#32
  let v137 : BitVec 1 := Scalar.cmpi .ne v136 c0_i32_45
  let v138 : BitVec 1 := Scalar.andi v135 v137
  let v124 : BitVec 32 := Scalar.divsi v0 c256_i32_40
  let c1_i32 : BitVec 32 := 1#32
  let v139 : BitVec 32 := Scalar.subi v124 c1_i32
  let v140 : BitVec 32 := Scalar.select v138 v139 v124
  let v141 : BitVec 32 := Scalar.subi v140 c0_i32_46
  let c1_i32_47 : BitVec 32 := 1#32
  let v143 : BitVec 32 := Scalar.divsi v141 c1_i32_47
  let v144 : BitVec 32 := Scalar.muli v143 c1_i32_47
  let v145 : BitVec 32 := Scalar.addi c0_i32_46 v144
  let v142 : BitVec 32 := Scalar.addi c0_i32_46 v141
  let c1_i32_49 : BitVec 32 := 1#32
  ⟨v145, v142, c1_i32_49⟩
def k0_mult4 (i : grid0.Coords) (k0_t2 : Fin (k0_t2_loop i).trips) : BitVec 32 :=
  let arg2 : BitVec 32 := BitVec.ofNat 32 (i 2).val
  let c512_i32 : BitVec 32 := 512#32
  let v0 : BitVec 32 := Scalar.muli arg2 c512_i32
  let c0_i32_41 : BitVec 32 := 0#32
  let v125 : BitVec 1 := Scalar.cmpi .sgt v0 c0_i32_41
  let v126 : BitVec 32 := Scalar.extui v125
  let c0_i32_42 : BitVec 32 := 0#32
  let v127 : BitVec 1 := Scalar.cmpi .slt v0 c0_i32_42
  let v128 : BitVec 32 := Scalar.extui v127
  let v129 : BitVec 32 := Scalar.subi v126 v128
  let c256_i32_40 : BitVec 32 := 256#32
  let c0_i32_43 : BitVec 32 := 0#32
  let v130 : BitVec 1 := Scalar.cmpi .sgt c256_i32_40 c0_i32_43
  let v131 : BitVec 32 := Scalar.extui v130
  let c0_i32_44 : BitVec 32 := 0#32
  let v132 : BitVec 1 := Scalar.cmpi .slt c256_i32_40 c0_i32_44
  let v133 : BitVec 32 := Scalar.extui v132
  let v134 : BitVec 32 := Scalar.subi v131 v133
  let v135 : BitVec 1 := Scalar.cmpi .ne v129 v134
  let v136 : BitVec 32 := Scalar.remsi v0 c256_i32_40
  let c0_i32_45 : BitVec 32 := 0#32
  let v137 : BitVec 1 := Scalar.cmpi .ne v136 c0_i32_45
  let v138 : BitVec 1 := Scalar.andi v135 v137
  let v124 : BitVec 32 := Scalar.divsi v0 c256_i32_40
  let c1_i32 : BitVec 32 := 1#32
  let v139 : BitVec 32 := Scalar.subi v124 c1_i32
  let v140 : BitVec 32 := Scalar.select v138 v139 v124
  let c1_i32_52 : BitVec 32 := 1#32
  let v150 : BitVec 32 := Scalar.subi v140 c1_i32_52
  let c0_i32_46 : BitVec 32 := 0#32
  let v141 : BitVec 32 := Scalar.subi v140 c0_i32_46
  let c1_i32_47 : BitVec 32 := 1#32
  let v143 : BitVec 32 := Scalar.divsi v141 c1_i32_47
  let v144 : BitVec 32 := Scalar.muli v143 c1_i32_47
  let v145 : BitVec 32 := Scalar.addi c0_i32_46 v144
  let c1_i32_49 : BitVec 32 := 1#32
  let arg7 : BitVec 32 := Scf.iv v145 c1_i32_49 k0_t2
  let v151 : BitVec 32 := Scalar.subi v150 arg7
  let c256_i32_53 : BitVec 32 := 256#32
  let v152 : BitVec 32 := Scalar.muli v151 c256_i32_53
  v152
def k0_off3 (i : grid0.Coords) (k0_t2 : Fin (k0_t2_loop i).trips) : Fin 2 → Nat :=
  let arg2 : BitVec 32 := BitVec.ofNat 32 (i 2).val
  let c512_i32 : BitVec 32 := 512#32
  let v0 : BitVec 32 := Scalar.muli arg2 c512_i32
  let c0_i32_41 : BitVec 32 := 0#32
  let v125 : BitVec 1 := Scalar.cmpi .sgt v0 c0_i32_41
  let v126 : BitVec 32 := Scalar.extui v125
  let c0_i32_42 : BitVec 32 := 0#32
  let v127 : BitVec 1 := Scalar.cmpi .slt v0 c0_i32_42
  let v128 : BitVec 32 := Scalar.extui v127
  let v129 : BitVec 32 := Scalar.subi v126 v128
  let c256_i32_40 : BitVec 32 := 256#32
  let c0_i32_43 : BitVec 32 := 0#32
  let v130 : BitVec 1 := Scalar.cmpi .sgt c256_i32_40 c0_i32_43
  let v131 : BitVec 32 := Scalar.extui v130
  let c0_i32_44 : BitVec 32 := 0#32
  let v132 : BitVec 1 := Scalar.cmpi .slt c256_i32_40 c0_i32_44
  let v133 : BitVec 32 := Scalar.extui v132
  let v134 : BitVec 32 := Scalar.subi v131 v133
  let v135 : BitVec 1 := Scalar.cmpi .ne v129 v134
  let v136 : BitVec 32 := Scalar.remsi v0 c256_i32_40
  let c0_i32_45 : BitVec 32 := 0#32
  let v137 : BitVec 1 := Scalar.cmpi .ne v136 c0_i32_45
  let v138 : BitVec 1 := Scalar.andi v135 v137
  let v124 : BitVec 32 := Scalar.divsi v0 c256_i32_40
  let c1_i32 : BitVec 32 := 1#32
  let v139 : BitVec 32 := Scalar.subi v124 c1_i32
  let v140 : BitVec 32 := Scalar.select v138 v139 v124
  let c1_i32_52 : BitVec 32 := 1#32
  let v150 : BitVec 32 := Scalar.subi v140 c1_i32_52
  let c0_i32_46 : BitVec 32 := 0#32
  let v141 : BitVec 32 := Scalar.subi v140 c0_i32_46
  let c1_i32_47 : BitVec 32 := 1#32
  let v143 : BitVec 32 := Scalar.divsi v141 c1_i32_47
  let v144 : BitVec 32 := Scalar.muli v143 c1_i32_47
  let v145 : BitVec 32 := Scalar.addi c0_i32_46 v144
  let c1_i32_49 : BitVec 32 := 1#32
  let arg7 : BitVec 32 := Scf.iv v145 c1_i32_49 k0_t2
  let v151 : BitVec 32 := Scalar.subi v150 arg7
  let c256_i32_53 : BitVec 32 := 256#32
  let v152 : BitVec 32 := Scalar.muli v151 c256_i32_53
  let v153 : BitVec 32 := v152
  let v155 : Index := Scalar.indexCast v153
  let c0_56 : Index := 0#32
  ![v155.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8192x5120 : Shape := ⟨2, ![8192, 5120]⟩
abbrev S8192x1536 : Shape := ⟨2, ![8192, 1536]⟩
abbrev S8192x512 : Shape := ⟨2, ![8192, 512]⟩
abbrev S4x2048x4x128 : Shape := ⟨4, ![4, 2048, 4, 128]⟩
abbrev S2048 : Shape := ⟨1, ![2048]⟩
abbrev S4x4x2048x2048 : Shape := ⟨4, ![4, 4, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x4x128x2048 : Shape := ⟨4, ![4, 4, 128, 2048]⟩

abbrev nBuf : Space → Nat
  | .hbm => 73
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S8192x1536, .bf16⟩
  | .hbm, ⟨2, _⟩ => ⟨S8192x1536, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S4x2048x4x128, .f32⟩
  | .hbm, ⟨7, _⟩ => ⟨S4x2048x4x128, .f32⟩
  | .hbm, ⟨8, _⟩ => ⟨S4x2048x4x128, .f32⟩
  | .hbm, ⟨9, _⟩ => ⟨S2048, .i32⟩
  | .hbm, ⟨10, _⟩ => ⟨S4x4x2048x2048, .f32⟩
  | .hbm, ⟨11, _⟩ => ⟨S_, .f32⟩
  | .hbm, ⟨12, _⟩ => ⟨S4x4x2048x2048, .f32⟩
  | .hbm, ⟨13, _⟩ => ⟨S4x4x2048x2048, .f32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S1x1x2048x2048, .i1⟩
  | .hbm, ⟨20, _⟩ => ⟨S4x4x2048x2048, .f32⟩
  | .hbm, ⟨21, _⟩ => ⟨S4x4x2048x2048, .f32⟩
  | .hbm, ⟨22, _⟩ => ⟨S_, .f32⟩
  | .hbm, ⟨23, _⟩ => ⟨S4x4x2048x2048, .f32⟩
  | .hbm, ⟨24, _⟩ => ⟨S4x4x2048x2048, .f32⟩
  | .hbm, ⟨25, _⟩ => ⟨S4x4x2048x2048, .f32⟩
  | .hbm, ⟨26, _⟩ => ⟨S4x4x2048x2048, .f32⟩
  | .hbm, ⟨27, _⟩ => ⟨S4x4x2048x2048, .i1⟩
  | .hbm, ⟨28, _⟩ => ⟨S4x4x2048x2048, .f32⟩
  | .hbm, ⟨29, _⟩ => ⟨S4x4x2048x2048, .f32⟩
  | .hbm, ⟨30, _⟩ => ⟨S4x4x2048x2048, .f32⟩
  | .hbm, ⟨31, _⟩ => ⟨S4x4x2048x2048, .f32⟩
  | .hbm, ⟨32, _⟩ => ⟨S4x4x2048x2048, .f32⟩
  | .hbm, ⟨33, _⟩ => ⟨S4x4x2048x2048, .f32⟩
  | .hbm, ⟨34, _⟩ => ⟨S4x4x2048x2048, .f32⟩
  | .hbm, ⟨35, _⟩ => ⟨S4x4x2048x2048, .f32⟩
  | .hbm, ⟨36, _⟩ => ⟨S4x4x2048x2048, .f32⟩
  | .hbm, ⟨37, _⟩ => ⟨S_, .f32⟩
  | .hbm, ⟨38, _⟩ => ⟨S_, .f32⟩
  | .hbm, ⟨39, _⟩ => ⟨S4x4x2048x2048, .i1⟩
  | .hbm, ⟨40, _⟩ => ⟨S4x4x2048x2048, .f32⟩
  | .hbm, ⟨41, _⟩ => ⟨S4x4x2048x2048, .f32⟩
  | .hbm, ⟨42, _⟩ => ⟨S_, .f32⟩
  | .hbm, ⟨43, _⟩ => ⟨S_, .f32⟩
  | .hbm, ⟨44, _⟩ => ⟨S4x4x2048x2048, .f32⟩
  | .hbm, ⟨45, _⟩ => ⟨S4x4x2048x2048, .f32⟩
  | .hbm, ⟨46, _⟩ => ⟨S4x4x2048x2048, .f32⟩
  | .hbm, ⟨47, _⟩ => ⟨S_, .f32⟩
  | .hbm, ⟨48, _⟩ => ⟨S4x4x2048x2048, .f32⟩
  | .hbm, ⟨49, _⟩ => ⟨S4x4x2048x2048, .f32⟩
  | .hbm, ⟨50, _⟩ => ⟨S4x4x2048x2048, .f32⟩
  | .hbm, ⟨51, _⟩ => ⟨S4x4x2048x2048, .f32⟩
  | .hbm, ⟨52, _⟩ => ⟨S4x4x2048x2048, .i1⟩
  | .hbm, ⟨53, _⟩ => ⟨S4x4x2048x2048, .f32⟩
  | .hbm, ⟨54, _⟩ => ⟨S4x4x2048x2048, .f32⟩
  | .hbm, ⟨55, _⟩ => ⟨S4x4x2048x2048, .f32⟩
  | .hbm, ⟨56, _⟩ => ⟨S4x4x2048x2048, .f32⟩
  | .hbm, ⟨57, _⟩ => ⟨S4x4x2048x2048, .f32⟩
  | .hbm, ⟨58, _⟩ => ⟨S4x4x2048x2048, .f32⟩
  | .hbm, ⟨59, _⟩ => ⟨S4x4x2048x2048, .f32⟩
  | .hbm, ⟨60, _⟩ => ⟨S4x4x2048x2048, .f32⟩
  | .hbm, ⟨61, _⟩ => ⟨S4x4x2048x2048, .f32⟩
  | .hbm, ⟨62, _⟩ => ⟨S4x4x2048x2048, .f32⟩
  | .hbm, ⟨63, _⟩ => ⟨S4x4x2048x2048, .f32⟩
  | .hbm, ⟨64, _⟩ => ⟨S_, .f32⟩
  | .hbm, ⟨65, _⟩ => ⟨S_, .f32⟩
  | .hbm, ⟨66, _⟩ => ⟨S4x4x2048x2048, .i1⟩
  | .hbm, ⟨67, _⟩ => ⟨S4x4x2048x2048, .f32⟩
  | .hbm, ⟨68, _⟩ => ⟨S4x4x2048x2048, .f32⟩
  | .hbm, ⟨69, _⟩ => ⟨S4x4x128x2048, .f32⟩
  | .hbm, ⟨70, _⟩ => ⟨S4x2048x4x128, .f32⟩
  | .hbm, ⟨71, _⟩ => ⟨S8192x512, .f32⟩
  | .hbm, ⟨72, _⟩ => ⟨S8192x512, .bf16⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v19 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v20 : Ref sig .tc := ⟨.hbm, 41, rfl⟩
abbrev main_call2_cst : Ref sig .tc := ⟨.hbm, 42, rfl⟩
abbrev main_call2_v0 : Ref sig .tc := ⟨.hbm, 43, rfl⟩
abbrev main_v21 : Ref sig .tc := ⟨.hbm, 44, rfl⟩
abbrev main_v22 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩

abbrev nD : Nat := 1
abbrev τ : Topo := Topo.v7x

variable {F : FTy → Type} [FloatOps F]
-- ==== Kernel2.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x5632, .f32⟩
  | .hbm, ⟨6, _⟩ => ⟨S5632x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel3.lean ====
abbrev S1024x2048 : Shape := ⟨2, ![1024, 2048]⟩
abbrev S2048x11264 : Shape := ⟨2, ![2048, 11264]⟩
abbrev S3x11264 : Shape := ⟨2, ![3, 11264]⟩
abbrev S1x11264 : Shape := ⟨2, ![1, 11264]⟩
abbrev S256x11264 : Shape := ⟨2, ![256, 11264]⟩
abbrev S1024x5632 : Shape := ⟨2, ![1024, 5632]⟩
abbrev S256x5632 : Shape := ⟨2, ![256, 5632]⟩
abbrev S2048x512 : Shape := ⟨2, ![2048, 512]⟩
abbrev S3x512 : Shape := ⟨2, ![3, 512]⟩
abbrev S1x512 : Shape := ⟨2, ![1, 512]⟩
abbrev S256x512 : Shape := ⟨2, ![256, 512]⟩
abbrev S1024x512 : Shape := ⟨2, ![1024, 512]⟩
abbrev S2048x256 : Shape := ⟨2, ![2048, 256]⟩
abbrev S1024x256 : Shape := ⟨2, ![1024, 256]⟩
abbrev S3x256 : Shape := ⟨2, ![3, 256]⟩
abbrev S1x256 : Shape := ⟨2, ![1, 256]⟩
abbrev S256x256 : Shape := ⟨2, ![256, 256]⟩
abbrev S128x256 : Shape := ⟨2, ![128, 256]⟩
abbrev S896x256 : Shape := ⟨2, ![896, 256]⟩
abbrev S768x256 : Shape := ⟨2, ![768, 256]⟩

abbrev nBuf : Space → Nat
  | .hbm => 8
  | .vmem => 23
  | .smem => 0
  | _ => 0

abbrev bufTy : (tb : Table) → Fin (tcTables nBuf tb) → BufTy
  | .hbm, ⟨0, _⟩ => ⟨S1024x2048, .bf16⟩
  | .hbm, ⟨1, _⟩ => ⟨S2048x11264, .bf16⟩
  | .hbm, ⟨2, _⟩ => ⟨S3x11264, .f32⟩
  | .hbm, ⟨3, _⟩ => ⟨S1x11264, .f32⟩
  | .hbm, ⟨4, _⟩ => ⟨S256x11264, .f32⟩
  | .hbm, ⟨5, _⟩ => ⟨S1024x5632, .bf16⟩
  | .hbm, ⟨6, _⟩ => ⟨S256x5632, .f32⟩
  | .hbm, ⟨7, _⟩ => ⟨S256x5632, .f32⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S3x512, .f32⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S1024x512, .bf16⟩
  | .local _ .vmem, ⟨18, _⟩ => ⟨S1024x512, .bf16⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]
-- ==== Reference3Ideal.lean ====
abbrev S1024x2048 : Shape := ⟨2, ![1024, 2048]⟩
abbrev S2048x11264 : Shape := ⟨2, ![2048, 11264]⟩
abbrev S3x11264 : Shape := ⟨2, ![3, 11264]⟩
abbrev S1x11264 : Shape := ⟨2, ![1, 11264]⟩
abbrev S256x11264 : Shape := ⟨2, ![256, 11264]⟩
abbrev S1024x11264 : Shape := ⟨2, ![1024, 11264]⟩
abbrev S8x128x11264 : Shape := ⟨3, ![8, 128, 11264]⟩
abbrev S2x128x11264 : Shape := ⟨3, ![2, 128, 11264]⟩
abbrev S10x128x11264 : Shape := ⟨3, ![10, 128, 11264]⟩
abbrev S11264 : Shape := ⟨1, ![11264]⟩
abbrev S1x1x11264 : Shape := ⟨3, ![1, 1, 11264]⟩
abbrev S8x128x5632 : Shape := ⟨3, ![8, 128, 5632]⟩
abbrev S2x128x5632 : Shape := ⟨3, ![2, 128, 5632]⟩
abbrev S_ : Shape := ⟨0, ![]⟩
abbrev S1024x5632 : Shape := ⟨2, ![1024, 5632]⟩
abbrev S256x5632 : Shape := ⟨2, ![256, 5632]⟩

abbrev nBuf : Space → Nat
  | .hbm => 54
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x11264, .bf16⟩
  | .hbm, ⟨2, _⟩ => ⟨S3x11264, .f32⟩
  | .hbm, ⟨3, _⟩ => ⟨S1x11264, .f32⟩
  | .hbm, ⟨4, _⟩ => ⟨S256x11264, .f32⟩
  | .hbm, ⟨5, _⟩ => ⟨S1024x2048, .f32⟩
  | .hbm, ⟨6, _⟩ => ⟨S2048x11264, .f32⟩
  | .hbm, ⟨7, _⟩ => ⟨S1024x11264, .f32⟩
  | .hbm, ⟨8, _⟩ => ⟨S8x128x11264, .f32⟩
  | .hbm, ⟨9, _⟩ => ⟨S2x128x11264, .f32⟩
  | .hbm, ⟨10, _⟩ => ⟨S10x128x11264, .f32⟩
  | .hbm, ⟨11, _⟩ => ⟨S1x11264, .f32⟩
  | .hbm, ⟨12, _⟩ => ⟨S11264, .f32⟩
  | .hbm, ⟨13, _⟩ => ⟨S8x128x11264, .f32⟩
  | .hbm, ⟨14, _⟩ => ⟨S1x1x11264, .f32⟩
  | .hbm, ⟨15, _⟩ => ⟨S8x128x11264, .f32⟩
  | .hbm, ⟨16, _⟩ => ⟨S8x128x11264, .f32⟩
  | .hbm, ⟨17, _⟩ => ⟨S1x11264, .f32⟩
  | .hbm, ⟨18, _⟩ => ⟨S11264, .f32⟩
  | .hbm, ⟨19, _⟩ => ⟨S8x128x11264, .f32⟩
  | .hbm, ⟨20, _⟩ => ⟨S1x1x11264, .f32⟩
  | .hbm, ⟨21, _⟩ => ⟨S8x128x11264, .f32⟩
  | .hbm, ⟨22, _⟩ => ⟨S8x128x11264, .f32⟩
  | .hbm, ⟨23, _⟩ => ⟨S8x128x11264, .f32⟩
  | .hbm, ⟨24, _⟩ => ⟨S1x11264, .f32⟩
  | .hbm, ⟨25, _⟩ => ⟨S11264, .f32⟩
  | .hbm, ⟨26, _⟩ => ⟨S8x128x11264, .f32⟩
  | .hbm, ⟨27, _⟩ => ⟨S1x1x11264, .f32⟩
  | .hbm, ⟨28, _⟩ => ⟨S8x128x11264, .f32⟩
  | .hbm, ⟨29, _⟩ => ⟨S8x128x11264, .f32⟩
  | .hbm, ⟨30, _⟩ => ⟨S8x128x11264, .f32⟩
  | .hbm, ⟨31, _⟩ => ⟨S11264, .f32⟩
  | .hbm, ⟨32, _⟩ => ⟨S1x1x11264, .f32⟩
  | .hbm, ⟨33, _⟩ => ⟨S8x128x11264, .f32⟩
  | .hbm, ⟨34, _⟩ => ⟨S8x128x11264, .f32⟩
  | .hbm, ⟨35, _⟩ => ⟨S8x128x5632, .f32⟩
  | .hbm, ⟨36, _⟩ => ⟨S8x128x5632, .f32⟩
  | .hbm, ⟨37, _⟩ => ⟨S2x128x11264, .f32⟩
  | .hbm, ⟨38, _⟩ => ⟨S2x128x5632, .f32⟩
  | .hbm, ⟨39, _⟩ => ⟨S2x128x5632, .f32⟩
  | .hbm, ⟨40, _⟩ => ⟨S8x128x5632, .f32⟩
  | .hbm, ⟨41, _⟩ => ⟨S8x128x5632, .f32⟩
  | .hbm, ⟨42, _⟩ => ⟨S_, .f32⟩
  | .hbm, ⟨43, _⟩ => ⟨S8x128x5632, .f32⟩
  | .hbm, ⟨44, _⟩ => ⟨S8x128x5632, .f32⟩
  | .hbm, ⟨45, _⟩ => ⟨S_, .f32⟩
  | .hbm, ⟨46, _⟩ => ⟨S8x128x5632, .f32⟩
  | .hbm, ⟨47, _⟩ => ⟨S8x128x5632, .f32⟩
  | .hbm, ⟨48, _⟩ => ⟨S8x128x5632, .f32⟩
  | .hbm, ⟨49, _⟩ => ⟨S8x128x5632, .f32⟩
  | .hbm, ⟨50, _⟩ => ⟨S1024x5632, .f32⟩
  | .hbm, ⟨51, _⟩ => ⟨S1024x5632, .bf16⟩
  | .hbm, ⟨52, _⟩ => ⟨S256x5632, .f32⟩
  | .hbm, ⟨53, _⟩ => ⟨S256x5632, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel4.lean ====
abbrev S8192x2048 : Shape := ⟨2, ![8192, 2048]⟩
abbrev S5120x2048 : Shape := ⟨2, ![5120, 2048]⟩
abbrev S8192x5120 : Shape := ⟨2, ![8192, 5120]⟩
abbrev S65536x128 : Shape := ⟨2, ![65536, 128]⟩
abbrev S256x2048 : Shape := ⟨2, ![256, 2048]⟩
abbrev S256x5120 : Shape := ⟨2, ![256, 5120]⟩
abbrev S2048x128 : Shape := ⟨2, ![2048, 128]⟩
abbrev S256x128 : Shape := ⟨2, ![256, 128]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S5120x2048, .bf16⟩
  | .hbm, ⟨2, _⟩ => ⟨S8192x5120, .f32⟩
  | .hbm, ⟨3, _⟩ => ⟨S8192x5120, .bf16⟩
  | .hbm, ⟨4, _⟩ => ⟨S65536x128, .f32⟩
  | .local _ .vmem, ⟨0, _⟩ => ⟨S256x2048, .bf16⟩
  | .local _ .vmem, ⟨1, _⟩ => ⟨S256x2048, .bf16⟩
  | .local _ .vmem, ⟨2, _⟩ => ⟨S5120x2048, .bf16⟩
  | .local _ .vmem, ⟨3, _⟩ => ⟨S256x5120, .f32⟩
  | .local _ .vmem, ⟨4, _⟩ => ⟨S256x5120, .f32⟩
  | .local _ .vmem, ⟨5, _⟩ => ⟨S256x5120, .bf16⟩
  | .local _ .vmem, ⟨6, _⟩ => ⟨S256x5120, .bf16⟩
  | .local _ .vmem, ⟨7, _⟩ => ⟨S2048x128, .f32⟩
  | .local _ .vmem, ⟨8, _⟩ => ⟨S2048x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S8192x2048 : Shape := ⟨2, ![8192, 2048]⟩
abbrev S5120x2048 : Shape := ⟨2, ![5120, 2048]⟩
abbrev S2048x5120 : Shape := ⟨2, ![2048, 5120]⟩
abbrev S8192x5120 : Shape := ⟨2, ![8192, 5120]⟩
abbrev S8192x512 : Shape := ⟨2, ![8192, 512]⟩
abbrev S8192x4x128 : Shape := ⟨3, ![8192, 4, 128]⟩
abbrev S8192x1x4x128 : Shape := ⟨4, ![8192, 1, 4, 128]⟩
abbrev S8192x2x4x128 : Shape := ⟨4, ![8192, 2, 4, 128]⟩
abbrev S65536x128 : Shape := ⟨2, ![65536, 128]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5120x2048, .bf16⟩
  | .hbm, ⟨2, _⟩ => ⟨S8192x2048, .f32⟩
  | .hbm, ⟨3, _⟩ => ⟨S5120x2048, .f32⟩
  | .hbm, ⟨4, _⟩ => ⟨S2048x5120, .f32⟩
  | .hbm, ⟨5, _⟩ => ⟨S8192x5120, .f32⟩
  | .hbm, ⟨6, _⟩ => ⟨S8192x512, .f32⟩
  | .hbm, ⟨7, _⟩ => ⟨S8192x512, .f32⟩
  | .hbm, ⟨8, _⟩ => ⟨S8192x4x128, .f32⟩
  | .hbm, ⟨9, _⟩ => ⟨S8192x4x128, .f32⟩
  | .hbm, ⟨10, _⟩ => ⟨S8192x1x4x128, .f32⟩
  | .hbm, ⟨11, _⟩ => ⟨S8192x1x4x128, .f32⟩
  | .hbm, ⟨12, _⟩ => ⟨S8192x2x4x128, .f32⟩
  | .hbm, ⟨13, _⟩ => ⟨S8192x5120, .bf16⟩
  | .hbm, ⟨14, _⟩ => ⟨S65536x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel5.lean ====
abbrev S8192x512 : Shape := ⟨2, ![8192, 512]⟩
abbrev S2048x2048 : Shape := ⟨2, ![2048, 2048]⟩
abbrev S8192x2048 : Shape := ⟨2, ![8192, 2048]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 17
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S2048x2048, .bf16⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S8192x512 : Shape := ⟨2, ![8192, 512]⟩
abbrev S2048x2048 : Shape := ⟨2, ![2048, 2048]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S2048x2048, .bf16⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S8192x2048, .bf16⟩
  | .hbm, ⟨9, _⟩ => ⟨S8192x2048, .f32⟩
  | .hbm, ⟨10, _⟩ => ⟨S2048x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel6.lean ====
abbrev S8192x2048 : Shape := ⟨2, ![8192, 2048]⟩
abbrev S2048x11264 : Shape := ⟨2, ![2048, 11264]⟩
abbrev S3x11264 : Shape := ⟨2, ![3, 11264]⟩
abbrev S1x11264 : Shape := ⟨2, ![1, 11264]⟩
abbrev S8192x5632 : Shape := ⟨2, ![8192, 5632]⟩
abbrev S16x8x5632 : Shape := ⟨3, ![16, 8, 5632]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S512x512 : Shape := ⟨2, ![512, 512]⟩
abbrev S1x8x512 : Shape := ⟨3, ![1, 8, 512]⟩
abbrev S11x8x512 : Shape := ⟨3, ![11, 8, 512]⟩
abbrev S4x1040x128 : Shape := ⟨3, ![4, 1040, 128]⟩
abbrev S8x512 : Shape := ⟨2, ![8, 512]⟩
abbrev S2048x256 : Shape := ⟨2, ![2048, 256]⟩
abbrev S512x256 : Shape := ⟨2, ![512, 256]⟩
abbrev S3x256 : Shape := ⟨2, ![3, 256]⟩
abbrev S1x256 : Shape := ⟨2, ![1, 256]⟩
abbrev S8x256 : Shape := ⟨2, ![8, 256]⟩
abbrev S8x128 : Shape := ⟨2, ![8, 128]⟩
abbrev S1x8x128 : Shape := ⟨3, ![1, 8, 128]⟩
abbrev S512x128 : Shape := ⟨2, ![512, 128]⟩
abbrev S1x512x128 : Shape := ⟨3, ![1, 512, 128]⟩
abbrev S3x128 : Shape := ⟨2, ![3, 128]⟩
abbrev S1x128 : Shape := ⟨2, ![1, 128]⟩
abbrev S1x8x256 : Shape := ⟨3, ![1, 8, 256]⟩

abbrev nBuf : Space → Nat
  | .hbm => 7
  | .vmem => 23
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S3x11264, .f32⟩
  | .hbm, ⟨3, _⟩ => ⟨S1x11264, .f32⟩
  | .hbm, ⟨4, _⟩ => ⟨S8192x5632, .bf16⟩
  | .hbm, ⟨5, _⟩ => ⟨S16x8x5632, .f32⟩
  | .hbm, ⟨6, _⟩ => ⟨S16x8x5632, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x512, .bf16⟩
  | .local _ .vmem, ⟨15, _⟩ => ⟨S512x512, .bf16⟩
  | .local _ .vmem, ⟨16, _⟩ => ⟨S1x8x512, .f32⟩
  | .local _ .vmem, ⟨17, _⟩ => ⟨S1x8x512, .f32⟩
  | .local _ .vmem, ⟨18, _⟩ => ⟨S1x8x512, .f32⟩
  | .local _ .vmem, ⟨19, _⟩ => ⟨S1x8x512, .f32⟩
  | .local _ .vmem, ⟨20, _⟩ => ⟨S11x8x512, .f32⟩
  | .local _ .vmem, ⟨21, _⟩ => ⟨S11x8x512, .f32⟩
  | .local _ .vmem, ⟨22, _⟩ => ⟨S4x1040x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg0 : BitVec 32 := BitVec.ofNat 32 (i 0).val
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .eq v10 c0_i32_4
  let v12 : BitVec 32 := Scalar.extui v11
  let c0_i32_5 : BitVec 32 := 0#32
  let v13 : BitVec 1 := Scalar.cmpi .ne v12 c0_i32_5
  v13

def k0_off1 (i : grid0.Coords) : Fin 3 → Nat :=
  let arg1 : BitVec 32 := BitVec.ofNat 32 (i 1).val
  let v317 : Index := Scalar.indexCast arg1
  let c0_155 : Index := 0#32
  let c0_156 : Index := 0#32
  ![v317.toNat, 0, 0]
def k0_off2 (i : grid0.Coords) : Fin 3 → Nat :=
  let arg1 : BitVec 32 := BitVec.ofNat 32 (i 1).val
  let v18 : Index := Scalar.indexCast arg1
  let c0_12 : Index := 0#32
  let c0_13 : Index := 0#32
  ![v18.toNat, 0, 0]
def k0_off3 (i : grid0.Coords) : Fin 3 → Nat :=
  let arg1 : BitVec 32 := BitVec.ofNat 32 (i 1).val
  let v80 : Index := Scalar.indexCast arg1
  let c0_34 : Index := 0#32
  let c0_35 : Index := 0#32
  ![v80.toNat, 0, 0]
def k0_off4 (i : grid0.Coords) : Fin 3 → Nat :=
  let arg1 : BitVec 32 := BitVec.ofNat 32 (i 1).val
  let v231 : Index := Scalar.indexCast arg1
  let c0_109 : Index := 0#32
  let c256_110 : Index := 256#32
  ![v231.toNat, 0, 256]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S8192x2048 : Shape := ⟨2, ![8192, 2048]⟩
abbrev S2048x11264 : Shape := ⟨2, ![2048, 11264]⟩
abbrev S3x11264 : Shape := ⟨2, ![3, 11264]⟩
abbrev S1x11264 : Shape := ⟨2, ![1, 11264]⟩
abbrev S8192x11264 : Shape := ⟨2, ![8192, 11264]⟩
abbrev S4x2048x11264 : Shape := ⟨3, ![4, 2048, 11264]⟩
abbrev S_ : Shape := ⟨0, ![]⟩
abbrev S4x2x11264 : Shape := ⟨3, ![4, 2, 11264]⟩
abbrev S4x2050x11264 : Shape := ⟨3, ![4, 2050, 11264]⟩
abbrev S11264 : Shape := ⟨1, ![11264]⟩
abbrev S1x1x11264 : Shape := ⟨3, ![1, 1, 11264]⟩
abbrev S4x2048x5632 : Shape := ⟨3, ![4, 2048, 5632]⟩
abbrev S16x512x11264 : Shape := ⟨3, ![16, 512, 11264]⟩
abbrev S16x8x11264 : Shape := ⟨3, ![16, 8, 11264]⟩
abbrev S16x8x5632 : Shape := ⟨3, ![16, 8, 5632]⟩
abbrev S8192x5632 : Shape := ⟨2, ![8192, 5632]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S3x11264, .f32⟩
  | .hbm, ⟨3, _⟩ => ⟨S1x11264, .f32⟩
  | .hbm, ⟨4, _⟩ => ⟨S8192x2048, .f32⟩
  | .hbm, ⟨5, _⟩ => ⟨S2048x11264, .f32⟩
  | .hbm, ⟨6, _⟩ => ⟨S8192x11264, .f32⟩
  | .hbm, ⟨7, _⟩ => ⟨S4x2048x11264, .f32⟩
  | .hbm, ⟨8, _⟩ => ⟨S_, .f32⟩
  | .hbm, ⟨9, _⟩ => ⟨S4x2x11264, .f32⟩
  | .hbm, ⟨10, _⟩ => ⟨S4x2050x11264, .f32⟩
  | .hbm, ⟨11, _⟩ => ⟨S1x11264, .f32⟩
  | .hbm, ⟨12, _⟩ => ⟨S11264, .f32⟩
  | .hbm, ⟨13, _⟩ => ⟨S4x2048x11264, .f32⟩
  | .hbm, ⟨14, _⟩ => ⟨S1x1x11264, .f32⟩
  | .hbm, ⟨15, _⟩ => ⟨S4x2048x11264, .f32⟩
  | .hbm, ⟨16, _⟩ => ⟨S4x2048x11264, .f32⟩
  | .hbm, ⟨17, _⟩ => ⟨S1x11264, .f32⟩
  | .hbm, ⟨18, _⟩ => ⟨S11264, .f32⟩
  | .hbm, ⟨19, _⟩ => ⟨S4x2048x11264, .f32⟩
  | .hbm, ⟨20, _⟩ => ⟨S1x1x11264, .f32⟩
  | .hbm, ⟨21, _⟩ => ⟨S4x2048x11264, .f32⟩
  | .hbm, ⟨22, _⟩ => ⟨S4x2048x11264, .f32⟩
  | .hbm, ⟨23, _⟩ => ⟨S4x2048x11264, .f32⟩
  | .hbm, ⟨24, _⟩ => ⟨S1x11264, .f32⟩
  | .hbm, ⟨25, _⟩ => ⟨S11264, .f32⟩
  | .hbm, ⟨26, _⟩ => ⟨S4x2048x11264, .f32⟩
  | .hbm, ⟨27, _⟩ => ⟨S1x1x11264, .f32⟩
  | .hbm, ⟨28, _⟩ => ⟨S4x2048x11264, .f32⟩
  | .hbm, ⟨29, _⟩ => ⟨S4x2048x11264, .f32⟩
  | .hbm, ⟨30, _⟩ => ⟨S4x2048x11264, .f32⟩
  | .hbm, ⟨31, _⟩ => ⟨S11264, .f32⟩
  | .hbm, ⟨32, _⟩ => ⟨S1x1x11264, .f32⟩
  | .hbm, ⟨33, _⟩ => ⟨S4x2048x11264, .f32⟩
  | .hbm, ⟨34, _⟩ => ⟨S4x2048x11264, .f32⟩
  | .hbm, ⟨35, _⟩ => ⟨S4x2048x5632, .f32⟩
  | .hbm, ⟨36, _⟩ => ⟨S4x2048x5632, .f32⟩
  | .hbm, ⟨37, _⟩ => ⟨S4x2048x5632, .f32⟩
  | .hbm, ⟨38, _⟩ => ⟨S4x2048x5632, .f32⟩
  | .hbm, ⟨39, _⟩ => ⟨S_, .f32⟩
  | .hbm, ⟨40, _⟩ => ⟨S4x2048x5632, .f32⟩
  | .hbm, ⟨41, _⟩ => ⟨S4x2048x5632, .f32⟩
  | .hbm, ⟨42, _⟩ => ⟨S_, .f32⟩
  | .hbm, ⟨43, _⟩ => ⟨S4x2048x5632, .f32⟩
  | .hbm, ⟨44, _⟩ => ⟨S4x2048x5632, .f32⟩
  | .hbm, ⟨45, _⟩ => ⟨S4x2048x5632, .f32⟩
  | .hbm, ⟨46, _⟩ => ⟨S4x2048x5632, .f32⟩
  | .hbm, ⟨47, _⟩ => ⟨S16x512x11264, .f32⟩
  | .hbm, ⟨48, _⟩ => ⟨S16x8x11264, .f32⟩
  | .hbm, ⟨49, _⟩ => ⟨S16x8x5632, .f32⟩
  | .hbm, ⟨50, _⟩ => ⟨S16x8x5632, .f32⟩
  | .hbm, ⟨51, _⟩ => ⟨S8192x5632, .f32⟩
  | .hbm, ⟨52, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel7.lean ====
abbrev S2x294912x128 : Shape := ⟨3, ![2, 294912, 128]⟩
abbrev S2x8192x128 : Shape := ⟨3, ![2, 8192, 128]⟩
abbrev S2x128x128 : Shape := ⟨3, ![2, 128, 128]⟩
abbrev S2x4096x128 : Shape := ⟨3, ![2, 4096, 128]⟩
abbrev S1x18432x128 : Shape := ⟨3, ![1, 18432, 128]⟩
abbrev S1x8192x128 : Shape := ⟨3, ![1, 8192, 128]⟩
abbrev S1x128x128 : Shape := ⟨3, ![1, 128, 128]⟩
abbrev S1x256x128 : Shape := ⟨3, ![1, 256, 128]⟩
abbrev S256x128 : Shape := ⟨2, ![256, 128]⟩
abbrev S256x256 : Shape := ⟨2, ![256, 256]⟩
abbrev S128x128 : Shape := ⟨2, ![128, 128]⟩

abbrev nBuf : Space → Nat
  | .hbm => 4
  | .vmem => 8
  | .smem => 0
  | _ => 0

abbrev bufTy : (tb : Table) → Fin (tcTables nBuf tb) → BufTy
  | .hbm, ⟨0, _⟩ => ⟨S2x294912x128, .f32⟩
  | .hbm, ⟨1, _⟩ => ⟨S2x8192x128, .bf16⟩
  | .hbm, ⟨2, _⟩ => ⟨S2x128x128, .bf16⟩
  | .hbm, ⟨3, _⟩ => ⟨S2x4096x128, .f32⟩
  | .local _ .vmem, ⟨0, _⟩ => ⟨S1x18432x128, .f32⟩
  | .local _ .vmem, ⟨1, _⟩ => ⟨S1x18432x128, .f32⟩
  | .local _ .vmem, ⟨2, _⟩ => ⟨S1x8192x128, .bf16⟩
  | .local _ .vmem, ⟨3, _⟩ => ⟨S1x8192x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x256x128, .f32⟩
  | .local _ .vmem, ⟨7, _⟩ => ⟨S1x256x128, .f32⟩
  | _, _ => ⟨S2x294912x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x18432x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2x294912x128 : Shape := ⟨3, ![2, 294912, 128]⟩
abbrev S2x8192x128 : Shape := ⟨3, ![2, 8192, 128]⟩
abbrev S2x128x128 : Shape := ⟨3, ![2, 128, 128]⟩
abbrev S2x4096x72x128 : Shape := ⟨4, ![2, 4096, 72, 128]⟩
abbrev S2x4096x64x128 : Shape := ⟨4, ![2, 4096, 64, 128]⟩
abbrev S2x4096x8192 : Shape := ⟨3, ![2, 4096, 8192]⟩
abbrev S2x4096x128 : Shape := ⟨3, ![2, 4096, 128]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S2x294912x128, .f32⟩
  | .hbm, ⟨1, _⟩ => ⟨S2x8192x128, .bf16⟩
  | .hbm, ⟨2, _⟩ => ⟨S2x128x128, .bf16⟩
  | .hbm, ⟨3, _⟩ => ⟨S2x4096x72x128, .f32⟩
  | .hbm, ⟨4, _⟩ => ⟨S2x4096x64x128, .f32⟩
  | .hbm, ⟨5, _⟩ => ⟨S2x4096x8192, .f32⟩
  | .hbm, ⟨6, _⟩ => ⟨S2x8192x128, .f32⟩
  | .hbm, ⟨7, _⟩ => ⟨S2x4096x128, .f32⟩
  | .hbm, ⟨8, _⟩ => ⟨S2x4096x128, .f32⟩
  | .hbm, ⟨9, _⟩ => ⟨S2x4096x128, .f32⟩
  | .hbm, ⟨10, _⟩ => ⟨S_, .f32⟩
  | .hbm, ⟨11, _⟩ => ⟨S2x4096x128, .f32⟩
  | .hbm, ⟨12, _⟩ => ⟨S2x4096x128, .f32⟩
  | .hbm, ⟨13, _⟩ => ⟨S2x4096x128, .f32⟩
  | .hbm, ⟨14, _⟩ => ⟨S_, .f32⟩
  | .hbm, ⟨15, _⟩ => ⟨S2x4096x128, .f32⟩
  | .hbm, ⟨16, _⟩ => ⟨S2x4096x128, .f32⟩
  | .hbm, ⟨17, _⟩ => ⟨S2x4096x128, .f32⟩
  | .hbm, ⟨18, _⟩ => ⟨S_, .f32⟩
  | .hbm, ⟨19, _⟩ => ⟨S2x4096x128, .f32⟩
  | .hbm, ⟨20, _⟩ => ⟨S2x4096x128, .f32⟩
  | .hbm, ⟨21, _⟩ => ⟨S_, .f32⟩
  | .hbm, ⟨22, _⟩ => ⟨S2x4096x128, .f32⟩
  | .hbm, ⟨23, _⟩ => ⟨S2x4096x128, .f32⟩
  | .hbm, ⟨24, _⟩ => ⟨S2x4096x128, .f32⟩
  | .hbm, ⟨25, _⟩ => ⟨S2x128x128, .f32⟩
  | .hbm, ⟨26, _⟩ => ⟨S2x4096x128, .f32⟩
  | _, _ => ⟨S2x294912x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel8.lean ====
abbrev S2x128x8192 : Shape := ⟨3, ![2, 128, 8192]⟩
abbrev S2x8192x128 : Shape := ⟨3, ![2, 8192, 128]⟩
abbrev S2x128x128 : Shape := ⟨3, ![2, 128, 128]⟩
abbrev S1x128x8192 : Shape := ⟨3, ![1, 128, 8192]⟩
abbrev S1x8192x128 : Shape := ⟨3, ![1, 8192, 128]⟩
abbrev S1x128x128 : Shape := ⟨3, ![1, 128, 128]⟩
abbrev S128x8192 : Shape := ⟨2, ![128, 8192]⟩
abbrev S8192x128 : Shape := ⟨2, ![8192, 128]⟩
abbrev S128x128 : Shape := ⟨2, ![128, 128]⟩

abbrev nBuf : Space → Nat
  | .hbm => 4
  | .vmem => 8
  | .smem => 0
  | _ => 0

abbrev bufTy : (tb : Table) → Fin (tcTables nBuf tb) → BufTy
  | .hbm, ⟨0, _⟩ => ⟨S2x128x8192, .bf16⟩
  | .hbm, ⟨1, _⟩ => ⟨S2x8192x128, .bf16⟩
  | .hbm, ⟨2, _⟩ => ⟨S2x128x128, .bf16⟩
  | .hbm, ⟨3, _⟩ => ⟨S2x128x128, .f32⟩
  | .local _ .vmem, ⟨0, _⟩ => ⟨S1x128x8192, .bf16⟩
  | .local _ .vmem, ⟨1, _⟩ => ⟨S1x128x8192, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .f32⟩
  | .local _ .vmem, ⟨7, _⟩ => ⟨S1x128x128, .f32⟩
  | _, _ => ⟨S2x128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S2x128x8192 : Shape := ⟨3, ![2, 128, 8192]⟩
abbrev S2x8192x128 : Shape := ⟨3, ![2, 8192, 128]⟩
abbrev S2x128x128 : Shape := ⟨3, ![2, 128, 128]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2x128x8192, .bf16⟩
  | .hbm, ⟨1, _⟩ => ⟨S2x8192x128, .bf16⟩
  | .hbm, ⟨2, _⟩ => ⟨S2x128x128, .bf16⟩
  | .hbm, ⟨3, _⟩ => ⟨S2x128x8192, .f32⟩
  | .hbm, ⟨4, _⟩ => ⟨S2x8192x128, .f32⟩
  | .hbm, ⟨5, _⟩ => ⟨S2x128x128, .f32⟩
  | .hbm, ⟨6, _⟩ => ⟨S2x128x128, .f32⟩
  | .hbm, ⟨7, _⟩ => ⟨S2x128x128, .f32⟩
  | .hbm, ⟨8, _⟩ => ⟨S_, .f32⟩
  | .hbm, ⟨9, _⟩ => ⟨S2x128x128, .f32⟩
  | .hbm, ⟨10, _⟩ => ⟨S2x128x128, .f32⟩
  | .hbm, ⟨11, _⟩ => ⟨S2x128x128, .f32⟩
  | .hbm, ⟨12, _⟩ => ⟨S_, .f32⟩
  | .hbm, ⟨13, _⟩ => ⟨S2x128x128, .f32⟩
  | .hbm, ⟨14, _⟩ => ⟨S2x128x128, .f32⟩
  | .hbm, ⟨15, _⟩ => ⟨S2x128x128, .f32⟩
  | .hbm, ⟨16, _⟩ => ⟨S_, .f32⟩
  | .hbm, ⟨17, _⟩ => ⟨S2x128x128, .f32⟩
  | .hbm, ⟨18, _⟩ => ⟨S2x128x128, .f32⟩
  | .hbm, ⟨19, _⟩ => ⟨S_, .f32⟩
  | .hbm, ⟨20, _⟩ => ⟨S2x128x128, .f32⟩
  | .hbm, ⟨21, _⟩ => ⟨S2x128x128, .f32⟩
  | .hbm, ⟨22, _⟩ => ⟨S2x128x128, .f32⟩
  | .hbm, ⟨23, _⟩ => ⟨S2x128x128, .f32⟩
  | .hbm, ⟨24, _⟩ => ⟨S2x128x128, .f32⟩
  | _, _ => ⟨S2x128x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel9.lean ====
abbrev S8192x5120 : Shape := ⟨2, ![8192, 5120]⟩
abbrev S4x128x128 : Shape := ⟨3, ![4, 128, 128]⟩
abbrev S128x4 : Shape := ⟨2, ![128, 4]⟩
abbrev S1x512 : Shape := ⟨2, ![1, 512]⟩
abbrev S8192x512 : Shape := ⟨2, ![8192, 512]⟩
abbrev S128x1024 : Shape := ⟨2, ![128, 1024]⟩
abbrev S128x512 : Shape := ⟨2, ![128, 512]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 6
  | .vmem => 8
  | .smem => 0
  | _ => 0

abbrev bufTy : (tb : Table) → Fin (tcTables nBuf tb) → BufTy
  | .hbm, ⟨0, _⟩ => ⟨S8192x5120, .f32⟩
  | .hbm, ⟨1, _⟩ => ⟨S4x128x128, .f32⟩
  | .hbm, ⟨2, _⟩ => ⟨S128x4, .f32⟩
  | .hbm, ⟨3, _⟩ => ⟨S1x512, .f32⟩
  | .hbm, ⟨4, _⟩ => ⟨S1x512, .f32⟩
  | .hbm, ⟨5, _⟩ => ⟨S8192x512, .bf16⟩
  | .local _ .vmem, ⟨0, _⟩ => ⟨S128x1024, .f32⟩
  | .local _ .vmem, ⟨1, _⟩ => ⟨S128x1024, .f32⟩
  | .local _ .vmem, ⟨2, _⟩ => ⟨S4x128x128, .f32⟩
  | .local _ .vmem, ⟨3, _⟩ => ⟨S128x4, .f32⟩
  | .local _ .vmem, ⟨4, _⟩ => ⟨S1x512, .f32⟩
  | .local _ .vmem, ⟨5, _⟩ => ⟨S1x512, .f32⟩
  | .local _ .vmem, ⟨6, _⟩ => ⟨S128x512, .bf16⟩
  | .local _ .vmem, ⟨7, _⟩ => ⟨S128x512, .bf16⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8192x5120 : Shape := ⟨2, ![8192, 5120]⟩
abbrev S4x128x128 : Shape := ⟨3, ![4, 128, 128]⟩
abbrev S128x4 : Shape := ⟨2, ![128, 4]⟩
abbrev S1x512 : Shape := ⟨2, ![1, 512]⟩
abbrev S8192x1024 : Shape := ⟨2, ![8192, 1024]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S4x16x128x4x128 : Shape := ⟨5, ![4, 16, 128, 4, 128]⟩
abbrev S128x128 : Shape := ⟨2, ![128, 128]⟩
abbrev S4x4x16x128x128 : Shape := ⟨5, ![4, 4, 16, 128, 128]⟩
abbrev S1x1x128x4x1 : Shape := ⟨5, ![1, 1, 128, 4, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S4x128x128, .f32⟩
  | .hbm, ⟨2, _⟩ => ⟨S128x4, .f32⟩
  | .hbm, ⟨3, _⟩ => ⟨S1x512, .f32⟩
  | .hbm, ⟨4, _⟩ => ⟨S1x512, .f32⟩
  | .hbm, ⟨5, _⟩ => ⟨S8192x1024, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S4x16x128x4x128, .f32⟩
  | .hbm, ⟨36, _⟩ => ⟨S128x128, .i32⟩
  | .hbm, ⟨37, _⟩ => ⟨S_, .i32⟩
  | .hbm, ⟨38, _⟩ => ⟨S128x128, .i32⟩
  | .hbm, ⟨39, _⟩ => ⟨S128x128, .i32⟩
  | .hbm, ⟨40, _⟩ => ⟨S128x128, .i32⟩
  | .hbm, ⟨41, _⟩ => ⟨S128x128, .i1⟩
  | .hbm, ⟨42, _⟩ => ⟨S4x128x128, .i1⟩
  | .hbm, ⟨43, _⟩ => ⟨S_, .f32⟩
  | .hbm, ⟨44, _⟩ => ⟨S4x128x128, .f32⟩
  | .hbm, ⟨45, _⟩ => ⟨S4x128x128, .f32⟩
  | .hbm, ⟨46, _⟩ => ⟨S4x4x16x128x128, .f32⟩
  | .hbm, ⟨47, _⟩ => ⟨S4x16x128x4x128, .f32⟩
  | .hbm, ⟨48, _⟩ => ⟨S1x1x128x4x1, .f32⟩
  | .hbm, ⟨49, _⟩ => ⟨S4x16x128x4x128, .f32⟩
  | .hbm, ⟨50, _⟩ => ⟨S4x16x128x4x128, .f32⟩
  | .hbm, ⟨51, _⟩ => ⟨S8192x512, .f32⟩
  | .hbm, ⟨52, _⟩ => ⟨S8192x512, .f32⟩
  | .hbm, ⟨53, _⟩ => ⟨S8192x512, .bf16⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_cst : Ref sig .tc := ⟨.hbm, 43, rfl⟩
abbrev main_call0_v6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== Kernel10.lean ====
abbrev S128x8x1536 : Shape := ⟨3, ![128, 8, 1536]⟩
abbrev S2x2560x1024x128 : Shape := ⟨4, ![2, 2560, 1024, 128]⟩
abbrev S128x16 : Shape := ⟨2, ![128, 16]⟩
abbrev S128x8x512 : Shape := ⟨3, ![128, 8, 512]⟩
abbrev S1x8x1536 : Shape := ⟨3, ![1, 8, 1536]⟩
abbrev S1x1x1024x128 : Shape := ⟨4, ![1, 1, 1024, 128]⟩
abbrev S1x1 : Shape := ⟨2, ![1, 1]⟩
abbrev S1x8x512 : Shape := ⟨3, ![1, 8, 512]⟩
abbrev S32x1 : Shape := ⟨2, ![32, 1]⟩
abbrev S8x1536 : Shape := ⟨2, ![8, 1536]⟩
abbrev S8x512 : Shape := ⟨2, ![8, 512]⟩
abbrev S32x512 : Shape := ⟨2, ![32, 512]⟩
abbrev S120x512 : Shape := ⟨2, ![120, 512]⟩
abbrev S128x512 : Shape := ⟨2, ![128, 512]⟩
abbrev S1x1x128x128 : Shape := ⟨4, ![1, 1, 128, 128]⟩
abbrev S128x128 : Shape := ⟨2, ![128, 128]⟩
abbrev S32x128 : Shape := ⟨2, ![32, 128]⟩
abbrev S544x128 : Shape := ⟨2, ![544, 128]⟩
abbrev S544x1 : Shape := ⟨2, ![544, 1]⟩
abbrev S544 : Shape := ⟨1, ![544]⟩
abbrev S8x128 : Shape := ⟨2, ![8, 128]⟩
abbrev S1x8x128 : Shape := ⟨3, ![1, 8, 128]⟩

abbrev nBuf : Space → Nat
  | .hbm => 3
  | .vmem => 36
  | .smem => 1
  | _ => 0

abbrev bufTy : (tb : Table) → Fin (tcTables nBuf tb) → BufTy
  | .hbm, ⟨0, _⟩ => ⟨S128x8x1536, .f32⟩
  | .hbm, ⟨1, _⟩ => ⟨S2x2560x1024x128, .f32⟩
  | .hbm, ⟨2, _⟩ => ⟨S128x8x512, .f32⟩
  | .local _ .vmem, ⟨0, _⟩ => ⟨S1x8x1536, .f32⟩
  | .local _ .vmem, ⟨1, _⟩ => ⟨S1x8x1536, .f32⟩
  | .local _ .vmem, ⟨2, _⟩ => ⟨S1x1x1024x128, .f32⟩
  | .local _ .vmem, ⟨3, _⟩ => ⟨S1x1x1024x128, .f32⟩
  | .local _ .vmem, ⟨4, _⟩ => ⟨S1x1x1024x128, .f32⟩
  | .local _ .vmem, ⟨5, _⟩ => ⟨S1x1x1024x128, .f32⟩
  | .local _ .vmem, ⟨6, _⟩ => ⟨S1x1x1024x128, .f32⟩
  | .local _ .vmem, ⟨7, _⟩ => ⟨S1x1x1024x128, .f32⟩
  | .local _ .vmem, ⟨8, _⟩ => ⟨S1x1x1024x128, .f32⟩
  | .local _ .vmem, ⟨9, _⟩ => ⟨S1x1x1024x128, .f32⟩
  | .local _ .vmem, ⟨10, _⟩ => ⟨S1x1x1024x128, .f32⟩
  | .local _ .vmem, ⟨11, _⟩ => ⟨S1x1x1024x128, .f32⟩
  | .local _ .vmem, ⟨12, _⟩ => ⟨S1x1x1024x128, .f32⟩
  | .local _ .vmem, ⟨13, _⟩ => ⟨S1x1x1024x128, .f32⟩
  | .local _ .vmem, ⟨14, _⟩ => ⟨S1x1x1024x128, .f32⟩
  | .local _ .vmem, ⟨15, _⟩ => ⟨S1x1x1024x128, .f32⟩
  | .local _ .vmem, ⟨16, _⟩ => ⟨S1x1x1024x128, .f32⟩
  | .local _ .vmem, ⟨17, _⟩ => ⟨S1x1x1024x128, .f32⟩
  | .local _ .vmem, ⟨18, _⟩ => ⟨S1x1x1024x128, .f32⟩
  | .local _ .vmem, ⟨19, _⟩ => ⟨S1x1x1024x128, .f32⟩
  | .local _ .vmem, ⟨20, _⟩ => ⟨S1x1x1024x128, .f32⟩
  | .local _ .vmem, ⟨21, _⟩ => ⟨S1x1x1024x128, .f32⟩
  | .local _ .vmem, ⟨22, _⟩ => ⟨S1x1x1024x128, .f32⟩
  | .local _ .vmem, ⟨23, _⟩ => ⟨S1x1x1024x128, .f32⟩
  | .local _ .vmem, ⟨24, _⟩ => ⟨S1x1x1024x128, .f32⟩
  | .local _ .vmem, ⟨25, _⟩ => ⟨S1x1x1024x128, .f32⟩
  | .local _ .vmem, ⟨26, _⟩ => ⟨S1x1x1024x128, .f32⟩
  | .local _ .vmem, ⟨27, _⟩ => ⟨S1x1x1024x128, .f32⟩
  | .local _ .vmem, ⟨28, _⟩ => ⟨S1x1x1024x128, .f32⟩
  | .local _ .vmem, ⟨29, _⟩ => ⟨S1x1x1024x128, .f32⟩
  | .local _ .vmem, ⟨30, _⟩ => ⟨S1x1x1024x128, .f32⟩
  | .local _ .vmem, ⟨31, _⟩ => ⟨S1x1x1024x128, .f32⟩
  | .local _ .vmem, ⟨32, _⟩ => ⟨S1x1x1024x128, .f32⟩
  | .local _ .vmem, ⟨33, _⟩ => ⟨S1x1x1024x128, .f32⟩
  | .local _ .vmem, ⟨34, _⟩ => ⟨S1x8x512, .f32⟩
  | .local _ .vmem, ⟨35, _⟩ => ⟨S1x8x512, .f32⟩
  | .local _ .smem, ⟨0, _⟩ => ⟨S128x16, .i32⟩
  | _, _ => ⟨S128x8x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_off3 (i : grid0.Coords) : Fin 2 → Nat :=
  let arg0 : BitVec 32 := BitVec.ofNat 32 (i 0).val
  let v0 : Index := Scalar.indexCast arg0
  let c2 : Index := 2#32
  ![v0.toNat, 2]
def k0_off4 (i : grid0.Coords) : Fin 2 → Nat :=
  let arg0 : BitVec 32 := BitVec.ofNat 32 (i 0).val
  let v0 : Index := Scalar.indexCast arg0
  let c3 : Index := 3#32
  ![v0.toNat, 3]
def k0_off5 (i : grid0.Coords) : Fin 2 → Nat :=
  let arg0 : BitVec 32 := BitVec.ofNat 32 (i 0).val
  let v0 : Index := Scalar.indexCast arg0
  let c4 : Index := 4#32
  ![v0.toNat, 4]
def k0_off6 (i : grid0.Coords) : Fin 2 → Nat :=
  let arg0 : BitVec 32 := BitVec.ofNat 32 (i 0).val
  let v0 : Index := Scalar.indexCast arg0
  let c5 : Index := 5#32
  ![v0.toNat, 5]
def k0_off7 (i : grid0.Coords) : Fin 2 → Nat :=
  let arg0 : BitVec 32 := BitVec.ofNat 32 (i 0).val
  let v0 : Index := Scalar.indexCast arg0
  let c6 : Index := 6#32
  ![v0.toNat, 6]
def k0_off8 (i : grid0.Coords) : Fin 2 → Nat :=
  let arg0 : BitVec 32 := BitVec.ofNat 32 (i 0).val
  let v0 : Index := Scalar.indexCast arg0
  let c7 : Index := 7#32
  ![v0.toNat, 7]
def k0_off9 (i : grid0.Coords) : Fin 2 → Nat :=
  let arg0 : BitVec 32 := BitVec.ofNat 32 (i 0).val
  let v0 : Index := Scalar.indexCast arg0
  let c8 : Index := 8#32
  ![v0.toNat, 8]
def k0_off10 (i : grid0.Coords) : Fin 2 → Nat :=
  let arg0 : BitVec 32 := BitVec.ofNat 32 (i 0).val
  let v0 : Index := Scalar.indexCast arg0
  let c9 : Index := 9#32
  ![v0.toNat, 9]
def k0_off11 (i : grid0.Coords) : Fin 2 → Nat :=
  let arg0 : BitVec 32 := BitVec.ofNat 32 (i 0).val
  let v0 : Index := Scalar.indexCast arg0
  let c10 : Index := 10#32
  ![v0.toNat, 10]
def k0_off12 (i : grid0.Coords) : Fin 2 → Nat :=
  let arg0 : BitVec 32 := BitVec.ofNat 32 (i 0).val
  let v0 : Index := Scalar.indexCast arg0
  let c11 : Index := 11#32
  ![v0.toNat, 11]
def k0_off13 (i : grid0.Coords) : Fin 2 → Nat :=
  let arg0 : BitVec 32 := BitVec.ofNat 32 (i 0).val
  let v0 : Index := Scalar.indexCast arg0
  let c12 : Index := 12#32
  ![v0.toNat, 12]
def k0_off14 (i : grid0.Coords) : Fin 2 → Nat :=
  let arg0 : BitVec 32 := BitVec.ofNat 32 (i 0).val
  let v0 : Index := Scalar.indexCast arg0
  let c13 : Index := 13#32
  ![v0.toNat, 13]
def k0_off15 (i : grid0.Coords) : Fin 2 → Nat :=
  let arg0 : BitVec 32 := BitVec.ofNat 32 (i 0).val
  let v0 : Index := Scalar.indexCast arg0
  let c14 : Index := 14#32
  ![v0.toNat, 14]
def k0_off16 (i : grid0.Coords) : Fin 2 → Nat :=
  let arg0 : BitVec 32 := BitVec.ofNat 32 (i 0).val
  let v0 : Index := Scalar.indexCast arg0
  let c15 : Index := 15#32
  ![v0.toNat, 15]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c0 : Index := 0#32
  let v1 : BitVec 32 := pf.at 0 (Rect.unit (s := S128x16) ![v0.toNat, 0] S1x1.size (k0_off1_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off2_inb : ∀ i : grid0.Coords, ∀ a, (k0_off2 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c1 : Index := 1#32
  let v1 : BitVec 32 := pf.at 0 (Rect.unit (s := S128x16) ![v0.toNat, 1] S1x1.size (k0_off2_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off3_inb : ∀ i : grid0.Coords, ∀ a, (k0_off3 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c2 : Index := 2#32
  let v1 : BitVec 32 := pf.at 0 (Rect.unit (s := S128x16) ![v0.toNat, 2] S1x1.size (k0_off3_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off4_inb : ∀ i : grid0.Coords, ∀ a, (k0_off4 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c3 : Index := 3#32
  let v1 : BitVec 32 := pf.at 0 (Rect.unit (s := S128x16) ![v0.toNat, 3] S1x1.size (k0_off4_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off5_inb : ∀ i : grid0.Coords, ∀ a, (k0_off5 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c4 : Index := 4#32
  let v1 : BitVec 32 := pf.at 0 (Rect.unit (s := S128x16) ![v0.toNat, 4] S1x1.size (k0_off5_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off6_inb : ∀ i : grid0.Coords, ∀ a, (k0_off6 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c5 : Index := 5#32
  let v1 : BitVec 32 := pf.at 0 (Rect.unit (s := S128x16) ![v0.toNat, 5] S1x1.size (k0_off6_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (k0_off7_inb : ∀ i : grid0.Coords, ∀ a, (k0_off7 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c6 : Index := 6#32
  let v1 : BitVec 32 := pf.at 0 (Rect.unit (s := S128x16) ![v0.toNat, 6] S1x1.size (k0_off7_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_8 (k0_off8_inb : ∀ i : grid0.Coords, ∀ a, (k0_off8 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c7 : Index := 7#32
  let v1 : BitVec 32 := pf.at 0 (Rect.unit (s := S128x16) ![v0.toNat, 7] S1x1.size (k0_off8_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_9 (k0_off9_inb : ∀ i : grid0.Coords, ∀ a, (k0_off9 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c8 : Index := 8#32
  let v1 : BitVec 32 := pf.at 0 (Rect.unit (s := S128x16) ![v0.toNat, 8] S1x1.size (k0_off9_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_10 (k0_off10_inb : ∀ i : grid0.Coords, ∀ a, (k0_off10 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c9 : Index := 9#32
  let v1 : BitVec 32 := pf.at 0 (Rect.unit (s := S128x16) ![v0.toNat, 9] S1x1.size (k0_off10_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_11 (k0_off11_inb : ∀ i : grid0.Coords, ∀ a, (k0_off11 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c10 : Index := 10#32
  let v1 : BitVec 32 := pf.at 0 (Rect.unit (s := S128x16) ![v0.toNat, 10] S1x1.size (k0_off11_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_12 (k0_off12_inb : ∀ i : grid0.Coords, ∀ a, (k0_off12 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c11 : Index := 11#32
  let v1 : BitVec 32 := pf.at 0 (Rect.unit (s := S128x16) ![v0.toNat, 11] S1x1.size (k0_off12_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_13 (k0_off13_inb : ∀ i : grid0.Coords, ∀ a, (k0_off13 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c12 : Index := 12#32
  let v1 : BitVec 32 := pf.at 0 (Rect.unit (s := S128x16) ![v0.toNat, 12] S1x1.size (k0_off13_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_14 (k0_off14_inb : ∀ i : grid0.Coords, ∀ a, (k0_off14 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c13 : Index := 13#32
  let v1 : BitVec 32 := pf.at 0 (Rect.unit (s := S128x16) ![v0.toNat, 13] S1x1.size (k0_off14_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_15 (k0_off15_inb : ∀ i : grid0.Coords, ∀ a, (k0_off15 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c14 : Index := 14#32
  let v1 : BitVec 32 := pf.at 0 (Rect.unit (s := S128x16) ![v0.toNat, 14] S1x1.size (k0_off15_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_16 (k0_off16_inb : ∀ i : grid0.Coords, ∀ a, (k0_off16 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c15 : Index := 15#32
  let v1 : BitVec 32 := pf.at 0 (Rect.unit (s := S128x16) ![v0.toNat, 15] S1x1.size (k0_off16_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference10Ideal.lean ====
abbrev S128x8x1536 : Shape := ⟨3, ![128, 8, 1536]⟩
abbrev S2x2560x1024x128 : Shape := ⟨4, ![2, 2560, 1024, 128]⟩
abbrev S128x16 : Shape := ⟨2, ![128, 16]⟩
abbrev S128x8x512 : Shape := ⟨3, ![128, 8, 512]⟩
abbrev S128x8x4x128 : Shape := ⟨4, ![128, 8, 4, 128]⟩
abbrev S1x2560x1024x128 : Shape := ⟨4, ![1, 2560, 1024, 128]⟩
abbrev S2560x1024x128 : Shape := ⟨3, ![2560, 1024, 128]⟩
abbrev S2560x128x2x4x128 : Shape := ⟨5, ![2560, 128, 2, 4, 128]⟩
abbrev S_ : Shape := ⟨0, ![]⟩
abbrev S128x16x1 : Shape := ⟨3, ![128, 16, 1]⟩
abbrev S128x16x128x2x4x128 : Shape := ⟨6, ![128, 16, 128, 2, 4, 128]⟩
abbrev S128x2048x2x4x128 : Shape := ⟨5, ![128, 2048, 2, 4, 128]⟩
abbrev S128x2048x1x4x128 : Shape := ⟨5, ![128, 2048, 1, 4, 128]⟩
abbrev S128x2048x4x128 : Shape := ⟨4, ![128, 2048, 4, 128]⟩
abbrev S128x2056x4x128 : Shape := ⟨4, ![128, 2056, 4, 128]⟩
abbrev S2056 : Shape := ⟨1, ![2056]⟩
abbrev S8 : Shape := ⟨1, ![8]⟩
abbrev S128x4x8x2056 : Shape := ⟨4, ![128, 4, 8, 2056]⟩
abbrev S1x2056 : Shape := ⟨2, ![1, 2056]⟩
abbrev S8x1 : Shape := ⟨2, ![8, 1]⟩
abbrev S8x2056 : Shape := ⟨2, ![8, 2056]⟩
abbrev S1x1x8x2056 : Shape := ⟨4, ![1, 1, 8, 2056]⟩
abbrev S128x4x128x8 : Shape := ⟨4, ![128, 4, 128, 8]⟩

abbrev nBuf : Space → Nat
  | .hbm => 95
  | .vmem => 0
  | .smem => 0
  | _ => 0

abbrev bufTy : (tb : Table) → Fin (tcTables nBuf tb) → BufTy
  | .hbm, ⟨0, _⟩ => ⟨S128x8x1536, .f32⟩
  | .hbm, ⟨1, _⟩ => ⟨S2x2560x1024x128, .f32⟩
  | .hbm, ⟨2, _⟩ => ⟨S128x16, .i32⟩
  | .hbm, ⟨3, _⟩ => ⟨S128x8x512, .f32⟩
  | .hbm, ⟨4, _⟩ => ⟨S128x8x512, .f32⟩
  | .hbm, ⟨5, _⟩ => ⟨S128x8x512, .f32⟩
  | .hbm, ⟨6, _⟩ => ⟨S128x8x4x128, .f32⟩
  | .hbm, ⟨7, _⟩ => ⟨S128x8x4x128, .f32⟩
  | .hbm, ⟨8, _⟩ => ⟨S128x8x4x128, .f32⟩
  | .hbm, ⟨9, _⟩ => ⟨S1x2560x1024x128, .f32⟩
  | .hbm, ⟨10, _⟩ => ⟨S2560x1024x128, .f32⟩
  | .hbm, ⟨11, _⟩ => ⟨S2560x128x2x4x128, .f32⟩
  | .hbm, ⟨12, _⟩ => ⟨S_, .i32⟩
  | .hbm, ⟨13, _⟩ => ⟨S128x16, .i32⟩
  | .hbm, ⟨14, _⟩ => ⟨S128x16, .i1⟩
  | .hbm, ⟨15, _⟩ => ⟨S_, .i32⟩
  | .hbm, ⟨16, _⟩ => ⟨S128x16, .i32⟩
  | .hbm, ⟨17, _⟩ => ⟨S128x16, .i32⟩
  | .hbm, ⟨18, _⟩ => ⟨S128x16, .i32⟩
  | .hbm, ⟨19, _⟩ => ⟨S128x16x1, .i32⟩
  | .hbm, ⟨20, _⟩ => ⟨S128x16x128x2x4x128, .f32⟩
  | .hbm, ⟨21, _⟩ => ⟨S128x2048x2x4x128, .f32⟩
  | .hbm, ⟨22, _⟩ => ⟨S128x2048x1x4x128, .f32⟩
  | .hbm, ⟨23, _⟩ => ⟨S128x2048x4x128, .f32⟩
  | .hbm, ⟨24, _⟩ => ⟨S128x2056x4x128, .f32⟩
  | .hbm, ⟨25, _⟩ => ⟨S128x2048x1x4x128, .f32⟩
  | .hbm, ⟨26, _⟩ => ⟨S128x2048x4x128, .f32⟩
  | .hbm, ⟨27, _⟩ => ⟨S128x2056x4x128, .f32⟩
  | .hbm, ⟨28, _⟩ => ⟨S2056, .i32⟩
  | .hbm, ⟨29, _⟩ => ⟨S8, .i32⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S128x4x8x2056, .f32⟩
  | .hbm, ⟨34, _⟩ => ⟨S_, .f32⟩
  | .hbm, ⟨35, _⟩ => ⟨S128x4x8x2056, .f32⟩
  | .hbm, ⟨36, _⟩ => ⟨S128x4x8x2056, .f32⟩
  | .hbm, ⟨37, _⟩ => ⟨S1x2056, .i32⟩
  | .hbm, ⟨38, _⟩ => ⟨S8x1, .i32⟩
  | .hbm, ⟨39, _⟩ => ⟨S8x2056, .i32⟩
  | .hbm, ⟨40, _⟩ => ⟨S8x2056, .i32⟩
  | .hbm, ⟨41, _⟩ => ⟨S8x2056, .i1⟩
  | .hbm, ⟨42, _⟩ => ⟨S1x1x8x2056, .i1⟩
  | .hbm, ⟨43, _⟩ => ⟨S128x4x8x2056, .f32⟩
  | .hbm, ⟨44, _⟩ => ⟨S128x4x8x2056, .f32⟩
  | .hbm, ⟨45, _⟩ => ⟨S_, .f32⟩
  | .hbm, ⟨46, _⟩ => ⟨S128x4x8x2056, .f32⟩
  | .hbm, ⟨47, _⟩ => ⟨S128x4x8x2056, .f32⟩
  | .hbm, ⟨48, _⟩ => ⟨S128x4x8x2056, .f32⟩
  | .hbm, ⟨49, _⟩ => ⟨S128x4x8x2056, .f32⟩
  | .hbm, ⟨50, _⟩ => ⟨S128x4x8x2056, .i1⟩
  | .hbm, ⟨51, _⟩ => ⟨S128x4x8x2056, .f32⟩
  | .hbm, ⟨52, _⟩ => ⟨S128x4x8x2056, .f32⟩
  | .hbm, ⟨53, _⟩ => ⟨S128x4x8x2056, .f32⟩
  | .hbm, ⟨54, _⟩ => ⟨S128x4x8x2056, .f32⟩
  | .hbm, ⟨55, _⟩ => ⟨S128x4x8x2056, .f32⟩
  | .hbm, ⟨56, _⟩ => ⟨S128x4x8x2056, .f32⟩
  | .hbm, ⟨57, _⟩ => ⟨S128x4x8x2056, .f32⟩
  | .hbm, ⟨58, _⟩ => ⟨S128x4x8x2056, .f32⟩
  | .hbm, ⟨59, _⟩ => ⟨S128x4x8x2056, .f32⟩
  | .hbm, ⟨60, _⟩ => ⟨S_, .f32⟩
  | .hbm, ⟨61, _⟩ => ⟨S_, .f32⟩
  | .hbm, ⟨62, _⟩ => ⟨S128x4x8x2056, .i1⟩
  | .hbm, ⟨63, _⟩ => ⟨S128x4x8x2056, .f32⟩
  | .hbm, ⟨64, _⟩ => ⟨S128x4x8x2056, .f32⟩
  | .hbm, ⟨65, _⟩ => ⟨S_, .f32⟩
  | .hbm, ⟨66, _⟩ => ⟨S_, .f32⟩
  | .hbm, ⟨67, _⟩ => ⟨S128x4x8x2056, .f32⟩
  | .hbm, ⟨68, _⟩ => ⟨S128x4x8x2056, .f32⟩
  | .hbm, ⟨69, _⟩ => ⟨S128x4x8x2056, .f32⟩
  | .hbm, ⟨70, _⟩ => ⟨S_, .f32⟩
  | .hbm, ⟨71, _⟩ => ⟨S128x4x8x2056, .f32⟩
  | .hbm, ⟨72, _⟩ => ⟨S128x4x8x2056, .f32⟩
  | .hbm, ⟨73, _⟩ => ⟨S128x4x8x2056, .f32⟩
  | .hbm, ⟨74, _⟩ => ⟨S128x4x8x2056, .f32⟩
  | .hbm, ⟨75, _⟩ => ⟨S128x4x8x2056, .i1⟩
  | .hbm, ⟨76, _⟩ => ⟨S128x4x8x2056, .f32⟩
  | .hbm, ⟨77, _⟩ => ⟨S128x4x8x2056, .f32⟩
  | .hbm, ⟨78, _⟩ => ⟨S128x4x8x2056, .f32⟩
  | .hbm, ⟨79, _⟩ => ⟨S128x4x8x2056, .f32⟩
  | .hbm, ⟨80, _⟩ => ⟨S128x4x8x2056, .f32⟩
  | .hbm, ⟨81, _⟩ => ⟨S128x4x8x2056, .f32⟩
  | .hbm, ⟨82, _⟩ => ⟨S128x4x8x2056, .f32⟩
  | .hbm, ⟨83, _⟩ => ⟨S128x4x8x2056, .f32⟩
  | .hbm, ⟨84, _⟩ => ⟨S128x4x8x2056, .f32⟩
  | .hbm, ⟨85, _⟩ => ⟨S128x4x8x2056, .f32⟩
  | .hbm, ⟨86, _⟩ => ⟨S128x4x8x2056, .f32⟩
  | .hbm, ⟨87, _⟩ => ⟨S_, .f32⟩
  | .hbm, ⟨88, _⟩ => ⟨S_, .f32⟩
  | .hbm, ⟨89, _⟩ => ⟨S128x4x8x2056, .i1⟩
  | .hbm, ⟨90, _⟩ => ⟨S128x4x8x2056, .f32⟩
  | .hbm, ⟨91, _⟩ => ⟨S128x4x8x2056, .f32⟩
  | .hbm, ⟨92, _⟩ => ⟨S128x4x128x8, .f32⟩
  | .hbm, ⟨93, _⟩ => ⟨S128x8x4x128, .f32⟩
  | .hbm, ⟨94, _⟩ => ⟨S128x8x512, .f32⟩
  | _, _ => ⟨S128x8x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_call0_v0 : Ref sig .tc := ⟨.hbm, 44, rfl⟩
abbrev main_call0_call0_cst : Ref sig .tc := ⟨.hbm, 45, rfl⟩
abbrev main_call0_call0_v0 : Ref sig .tc := ⟨.hbm, 46, rfl⟩
abbrev main_call0_call0_v1 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_v5 : Ref sig .tc := ⟨.hbm, 51, rfl⟩
abbrev main_call0_call0_v6 : Ref sig .tc := ⟨.hbm, 52, rfl⟩
abbrev main_call0_call0_v7 : Ref sig .tc := ⟨.hbm, 53, rfl⟩
abbrev main_call0_call0_v8 : Ref sig .tc := ⟨.hbm, 54, rfl⟩
abbrev main_call0_call0_v9 : Ref sig .tc := ⟨.hbm, 55, rfl⟩
abbrev main_call0_call0_v10 : Ref sig .tc := ⟨.hbm, 56, rfl⟩
abbrev main_call0_call0_v11 : Ref sig .tc := ⟨.hbm, 57, rfl⟩
abbrev main_call0_v1 : Ref sig .tc := ⟨.hbm, 58, rfl⟩
abbrev main_v37 : Ref sig .tc := ⟨.hbm, 59, rfl⟩
abbrev main_cst_2 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v38 : Ref sig .tc := ⟨.hbm, 64, rfl⟩
abbrev main_call2_cst : Ref sig .tc := ⟨.hbm, 65, rfl⟩
abbrev main_call2_v0 : Ref sig .tc := ⟨.hbm, 66, rfl⟩
abbrev main_v39 : Ref sig .tc := ⟨.hbm, 67, rfl⟩
abbrev main_v40 : Ref sig .tc := ⟨.hbm, 68, rfl⟩
abbrev main_call3_v0 : Ref sig .tc := ⟨.hbm, 69, rfl⟩
abbrev main_call3_call0_cst : Ref sig .tc := ⟨.hbm, 70, rfl⟩
abbrev main_call3_call0_v0 : Ref sig .tc := ⟨.hbm, 71, rfl⟩
abbrev main_call3_call0_v1 : Ref sig .tc := ⟨.hbm, 72, rfl⟩
abbrev main_call3_call0_v2 : Ref sig .tc := ⟨.hbm, 73, rfl⟩
abbrev main_call3_call0_v3 : Ref sig .tc := ⟨.hbm, 74, rfl⟩
abbrev main_call3_call0_v4 : Ref sig .tc := ⟨.hbm, 75, rfl⟩
abbrev main_call3_call0_v5 : Ref sig .tc := ⟨.hbm, 76, rfl⟩
abbrev main_call3_call0_v6 : Ref sig .tc := ⟨.hbm, 77, rfl⟩
abbrev main_call3_call0_v7 : Ref sig .tc := ⟨.hbm, 78, rfl⟩
abbrev main_call3_call0_v8 : Ref sig .tc := ⟨.hbm, 79, rfl⟩
abbrev main_call3_call0_v9 : Ref sig .tc := ⟨.hbm, 80, rfl⟩
abbrev main_call3_call0_v10 : Ref sig .tc := ⟨.hbm, 81, rfl⟩
abbrev main_call3_call0_v11 : Ref sig .tc := ⟨.hbm, 82, rfl⟩
abbrev main_call3_v1 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_3 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩

abbrev nD : Nat := 1
abbrev τ : Topo := Topo.v7x

variable {F : FTy → Type} [FloatOps F]
-- ==== Proof.Stick.lean ====
/-
  Stick-breaking attention over the extended reals: the two logarithms of a score's shares, in the kernel's and in the
  reference's spelling; the running sum from the end; and the pass over chunks of keys from the last to the first.
-/
module

public import Idealize.ShloMosaic.Lib.ValueIdx
public import Idealize.ShloMosaic.Lib.Pipeline.Value
public import Idealize.ShloMosaic.PureOps.Ideal.Laws

@[expose] public section

noncomputable section

namespace Cert.Proof.Stick

open Idealize.ShloMosaic Idealize.ShloMosaic.ValueIdx

/-! ## One score -/

/-- The part both logarithms share. -/
def tail (x : ℝ) : ℝ := Real.log (1 + Real.exp (-|x|))
/-- The logarithm of the share of the stick that a score takes. -/
def logTake (x : ℝ) : ℝ := -(max (-x) 0 + tail x)
/-- The logarithm of the share that it leaves. -/
def logKeep (x : ℝ) : ℝ := -(max x 0 + tail x)

theorem coe_max (a b : ℝ) : max (a : EReal) (b : EReal) = ((max a b : ℝ) : EReal) :=
  ((EReal.coe_strictMono.monotone).map_max (a := a) (b := b)).symm

theorem coe_abs (x : ℝ) : max (x : EReal) (-(x : EReal)) = ((|x| : ℝ) : EReal) := by
  rw [← EReal.coe_neg, coe_max]; rfl

theorem log_tail (x : ℝ) : Ideal.log (1 + ((Real.exp (-|x|) : ℝ) : EReal)) = ((tail x : ℝ) : EReal) := by
  rw [← EReal.coe_one, ← EReal.coe_add, Ideal.log_coe, if_neg (not_le.2 (by positivity))]
  rfl

/-- The kernel's spelling of what is left. -/
theorem keep_kernel (x : ℝ) :
    (0 : EReal) - (max (x : EReal) 0 + Ideal.log (1 + Ideal.exp (0 - max (x : EReal) (-(x : EReal))))) = ((logKeep x : ℝ) : EReal) := by
  rw [coe_abs, zero_sub ((|x| : ℝ) : EReal), ← EReal.coe_neg, Ideal.exp_coe, log_tail, ← EReal.coe_zero, coe_max, ← EReal.coe_add,
    ← EReal.coe_sub, zero_sub]
  rfl

/-- The exponential of what is taken is the logistic function, in the two ways it is evaluated. -/
theorem exp_logTake (x : ℝ) : Real.exp (logTake x)
    = if 0 ≤ x then 1 / (1 + Real.exp (-|x|)) else Real.exp (-|x|) * (1 / (1 + Real.exp (-|x|))) := by
  have hp : 0 < 1 + Real.exp (-|x|) := by positivity
  unfold logTake tail
  rw [neg_add, Real.exp_add, Real.exp_neg (Real.log _), Real.exp_log hp]
  split
  · next h => rw [max_eq_right (by linarith), neg_zero, Real.exp_zero, one_mul, one_div]
  · next h =>
    have h' : x < 0 := not_le.1 h
    rw [max_eq_left (by linarith), abs_of_neg h', one_div]

/-- The kernel's spelling of the share taken. -/
theorem take_kernel (x : ℝ) :
    Scalar.select (Ideal.cmp .oge (x : EReal) 0)
      (Ideal.div 1 (1 + Ideal.exp (0 - max (x : EReal) (-(x : EReal)))))
      (Ideal.exp (0 - max (x : EReal) (-(x : EReal))) * Ideal.div 1 (1 + Ideal.exp (0 - max (x : EReal) (-(x : EReal)))))
      = ((Real.exp (logTake x) : ℝ) : EReal) := by
  have hp : (1 + Real.exp (-|x|) : ℝ) ≠ 0 := by positivity
  have hd : Ideal.div 1 (1 + Ideal.exp (0 - max (x : EReal) (-(x : EReal)))) = ((1 / (1 + Real.exp (-|x|)) : ℝ) : EReal) := by
    rw [coe_abs, zero_sub, ← EReal.coe_neg, Ideal.exp_coe, ← EReal.coe_one, ← EReal.coe_add, Ideal.div_coe hp, EReal.coe_one, one_mul]
  rw [hd, coe_abs, zero_sub, ← EReal.coe_neg, Ideal.exp_coe, ← EReal.coe_mul, exp_logTake]
  unfold Ideal.cmp
  by_cases h : 0 ≤ x
  · have h' : (0 : EReal) ≤ (x : EReal) := by exact_mod_cast h
    simp only [h, h', decide_true, if_true]; rfl
  · have h' : ¬ (0 : EReal) ≤ (x : EReal) := by exact_mod_cast h
    simp only [h, h', decide_false, if_false]; rfl

/-- The reference's spelling of a logistic function's logarithm, at the negated argument. -/
theorem log_reference (x : ℝ) :
    -(Scalar.select (Ideal.cmp .une ((x : EReal) - 0) ((x : EReal) - 0)) ((x : EReal) + 0)
        (max (x : EReal) 0 + Ideal.log1p (Ideal.exp (-(max ((x : EReal) - 0) (-((x : EReal) - 0))))))) = ((logKeep x : ℝ) : EReal) := by
  have hc : Ideal.cmp .une ((x : EReal) - 0) ((x : EReal) - 0) = 0#1 := by simp [Ideal.cmp]
  rw [hc, sub_zero, coe_abs, ← EReal.coe_neg, Ideal.exp_coe, ← EReal.coe_zero, coe_max]
  unfold Ideal.log1p
  rw [log_tail, ← EReal.coe_add]
  show -((_ : ℝ) : EReal) = _
  rw [← EReal.coe_neg]
  rfl

theorem logKeep_neg (x : ℝ) : logKeep (-x) = logTake x := by
  unfold logKeep logTake tail; rw [abs_neg]

/-- Signed comparison of small words is that of the numbers. -/
theorem slt_ofNat {a b : ℕ} (ha : a < 2 ^ 31) (hb : b < 2 ^ 31) : (BitVec.ofNat 32 a).slt (BitVec.ofNat 32 b) = decide (a < b) := by
  have e : ∀ n : ℕ, n < 2 ^ 31 → (BitVec.ofNat 32 n).toInt = (n : ℤ) := by
    intro n hn
    have hm : (BitVec.ofNat 32 n).toNat = n := by rw [BitVec.toNat_ofNat]; exact Nat.mod_eq_of_lt (by omega)
    rw [BitVec.toInt_eq_toNat_of_lt (by rw [hm]; omega), hm]
  rw [BitVec.slt_eq_decide, e a ha, e b hb]
  exact decide_eq_decide.2 Int.ofNat_lt

/-! ## The running sum from the end -/

theorem foldl_add {ι : Type} (l : List ι) (g : ι → EReal) (v : EReal) : l.foldl (fun r a => r + g a) v = v + (l.map g).sum := by
  induction l generalizing v with
  | nil => simp
  | cons a l ih => rw [List.foldl_cons, ih, List.map_cons, List.sum_cons, add_assoc]

/-- The window of the running sum is its last axis. -/
def lastAxis (N : ℕ) : (⟨4, ![1, 1, 1, N]⟩ : Shape).Idx ≃ Fin N where
  toFun i := i 3
  invFun k := ix4 0 0 0 k
  left_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv k := rfl

/-- The reversed running sum along the last of four axes: at position `t` the sum of the entries from `t` on. -/
theorem cumsum {A B C N P : ℕ} (x : (⟨4, ![A, B, C, N]⟩ : Shape).Idx → EReal)
    (h : (⟨4, ![A, B, C, N]⟩ : Shape).ReduceWindows (![1, 1, 1, N] : Fin 4 → ℕ) ![1, 1, 1, 1] ![0, 0, 0, 0] ![0, 0, 0, P] ⟨4, ![A, B, C, N]⟩)
    (a : Fin A) (b : Fin B) (c : Fin C) (t : Fin N) (f : ℕ → EReal) (hf : ∀ s : Fin N, x (ix4 a b c s) = f s.val) :
    Ideal.hostReduceWindowAdd ![1, 1, 1, N] ![1, 1, 1, 1] ![0, 0, 0, 0] ![0, 0, 0, P] h x 0 (ix4 a b c t)
      = ∑ s ∈ Finset.Ico t.val N, f s := by
  unfold Ideal.hostReduceWindowAdd Host.reduceWindow
  dsimp only
  rw [foldl_add, zero_add, ← Fin.sum_univ_def]
  have key : ∀ i : (⟨4, ![1, 1, 1, N]⟩ : Shape).Idx,
      (if hin : ∀ e, (![0, 0, 0, 0] : Fin 4 → ℕ) e ≤ ((ix4 a b c t) (Fin.cast h.1.symm e)).val * (![1, 1, 1, 1] : Fin 4 → ℕ) e + (i e).val
          ∧ ((ix4 a b c t) (Fin.cast h.1.symm e)).val * (![1, 1, 1, 1] : Fin 4 → ℕ) e + (i e).val - (![0, 0, 0, 0] : Fin 4 → ℕ) e
            < (⟨4, ![A, B, C, N]⟩ : Shape).size e
        then x (fun e => ⟨((ix4 a b c t) (Fin.cast h.1.symm e)).val * (![1, 1, 1, 1] : Fin 4 → ℕ) e + (i e).val - (![0, 0, 0, 0] : Fin 4 → ℕ) e, (hin e).2⟩)
        else 0) = if t.val + (lastAxis N i).val < N then f (t.val + (lastAxis N i).val) else 0 := by
    intro i
    have z0 : (i 0).val = 0 := congrArg Fin.val (Subsingleton.elim (α := Fin 1) (i 0) 0)
    have z1 : (i 1).val = 0 := congrArg Fin.val (Subsingleton.elim (α := Fin 1) (i 1) 0)
    have z2 : (i 2).val = 0 := congrArg Fin.val (Subsingleton.elim (α := Fin 1) (i 2) 0)
    have hl : (lastAxis N i).val = (i 3).val := rfl
    by_cases hN : t.val + (lastAxis N i).val < N
    · rw [if_pos hN, dif_pos]
      · refine Eq.trans (congrArg x ?_) (hf ⟨_, hN⟩)
        funext e
        apply Fin.ext
        match e with
        | ⟨0, _⟩ => show a.val * 1 + (i 0).val - 0 = a.val; omega
        | ⟨1, _⟩ => show b.val * 1 + (i 1).val - 0 = b.val; omega
        | ⟨2, _⟩ => show c.val * 1 + (i 2).val - 0 = c.val; omega
        | ⟨3, _⟩ => show t.val * 1 + (i 3).val - 0 = t.val + (i 3).val; omega
      · intro e
        match e with
        | ⟨0, _⟩ => exact ⟨Nat.zero_le _, show a.val * 1 + (i 0).val - 0 < A by omega⟩
        | ⟨1, _⟩ => exact ⟨Nat.zero_le _, show b.val * 1 + (i 1).val - 0 < B by omega⟩
        | ⟨2, _⟩ => exact ⟨Nat.zero_le _, show c.val * 1 + (i 2).val - 0 < C by omega⟩
        | ⟨3, _⟩ => exact ⟨Nat.zero_le _, show t.val * 1 + (i 3).val - 0 < N by omega⟩
    · rw [if_neg hN, dif_neg]
      intro hin
      have h3 : t.val * 1 + (i 3).val - 0 < N := (hin 3).2
      omega
  have step : ∑ k : Fin N, (if t.val + k.val < N then f (t.val + k.val) else 0) = ∑ s ∈ Finset.Ico t.val N, f s := by
    rw [Finset.sum_Ico_eq_sum_range, Finset.sum_fin_eq_sum_range]
    have e : ∀ k ∈ Finset.range N, (if _ : k < N then (if t.val + k < N then f (t.val + k) else 0) else 0)
        = if k < N - t.val then f (t.val + k) else 0 := by
      intro k hk
      rw [dif_pos (Finset.mem_range.1 hk)]
      exact if_congr (by omega) rfl rfl
    rw [Finset.sum_congr rfl e, ← Finset.sum_filter]
    refine Finset.sum_congr ?_ fun _ _ => rfl
    ext k
    simp only [Finset.mem_filter, Finset.mem_range]
    omega
  rw [← step]
  refine Eq.trans (Finset.sum_congr rfl fun n _ => (?_ : _ = (fun k : Fin N => if t.val + k.val < N then f (t.val + k.val) else 0)
    (lastAxis N ((⟨4, ![1, 1, 1, N]⟩ : Shape).rowMajor.symm n)))) ?_
  · convert key ((⟨4, ![1, 1, 1, N]⟩ : Shape).rowMajor.symm n)
  · exact Equiv.sum_comp ((⟨4, ![1, 1, 1, N]⟩ : Shape).rowMajor.symm.trans (lastAxis N))
      (fun k : Fin N => if t.val + k.val < N then f (t.val + k.val) else 0)

end Cert.Proof.Stick
-- ==== Proof.Norm.lean ====
/-
  The layer norm over rows, at the ideal values: one row's value as a function of the row (`normOf`), and the kernels' chain of
  vector operations (`normRowsOf`) read at an index as that value. The row length is a number and, as the programs write it, a
  word; `normAt` and `normRows` are those of rows of 2048 entries.
-/
module

public import Idealize.ShloMosaic.Lib.ValueIdx
public import Idealize.ShloMosaic.Lib.Pipeline.Value
public import Idealize.ShloMosaic.PureOps.Ideal.Laws

@[expose] public section

noncomputable section

namespace Cert.Proof.Norm

open Idealize.ShloMosaic Idealize.ShloMosaic.ValueIdx

/-- The row length 2048, as the programs write it. -/
abbrev width : EReal := Ideal.ofBits .f32 0x45000000#32
/-- The small constant added to the variance, as the programs write it. -/
abbrev eps : EReal := Ideal.ofBits .f32 0x3727C5AC#32

section
variable {N : ℕ} (n : BitVec 32)

/-- The mean of a row. -/
def meanOf (x : Fin N → EReal) : EReal := Ideal.div (∑ k, x k) (Ideal.ofBits .f32 n)
/-- The variance of a row: the mean of the squared deviations. -/
def varianceOf (x : Fin N → EReal) : EReal := Ideal.div (∑ k, (x k - meanOf n x) * (x k - meanOf n x)) (Ideal.ofBits .f32 n)
/-- The layer norm of one entry of a row, with that entry's gain and bias. -/
def normOf (x : Fin N → EReal) (gain bias entry : EReal) : EReal :=
  (entry - meanOf n x) * Ideal.rsqrt (varianceOf n x + eps) * gain + bias

end

abbrev mean (x : Fin 2048 → EReal) : EReal := meanOf 0x45000000#32 x
abbrev variance (x : Fin 2048 → EReal) : EReal := varianceOf 0x45000000#32 x
/-- The layer norm of a row of 2048 entries at one of them. -/
def normAt (x : Fin 2048 → EReal) (gain bias : EReal) (j : Fin 2048) : EReal :=
  (x j - mean x) * Ideal.rsqrt (variance x + eps) * gain + bias

section
variable {M : ℕ}

/-- A sum along the rows of a matrix, read at a row. -/
theorem rowSum_apply {N : ℕ} (x : FVec Ideal ⟨2, ![M, N]⟩ .f32) (h : (⟨2, ![M, N]⟩ : Shape).Reduces [1] ⟨1, ![M]⟩)
    (hφ : FKind.Formats .f32) (hacc : 0x00000000#32 = FKind.add.neutral .f32 hφ) (r : Fin M) :
    multiReduction .add [1] ⟨1, ![M]⟩ x 0x00000000#32 h hφ hacc (ix1 r) = ∑ k : Fin N, x (ix2 r k) := by
  refine (Ideal.multiReduction_add_single x _ h hφ hacc (ix1 r)).trans ?_
  refine Finset.sum_congr rfl fun k _ => congrArg x ?_
  funext a
  match a with
  | ⟨0, _⟩ => rfl
  | ⟨1, _⟩ => rfl

/-- A vector of row values stood up as a column, read at a row. -/
theorem column_apply (x : FVec Ideal ⟨1, ![M]⟩ .f32) (h : (⟨1, ![M]⟩ : Shape).ShapeCasts ⟨2, ![M, 1]⟩) (r : Fin M) :
    shapeCast ⟨2, ![M, 1]⟩ x h (ix2 r 0) = x (ix1 r) :=
  shapeCast_apply x h (ix2 r 0) (ix1 r) (by
    rw [Shape.rowMajor_val_two, Shape.rowMajor_val_one]; show r.val = r.val * 1 + 0; omega)

/-- A column spread along the rows, read at an index. -/
theorem spread_apply {N : ℕ} {α : Type} (x : (⟨2, ![M, 1]⟩ : Shape).Idx → α)
    (h : (⟨2, ![M, 1]⟩ : Shape).Broadcasts ⟨2, ![M, N]⟩) (r : Fin M) (j : Fin N) :
    broadcastTo ⟨2, ![M, N]⟩ x h (ix2 r j) = x (ix2 r 0) :=
  broadcastTo_apply x h (ix2 r j) (ix2 r 0) (by
    intro a
    match a with
    | ⟨0, _⟩ =>
      show r.val = if M = 1 then 0 else r.val
      split
      · have := r.isLt; omega
      · rfl
    | ⟨1, _⟩ => rfl)

/-- A one-row matrix laid on every row, read at an index. -/
theorem lay_apply {N : ℕ} {α : Type} (x : (⟨2, ![1, N]⟩ : Shape).Idx → α)
    (h : (⟨2, ![1, N]⟩ : Shape).Broadcasts ⟨2, ![M, N]⟩) (r : Fin M) (j : Fin N) :
    broadcastTo ⟨2, ![M, N]⟩ x h (ix2 r j) = x (ix2 0 j) :=
  broadcastTo_apply x h (ix2 r j) (ix2 0 j) (by
    intro a
    match a with
    | ⟨0, _⟩ => rfl
    | ⟨1, _⟩ =>
      show j.val = if N = 1 then 0 else j.val
      split
      · have := j.isLt; omega
      · rfl)

section
variable {N : ℕ} (n : BitVec 32)

/-- The means of a matrix's rows, as the kernels compute them. -/
def rowMeans (x : FVec Ideal ⟨2, ![M, N]⟩ .f32)
    (hr : (⟨2, ![M, N]⟩ : Shape).Reduces [1] ⟨1, ![M]⟩) (hc : (⟨1, ![M]⟩ : Shape).ShapeCasts ⟨2, ![M, 1]⟩) :
    FVec Ideal ⟨2, ![M, 1]⟩ .f32 :=
  divf (shapeCast ⟨2, ![M, 1]⟩ (multiReduction .add [1] ⟨1, ![M]⟩ x 0x00000000#32 hr (.inl rfl) rfl) hc)
    (broadcast ⟨2, ![M, 1]⟩ (Scalar.ofBits .f32 n))

/-- A row's mean is the sum of its entries over their number. -/
theorem rowMeans_apply (x : FVec Ideal ⟨2, ![M, N]⟩ .f32)
    (hr : (⟨2, ![M, N]⟩ : Shape).Reduces [1] ⟨1, ![M]⟩) (hc : (⟨1, ![M]⟩ : Shape).ShapeCasts ⟨2, ![M, 1]⟩) (r : Fin M) :
    rowMeans n x hr hc (ix2 r 0) = meanOf n (fun k => x (ix2 r k)) := by
  unfold rowMeans
  rw [divf_apply, column_apply]
  exact congrArg (Ideal.div · (Ideal.ofBits .f32 n)) (rowSum_apply x hr (.inl rfl) rfl r)

/-- The kernels' layer norm of a block of rows: its vector operations in their order. -/
def normRowsOf (x : FVec Ideal ⟨2, ![M, N]⟩ .f32) (gain bias : FVec Ideal ⟨2, ![1, N]⟩ .f32)
    (hr : (⟨2, ![M, N]⟩ : Shape).Reduces [1] ⟨1, ![M]⟩) (hc : (⟨1, ![M]⟩ : Shape).ShapeCasts ⟨2, ![M, 1]⟩)
    (hs : (⟨2, ![M, 1]⟩ : Shape).Broadcasts ⟨2, ![M, N]⟩) (hl : (⟨2, ![1, N]⟩ : Shape).Broadcasts ⟨2, ![M, N]⟩) :
    FVec Ideal ⟨2, ![M, N]⟩ .f32 :=
  addf (mulf (mulf (subf x (broadcastTo ⟨2, ![M, N]⟩ (rowMeans n x hr hc) hs))
      (broadcastTo ⟨2, ![M, N]⟩ (rsqrt (addf
        (rowMeans n (mulf (subf x (broadcastTo ⟨2, ![M, N]⟩ (rowMeans n x hr hc) hs))
          (subf x (broadcastTo ⟨2, ![M, N]⟩ (rowMeans n x hr hc) hs))) hr hc)
        (broadcast ⟨2, ![M, 1]⟩ (Scalar.ofBits .f32 0x3727C5AC#32)))) hs))
      (broadcastTo ⟨2, ![M, N]⟩ gain hl))
    (broadcastTo ⟨2, ![M, N]⟩ bias hl)

/-- It is the layer norm of each row. -/
theorem normRowsOf_apply (x : FVec Ideal ⟨2, ![M, N]⟩ .f32) (gain bias : FVec Ideal ⟨2, ![1, N]⟩ .f32)
    (hr : (⟨2, ![M, N]⟩ : Shape).Reduces [1] ⟨1, ![M]⟩) (hc : (⟨1, ![M]⟩ : Shape).ShapeCasts ⟨2, ![M, 1]⟩)
    (hs : (⟨2, ![M, 1]⟩ : Shape).Broadcasts ⟨2, ![M, N]⟩) (hl : (⟨2, ![1, N]⟩ : Shape).Broadcasts ⟨2, ![M, N]⟩)
    (r : Fin M) (j : Fin N) :
    normRowsOf n x gain bias hr hc hs hl (ix2 r j)
      = normOf n (fun k => x (ix2 r k)) (gain (ix2 0 j)) (bias (ix2 0 j)) (x (ix2 r j)) := by
  have hcen : ∀ k : Fin N, subf x (broadcastTo ⟨2, ![M, N]⟩ (rowMeans n x hr hc) hs) (ix2 r k)
      = x (ix2 r k) - meanOf n (fun k => x (ix2 r k)) := fun k => by
    rw [subf_apply, spread_apply, rowMeans_apply]
  unfold normRowsOf
  rw [addf_apply, mulf_apply, mulf_apply, hcen, spread_apply, lay_apply, lay_apply]
  unfold normOf
  congr 3
  show Ideal.rsqrt (rowMeans n _ hr hc (ix2 r 0) + _) = _
  rw [rowMeans_apply]
  simp only [mulf_apply, hcen]
  rfl

end

/-- The kernels' layer norm of a block of rows of 2048 entries. -/
abbrev normRows (x : FVec Ideal ⟨2, ![M, 2048]⟩ .f32) (gain bias : FVec Ideal ⟨2, ![1, 2048]⟩ .f32)
    (hr : (⟨2, ![M, 2048]⟩ : Shape).Reduces [1] ⟨1, ![M]⟩) (hc : (⟨1, ![M]⟩ : Shape).ShapeCasts ⟨2, ![M, 1]⟩)
    (hs : (⟨2, ![M, 1]⟩ : Shape).Broadcasts ⟨2, ![M, 2048]⟩) (hl : (⟨2, ![1, 2048]⟩ : Shape).Broadcasts ⟨2, ![M, 2048]⟩) :
    FVec Ideal ⟨2, ![M, 2048]⟩ .f32 := normRowsOf 0x45000000#32 x gain bias hr hc hs hl

/-- It is the layer norm of each row. -/
theorem normRows_apply (x : FVec Ideal ⟨2, ![M, 2048]⟩ .f32) (gain bias : FVec Ideal ⟨2, ![1, 2048]⟩ .f32)
    (hr : (⟨2, ![M, 2048]⟩ : Shape).Reduces [1] ⟨1, ![M]⟩) (hc : (⟨1, ![M]⟩ : Shape).ShapeCasts ⟨2, ![M, 1]⟩)
    (hs : (⟨2, ![M, 1]⟩ : Shape).Broadcasts ⟨2, ![M, 2048]⟩) (hl : (⟨2, ![1, 2048]⟩ : Shape).Broadcasts ⟨2, ![M, 2048]⟩)
    (r : Fin M) (j : Fin 2048) :
    normRows x gain bias hr hc hs hl (ix2 r j)
      = normAt (fun k => x (ix2 r k)) (gain (ix2 0 j)) (bias (ix2 0 j)) j :=
  normRowsOf_apply 0x45000000#32 x gain bias hr hc hs hl r j

end

end Cert.Proof.Norm

end
-- ==== Proof.StickChunk.lean ====
/-
  One chunk of the stick-breaking attention kernel at the ideal values: 512 queries against 256 keys. The kernel's vector
  operations are named in groups, and each group is read at an index.
-/
module

public import proofs.«01_k».proof.Proof.Stick
public import proofs.«01_k».proof.Proof.Norm
public import proofs.«01_k».proof.Proof.Gen.KernelIdeal.Skeleton
public import Idealize.ShloMosaic.Lib.MatmulPlain

@[expose] public section

set_option maxRecDepth 16384

noncomputable section

namespace Cert.Proof.StickChunk

open Idealize.ShloMosaic Idealize.ShloMosaic.ValueIdx
open Cert.KernelIdeal Cert.KernelIdeal.Gen Cert.Proof.Stick

/-- The factor the scores are multiplied by. -/
abbrev scale : EReal := Ideal.ofBits .f32 0x3DB504F3#32

theorem one_bits : Ideal.ofBits .f32 0x3F800000#32 = 1 := by
  simp [Ideal.ofBits, Ideal.ieee, -EReal.coe_mul]; norm_num

/-! ## The groups of operations -/

/-- A constant in every place. -/
abbrev fill (S : Shape) (b : BitVec 32) : FVec Ideal S .f32 := broadcast S (Scalar.ofBits (F := Ideal) .f32 b)

/-- The exponential of minus the scores' absolute values. -/
def tails (z : FVec Ideal S512x256 .f32) : FVec Ideal S512x256 .f32 := exp (subf (fill _ 0x00000000#32) (absf z))
/-- The logarithms of what the scores leave. -/
def keep (z : FVec Ideal S512x256 .f32) : FVec Ideal S512x256 .f32 :=
  subf (fill _ 0x00000000#32) (addf (maximumf z (fill _ 0x00000000#32)) (log (addf (fill _ 0x3F800000#32) (tails z))))
/-- The shares that the scores take. -/
def take (z : FVec Ideal S512x256 .f32) : FVec Ideal S512x256 .f32 :=
  select (cmpf .oge z (fill _ 0x00000000#32)) (divf (fill _ 0x3F800000#32) (addf (fill _ 0x3F800000#32) (tails z)))
    (mulf (tails z) (divf (fill _ 0x3F800000#32) (addf (fill _ 0x3F800000#32) (tails z))))
/-- A chunk's entries where the mask holds, zero elsewhere. -/
def masked (μ : IVec S512x256 1) (x : FVec Ideal S512x256 .f32) : FVec Ideal S512x256 .f32 := select μ x (fill _ 0x00000000#32)
/-- The keys of the chunk at positions before the queries' own. -/
def before (v10 : IVec S512x1 32) (v11 : IVec S512x256 32) (b : BitVec 32) : IVec S512x256 1 :=
  cmpi .slt (addi (broadcast S512x256 b) v11) (broadcastTo S512x256 v10 broadcasts_S512x1_S512x256)
/-- The weights of a chunk's keys. -/
def weights (tk lk : FVec Ideal S512x256 .f32) (later : FVec Ideal S256x256 .bf16) (after : FVec Ideal S512x1 .f32) : FVec Ideal S512x256 .bf16 :=
  truncf .bf16 (mulf tk (exp (addf (addf
      (matmul dot_S512x256_S256x256_S512x256_1_0_0_1_n_n none (truncf .bf16 lk bitsLt_bf16_f32) later (constant S512x256 .f32 0x00000000#32))
      (matmul dot_S512x256_S256x256_S512x256_1_0_0_1_n_n none
        (truncf .bf16 (subf lk (extf .f32 (truncf .bf16 lk bitsLt_bf16_f32) bitsLt_bf16_f32)) bitsLt_bf16_f32) later
        (constant S512x256 .f32 0x00000000#32)))
    (broadcastTo S512x256 after broadcasts_S512x1_S512x256)))) bitsLt_bf16_f32
/-- The weighted values added to what is there. -/
def gather (acc : FVec Ideal S512x128 .f32) (w : FVec Ideal S512x256 .bf16) (v : FVec Ideal S256x128 .bf16) : FVec Ideal S512x128 .f32 :=
  addf acc (matmul dot_S512x256_S256x128_S512x128_1_0_0_1_n_n none w v (constant S512x128 .f32 0x00000000#32))
/-- The chunk's logarithms added to those of the chunks after it. -/
def remain (after : FVec Ideal S512x1 .f32) (lk : FVec Ideal S512x256 .f32) : FVec Ideal S512x1 .f32 :=
  addf after (shapeCast S512x1 (multiReduction .add [1] S512 lk 0x00000000#32 reduces_S512x256_S512 (.inl rfl) rfl) shapeCasts_S512_S512x1)

/-! ## The kernel's chunks in these terms -/

theorem pay8_eq (q : FVec Ideal S512x128 .bf16) (k : FVec Ideal S256x128 .bf16) : k0_pay8 (F := Ideal) q k = keep (k0_pay6 (F := Ideal) q k) := rfl
theorem pay9_eq (l : FVec Ideal S256x256 .bf16) (a : FVec Ideal S512x1 .f32) (q : FVec Ideal S512x128 .bf16) (k : FVec Ideal S256x128 .bf16) :
    k0_pay9 (F := Ideal) l a q k = weights (take (k0_pay6 (F := Ideal) q k)) (keep (k0_pay6 (F := Ideal) q k)) l a := rfl
theorem pay1_eq (acc : FVec Ideal S512x128 .f32) (w : FVec Ideal S512x256 .bf16) (v : FVec Ideal S256x128 .bf16) :
    k0_pay1 (F := Ideal) acc w v = gather acc w v := rfl
theorem pay2_eq (a : FVec Ideal S512x1 .f32) (l : FVec Ideal S512x256 .f32) : k0_pay2 (F := Ideal) a l = remain a l := rfl
theorem pay24_eq (v10 : IVec S512x1 32) (v11 : IVec S512x256 32) (b : BitVec 32) (q : FVec Ideal S512x128 .bf16) (k : FVec Ideal S256x128 .bf16) :
    k0_pay24 (F := Ideal) v10 v11 b (k0_pay20 (F := Ideal) q k) = masked (before v10 v11 b) (keep (k0_pay6 (F := Ideal) q k)) := rfl
theorem pay25_eq (l : FVec Ideal S256x256 .bf16) (v10 : IVec S512x1 32) (v11 : IVec S512x256 32) (acc : FVec Ideal S512x128 .f32)
    (a : FVec Ideal S512x1 .f32) (b : BitVec 32) (q : FVec Ideal S512x128 .bf16) (k v : FVec Ideal S256x128 .bf16) :
    k0_pay25 (F := Ideal) l v10 v11 acc a b (k0_pay18 (F := Ideal) q k) (k0_pay19 (F := Ideal) q k) (k0_pay20 (F := Ideal) q k)
        (k0_pay21 (F := Ideal) q k) (k0_pay22 (F := Ideal)) v
      = gather acc (weights (masked (before v10 v11 b) (take (k0_pay6 (F := Ideal) q k)))
          (masked (before v10 v11 b) (keep (k0_pay6 (F := Ideal) q k))) l a) v := rfl
theorem pay26_eq (v10 : IVec S512x1 32) (v11 : IVec S512x256 32) (a : FVec Ideal S512x1 .f32) (b : BitVec 32)
    (q : FVec Ideal S512x128 .bf16) (k : FVec Ideal S256x128 .bf16) :
    k0_pay26 (F := Ideal) v10 v11 a b (k0_pay20 (F := Ideal) q k)
      = remain a (masked (before v10 v11 b) (keep (k0_pay6 (F := Ideal) q k))) := rfl
theorem pay32_eq (l : FVec Ideal S256x256 .bf16) (v10 : IVec S512x1 32) (v11 : IVec S512x256 32) (acc : FVec Ideal S512x128 .f32)
    (a : FVec Ideal S512x1 .f32) (b : BitVec 32) (q : FVec Ideal S512x128 .bf16) (k v : FVec Ideal S256x128 .bf16) :
    k0_pay32 (F := Ideal) l v10 v11 acc a b (k0_pay27 (F := Ideal) q k) (k0_pay28 (F := Ideal) q k) (k0_pay29 (F := Ideal) q k)
        (Scalar.ofBits (F := Ideal) .f32 0x3F800000#32) v
      = gather acc (weights (masked (before v10 v11 b) (take (k0_pay6 (F := Ideal) q k)))
          (masked (before v10 v11 b) (keep (k0_pay6 (F := Ideal) q k))) l a) v := rfl
theorem pay33_eq (v10 : IVec S512x1 32) (v11 : IVec S512x256 32) (a : FVec Ideal S512x1 .f32) (b : BitVec 32)
    (q : FVec Ideal S512x128 .bf16) (k : FVec Ideal S256x128 .bf16) :
    k0_pay33 (F := Ideal) v10 v11 a b (k0_pay28 (F := Ideal) q k) (k0_pay29 (F := Ideal) q k) (Scalar.ofBits (F := Ideal) .f32 0x3F800000#32)
      = remain a (masked (before v10 v11 b) (keep (k0_pay6 (F := Ideal) q k))) := rfl

/-! ## The groups at an index -/

/-- A score: the query's row times the key's, and the factor. -/
theorem score_apply (q : FVec Ideal S512x128 .bf16) (k : FVec Ideal S256x128 .bf16) (r : Fin 512) (j : Fin 256) :
    k0_pay6 (F := Ideal) q k (ix2 r j) = (∑ d : Fin 128, q (ix2 r d) * k (ix2 j d)) * scale := by
  unfold k0_pay6
  rw [mulf_apply]
  refine congrArg (· * scale) ?_
  refine (Ideal.matmul_transposedRhs_apply (M := 512) (K := 128) (N := 256) none q k _ r j).trans ?_
  rw [show (constant S512x256 .f32 0x00000000#32 : FVec Ideal S512x256 .f32) (ix2 r j) = 0 from Ideal.ofBits_zero_f32, zero_add]

/-- What a finite score leaves, as a logarithm. -/
theorem keep_apply (z : FVec Ideal S512x256 .f32) (i : S512x256.Idx) (x : ℝ) (h : z i = (x : EReal)) :
    keep z i = ((logKeep x : ℝ) : EReal) := by
  rw [← keep_kernel x, ← h, ← one_bits, ← Ideal.ofBits_zero_f32]
  rfl

/-- What a finite score takes. -/
theorem take_apply (z : FVec Ideal S512x256 .f32) (i : S512x256.Idx) (x : ℝ) (h : z i = (x : EReal)) :
    take z i = ((Real.exp (logTake x) : ℝ) : EReal) := by
  rw [← take_kernel x, ← h, ← one_bits, ← Ideal.ofBits_zero_f32]
  rfl

/-- The matrix that sums what comes later: one below the diagonal, zero elsewhere. -/
theorem later_apply (j' j : Fin 256) : k0_pay14 (F := Ideal) (ix2 j' j) = if j < j' then (1 : EReal) else 0 := by
  have e : k0_pay14 (F := Ideal) (ix2 j' j)
      = Scalar.select (BitVec.ofBool ((BitVec.ofNat 32 j.val).slt (BitVec.ofNat 32 j'.val))) (Ideal.ofBits .f32 0x3F800000#32) (Ideal.ofBits .f32 0x00000000#32) := by
    unfold k0_pay14
    show Scalar.select (IntOp.cmpi .sgt (iota .tc S256x256 32 [0] iota_S256x256_d0_w32 (ix2 j' j)) (iota .tc S256x256 32 [1] iota_S256x256_d1_w32 (ix2 j' j))) _ _ = _
    rw [iota_single_apply, iota_single_apply]
    rfl
  rw [e, one_bits, Ideal.ofBits_zero_f32]
  have hs : (BitVec.ofNat 32 j.val).slt (BitVec.ofNat 32 j'.val) = decide (j < j') :=
    slt_ofNat (by have := j.isLt; omega) (by have := j'.isLt; omega)
  rw [hs]
  by_cases h : j < j'
  · rw [if_pos h, decide_eq_true h]; rfl
  · rw [if_neg h, decide_eq_false h]; rfl

/-- The mask of a chunk starting at key `b`, for the 512 queries from position `q` on. -/
theorem before_apply (i : grid0.Coords) (v11 : IVec S512x256 32) (h11 : ∀ r j, v11 (ix2 r j) = BitVec.ofNat 32 j.val) (b : ℕ) (hb : b < 4096)
    (w : BitVec 32) (hw : w = BitVec.ofNat 32 b) (r : Fin 512) (j : Fin 256) :
    before (k0_pay15 i) v11 w (ix2 r j) = BitVec.ofBool (decide (b + j.val < 512 * (i 2).val + r.val)) := by
  have hi : (i 2).val < 4 := (i 2).isLt
  have hr := r.isLt
  have hj := j.isLt
  have e1 : broadcastTo S512x256 (k0_pay15 i) broadcasts_S512x1_S512x256 (ix2 r j) = k0_pay15 i (ix2 r 0) :=
    Norm.spread_apply (M := 512) (N := 256) _ broadcasts_S512x1_S512x256 r j
  have e2 : k0_pay15 i (ix2 r 0) = BitVec.ofNat 32 (512 * (i 2).val + r.val) := by
    unfold k0_pay15
    show BitVec.ofNat 32 (i 2).val * 512#32 + iota .tc S512x1 32 [0] iota_S512x1_d0_w32 (ix2 r 0) = _
    rw [iota_single_apply, BitVec.ofNat_add, BitVec.ofNat_mul, BitVec.mul_comm]
  unfold before
  show BitVec.ofBool (BitVec.slt (w + v11 (ix2 r j)) (broadcastTo S512x256 (k0_pay15 i) broadcasts_S512x1_S512x256 (ix2 r j))) = _
  rw [e1, e2, h11, hw, ← BitVec.ofNat_add, slt_ofNat (by omega) (by omega)]

theorem masked_apply (μ : IVec S512x256 1) (x : FVec Ideal S512x256 .f32) (i : S512x256.Idx) (p : Prop) [Decidable p] (y : ℝ)
    (hμ : μ i = BitVec.ofBool (decide p)) (hx : x i = (y : EReal)) : masked μ x i = ((if p then y else 0 : ℝ) : EReal) := by
  show Scalar.select (μ i) (x i) (Ideal.ofBits .f32 0x00000000#32) = _
  rw [hμ, hx, Ideal.ofBits_zero_f32]
  by_cases h : p
  · rw [decide_eq_true h, if_pos h]; rfl
  · rw [decide_eq_false h, if_neg h]; rfl

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A weight, where the chunk's logarithms and what follows the chunk are finite. -/
theorem weights_apply (tk lk : FVec Ideal S512x256 .f32) (after : FVec Ideal S512x1 .f32) (r : Fin 512) (j : Fin 256)
    (T : ℝ) (L : Fin 256 → ℝ) (A : ℝ) (ht : tk (ix2 r j) = (T : EReal)) (hl : ∀ j', lk (ix2 r j') = (L j' : EReal))
    (ha : after (ix2 r 0) = (A : EReal)) :
    weights tk lk (k0_pay14 (F := Ideal)) after (ix2 r j) = ((T * Real.exp ((∑ j' : Fin 256, if j < j' then L j' else 0) + A) : ℝ) : EReal) := by
  unfold weights
  show tk (ix2 r j) * Ideal.exp (_ + _ + _) = _
  have h0 : (constant S512x256 .f32 0x00000000#32 : FVec Ideal S512x256 .f32) (ix2 r j) = 0 := Ideal.ofBits_zero_f32
  have e1 : matmul dot_S512x256_S256x256_S512x256_1_0_0_1_n_n none (truncf .bf16 lk bitsLt_bf16_f32) (k0_pay14 (F := Ideal)) (constant S512x256 .f32 0x00000000#32) (ix2 r j)
      = ((∑ j' : Fin 256, if j < j' then L j' else 0 : ℝ) : EReal) := by
    refine (Ideal.matmul_plain_apply (M := 512) (K := 256) (N := 256) none _ _ _ r j).trans ?_
    rw [h0, zero_add, ← coe_sum]
    refine Finset.sum_congr rfl fun j' _ => ?_
    rw [later_apply]
    show lk (ix2 r j') * _ = _
    rw [hl j']
    split
    · rw [mul_one]
    · rw [mul_zero]; rfl
  have e2 : matmul dot_S512x256_S256x256_S512x256_1_0_0_1_n_n none
      (truncf .bf16 (subf lk (extf .f32 (truncf .bf16 lk bitsLt_bf16_f32) bitsLt_bf16_f32)) bitsLt_bf16_f32) (k0_pay14 (F := Ideal))
      (constant S512x256 .f32 0x00000000#32) (ix2 r j) = 0 := by
    refine (Ideal.matmul_plain_apply (M := 512) (K := 256) (N := 256) none _ _ _ r j).trans ?_
    rw [h0, zero_add]
    refine Finset.sum_eq_zero fun j' _ => ?_
    show (lk (ix2 r j') - lk (ix2 r j')) * _ = _
    rw [hl j', ← EReal.coe_sub, sub_self, EReal.coe_zero, zero_mul]
  have e3 : broadcastTo S512x256 after broadcasts_S512x1_S512x256 (ix2 r j) = (A : EReal) :=
    (Norm.spread_apply (M := 512) (N := 256) after broadcasts_S512x1_S512x256 r j).trans ha
  rw [e1, e2, e3, ht, add_zero, ← EReal.coe_add, Ideal.exp_coe, ← EReal.coe_mul]

/-- The values gathered: what was there and the chunk's weighted sum. -/
theorem gather_apply (acc : FVec Ideal S512x128 .f32) (w : FVec Ideal S512x256 .bf16) (v : FVec Ideal S256x128 .bf16) (r : Fin 512) (d : Fin 128) :
    gather acc w v (ix2 r d) = acc (ix2 r d) + ∑ j : Fin 256, w (ix2 r j) * v (ix2 j d) := by
  unfold gather
  rw [addf_apply]
  refine congrArg (acc (ix2 r d) + ·) ?_
  refine (Ideal.matmul_plain_apply (M := 512) (K := 256) (N := 128) none w v _ r d).trans ?_
  rw [show (constant S512x128 .f32 0x00000000#32 : FVec Ideal S512x128 .f32) (ix2 r d) = 0 from Ideal.ofBits_zero_f32, zero_add]

/-- What is left after the chunk as well. -/
theorem remain_apply (after : FVec Ideal S512x1 .f32) (lk : FVec Ideal S512x256 .f32) (r : Fin 512) :
    remain after lk (ix2 r 0) = after (ix2 r 0) + ∑ j : Fin 256, lk (ix2 r j) := by
  unfold remain
  rw [addf_apply]
  refine congrArg (after (ix2 r 0) + ·) ?_
  refine (Norm.column_apply (M := 512) _ shapeCasts_S512_S512x1 r).trans ?_
  exact Norm.rowSum_apply (M := 512) (N := 256) lk reduces_S512x256_S512 (.inl rfl) rfl r

/-! ## A chunk in the pass over the keys -/

/-- The logarithm of what key `s` leaves to query `t`: nothing is taken by keys from the query's own position on. -/
def left (z : ℕ → ℝ) (t s : ℕ) : ℝ := if s < t then logKeep (z s) else 0
/-- The weight of key `s` for query `t` among `n` keys. -/
def weight (n : ℕ) (z : ℕ → ℝ) (t s : ℕ) : ℝ :=
  if s < t then Real.exp (logTake (z s)) * Real.exp (∑ u ∈ Finset.Ico (s + 1) n, left z t u) else 0

/-- The state of the pass when the keys from `B` on are done: per query the logarithm of what is left, and the values
    gathered. -/
structure Done (n B : ℕ) (z : Fin 512 → ℕ → ℝ) (t : Fin 512 → ℕ) (v : ℕ → Fin 128 → EReal)
    (s : FVec Ideal S512x128 .f32 × FVec Ideal S512x1 .f32) : Prop where
  gathered : ∀ r d, s.1 (ix2 r d) = ∑ u ∈ Finset.Ico B n, ((weight n (z r) (t r) u : ℝ) : EReal) * v u d
  remains : ∀ r, s.2 (ix2 r 0) = ((∑ u ∈ Finset.Ico B n, left (z r) (t r) u : ℝ) : EReal)

theorem sum_chunk {M : Type} [AddCommMonoid M] (B : ℕ) (f : ℕ → M) : (∑ j : Fin 256, f (B + j.val)) = ∑ u ∈ Finset.Ico B (B + 256), f u := by
  rw [Finset.sum_Ico_eq_sum_range, Nat.add_sub_cancel_left, Fin.sum_univ_eq_sum_range (fun j => f (B + j)) 256]

theorem sum_later (B : ℕ) (f : ℕ → ℝ) (j : Fin 256) :
    (∑ j' : Fin 256, if j < j' then f (B + j'.val) else 0) = ∑ u ∈ Finset.Ico (B + j.val + 1) (B + 256), f u := by
  have e : ∀ j' : Fin 256, (if j < j' then f (B + j'.val) else 0) = (fun u => if B + j.val < u then f u else 0) (B + j'.val) := by
    intro j'
    exact if_congr (by rw [Fin.lt_def]; omega) rfl rfl
  rw [Finset.sum_congr rfl fun j' _ => e j', sum_chunk B (fun u => if B + j.val < u then f u else 0), ← Finset.sum_filter]
  refine Finset.sum_congr ?_ fun _ _ => rfl
  ext u
  simp only [Finset.mem_filter, Finset.mem_Ico]
  have := j.isLt
  omega

/-- One chunk takes the pass from the keys after it to the keys from its start on. -/
theorem step {n B : ℕ} {z : Fin 512 → ℕ → ℝ} {t : Fin 512 → ℕ} {v : ℕ → Fin 128 → EReal}
    {acc : FVec Ideal S512x128 .f32} {after : FVec Ideal S512x1 .f32} (hB : B + 256 ≤ n) (h : Done n (B + 256) z t v (acc, after))
    (tk lk : FVec Ideal S512x256 .f32) (vc : FVec Ideal S256x128 .bf16)
    (htk : ∀ r (j : Fin 256), tk (ix2 r j) = ((if B + j.val < t r then Real.exp (logTake (z r (B + j.val))) else 0 : ℝ) : EReal))
    (hlk : ∀ r (j : Fin 256), lk (ix2 r j) = ((left (z r) (t r) (B + j.val) : ℝ) : EReal))
    (hv : ∀ (j : Fin 256) d, vc (ix2 j d) = v (B + j.val) d) :
    Done n B z t v (gather acc (weights tk lk (k0_pay14 (F := Ideal)) after) vc, remain after lk) := by
  have split {M : Type} [AddCommMonoid M] (f : ℕ → M) : (∑ u ∈ Finset.Ico B n, f u) = (∑ u ∈ Finset.Ico B (B + 256), f u) + ∑ u ∈ Finset.Ico (B + 256) n, f u :=
    (Finset.sum_Ico_consecutive f (by omega) hB).symm
  constructor
  · intro r d
    show gather _ _ _ _ = _
    rw [gather_apply, split, add_comm]
    refine congrArg₂ (· + ·) ?_ (h.gathered r d)
    rw [← sum_chunk]
    refine Finset.sum_congr rfl fun j _ => ?_
    rw [weights_apply tk lk after r j _ (fun j' => left (z r) (t r) (B + j'.val)) _ (htk r j) (hlk r) (h.remains r), hv j d,
      sum_later B (left (z r) (t r)) j, Finset.sum_Ico_consecutive _ (by have := j.isLt; omega) hB]
    unfold weight
    split
    · rfl
    · rw [zero_mul]
  · intro r
    show remain _ _ _ = _
    rw [remain_apply, split, show after (ix2 r 0) = _ from h.remains r, Finset.sum_congr rfl fun j _ => hlk r j, coe_sum, sum_chunk B (left (z r) (t r)), add_comm, EReal.coe_add]

/-- Before any chunk: the keys from the queries' last position on give nothing. -/
theorem start {n B : ℕ} {z : Fin 512 → ℕ → ℝ} {t : Fin 512 → ℕ} {v : ℕ → Fin 128 → EReal} (ht : ∀ r, t r ≤ B) :
    Done n B z t v (k0_pay16 (F := Ideal), k0_pay17 (F := Ideal)) := by
  constructor
  · intro r d
    refine Eq.trans (Ideal.ofBits_zero_f32 : _ = (0 : EReal)) (Finset.sum_eq_zero fun u hu => ?_).symm
    have := (Finset.mem_Ico.1 hu).1
    have := ht r
    unfold weight
    rw [if_neg (by omega), EReal.coe_zero, zero_mul]
  · intro r
    refine Eq.trans (Ideal.ofBits_zero_f32 : _ = (0 : EReal)) ?_
    rw [Finset.sum_eq_zero fun u hu => ?_, EReal.coe_zero]
    have := (Finset.mem_Ico.1 hu).1
    have := ht r
    unfold left
    rw [if_neg (by omega)]

end Cert.Proof.StickChunk
-- ==== Proof.StickRun.lean ====
/-
  The stick-breaking attention kernel at a grid point, at the ideal values: its run is two chunks over the queries' own
  positions and then one chunk per trip of the loop before them, and together they are the whole sum over the keys.
-/
module

public import proofs.«01_k».proof.Proof.StickChunk
public import proofs.«01_k».proof.Proof.Gen.KernelIdeal.Value
@[expose] public section
set_option maxRecDepth 16384
noncomputable section
namespace Cert.Proof.StickRun
open Idealize.ShloMosaic Idealize.ShloMosaic.ValueIdx
open Cert.KernelIdeal Cert.KernelIdeal.Gen Cert.Proof.Stick Cert.Proof.StickChunk

/-- The loop makes two trips per block of queries before this one. -/
theorem trips1 : ∀ i : grid0.Coords, (k0_t1_loop i).trips = 2 * (i 2).val :=
  by decide +kernel
/-- The loop after it makes none. -/
theorem trips2 : ∀ i : grid0.Coords, (k0_t2_loop i).trips = 0 :=
  by decide +kernel
/-- The keys of a trip: the chunks from the last before the queries' block to the first. -/
theorem off2 : ∀ (i : grid0.Coords) (k : Fin (k0_t1_loop i).trips), k0_off2 i k 0 = 512 * (i 2).val - 256 * (k.val + 1) ∧ k0_off2 i k 1 = 0 :=
  by decide +kernel
/-- The keys of the two chunks in the queries' own block. -/
theorem off1 : ∀ (i : grid0.Coords) (k : Fin 2), k0_off1 i (BitVec.ofNat 32 (256 * k.val)) 0 = 512 * (i 2).val + 256 * k.val ∧ k0_off1 i (BitVec.ofNat 32 (256 * k.val)) 1 = 0 :=
  by decide +kernel

theorem hz : (![0, 0] : Fin 2 → Nat) = fun _ => 0 := by
  funext a; match a with | ⟨0, _⟩ => rfl | ⟨1, _⟩ => rfl

/-- The 256 rows of a window's block that the loads at offset `o` take. -/
abbrev rows (x : Vec Ideal S2048x128 .bf16) (o : Fin 2 → Nat) (h : ∀ a, o a + S256x128.size a ≤ S2048x128.size a) : FVec Ideal S256x128 .bf16 :=
  View.ld x (Rect.unit (s := S2048x128) o S256x128.size h)

/-- The state after one of the two chunks that hold the queries' own positions. -/
def diagonal (i : grid0.Coords) (b : BitVec 32) (q : FVec Ideal S512x128 .bf16) (k v : FVec Ideal S256x128 .bf16)
    (s : FVec Ideal S512x128 .f32 × FVec Ideal S512x1 .f32) : FVec Ideal S512x128 .f32 × FVec Ideal S512x1 .f32 :=
  let μ := before (k0_pay15 i) (iota .tc S512x256 32 [1] iota_S512x256_d1_w32) b
  (gather s.1 (weights (masked μ (take (k0_pay6 (F := Ideal) q k))) (masked μ (keep (k0_pay6 (F := Ideal) q k))) (k0_pay14 (F := Ideal)) s.2) v,
    remain s.2 (masked μ (keep (k0_pay6 (F := Ideal) q k))))

/-- The state after a chunk before the queries' block. -/
def full (q : FVec Ideal S512x128 .bf16) (k v : FVec Ideal S256x128 .bf16)
    (s : FVec Ideal S512x128 .f32 × FVec Ideal S512x1 .f32) : FVec Ideal S512x128 .f32 × FVec Ideal S512x1 .f32 :=
  (gather s.1 (weights (take (k0_pay6 (F := Ideal) q k)) (keep (k0_pay6 (F := Ideal) q k)) (k0_pay14 (F := Ideal)) s.2) v,
    remain s.2 (keep (k0_pay6 (F := Ideal) q k)))

/-- The state after both of them. -/
def ownBlock (i : grid0.Coords) (x0 : Vec Ideal S512x128 .bf16) (x1 x2 : Vec Ideal S2048x128 .bf16) :
    FVec Ideal S512x128 .f32 × FVec Ideal S512x1 .f32 :=
  diagonal i (Scalar.addi (Scalar.muli (BitVec.ofNat 32 (i 2).val) 512#32) 0#32) x0
      (rows x1 (k0_off1 i 0#32) (k0_off1_inb i 0)) (rows x2 (k0_off1 i 0#32) (k0_off1_inb i 0))
    (diagonal i (Scalar.addi (Scalar.muli (BitVec.ofNat 32 (i 2).val) 512#32) 256#32) x0
      (rows x1 (k0_off1 i 256#32) (k0_off1_inb i 1)) (rows x2 (k0_off1 i 256#32) (k0_off1_inb i 1))
      (k0_pay16 (F := Ideal), k0_pay17 (F := Ideal)))

/-- What a point leaves in its block, as the loops' results. -/
theorem out_eq (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x128 .bf16) (harg6 : arg6.IsWhole)
    (x0 : Vec Ideal S512x128 .bf16) (x1 x2 : Vec Ideal S2048x128 .bf16) :
    ∃ (v140 v145 : BitVec 32), out0_A_3 c i arg3 harg3 arg4 harg4 arg5 harg5 arg6 harg6 x0 x1 x2
      = k0_pay5 (F := Ideal) (st_k0_t2 (F := Ideal) Variants.none c none i arg3 harg3 arg4 harg4 arg5 harg5 arg6 harg6 (k0_pay14 (F := Ideal)) v140 v145
          (harg3.unread x0) (harg4.unread x1) (harg5.unread x2)
          (st_k0_t1 (F := Ideal) Variants.none c none i arg3 harg3 arg4 harg4 arg5 harg5 arg6 harg6 (k0_pay14 (F := Ideal)) v140
            (harg3.unread x0) (harg4.unread x1) (harg5.unread x2) (ownBlock i x0 x1 x2) (k0_t1_loop i).trips)
          (k0_t2_loop i).trips).1 := by
  unfold out0_A_3
  rw [View.read_writes_eq_canon _ _ _ (cover0_A_3 c i arg3 harg3 arg4 harg4 arg5 harg5 arg6 harg6 x0 x1 x2)]
  unfold kernelRun0_A
  dsimp only
  sl_unfold_words
  rw [View.canon_unit_zero hz]
  simp only [View.readAt_eq_ld, harg3.read_unread, harg4.read_unread, harg5.read_unread, View.ld_unit_zero (S := S512x128) hz]
  exact ⟨_, _, rfl⟩

/-- One trip of the loop over the chunks before the queries' block. -/
theorem trip_eq (𝒱 : Variants) (c : Dev nD) (bd : Option 𝒱.V) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x128 .bf16) (harg6 : arg6.IsWhole) (v140 : BitVec 32)
    (x0 : Vec Ideal S512x128 .bf16) (x1 x2 : Vec Ideal S2048x128 .bf16) (k : Fin (k0_t1_loop i).trips) (s : FVec Ideal S512x128 .f32 × FVec Ideal S512x1 .f32) :
   tripR_k0_t1 (F := Ideal) 𝒱 c bd i arg3 harg3 arg4 harg4 arg5 harg5 arg6 harg6 (k0_pay14 (F := Ideal)) v140 (harg3.unread x0) (harg4.unread x1) (harg5.unread x2) k s
      = full x0 (rows x1 (k0_off2 i k) (k0_off2_inb i k)) (rows x2 (k0_off2 i k) (k0_off2_inb i k)) s := by
  unfold tripR_k0_t1 trip_k0_t1
  dsimp only
  sl_unfold_words
  simp only [View.readAt_eq_ld, harg3.read_unread, harg4.read_unread, harg5.read_unread, View.ld_unit_zero (S := S512x128) hz]
  rfl

/-- The rows taken, read at an index. -/
theorem rows_apply (x : Vec Ideal S2048x128 .bf16) (o : Fin 2 → Nat) (h : ∀ a, o a + S256x128.size a ≤ S2048x128.size a) (B : ℕ) (h0 : o 0 = B) (h1 : o 1 = 0)
    (j : Fin 256) (d : Fin 128) (hB : B + j.val < 2048) : rows x o h (ix2 j d) = x (ix2 ⟨B + j.val, hB⟩ d) := by
  show x _ = x _
  congr 1; funext a; apply Fin.ext
  match a with
  | ⟨0, _⟩ => show o 0 + 1 * j.val = B + j.val; omega
  | ⟨1, _⟩ => show o 1 + 1 * d.val = d.val; omega

section
variable {i : grid0.Coords} {x0 : Vec Ideal S512x128 .bf16} {x1 x2 : Vec Ideal S2048x128 .bf16}
  {z : Fin 512 → ℕ → ℝ} {v : ℕ → Fin 128 → EReal}

/-- The position of a query of the block. -/
abbrev pos (i : grid0.Coords) (r : Fin 512) : ℕ := 512 * (i 2).val + r.val

/-- A chunk of the queries' own block in the pass over the keys. -/
theorem diagonal_step (hz : ∀ r s (h : s < 2048), (∑ d : Fin 128, x0 (ix2 r d) * x1 (ix2 ⟨s, h⟩ d)) * scale = ((z r s : ℝ) : EReal))
    (hv : ∀ s d (h : s < 2048), x2 (ix2 ⟨s, h⟩ d) = v s d) (B : ℕ) (hB : B + 256 ≤ 2048) (w : BitVec 32) (hw : w = BitVec.ofNat 32 B)
    (o : Fin 2 → Nat) (h : ∀ a, o a + S256x128.size a ≤ S2048x128.size a) (h0 : o 0 = B) (h1 : o 1 = 0)
    (s : FVec Ideal S512x128 .f32 × FVec Ideal S512x1 .f32) (hs : Done 2048 (B + 256) z (pos i) v s) :
    Done 2048 B z (pos i) v (diagonal i w x0 (rows x1 o h) (rows x2 o h) s) := by
  have hj : ∀ j : Fin 256, B + j.val < 2048 := fun j => by have := j.isLt; omega
  have hμ : ∀ (r : Fin 512) (j : Fin 256), before (k0_pay15 i) (iota .tc S512x256 32 [1] iota_S512x256_d1_w32) w (ix2 r j)
      = BitVec.ofBool (decide (B + j.val < pos i r)) := fun r j =>
    before_apply i _ (fun r j => by rw [iota_single_apply]) B (by omega) w hw r j
  have hsc : ∀ (r : Fin 512) (j : Fin 256), k0_pay6 (F := Ideal) x0 (rows x1 o h) (ix2 r j) = ((z r (B + j.val) : ℝ) : EReal) := by
    intro r j
    rw [score_apply, ← hz r (B + j.val) (hj j)]
    refine congrArg (· * scale) (Finset.sum_congr rfl fun d _ => ?_)
    rw [rows_apply x1 o h B h0 h1 j d (hj j)]
  exact step hB hs _ _ _
    (fun r j => masked_apply _ _ _ _ _ (hμ r j) (take_apply _ _ _ (hsc r j)))
    (fun r j => masked_apply _ _ _ _ _ (hμ r j) (keep_apply _ _ _ (hsc r j)))
    (fun j d => (rows_apply x2 o h B h0 h1 j d (hj j)).trans (hv _ d (hj j)))

/-- A chunk before the queries' block in the pass over the keys. -/
theorem full_step (hz : ∀ r s (h : s < 2048), (∑ d : Fin 128, x0 (ix2 r d) * x1 (ix2 ⟨s, h⟩ d)) * scale = ((z r s : ℝ) : EReal))
    (hv : ∀ s d (h : s < 2048), x2 (ix2 ⟨s, h⟩ d) = v s d) (B : ℕ) (hB : B + 256 ≤ 2048) (hB' : B + 256 ≤ 512 * (i 2).val)
    (o : Fin 2 → Nat) (h : ∀ a, o a + S256x128.size a ≤ S2048x128.size a) (h0 : o 0 = B) (h1 : o 1 = 0)
    (s : FVec Ideal S512x128 .f32 × FVec Ideal S512x1 .f32) (hs : Done 2048 (B + 256) z (pos i) v s) :
    Done 2048 B z (pos i) v (full x0 (rows x1 o h) (rows x2 o h) s) := by
  have hj : ∀ j : Fin 256, B + j.val < 2048 := fun j => by have := j.isLt; omega
  have hp : ∀ (r : Fin 512) (j : Fin 256), B + j.val < pos i r := fun r j => by
    have := j.isLt
    show _ < 512 * (i 2).val + r.val
    omega
  have hsc : ∀ (r : Fin 512) (j : Fin 256), k0_pay6 (F := Ideal) x0 (rows x1 o h) (ix2 r j) = ((z r (B + j.val) : ℝ) : EReal) := by
    intro r j
    rw [score_apply, ← hz r (B + j.val) (hj j)]
    refine congrArg (· * scale) (Finset.sum_congr rfl fun d _ => ?_)
    rw [rows_apply x1 o h B h0 h1 j d (hj j)]
  exact step hB hs _ _ _
    (fun r j => by rw [if_pos (hp r j)]; exact take_apply _ _ _ (hsc r j))
    (fun r j => by unfold left; rw [if_pos (hp r j)]; exact keep_apply _ _ _ (hsc r j))
    (fun j d => (rows_apply x2 o h B h0 h1 j d (hj j)).trans (hv _ d (hj j)))

/-- After the queries' own block, the keys from its start on are done. -/
theorem ownBlock_done (hz : ∀ r s (h : s < 2048), (∑ d : Fin 128, x0 (ix2 r d) * x1 (ix2 ⟨s, h⟩ d)) * scale = ((z r s : ℝ) : EReal))
    (hv : ∀ s d (h : s < 2048), x2 (ix2 ⟨s, h⟩ d) = v s d) : Done 2048 (512 * (i 2).val) z (pos i) v (ownBlock i x0 x1 x2) := by
  have hi : (i 2).val < 4 := (i 2).isLt
  have word : ∀ n : ℕ, Scalar.addi (Scalar.muli (BitVec.ofNat 32 (i 2).val) 512#32) (BitVec.ofNat 32 n) = BitVec.ofNat 32 (512 * (i 2).val + n) := by
    intro n
    show BitVec.ofNat 32 (i 2).val * 512#32 + BitVec.ofNat 32 n = _
    rw [BitVec.ofNat_add, BitVec.ofNat_mul, BitVec.mul_comm]
  have s0 : Done 2048 (512 * (i 2).val + 256 + 256) z (pos i) v (k0_pay16 (F := Ideal), k0_pay17 (F := Ideal)) :=
    start (fun r => by show 512 * (i 2).val + r.val ≤ _; have := r.isLt; omega)
  have s1 := diagonal_step hz hv (512 * (i 2).val + 256) (by omega) _ (word 256) (k0_off1 i 256#32) (k0_off1_inb i 1)
    (off1 i 1).1 (off1 i 1).2 _ s0
  exact diagonal_step hz hv (512 * (i 2).val) (by omega) _ (word 0) (k0_off1 i 0#32) (k0_off1_inb i 0) (off1 i 0).1 (off1 i 0).2 _ s1

/-- What a point leaves at an index of its block: the query's weighted sum of the values over all the keys. -/
theorem out_apply (c : Dev nD) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x128 .bf16) (harg6 : arg6.IsWhole)
    (hz : ∀ r s (h : s < 2048), (∑ d : Fin 128, x0 (ix2 r d) * x1 (ix2 ⟨s, h⟩ d)) * scale = ((z r s : ℝ) : EReal))
    (hv : ∀ s d (h : s < 2048), x2 (ix2 ⟨s, h⟩ d) = v s d) (r : Fin 512) (d : Fin 128) :
    out0_A_3 c i arg3 harg3 arg4 harg4 arg5 harg5 arg6 harg6 x0 x1 x2 (ix2 r d)
      = ∑ u ∈ Finset.Ico 0 2048, ((weight 2048 (z r) (pos i r) u : ℝ) : EReal) * v u d := by
  have hi : (i 2).val < 4 := (i 2).isLt
  obtain ⟨v140, v145, e⟩ := out_eq c i arg3 harg3 arg4 harg4 arg5 harg5 arg6 harg6 x0 x1 x2
  rw [e, trips2 i, trips1 i]
  have loop : ∀ k : ℕ, k ≤ 2 * (i 2).val → Done 2048 (512 * (i 2).val - 256 * k) z (pos i) v
      (st_k0_t1 (F := Ideal) Variants.none c none i arg3 harg3 arg4 harg4 arg5 harg5 arg6 harg6 (k0_pay14 (F := Ideal)) v140
        (harg3.unread x0) (harg4.unread x1) (harg5.unread x2) (ownBlock i x0 x1 x2) k) := by
    intro k
    induction k with
    | zero => intro _; exact ownBlock_done hz hv
    | succ k ih =>
      intro hk
      have hk' : k < (k0_t1_loop i).trips := by rw [trips1 i]; omega
      have he := st_k0_t1_succ (F := Ideal) Variants.none c none i arg3 harg3 arg4 harg4 arg5 harg5 arg6 harg6 (k0_pay14 (F := Ideal)) v140
        (harg3.unread x0) (harg4.unread x1) (harg5.unread x2) (ownBlock i x0 x1 x2) ⟨k, hk'⟩
      refine Eq.mpr (congrArg (Done 2048 _ z (pos i) v) (he.trans (trip_eq ..))) ?_
      refine full_step hz hv (512 * (i 2).val - 256 * (k + 1)) (by omega) (by omega) _ _ (off2 i ⟨k, hk'⟩).1 (off2 i ⟨k, hk'⟩).2 _ ?_
      rw [show 512 * (i 2).val - 256 * (k + 1) + 256 = 512 * (i 2).val - 256 * k by omega]
      exact ih (by omega)
  have h := (loop (2 * (i 2).val) (le_refl _)).gathered r d
  rw [show 512 * (i 2).val - 256 * (2 * (i 2).val) = 0 by omega] at h
  exact h

end

end Cert.Proof.StickRun
-- ==== Proof.StickSpec.lean ====
/-
  What the stick-breaking attention call computes, as a function of the projection: the scores, their finiteness where the
  queries and keys are finite, and the weighted sums of the values.
-/
module

public import proofs.«01_k».proof.Proof.StickChunk
public import proofs.«01_k».proof.Proof.Gen.Pre_queries_and_keys_finite

@[expose] public section

set_option maxRecDepth 16384

noncomputable section

namespace Cert.Proof.StickSpec

open Idealize.ShloMosaic Idealize.ShloMosaic.ValueIdx
open Cert.Proof.Stick Cert.Proof.StickChunk

/-- The projection's array: queries from column 2048 on, keys from column 2560 on, values from column 3072 on. -/
abbrev Proj := FVec Ideal ⟨2, ![8192, 5120]⟩ .bf16

/-- An entry of the projection by its numbers. -/
def entry (x : Proj) (r c : ℕ) : EReal := if h : r < 8192 ∧ c < 5120 then x (ix2 ⟨r, h.1⟩ ⟨c, h.2⟩) else 0

theorem entry_eq (x : Proj) (i : (⟨2, ![8192, 5120]⟩ : Shape).Idx) (r c : ℕ) (h0 : (i 0).val = r) (h1 : (i 1).val = c) : x i = entry x r c := by
  have hr : r < 8192 := h0 ▸ (i 0).isLt
  have hc : c < 5120 := h1 ▸ (i 1).isLt
  unfold entry
  rw [dif_pos ⟨hr, hc⟩]
  congr 1
  funext a
  apply Fin.ext
  match a with
  | ⟨0, _⟩ => exact h0
  | ⟨1, _⟩ => exact h1

/-- The score of query `t` against key `s` in head `h` of sequence `b`. -/
def score (x : Proj) (b h t s : ℕ) : EReal :=
  (∑ d : Fin 128, entry x (b * 2048 + t) (2048 + h * 128 + d.val) * entry x (b * 2048 + s) (2560 + h * 128 + d.val)) * scale
/-- It as a real number. -/
def scoreR (x : Proj) (b h t s : ℕ) : ℝ := (score x b h t s).toReal
/-- The attention's result at query `t` of sequence `b`, head `h`, entry `d`. -/
def result (x : Proj) (b h t d : ℕ) : EReal :=
  ∑ u ∈ Finset.Ico 0 2048, ((weight 2048 (scoreR x b h t) t u : ℝ) : EReal) * entry x (b * 2048 + u) (3072 + h * 128 + d)
/-- The result array. -/
def attention (x : Proj) : FVec Ideal ⟨2, ![8192, 512]⟩ .bf16 :=
  fun i => result x ((i 0).val / 2048) ((i 1).val / 128) ((i 0).val % 2048) ((i 1).val % 128)

/-- All queries and keys are finite. -/
def Finite (x : Proj) : Prop := ∀ r c, r < 8192 → 2048 ≤ c → c < 3072 → ∃ y : ℝ, entry x r c = (y : EReal)

theorem scale_real : ∃ y : ℝ, scale = (y : EReal) := by
  unfold scale
  simp only [Ideal.ofBits, Ideal.ieee]
  exact ⟨_, rfl⟩

theorem score_real (x : Proj) (hx : Finite x) (b h t s : ℕ) (hb : b < 4) (hh : h < 4) (ht : t < 2048) (hs : s < 2048) :
    score x b h t s = ((scoreR x b h t s : ℝ) : EReal) := by
  have real : ∃ y : ℝ, score x b h t s = (y : EReal) := by
    obtain ⟨κ, hκ⟩ := scale_real
    have hq : ∀ d : Fin 128, ∃ y : ℝ, entry x (b * 2048 + t) (2048 + h * 128 + d.val) = (y : EReal) := fun d =>
      hx _ _ (by omega) (by omega) (by have := d.isLt; omega)
    have hk : ∀ d : Fin 128, ∃ y : ℝ, entry x (b * 2048 + s) (2560 + h * 128 + d.val) = (y : EReal) := fun d =>
      hx _ _ (by omega) (by omega) (by have := d.isLt; omega)
    choose q hq using hq
    choose k hk using hk
    refine ⟨(∑ d : Fin 128, q d * k d) * κ, ?_⟩
    unfold score
    rw [hκ, EReal.coe_mul, ← coe_sum]
    refine congrArg (· * (κ : EReal)) (Finset.sum_congr rfl fun d _ => ?_)
    rw [hq d, hk d, EReal.coe_mul]
  obtain ⟨y, hy⟩ := real
  unfold scoreR
  rw [hy, EReal.toReal_coe]

/-- The precondition says that the queries and keys are finite. -/
theorem finite_of_pre (x : Proj) (h : Cert.Pre_queries_and_keys_finite.fn (F := Ideal) x = fun _ => 1#1) : Finite x := by
  intro r c hr hc hc'
  have e := congrFun h (ix2 ⟨r, hr⟩ ⟨c - 2048, by omega⟩)
  have hs : (extractStridedSlice Cert.Pre_queries_and_keys_finite.S8192x1024 ![0, 2048] x
      Cert.Pre_queries_and_keys_finite.Facts.slices_S8192x5120_S8192x1024_0_2048) (ix2 ⟨r, hr⟩ ⟨c - 2048, by omega⟩) = entry x r c := by
    refine (extractStridedSlice_apply ![0, 2048] x _ _ (ix2 ⟨r, hr⟩ ⟨c, by omega⟩) (fun a => ?_)).trans (entry_eq x _ r c rfl rfl)
    match a with
    | ⟨0, _⟩ => show r = 0 + r; omega
    | ⟨1, _⟩ => show c = 2048 + (c - 2048); omega
  have e' : Ideal.cmp .olt (max (entry x r c) (-(entry x r c))) (Ideal.ofBits .f32 0x7F800000#32) = 1#1 := by
    rw [← hs]; exact e
  have top : Ideal.ofBits .f32 0x7F800000#32 = ⊤ := by simp [Ideal.ofBits, Ideal.ieee]
  rw [top] at e'
  have lt : max (entry x r c) (-(entry x r c)) < ⊤ := by
    by_contra hn
    unfold Ideal.cmp at e'
    simp [hn] at e'
  induction hX : entry x r c with
  | coe y => exact ⟨y, rfl⟩
  | top => rw [hX] at lt; simp at lt
  | bot => rw [hX] at lt; simp at lt

end Cert.Proof.StickSpec
-- ==== Proof.StickRef.lean ====
/-
  The stick-breaking attention's reference at the ideal values: its stages read at an index, and its result.
-/
module

public import proofs.«01_k».proof.Proof.StickSpec
public import proofs.«01_k».proof.Proof.Gen.ReferenceIdeal.Run
public import proofs.«01_k».proof.Proof.Gen.ReferenceIdeal.Read

@[expose] public section

set_option maxRecDepth 16384

noncomputable section

namespace Cert.Proof.StickRef

open Idealize.ShloMosaic Idealize.ShloMosaic.ValueIdx
open Cert.ReferenceIdeal Cert.ReferenceIdeal.Read
open Cert.Proof.Stick Cert.Proof.StickChunk Cert.Proof.StickSpec

variable (x : Proj)

theorem query (b : Fin 4) (t : Fin 2048) (h : Fin 4) (d : Fin 128) :
    val_main_v5 (F := Ideal) x (ix4 b t h d) = entry x (b.val * 2048 + t.val) (2048 + h.val * 128 + d.val) := by
  rw [val_main_v5_apply, val_main_v2_apply, val_main_v1_apply]
  show val_main_v0 (F := Ideal) x _ = _
  rw [val_main_v0_apply]
  refine entry_eq x _ _ _ ?_ ?_
  · show (((b.val * 2048 + t.val) * 4 + h.val) * 128 + d.val) / 512 = _
    omega
  · show 2048 + (((b.val * 2048 + t.val) * 4 + h.val) * 128 + d.val) % 512 = _
    omega

theorem key (b : Fin 4) (s : Fin 2048) (h : Fin 4) (d : Fin 128) :
    val_main_v6 (F := Ideal) x (ix4 b s h d) = entry x (b.val * 2048 + s.val) (2560 + h.val * 128 + d.val) := by
  rw [val_main_v6_apply, val_main_v3_apply, val_main_v1_apply]
  show val_main_v0 (F := Ideal) x _ = _
  rw [val_main_v0_apply]
  refine entry_eq x _ _ _ ?_ ?_
  · show (((b.val * 2048 + s.val) * 4 + h.val) * 128 + d.val) / 512 = _
    omega
  · show 2048 + (512 + (((b.val * 2048 + s.val) * 4 + h.val) * 128 + d.val) % 512) = _
    omega

theorem value (b : Fin 4) (s : Fin 2048) (h : Fin 4) (d : Fin 128) :
    val_main_v7 (F := Ideal) x (ix4 b s h d) = entry x (b.val * 2048 + s.val) (3072 + h.val * 128 + d.val) := by
  rw [val_main_v7_apply, val_main_v4_apply, val_main_v1_apply]
  show val_main_v0 (F := Ideal) x _ = _
  rw [val_main_v0_apply]
  refine entry_eq x _ _ _ ?_ ?_
  · show (((b.val * 2048 + s.val) * 4 + h.val) * 128 + d.val) / 512 = _
    omega
  · show 2048 + (1024 + (((b.val * 2048 + s.val) * 4 + h.val) * 128 + d.val) % 512) = _
    omega

/-- The scores. -/
theorem score_ref (hx : Finite x) (b h : Fin 4) (t s : Fin 2048) :
    val_main_v11 (F := Ideal) x (ix4 b h t s) = ((scoreR x b.val h.val t.val s.val : ℝ) : EReal) := by
  rw [← score_real x hx _ _ _ _ b.isLt h.isLt t.isLt s.isLt, val_main_v11_apply, val_main_v10_apply, val_main_v9_apply]
  refine congrArg (· * scale) (Finset.sum_congr rfl fun d _ => ?_)
  refine congrArg₂ (fun p q : EReal => p * q) ?_ ?_
  · exact (congrArg _ (eq_ix4 _)).trans (query x b t h d)
  · exact (congrArg _ (eq_ix4 _)).trans (key x b s h d)

theorem mask17 (i : S1x1x2048x2048.Idx) (t s : Fin 2048) (ht : i 2 = t) (hs : i 3 = s) :
    val_main_v17 (F := Ideal) i = BitVec.ofBool (decide (s.val < t.val)) := by
  subst ht hs
  rw [val_main_v17_apply, val_main_v16_apply, val_main_v15_apply, val_main_v14_apply, val_main_v13_apply, val_main_v12_apply,
    val_main_v8_apply, val_main_v8_apply]
  show BitVec.ofBool (BitVec.slt (BitVec.ofNat 32 (i 3).val) (BitVec.ofNat 32 (i 2).val)) = _
  have h3 : (i 3).val < 2048 := (i 3).isLt
  have h2 : (i 2).val < 2048 := (i 2).isLt
  rw [slt_ofNat (by omega) (by omega)]

theorem select_ofBool (p : Prop) [Decidable p] (y w : EReal) : Scalar.select (BitVec.ofBool (decide p)) y w = if p then y else w := by
  by_cases h : p
  · rw [decide_eq_true h, if_pos h]; rfl
  · rw [decide_eq_false h, if_neg h]; rfl

/-- The logarithm of what a score leaves. -/
theorem keep_ref (i : S4x4x2048x2048.Idx) (z : ℝ) (hz : val_main_v11 (F := Ideal) x i = (z : EReal)) :
    val_main_v19 (F := Ideal) x i = ((logKeep z : ℝ) : EReal) := by
  have h0 : val_main_call0_v0 (F := Ideal) x i = (z : EReal) := by
    rw [val_main_call0_v0_apply, val_main_v18_apply, hz]; exact neg_neg _
  rw [val_main_v19_apply, val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply, val_main_call0_call0_cst_apply, h0]
  rw [← log_reference z, ← Ideal.ofBits_zero_f32]
  rfl

/-- The logarithm of what a score takes. -/
theorem take_ref (i : S4x4x2048x2048.Idx) (z : ℝ) (hz : val_main_v11 (F := Ideal) x i = (z : EReal)) :
    val_main_v23 (F := Ideal) x i = ((logTake z : ℝ) : EReal) := by
  have h0 : val_main_call3_v0 (F := Ideal) x i = ((-z : ℝ) : EReal) := by
    rw [val_main_call3_v0_apply, hz]; exact (EReal.coe_neg z).symm
  rw [val_main_v23_apply, val_main_call3_v1_apply, val_main_call3_call0_v4_apply, val_main_call3_call0_v6_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v0_apply, val_main_call3_call0_v2_apply,
    val_main_call3_call0_v5_apply, val_main_call3_call0_cst_apply, h0]
  rw [← logKeep_neg, ← log_reference (-z), ← Ideal.ofBits_zero_f32]
  rfl

/-- With the mask. -/
theorem left_ref (hx : Finite x) (b h : Fin 4) (t s : Fin 2048) :
    val_main_v20 (F := Ideal) x (ix4 b h t s) = ((left (scoreR x b.val h.val t.val) t.val s.val : ℝ) : EReal) := by
  rw [val_main_v20_apply, val_main_call1_v1_apply, mask17 _ t s rfl rfl, select_ofBool, keep_ref x _ _ (score_ref x hx b h t s),
    val_main_call1_v2_apply, val_main_call1_v0_apply, val_main_cst_0_apply]
  unfold left
  split
  · rfl
  · exact Ideal.ofBits_zero_f32

/-- Summed from the end. -/
theorem tail_ref (hx : Finite x) (b h : Fin 4) (t s : Fin 2048) :
    val_main_v21 (F := Ideal) x (ix4 b h t s) = ((∑ u ∈ Finset.Ico s.val 2048, left (scoreR x b.val h.val t.val) t.val u : ℝ) : EReal) := by
  have e := cumsum (A := 4) (B := 4) (C := 2048) (N := 2048) (P := 2047) (val_main_v20 (F := Ideal) x)
    Gen.reduceWindows_S4x4x2048x2048_S4x4x2048x2048_w1s1p0_0_w1s1p0_0_w1s1p0_0_w2048s1p0_2047 b h t s
    (fun u => ((left (scoreR x b.val h.val t.val) t.val u : ℝ) : EReal)) (fun u => left_ref x hx b h t u)
  rw [coe_sum] at e
  refine Eq.trans ?_ e
  have init : val_main_call2_v0 (F := Ideal) = fun _ => (0 : EReal) := by
    funext i
    rw [val_main_call2_v0_apply, val_main_call2_cst_apply]
    exact Ideal.ofBits_zero_f32
  unfold val_main_v21 Host.reduceWindowAdd
  rw [init]
  exact congrFun (Ideal.hostReduceWindowAdd_def ..) _

/-- A weight. -/
theorem weight_ref (hx : Finite x) (b h : Fin 4) (t s : Fin 2048) :
    val_main_v26 (F := Ideal) x (ix4 b h t s) = ((weight 2048 (scoreR x b.val h.val t.val) t.val s.val : ℝ) : EReal) := by
  have hs := s.isLt
  rw [val_main_v26_apply, val_main_call4_v1_apply, mask17 _ t s rfl rfl, select_ofBool, val_main_v25_apply, val_main_v24_apply,
    val_main_v22_apply, tail_ref x hx, left_ref x hx, take_ref x _ _ (score_ref x hx b h t s), val_main_call4_v2_apply,
    val_main_call4_v0_apply, val_main_cst_1_apply]
  unfold weight
  split
  · show Ideal.exp ((logTake (scoreR x b.val h.val t.val s.val) : EReal) + (((_ : ℝ) : EReal) - ((_ : ℝ) : EReal))) = _
    rw [← EReal.coe_sub, ← EReal.coe_add, Ideal.exp_coe, Finset.sum_eq_sum_Ico_succ_bot hs, add_sub_cancel_left, Real.exp_add]
  · exact Ideal.ofBits_zero_f32

/-- The reference's result is the attention. -/
theorem ref_out (hx : Finite x) : val_main_v30 (F := Ideal) x = attention x := by
  funext i
  have h0 : (i 0).val < 8192 := (i 0).isLt
  have h1 : (i 1).val < 512 := (i 1).isLt
  let b : Fin 4 := ⟨(i 0).val / 2048, by omega⟩
  let h : Fin 4 := ⟨(i 1).val / 128, by omega⟩
  let t : Fin 2048 := ⟨(i 0).val % 2048, by omega⟩
  let d : Fin 128 := ⟨(i 1).val % 128, by omega⟩
  rw [val_main_v30_apply]
  show val_main_v29 (F := Ideal) x i = _
  rw [val_main_v29_apply]
  have e : idx_main_v29 i = ix4 b t h d := by
    funext a
    apply Fin.ext
    match a with
    | ⟨0, _⟩ => show _ = (i 0).val / 2048; dsimp only; omega
    | ⟨1, _⟩ => show _ = (i 0).val % 2048; dsimp only; omega
    | ⟨2, _⟩ => show _ = (i 1).val / 128; dsimp only; omega
    | ⟨3, _⟩ => show _ = (i 1).val % 128; dsimp only; omega
  rw [e, val_main_v28_apply, val_main_v27_apply]
  show _ = result x b.val h.val t.val d.val
  unfold result
  rw [Finset.sum_Ico_eq_sum_range, Nat.sub_zero, ← Fin.sum_univ_eq_sum_range
    (fun u => ((weight 2048 (scoreR x b.val h.val t.val) t.val (0 + u) : ℝ) : EReal) * entry x (b.val * 2048 + (0 + u)) (3072 + h.val * 128 + d.val)) 2048]
  refine Finset.sum_congr rfl fun s _ => ?_
  rw [mul_comm, Nat.zero_add]
  refine congrArg₂ (fun p q : EReal => p * q) ?_ ?_
  · exact (congrArg _ (eq_ix4 _)).trans (weight_ref x hx b h t s)
  · exact (congrArg _ (eq_ix4 _)).trans (value x b s h d)

end Cert.Proof.StickRef
-- ==== Proof.StickAttention.lean ====
/-
  The stick-breaking attention call: each grid point computes the attention of 512 queries of one head of one sequence, and
  the reference computes the same array.
-/
module

public import proofs.«01_k».proof.Defs
public import proofs.«01_k».proof.Proof.StickRun
public import proofs.«01_k».proof.Proof.StickRef
public import Idealize.ShloMosaic.Lib.Quiescent
public import Idealize.ShloMosaic.Adequacy
public import Idealize.ShloMosaic.Init

@[expose] public section

set_option maxRecDepth 16384

noncomputable section

namespace Cert.Proof.StickAttention

open Idealize.ShloMosaic Idealize.ShloMosaic.ValueIdx Idealize.ShloMosaic.TcCoe Idealize.SL.Sem
open Cert.Proof.Stick Cert.Proof.StickChunk Cert.Proof.StickSpec Cert.Proof.StickRun

section
open Cert.KernelIdeal Cert.KernelIdeal.Gen

variable (m : (ℓ : Loc nD τ sig) → Buf (Elt Ideal) ℓ)

/-- Where each window stands at each grid point: point `t` is query block `t % 4` of head `t / 4 % 4` of sequence `t / 16`. -/
theorem idx : ∀ t : Fin cfg0.N, (win0_0.index t 0 = t.val / 16 * 4 + t.val % 4 ∧ win0_0.index t 1 = 16 + t.val / 4 % 4)
    ∧ (win0_1.index t 0 = t.val / 16 ∧ win0_1.index t 1 = 20 + t.val / 4 % 4)
    ∧ (win0_2.index t 0 = t.val / 16 ∧ win0_2.index t 1 = 24 + t.val / 4 % 4)
    ∧ (win0_3.index t 0 = t.val / 16 * 4 + t.val % 4 ∧ win0_3.index t 1 = t.val / 4 % 4)
    ∧ (grid0.coords t 2).val = t.val % 4 :=
  (by decide +kernel : ∀ t : Fin grid0.N, (win0_0.index t 0 = t.val / 16 * 4 + t.val % 4 ∧ win0_0.index t 1 = 16 + t.val / 4 % 4)
    ∧ (win0_1.index t 0 = t.val / 16 ∧ win0_1.index t 1 = 20 + t.val / 4 % 4)
    ∧ (win0_2.index t 0 = t.val / 16 ∧ win0_2.index t 1 = 24 + t.val / 4 % 4)
    ∧ (win0_3.index t 0 = t.val / 16 * 4 + t.val % 4 ∧ win0_3.index t 1 = t.val / 4 % 4)
    ∧ (grid0.coords t 2).val = t.val % 4)

theorem bound (t : Fin cfg0.N) : t.val < 64 := t.isLt

/-- The projection the call is launched with. -/
abbrev proj (c : Dev nD) : Proj := m ((c.tc : Thread nD τ).loc main_arg0)

theorem blk0 (c : Dev nD) (t : Fin cfg0.N) (r : Fin 512) (d : Fin 128) :
    iblk m c 0 t (ix2 r d) = entry (proj m c) (t.val / 16 * 2048 + (512 * (t.val % 4) + r.val)) (2048 + t.val / 4 % 4 * 128 + d.val) := by
  unfold iblk; rw [View.read_apply]
  show V m c main_arg0 _ = _
  unfold V
  refine entry_eq (proj m c) _ _ _ ?_ ?_
  · show win0_0.index t 0 * 512 + 1 * r.val = _
    rw [(idx t).1.1]; omega
  · show win0_0.index t 1 * 128 + 1 * d.val = _
    rw [(idx t).1.2]; omega

theorem blk1 (c : Dev nD) (t : Fin cfg0.N) (s : Fin 2048) (d : Fin 128) :
    iblk m c 1 t (ix2 s d) = entry (proj m c) (t.val / 16 * 2048 + s.val) (2560 + t.val / 4 % 4 * 128 + d.val) := by
  unfold iblk; rw [View.read_apply]
  show V m c main_arg0 _ = _
  unfold V
  refine entry_eq (proj m c) _ _ _ ?_ ?_
  · show win0_1.index t 0 * 2048 + 1 * s.val = _
    rw [(idx t).2.1.1]; omega
  · show win0_1.index t 1 * 128 + 1 * d.val = _
    rw [(idx t).2.1.2]; omega

theorem blk2 (c : Dev nD) (t : Fin cfg0.N) (s : Fin 2048) (d : Fin 128) :
    iblk m c 2 t (ix2 s d) = entry (proj m c) (t.val / 16 * 2048 + s.val) (3072 + t.val / 4 % 4 * 128 + d.val) := by
  unfold iblk; rw [View.read_apply]
  show V m c main_arg0 _ = _
  unfold V
  refine entry_eq (proj m c) _ _ _ ?_ ?_
  · show win0_2.index t 0 * 2048 + 1 * s.val = _
    rw [(idx t).2.2.1.1]; omega
  · show win0_2.index t 1 * 128 + 1 * d.val = _
    rw [(idx t).2.2.1.2]; omega

/-- What a grid point computes, at an index. -/
theorem point (c : Dev nD) (hx : Finite (proj m c)) (t : Fin cfg0.N) (r : Fin 512) (d : Fin 128) :
    out0_A_3 c (grid0.coords t) (ms0_0 t) (hs0_0 t) (ms0_1 t) (hs0_1 t) (ms0_2 t) (hs0_2 t) (ms0_3 t) (hs0_3 t)
        (iblk m c 0 t) (iblk m c 1 t) (iblk m c 2 t) (ix2 r d)
      = result (proj m c) (t.val / 16) (t.val / 4 % 4) (512 * (t.val % 4) + r.val) d.val := by
  have ht := bound t
  refine (out_apply (z := fun r s => scoreR (proj m c) (t.val / 16) (t.val / 4 % 4) (512 * (t.val % 4) + r.val) s)
    (v := fun u d => entry (proj m c) (t.val / 16 * 2048 + u) (3072 + t.val / 4 % 4 * 128 + d.val)) c _ _ _ _ _ _ _ _
    (fun r s h => ?_) (fun s d h => blk2 m c t ⟨s, h⟩ d) r d).trans ?_
  · rw [← score_real (proj m c) hx _ _ _ _ (by omega) (by omega) (by have := r.isLt; omega) h]
    unfold score
    simp only [blk0, blk1]
  · unfold result
    have e : pos (grid0.coords t) r = 512 * (t.val % 4) + r.val := by
      unfold pos; rw [(idx t).2.2.2.2]
    rw [e]

/-- The call's result of the launched argument. -/
abbrev G (c : Dev nD) : FVec Ideal ⟨2, ![8192, 512]⟩ .bf16 := attention (proj m c)

theorem at3 (c : Dev nD) (t : Fin cfg0.N) (j : S512x128.Idx) :
    G m c (((cfg0.win 3).blk t).view.emb j)
      = result (proj m c) (t.val / 16) (t.val / 4 % 4) (512 * (t.val % 4) + (j 0).val) (j 1).val := by
  have ht := bound t
  have h0 : (j 0).val < 512 := (j 0).isLt
  have h1 : (j 1).val < 128 := (j 1).isLt
  have e0 : ((((cfg0.win 3).blk t).view.emb j) 0).val = (t.val / 16 * 4 + t.val % 4) * 512 + (j 0).val := by
    show win0_3.index t 0 * 512 + 1 * (j 0).val = _
    rw [(idx t).2.2.2.1.1]; omega
  have e1 : ((((cfg0.win 3).blk t).view.emb j) 1).val = t.val / 4 % 4 * 128 + (j 1).val := by
    show win0_3.index t 1 * 128 + 1 * (j 1).val = _
    rw [(idx t).2.2.2.1.2]; omega
  show result (proj m c) ((((cfg0.win 3).blk t).view.emb j 0).val / 2048) ((((cfg0.win 3).blk t).view.emb j 1).val / 128)
    ((((cfg0.win 3).blk t).view.emb j 0).val % 2048) ((((cfg0.win 3).blk t).view.emb j 1).val % 128) = _
  rw [e0, e1]
  congr 1 <;> omega

theorem flushed3_eq (c : Dev nD) (hx : Finite (proj m c)) (t : Fin cfg0.N) (_ : (cfg0.win 3).flush t = true) :
    (dats m 0 c).flushed 3 t = ((cfg0.win 3).blk t).view.read (Elt Ideal) (G m c) := by
  rw [Cert.KernelIdeal.Value.flushed3_A]
  funext j
  rw [View.read_apply]
  refine Eq.trans ?_ (at3 m c t j).symm
  exact (congrArg _ (eq_ix2 j)).trans (point m c hx t (j 0) (j 1))

theorem covered3 (i : S8192x512.Idx) :
    ∃ t : Fin cfg0.N, (cfg0.win 3).flush t = true ∧ i ∈ ((cfg0.win 3).blk t).view.set := by
  have h0 : (i 0).val < 8192 := (i 0).isLt
  have h1 : (i 1).val < 512 := (i 1).isLt
  let t : Fin cfg0.N := ⟨(i 0).val / 2048 * 16 + (i 1).val / 128 * 4 + (i 0).val % 2048 / 512, by show _ < 64; omega⟩
  have e : t.val = (i 0).val / 2048 * 16 + (i 1).val / 128 * 4 + (i 0).val % 2048 / 512 := rfl
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 512 ≤ (i 0).val ∧ (i 0).val < win0_3.index t 0 * 512 + 512
    rw [(idx t).2.2.2.1.1, e]; omega
  | ⟨1, _⟩ =>
    show win0_3.index t 1 * 128 ≤ (i 1).val ∧ (i 1).val < win0_3.index t 1 * 128 + 128
    rw [(idx t).2.2.2.1.2, e]; omega

/-- The result array after the run is the call's result. -/
theorem final3 (c : Dev nD) (hx : Finite (proj m c)) : (dats m 0 c).arrAt 3 cfg0.N = G m c :=
  (dats m 0 c).arrAt_eq_of_cover 3 (G m c) (flushed3_eq m c hx) covered3

end

/-- At the ideal values, and where the queries and keys are finite, the kernel's result is the reference's. -/
theorem algebraic : Cert.algebraic_KernelIdeal_ReferenceIdeal_pre_queries_and_keys_finite := by
  intro m ρ m' ρ' hpre hin
  have hx : ∀ c, Finite (proj m c) := fun c => finite_of_pre _ (hpre c)
  refine ⟨fun c => G m c, ?_, ?_⟩
  · refine (θ_run Cert.KernelIdeal.defs _ _).mono (fun _ h c => ?_) (Cert.KernelIdeal.Value.run_blocks m ρ)
    exact ⟨(h c).1.trans (final3 m c (hx c)), (h c).2⟩
  · refine (θ_run Cert.ReferenceIdeal.defs _ _).mono (fun _ h c => ?_) (Cert.ReferenceIdeal.Value.run (F := Ideal) m' ρ')
    refine ⟨(h c).1.trans ?_, (h c).2⟩
    refine (Cert.ReferenceIdeal.Read.val_main_v30_eq m' c).trans ?_
    rw [hin c]
    exact StickRef.ref_out _ (hx c)

/-- The reference runs to its end and leaves its argument and every counter as they were. -/
theorem quiescent : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof.StickAttention
-- ==== Proof.FfnDown.lean ====
/-
  The down projection of the feed-forward block with its residual and layer norm. Each grid point computes 256 rows:
  a row of the result is the layer norm of `alpha * h + g · w`, and so is a row of the reference.
-/
module

public import proofs.«01_k».proof.Defs
public import proofs.«01_k».proof.Proof.Norm
public import proofs.«01_k».proof.Proof.Gen.Kernel2Ideal.Value
public import proofs.«01_k».proof.Proof.Gen.Reference2Ideal.Run
public import proofs.«01_k».proof.Proof.Gen.Reference2Ideal.Read
public import Idealize.ShloMosaic.Lib.MatmulPlain
public import Idealize.ShloMosaic.Lib.Quiescent
public import Idealize.ShloMosaic.Adequacy
public import Idealize.ShloMosaic.Init

@[expose] public section

set_option maxRecDepth 16384

noncomputable section

namespace Cert.Proof.FfnDown

open Idealize.ShloMosaic Idealize.ShloMosaic.ValueIdx Idealize.ShloMosaic.TcCoe Idealize.SL.Sem Cert.Proof.Norm

/-- The weight of the residual, as the programs write it. -/
abbrev alpha : EReal := Ideal.ofBits .f32 0x3FB504F3#32

/-- The residual plus the projection, at a row and a column. -/
def sumAt {M : ℕ} (g : FVec Ideal ⟨2, ![M, 5632]⟩ .bf16) (w : FVec Ideal ⟨2, ![5632, 2048]⟩ .bf16)
    (h : FVec Ideal ⟨2, ![M, 2048]⟩ .f32) (r : Fin M) (k : Fin 2048) : EReal :=
  alpha * h (ix2 r k) + ∑ q : Fin 5632, g (ix2 r q) * w (ix2 q k)

/-- The call's result as a function of its arguments: the layer norm of each row of that sum. -/
def out (g : FVec Ideal ⟨2, ![8192, 5632]⟩ .bf16) (w : FVec Ideal ⟨2, ![5632, 2048]⟩ .bf16)
    (h : FVec Ideal ⟨2, ![8192, 2048]⟩ .f32) (a b : FVec Ideal ⟨2, ![1, 2048]⟩ .f32) :
    FVec Ideal ⟨2, ![8192, 2048]⟩ .f32 :=
  fun i => normAt (sumAt g w h (i 0)) (a (ix2 0 (i 1))) (b (ix2 0 (i 1))) (i 1)

section
open Cert.Kernel2Ideal Cert.Kernel2Ideal.Gen

/-- What a grid point computes of its blocks, at an index: the layer norm of the row. -/
theorem pay_apply (h : FVec Ideal S256x2048 .f32) (g : FVec Ideal S256x5632 .bf16) (w : FVec Ideal S5632x2048 .bf16)
    (a b : FVec Ideal S1x2048 .f32) (r : Fin 256) (j : Fin 2048) :
    k0_pay1 (F := Ideal) h g w a b (ix2 r j) = normAt (sumAt g w h r) (a (ix2 0 j)) (b (ix2 0 j)) j := by
  refine Eq.trans (show _ = normRows (addf (mulf (broadcast S256x2048 (Scalar.ofBits .f32 0x3FB504F3#32)) h)
    (matmul dot_S256x5632_S5632x2048_S256x2048_1_0_0_1_n_n none g w (constant S256x2048 .f32 0x00000000#32))) a b
    reduces_S256x2048_S256 shapeCasts_S256_S256x1 broadcasts_S256x1_S256x2048 broadcasts_S1x2048_S256x2048 (ix2 r j)
    from rfl) ?_
  rw [normRows_apply]
  congr 1
  funext k
  rw [addf_apply, mulf_apply]
  unfold sumAt
  refine congrArg (alpha * h (ix2 r k) + ·) ?_
  refine (Ideal.matmul_plain_apply (M := 256) (K := 5632) (N := 2048) none g w _ r k).trans ?_
  show Ideal.ofBits .f32 0x00000000#32 + _ = _
  rw [Ideal.ofBits_zero_f32, zero_add]

variable (m : (ℓ : Loc nD τ sig) → Buf (Elt Ideal) ℓ)

/-- Where each window stands at each grid point. -/
theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0))

/-- A row of a point's block, as a row of the whole array. -/
def row (t : Fin cfg0.N) (r : Fin 256) : Fin 8192 := ⟨t.val * 256 + r.val, by have := t.isLt; have : t.val < 32 := this; omega⟩

theorem blk0 (c : Dev nD) (t : Fin cfg0.N) (r : Fin 256) (q : Fin 5632) :
    iblk m c 0 t (ix2 r q) = m ((c.tc : Thread nD τ).loc main_arg0) (ix2 (row t r) q) := by
  unfold iblk; rw [View.read_apply]
  show V m c main_arg0 _ = m ((c.tc : Thread nD τ).loc main_arg0) _
  unfold V; congr 1; funext a; apply Fin.ext
  match a with
  | ⟨0, _⟩ => show win0_0.index t 0 * 256 + 1 * r.val = t.val * 256 + r.val; rw [(idx t).1.1]; omega
  | ⟨1, _⟩ => show win0_0.index t 1 * 5632 + 1 * q.val = q.val; rw [(idx t).1.2]; omega

theorem blk1 (c : Dev nD) (t : Fin cfg0.N) (r : Fin 5632) (q : Fin 2048) :
    iblk m c 1 t (ix2 r q) = m ((c.tc : Thread nD τ).loc main_arg1) (ix2 r q) := by
  unfold iblk; rw [View.read_apply]
  show V m c main_arg1 _ = m ((c.tc : Thread nD τ).loc main_arg1) _
  unfold V; congr 1; funext a; apply Fin.ext
  match a with
  | ⟨0, _⟩ => show win0_1.index t 0 * 5632 + 1 * r.val = r.val; rw [(idx t).2.1.1]; omega
  | ⟨1, _⟩ => show win0_1.index t 1 * 2048 + 1 * q.val = q.val; rw [(idx t).2.1.2]; omega

theorem blk2 (c : Dev nD) (t : Fin cfg0.N) (r : Fin 256) (q : Fin 2048) :
    iblk m c 2 t (ix2 r q) = m ((c.tc : Thread nD τ).loc main_arg2) (ix2 (row t r) q) := by
  unfold iblk; rw [View.read_apply]
  show V m c main_arg2 _ = m ((c.tc : Thread nD τ).loc main_arg2) _
  unfold V; congr 1; funext a; apply Fin.ext
  match a with
  | ⟨0, _⟩ => show win0_2.index t 0 * 256 + 1 * r.val = t.val * 256 + r.val; rw [(idx t).2.2.1.1]; omega
  | ⟨1, _⟩ => show win0_2.index t 1 * 2048 + 1 * q.val = q.val; rw [(idx t).2.2.1.2]; omega

theorem blk3 (c : Dev nD) (t : Fin cfg0.N) (q : Fin 2048) :
    iblk m c 3 t (ix2 0 q) = m ((c.tc : Thread nD τ).loc main_arg3) (ix2 0 q) := by
  unfold iblk; rw [View.read_apply]
  show V m c main_arg3 _ = m ((c.tc : Thread nD τ).loc main_arg3) _
  unfold V; congr 1; funext a; apply Fin.ext
  match a with
  | ⟨0, _⟩ => show win0_3.index t 0 * 1 + 1 * 0 = 0; rw [(idx t).2.2.2.1.1]
  | ⟨1, _⟩ => show win0_3.index t 1 * 2048 + 1 * q.val = q.val; rw [(idx t).2.2.2.1.2]; omega

theorem blk4 (c : Dev nD) (t : Fin cfg0.N) (q : Fin 2048) :
    iblk m c 4 t (ix2 0 q) = m ((c.tc : Thread nD τ).loc main_arg4) (ix2 0 q) := by
  unfold iblk; rw [View.read_apply]
  show V m c main_arg4 _ = m ((c.tc : Thread nD τ).loc main_arg4) _
  unfold V; congr 1; funext a; apply Fin.ext
  match a with
  | ⟨0, _⟩ => show win0_4.index t 0 * 1 + 1 * 0 = 0; rw [(idx t).2.2.2.2.1.1]
  | ⟨1, _⟩ => show win0_4.index t 1 * 2048 + 1 * q.val = q.val; rw [(idx t).2.2.2.2.1.2]; omega

/-- The call's result of the launched arguments. -/
abbrev G (c : Dev nD) : FVec Ideal ⟨2, ![8192, 2048]⟩ .f32 :=
  out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- What a grid point computes is its rows of the result. -/
theorem pay_blk (c : Dev nD) (t : Fin cfg0.N) (r : Fin 256) (j : Fin 2048) :
    k0_pay1 (F := Ideal) (iblk m c 2 t) (iblk m c 0 t) (iblk m c 1 t) (iblk m c 3 t) (iblk m c 4 t) (ix2 r j) = G m c (ix2 (row t r) j) := by
  refine (pay_apply _ _ _ _ _ r j).trans ?_
  show normAt _ _ _ j = normAt (sumAt _ _ _ (row t r)) _ _ j
  rw [blk3, blk4]
  congr 1
  funext k
  unfold sumAt
  simp only [blk0, blk1, blk2]

theorem zero2 : (![0, 0] : Fin 2 → Nat) = fun _ => 0 := by
  funext a; match a with | ⟨0, _⟩ => rfl | ⟨1, _⟩ => rfl

theorem out5 (c : Dev nD) (t : Fin cfg0.N) :
    out0_5 (iblk m c 0 t) (iblk m c 1 t) (iblk m c 2 t) (iblk m c 3 t) (iblk m c 4 t)
      = k0_pay1 (iblk m c 2 t) (iblk m c 0 t) (iblk m c 1 t) (iblk m c 3 t) (iblk m c 4 t) := by
  unfold out0_5
  rw [View.canon_unit_zero zero2]
  simp only [View.ld_unit_zero (S := S256x2048) zero2, View.ld_unit_zero (S := S256x5632) zero2,
    View.ld_unit_zero (S := S5632x2048) zero2, View.ld_unit_zero (S := S1x2048) zero2]

theorem out6 (c : Dev nD) (t : Fin cfg0.N) :
    out0_6 (iblk m c 0 t) (iblk m c 1 t) (iblk m c 2 t) (iblk m c 3 t) (iblk m c 4 t)
      = k0_pay2 (iblk m c 2 t) (iblk m c 0 t) (iblk m c 1 t) (iblk m c 3 t) (iblk m c 4 t) := by
  unfold out0_6
  rw [View.canon_unit_zero zero2]
  simp only [View.ld_unit_zero (S := S256x2048) zero2, View.ld_unit_zero (S := S256x5632) zero2,
    View.ld_unit_zero (S := S5632x2048) zero2, View.ld_unit_zero (S := S1x2048) zero2]

theorem at5 (c : Dev nD) (t : Fin cfg0.N) (j : S256x2048.Idx) :
    G m c (((cfg0.win 5).blk t).view.emb j) = G m c (ix2 (row t (j 0)) (j 1)) := by
  congr 1; funext a; apply Fin.ext
  match a with
  | ⟨0, _⟩ => show win0_5.index t 0 * 256 + 1 * (j 0).val = t.val * 256 + (j 0).val; rw [(idx t).2.2.2.2.2.1.1]; omega
  | ⟨1, _⟩ => show win0_5.index t 1 * 2048 + 1 * (j 1).val = (j 1).val; rw [(idx t).2.2.2.2.2.1.2]; omega

theorem at6 (c : Dev nD) (t : Fin cfg0.N) (j : S256x2048.Idx) :
    G m c (((cfg0.win 6).blk t).view.emb j) = G m c (ix2 (row t (j 0)) (j 1)) := by
  congr 1; funext a; apply Fin.ext
  match a with
  | ⟨0, _⟩ => show win0_6.index t 0 * 256 + 1 * (j 0).val = t.val * 256 + (j 0).val; rw [(idx t).2.2.2.2.2.2.1]; omega
  | ⟨1, _⟩ => show win0_6.index t 1 * 2048 + 1 * (j 1).val = (j 1).val; rw [(idx t).2.2.2.2.2.2.2]; omega

theorem flushed5_eq (c : Dev nD) (t : Fin cfg0.N) (_ : (cfg0.win 5).flush t = true) :
    (dats m 0 c).flushed 5 t = ((cfg0.win 5).blk t).view.read (Elt Ideal) (G m c) := by
  rw [Cert.Kernel2Ideal.Value.flushed5, out5]
  funext j
  rw [View.read_apply]
  refine Eq.trans ?_ (at5 m c t j).symm
  exact (congrArg _ (eq_ix2 j)).trans (pay_blk m c t (j 0) (j 1))

theorem flushed6_eq (c : Dev nD) (t : Fin cfg0.N) (_ : (cfg0.win 6).flush t = true) :
    (dats m 0 c).flushed 6 t = ((cfg0.win 6).blk t).view.read (Elt Ideal) (show FVec Ideal S8192x2048 .bf16 from G m c) := by
  rw [Cert.Kernel2Ideal.Value.flushed6, out6]
  funext j
  rw [View.read_apply]
  refine Eq.trans ?_ (at6 m c t j).symm
  exact (congrArg _ (eq_ix2 j)).trans (pay_blk m c t (j 0) (j 1))

theorem covered5 (i : S8192x2048.Idx) :
    ∃ t : Fin cfg0.N, (cfg0.win 5).flush t = true ∧ i ∈ ((cfg0.win 5).blk t).view.set := by
  have h0 : (i 0).val < 8192 := (i 0).isLt
  have h1 : (i 1).val < 2048 := (i 1).isLt
  let t : Fin cfg0.N := ⟨(i 0).val / 256, by show _ < 32; omega⟩
  have e : t.val = (i 0).val / 256 := rfl
  refine ⟨t, flush0_5 t, ?_⟩
  show i ∈ ((View.whole main_v0_0).slice (win0_5.rect t)).set
  rw [View.set_slice_whole, Rect.mem_set_unit]
  intro a
  match a with
  | ⟨0, _⟩ =>
    show win0_5.index t 0 * 256 ≤ (i 0).val ∧ (i 0).val < win0_5.index t 0 * 256 + 256
    rw [(idx t).2.2.2.2.2.1.1, e]; omega
  | ⟨1, _⟩ =>
    show win0_5.index t 1 * 2048 ≤ (i 1).val ∧ (i 1).val < win0_5.index t 1 * 2048 + 2048
    rw [(idx t).2.2.2.2.2.1.2]; omega

/-- The float result array after the run is the call's result. -/
theorem final5 (c : Dev nD) : (dats m 0 c).arrAt 5 cfg0.N = G m c :=
  (dats m 0 c).arrAt_eq_of_cover 5 (G m c) (flushed5_eq m c) covered5

theorem covered6 (i : S8192x2048.Idx) :
    ∃ t : Fin cfg0.N, (cfg0.win 6).flush t = true ∧ i ∈ ((cfg0.win 6).blk t).view.set := by
  have h0 : (i 0).val < 8192 := (i 0).isLt
  have h1 : (i 1).val < 2048 := (i 1).isLt
  let t : Fin cfg0.N := ⟨(i 0).val / 256, by show _ < 32; omega⟩
  have e : t.val = (i 0).val / 256 := rfl
  refine ⟨t, flush0_6 t, ?_⟩
  show i ∈ ((View.whole main_v0_1).slice (win0_6.rect t)).set
  rw [View.set_slice_whole, Rect.mem_set_unit]
  intro a
  match a with
  | ⟨0, _⟩ =>
    show win0_6.index t 0 * 256 ≤ (i 0).val ∧ (i 0).val < win0_6.index t 0 * 256 + 256
    rw [(idx t).2.2.2.2.2.2.1, e]; omega
  | ⟨1, _⟩ =>
    show win0_6.index t 1 * 2048 ≤ (i 1).val ∧ (i 1).val < win0_6.index t 1 * 2048 + 2048
    rw [(idx t).2.2.2.2.2.2.2]; omega

/-- So is the array of the rounded form, which at the ideal values is the call's result. -/
theorem final6 (c : Dev nD) : (dats m 0 c).arrAt 6 cfg0.N = (show FVec Ideal S8192x2048 .bf16 from G m c) :=
  (dats m 0 c).arrAt_eq_of_cover 6 (show FVec Ideal S8192x2048 .bf16 from G m c) (flushed6_eq m c) covered6

end

section
open Cert.Reference2Ideal Cert.Reference2Ideal.Read

variable (g : FVec Ideal S8192x5632 .bf16) (w : FVec Ideal S5632x2048 .bf16) (h : FVec Ideal S8192x2048 .f32)
  (a b : FVec Ideal S1x2048 .f32)

theorem ref_sum (r : Fin 8192) (k : Fin 2048) : val_main_v5 (F := Ideal) g w h (ix2 r k) = sumAt g w h r k := by
  rw [val_main_v5_apply, val_main_v4_apply, val_main_v3_apply, val_main_v2_apply]
  refine congrArg (alpha * h (ix2 r k) + ·) (Finset.sum_congr rfl fun q _ => ?_)
  refine congrArg₂ (fun x y : EReal => x * y) (congrArg g ?_) (congrArg w ?_) <;>
    (funext a; match a with | ⟨0, _⟩ => rfl | ⟨1, _⟩ => rfl)

theorem ref_mean (i : S8192x1.Idx) : val_main_v9 (F := Ideal) g w h i = mean (sumAt g w h (i 0)) := by
  rw [val_main_v9_apply, val_main_v8_apply, val_main_v7_apply, val_main_v6_apply]
  refine congrArg (Ideal.div · width) ?_
  refine Eq.trans (congrArg (· + _) (show _ = (0 : EReal) from Ideal.ofBits_zero_f32)) ((zero_add _).trans ?_)
  exact Finset.sum_congr rfl fun q _ => (congrArg _ (eq_ix2 _)).trans (ref_sum g w h (i 0) q)

theorem ref_centred (r : Fin 8192) (k : Fin 2048) :
    val_main_v18 (F := Ideal) g w h (ix2 r k) = sumAt g w h r k - mean (sumAt g w h r) := by
  rw [val_main_v18_apply, val_main_v17_apply, ref_mean, ref_sum]; rfl

theorem ref_square (r : Fin 8192) (k : Fin 2048) : val_main_v12 (F := Ideal) g w h (ix2 r k)
    = (sumAt g w h r k - mean (sumAt g w h r)) * (sumAt g w h r k - mean (sumAt g w h r)) := by
  rw [val_main_v12_apply, val_main_v11_apply, val_main_v10_apply, ref_mean, ref_sum]; rfl

theorem ref_variance (i : S8192x1.Idx) : val_main_v16 (F := Ideal) g w h i = variance (sumAt g w h (i 0)) := by
  rw [val_main_v16_apply, val_main_v15_apply, val_main_v14_apply, val_main_v13_apply]
  refine congrArg (Ideal.div · width) ?_
  refine Eq.trans (congrArg (· + _) (show _ = (0 : EReal) from Ideal.ofBits_zero_f32)) ((zero_add _).trans ?_)
  exact Finset.sum_congr rfl fun q _ => (congrArg _ (eq_ix2 _)).trans (ref_square g w h (i 0) q)

theorem ref_apply (r : Fin 8192) (k : Fin 2048) : val_main_v27 (F := Ideal) g w h a b (ix2 r k)
    = normAt (sumAt g w h r) (a (ix2 0 k)) (b (ix2 0 k)) k := by
  rw [val_main_v27_apply, val_main_v26_apply, val_main_v25_apply, val_main_v24_apply, val_main_v23_apply,
    val_main_v22_apply, val_main_v21_apply, val_main_v20_apply, val_main_v19_apply, ref_variance, ref_centred]
  unfold normAt
  refine congrArg₂ (fun x y : EReal => x + y) (congrArg₂ (fun x y : EReal => x * y) rfl (congrArg a ?_)) (congrArg b ?_) <;>
    (funext c; match c with | ⟨0, _⟩ => rfl | ⟨1, _⟩ => rfl)

/-- The reference computes the call's result. -/
theorem ref_out : val_main_v27 (F := Ideal) g w h a b = out g w h a b :=
  funext fun i => (congrArg _ (eq_ix2 i)).trans (ref_apply g w h a b (i 0) (i 1))

end

/-- Run on the same arguments, the kernel and the reference end with the same result arrays. -/
theorem algebraic : Cert.algebraic_Kernel2Ideal_Reference2Ideal := by
  intro m ρ m' ρ' _ hagree
  refine ⟨fun c => G m c, fun c => G m c, ?_, ?_⟩
  · refine (θ_run Cert.Kernel2Ideal.defs _ _).mono (fun _ h c => ?_) (Cert.Kernel2Ideal.Value.run_blocks m ρ)
    exact ⟨(h c).1.trans (final5 m c), (h c).2.1.trans (final6 m c), (h c).2.2⟩
  · refine (θ_run Cert.Reference2Ideal.defs _ _).mono (fun _ h c => ?_) (Cert.Reference2Ideal.Value.run (F := Ideal) m' ρ')
    obtain ⟨e0, e1, e2, e3, e4⟩ := hagree c
    have key := ref_out (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
    have key' := key.trans (show _ = G m c by unfold G; rw [← e0, ← e1, ← e2, ← e3, ← e4])
    exact ⟨(h c).1.trans ((Cert.Reference2Ideal.Read.val_main_v27_eq ..).trans key'),
      (h c).2.1.trans ((Cert.Reference2Ideal.Read.val_main_v28_eq ..).trans key'), (h c).2.2⟩

/-- The reference runs to its end and leaves its arguments and every counter as they were. -/
theorem quiescent : Cert.quiescent_Reference2Ideal := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

end Cert.Proof.FfnDown
-- ==== Proof.Entries.lean ====
/-
  Entries of matrices by their numbers, and the formulas of the feed-forward part's first half: the up projection, the causal
  convolution over three times, and the gate.
-/
module

public import proofs.«01_k».proof.Proof.Norm
public import Idealize.ShloMosaic.Lib.MatmulPlain
public import Idealize.ShloMosaic.Lib.Pipeline.FrameBody

@[expose] public section

set_option maxRecDepth 16384

noncomputable section

namespace Cert.Proof.Entries

open Idealize.ShloMosaic Idealize.ShloMosaic.ValueIdx Cert.Proof.Norm

/-- The entry of a matrix at a row and a column, by their numbers; zero outside. -/
def at2 {M N : ℕ} (x : (⟨2, ![M, N]⟩ : Shape).Idx → EReal) (r c : ℕ) : EReal :=
  if h : r < M ∧ c < N then x (ix2 ⟨r, h.1⟩ ⟨c, h.2⟩) else 0

theorem at2_eq {M N : ℕ} (x : (⟨2, ![M, N]⟩ : Shape).Idx → EReal) (i : (⟨2, ![M, N]⟩ : Shape).Idx) (r c : ℕ)
    (h0 : (i 0).val = r) (h1 : (i 1).val = c) : x i = at2 x r c := by
  have hr : r < M := h0 ▸ (i 0).isLt
  have hc : c < N := h1 ▸ (i 1).isLt
  unfold at2
  rw [dif_pos ⟨hr, hc⟩]
  congr 1
  funext a
  apply Fin.ext
  match a with
  | ⟨0, _⟩ => exact h0
  | ⟨1, _⟩ => exact h1

theorem at2_ix {M N : ℕ} (x : (⟨2, ![M, N]⟩ : Shape).Idx → EReal) (r : Fin M) (c : Fin N) : x (ix2 r c) = at2 x r.val c.val :=
  at2_eq x _ _ _ rfl rfl

/-- Two matrices whose entries agree in a range of rows and columns, named by numbers. -/
theorem at2_congr {M N M' N' : ℕ} (x : (⟨2, ![M, N]⟩ : Shape).Idx → EReal) (y : (⟨2, ![M', N']⟩ : Shape).Idx → EReal) (r c r' c' : ℕ)
    (hr : r < M) (hc : c < N) (h : x (ix2 ⟨r, hr⟩ ⟨c, hc⟩) = at2 y r' c') : at2 x r c = at2 y r' c' := by
  rw [← h]; unfold at2; rw [dif_pos ⟨hr, hc⟩]

/-- A load of a column range. -/
theorem at2_ld {M N K : ℕ} (x : (⟨2, ![M, N]⟩ : Shape).Idx → EReal) (o : ℕ)
    (inb : ∀ a, (![0, o] : Fin 2 → ℕ) a + (![M, K] : Fin 2 → ℕ) a ≤ (⟨2, ![M, N]⟩ : Shape).size a) (r c : ℕ) (hc : c < K) (hN : o + c < N) :
    at2 (M := M) (N := K) (fun i => x ((Rect.unit (s := ⟨2, ![M, N]⟩) ![0, o] ![M, K] inb).idx i)) r c = at2 x r (o + c) := by
  by_cases hr : r < M
  · unfold at2
    rw [dif_pos ⟨hr, hc⟩, dif_pos ⟨hr, hN⟩]
    refine congrArg x ?_
    funext a
    apply Fin.ext
    match a with
    | ⟨0, _⟩ => show 0 + 1 * r = r; omega
    | ⟨1, _⟩ => show o + 1 * c = o + c; omega
  · unfold at2
    rw [dif_neg (fun h => hr h.1), dif_neg (fun h => hr h.1)]

/-- Two stores, of the left and of the right half of the columns, read at an index. -/
theorem halves {M : ℕ} {e : EltTy} (p q : (⟨2, ![M, 256]⟩ : Shape).Idx → Elt Ideal e)
    (hp : ∀ a, (![0, 256] : Fin 2 → ℕ) a + (![M, 256] : Fin 2 → ℕ) a ≤ (⟨2, ![M, 512]⟩ : Shape).size a)
    (hq : ∀ a, (![0, 0] : Fin 2 → ℕ) a + (![M, 256] : Fin 2 → ℕ) a ≤ (⟨2, ![M, 512]⟩ : Shape).size a) (f : ℕ → ℕ → Elt Ideal e)
    (fp : ∀ (r : Fin M) (c : Fin 256), p (ix2 r c) = f r.val (256 + c.val)) (fq : ∀ (r : Fin M) (c : Fin 256), q (ix2 r c) = f r.val c.val)
    (r : Fin M) (c : Fin 512) :
    View.canon (Val := Elt Ideal) [⟨Rect.unit (s := ⟨2, ![M, 512]⟩) ![0, 256] ![M, 256] hp, p⟩,
      ⟨Rect.unit (s := ⟨2, ![M, 512]⟩) ![0, 0] ![M, 256] hq, q⟩] (ix2 r c) = f r.val c.val := by
  have hc := c.isLt
  by_cases h : c.val < 256
  · rw [View.canon_cons_of_not_mem]
    · have e : (ix2 r c : (⟨2, ![M, 512]⟩ : Shape).Idx) = (Rect.unit (s := ⟨2, ![M, 512]⟩) ![0, 0] ![M, 256] hq).emb (ix2 r ⟨c.val, h⟩) := by
        funext a
        apply Fin.ext
        match a with
        | ⟨0, _⟩ => show r.val = 0 + 1 * r.val; omega
        | ⟨1, _⟩ => show c.val = 0 + 1 * c.val; omega
      rw [e, View.canon_cons_emb]
      exact fq r ⟨c.val, h⟩
    · rw [Rect.mem_set_unit]
      intro hm
      have h1 : 256 ≤ c.val := (hm 1).1
      omega
  · have e : (ix2 r c : (⟨2, ![M, 512]⟩ : Shape).Idx) = (Rect.unit (s := ⟨2, ![M, 512]⟩) ![0, 256] ![M, 256] hp).emb (ix2 r ⟨c.val - 256, by omega⟩) := by
      funext a
      apply Fin.ext
      match a with
      | ⟨0, _⟩ => show r.val = 0 + 1 * r.val; omega
      | ⟨1, _⟩ => show c.val = 256 + 1 * (c.val - 256); omega
    rw [e, View.canon_cons_emb, fp]
    congr 1
    show 256 + (c.val - 256) = c.val
    omega

/-- An entry of the up projection. -/
def up {M N : ℕ} (h : (⟨2, ![M, 2048]⟩ : Shape).Idx → EReal) (w : (⟨2, ![2048, N]⟩ : Shape).Idx → EReal) (r c : ℕ) : EReal :=
  ∑ q : Fin 2048, at2 h r q.val * at2 w q.val c

theorem matmul_up {M N : ℕ} (h : FVec Ideal ⟨2, ![M, 2048]⟩ .bf16) (w : FVec Ideal ⟨2, ![2048, N]⟩ .bf16)
    (d : DotDims ⟨2, ![M, 2048]⟩ ⟨2, ![2048, N]⟩ ⟨2, ![M, N]⟩) (hd : d = .plain M 2048 N) (r : Fin M) (c : Fin N) :
    matmul d none h w (constant ⟨2, ![M, N]⟩ .f32 0x00000000#32) (ix2 r c) = up h w r.val c.val := by
  subst hd
  refine (Ideal.matmul_plain_apply (M := M) (K := 2048) (N := N) none h w _ r c).trans ?_
  show Ideal.ofBits .f32 0x00000000#32 + _ = _
  rw [Ideal.ofBits_zero_f32, zero_add]
  exact Finset.sum_congr rfl fun q _ => congrArg₂ (fun p q : EReal => p * q) (at2_ix h r q) (at2_ix w q c)

/-- A sequence of rows: `n` rows of a state, then the others. -/
def hist (n : ℕ) (s u : ℕ → EReal) (k : ℕ) : EReal := if k < n then s k else u (k - n)

/-- The three taps of the convolution over a column's sequence, `n` rows back, `n / 2` rows back, and at the row. -/
def tapsAt {N : ℕ} (cw : (⟨2, ![3, N]⟩ : Shape).Idx → EReal) (cb : (⟨2, ![1, N]⟩ : Shape).Idx → EReal) (c : ℕ) (p2 p1 p0 : EReal) : EReal :=
  at2 cw 0 c * p2 + at2 cw 1 c * p1 + at2 cw 2 c * p0 + at2 cb 0 c

/-- The gate. -/
def gate (a b : EReal) : EReal := a * Ideal.logistic a * b

end Cert.Proof.Entries
-- ==== Proof.FfnUpSample.lean ====
/-
  The first half of the feed-forward part for the sample: the up projection, the causal convolution over the times (128
  sequences of 8 times, rows ordered by time), the gate, and the two last times of the projection. Each grid point computes
  512 columns of each half, in two steps of 256.
-/
module

public import proofs.«01_k».proof.Defs
public import proofs.«01_k».proof.Proof.Entries
public import proofs.«01_k».proof.Proof.Gen.Kernel3Ideal.Value
public import proofs.«01_k».proof.Proof.Gen.Reference3Ideal.Run
public import proofs.«01_k».proof.Proof.Gen.Reference3Ideal.Read
public import Idealize.ShloMosaic.Lib.IdealHost
public import Idealize.ShloMosaic.Lib.Quiescent
public import Idealize.ShloMosaic.Adequacy
public import Idealize.ShloMosaic.Init

@[expose] public section

set_option maxRecDepth 16384

noncomputable section

namespace Cert.Proof.FfnUpSample

open Idealize.ShloMosaic Idealize.ShloMosaic.ValueIdx Idealize.ShloMosaic.TcCoe Idealize.SL.Sem Cert.Proof.Norm Cert.Proof.Entries

/-- The convolution at a row and a column. -/
def convAt {N : ℕ} (h : (⟨2, ![1024, 2048]⟩ : Shape).Idx → EReal) (w : (⟨2, ![2048, N]⟩ : Shape).Idx → EReal)
    (cw : (⟨2, ![3, N]⟩ : Shape).Idx → EReal) (cb : (⟨2, ![1, N]⟩ : Shape).Idx → EReal) (st : (⟨2, ![256, N]⟩ : Shape).Idx → EReal)
    (r c : ℕ) : EReal :=
  tapsAt cw cb c (hist 256 (fun k => at2 st k c) (fun k => up h w k c) r)
    (hist 256 (fun k => at2 st k c) (fun k => up h w k c) (r + 128)) (hist 256 (fun k => at2 st k c) (fun k => up h w k c) (r + 256))

theorem up_congr {M N N' : ℕ} {h : (⟨2, ![M, 2048]⟩ : Shape).Idx → EReal} {w : (⟨2, ![2048, N]⟩ : Shape).Idx → EReal}
    {w' : (⟨2, ![2048, N']⟩ : Shape).Idx → EReal} {c c' : ℕ} (hw : ∀ q, q < 2048 → at2 w q c = at2 w' q c') (r : ℕ) :
    up h w r c = up h w' r c' :=
  Finset.sum_congr rfl fun q _ => by rw [hw q.val q.isLt]

theorem convAt_congr {N N' : ℕ} {h : (⟨2, ![1024, 2048]⟩ : Shape).Idx → EReal} {w : (⟨2, ![2048, N]⟩ : Shape).Idx → EReal}
    {cw : (⟨2, ![3, N]⟩ : Shape).Idx → EReal} {cb : (⟨2, ![1, N]⟩ : Shape).Idx → EReal} {st : (⟨2, ![256, N]⟩ : Shape).Idx → EReal}
    {w' : (⟨2, ![2048, N']⟩ : Shape).Idx → EReal} {cw' : (⟨2, ![3, N']⟩ : Shape).Idx → EReal} {cb' : (⟨2, ![1, N']⟩ : Shape).Idx → EReal}
    {st' : (⟨2, ![256, N']⟩ : Shape).Idx → EReal} {c c' : ℕ} (hw : ∀ q, q < 2048 → at2 w q c = at2 w' q c')
    (hcw : ∀ k, k < 3 → at2 cw k c = at2 cw' k c') (hcb : at2 cb 0 c = at2 cb' 0 c')
    (hst : ∀ k, k < 256 → at2 st k c = at2 st' k c') (r : ℕ) : convAt h w cw cb st r c = convAt h w' cw' cb' st' r c' := by
  have hh : ∀ k, hist 256 (fun k => at2 st k c) (fun k => up h w k c) k = hist 256 (fun k => at2 st' k c') (fun k => up h w' k c') k := by
    intro k
    unfold hist
    split
    · next hk => exact hst k hk
    · exact up_congr hw _
  unfold convAt tapsAt
  rw [hh, hh, hh, hcw 0 (by omega), hcw 1 (by omega), hcw 2 (by omega), hcb]

section
open Cert.Kernel3Ideal Cert.Kernel3Ideal.Gen

/-- The convolution of 256 columns, as the program writes it. -/
def conv (st : FVec Ideal S256x256 .f32) (u : FVec Ideal S1024x256 .f32) (cw : FVec Ideal S3x256 .f32) (cb : FVec Ideal S1x256 .f32) :
    FVec Ideal S1024x256 .f32 :=
  addf (addf (addf
    (mulf (broadcastTo S1024x256 (extractStridedSlice S1x256 ![0, 0] cw slices_S3x256_o0_0_S1x256) broadcasts_S1x256_S1024x256)
      (concatenate S1024x256 0 [⟨S256x256, st⟩, ⟨S768x256, extractStridedSlice S768x256 ![0, 0] u slices_S1024x256_o0_0_S768x256⟩]
        concatenates_S256x256_S768x256_S1024x256_d0))
    (mulf (broadcastTo S1024x256 (extractStridedSlice S1x256 ![1, 0] cw slices_S3x256_o1_0_S1x256) broadcasts_S1x256_S1024x256)
      (concatenate S1024x256 0 [⟨S128x256, extractStridedSlice S128x256 ![128, 0] st slices_S256x256_o128_0_S128x256⟩,
        ⟨S896x256, extractStridedSlice S896x256 ![0, 0] u slices_S1024x256_o0_0_S896x256⟩] concatenates_S128x256_S896x256_S1024x256_d0)))
    (mulf (broadcastTo S1024x256 (extractStridedSlice S1x256 ![2, 0] cw slices_S3x256_o2_0_S1x256) broadcasts_S1x256_S1024x256) u))
    (broadcastTo S1024x256 cb broadcasts_S1x256_S1024x256)

theorem conv_apply (st : FVec Ideal S256x256 .f32) (u : FVec Ideal S1024x256 .f32) (cw : FVec Ideal S3x256 .f32) (cb : FVec Ideal S1x256 .f32)
    (f : ℕ → EReal) (r : Fin 1024) (c : Fin 256) (hf : ∀ k : Fin 1024, u (ix2 k c) = f k.val) :
    conv st u cw cb (ix2 r c) = tapsAt cw cb c.val (hist 256 (fun k => at2 st k c.val) f r.val)
      (hist 256 (fun k => at2 st k c.val) f (r.val + 128)) (hist 256 (fun k => at2 st k c.val) f (r.val + 256)) := by
  have hr := r.isLt
  have e2 : concatenate S1024x256 0 [⟨S256x256, st⟩, ⟨S768x256, extractStridedSlice S768x256 ![0, 0] u slices_S1024x256_o0_0_S768x256⟩]
        concatenates_S256x256_S768x256_S1024x256_d0 (ix2 r c) = hist 256 (fun k => at2 st k c.val) f r.val := by
    unfold hist
    by_cases h : r.val < 256
    · rw [if_pos h]
      refine (concatenate_pair_apply_left 0 st _ concatenates_S256x256_S768x256_S1024x256_d0 (ix2 r c) rfl (ix2 ⟨r.val, h⟩ c) (fun b => ?_)).trans
        (at2_eq st _ _ _ rfl rfl)
      match b with
      | ⟨0, _⟩ => rfl
      | ⟨1, _⟩ => rfl
    · rw [if_neg h]
      refine (concatenate_pair_apply_right 0 st _ concatenates_S256x256_S768x256_S1024x256_d0 (ix2 r c) rfl rfl (ix2 ⟨r.val - 256, by omega⟩ c)
        (fun b hb => ?_) ?_).trans ?_
      · match b with
        | ⟨0, _⟩ => exact absurd rfl hb
        | ⟨1, _⟩ => rfl
      · show r.val - 256 + 256 = r.val; omega
      · refine (extractStridedSlice_apply ![0, 0] u _ _ (ix2 ⟨r.val - 256, by omega⟩ c) (fun a => ?_)).trans (hf _)
        match a with
        | ⟨0, _⟩ => show r.val - 256 = 0 + (r.val - 256); omega
        | ⟨1, _⟩ => show c.val = 0 + c.val; omega
  have e1 : concatenate S1024x256 0 [⟨S128x256, extractStridedSlice S128x256 ![128, 0] st slices_S256x256_o128_0_S128x256⟩,
        ⟨S896x256, extractStridedSlice S896x256 ![0, 0] u slices_S1024x256_o0_0_S896x256⟩] concatenates_S128x256_S896x256_S1024x256_d0 (ix2 r c)
      = hist 256 (fun k => at2 st k c.val) f (r.val + 128) := by
    unfold hist
    by_cases h : r.val < 128
    · rw [if_pos (by omega)]
      refine (concatenate_pair_apply_left 0 _ _ concatenates_S128x256_S896x256_S1024x256_d0 (ix2 r c) rfl (ix2 ⟨r.val, h⟩ c) (fun b => ?_)).trans ?_
      · match b with
        | ⟨0, _⟩ => rfl
        | ⟨1, _⟩ => rfl
      · refine (extractStridedSlice_apply ![128, 0] st _ _ (ix2 ⟨r.val + 128, by omega⟩ c) (fun a => ?_)).trans (at2_eq st _ _ _ rfl rfl)
        match a with
        | ⟨0, _⟩ => show r.val + 128 = 128 + r.val; omega
        | ⟨1, _⟩ => show c.val = 0 + c.val; omega
    · rw [if_neg (by omega)]
      refine (concatenate_pair_apply_right 0 _ _ concatenates_S128x256_S896x256_S1024x256_d0 (ix2 r c) rfl rfl (ix2 ⟨r.val - 128, by omega⟩ c)
        (fun b hb => ?_) ?_).trans ?_
      · match b with
        | ⟨0, _⟩ => exact absurd rfl hb
        | ⟨1, _⟩ => rfl
      · show r.val - 128 + 128 = r.val; omega
      · refine (extractStridedSlice_apply ![0, 0] u _ _ (ix2 ⟨r.val + 128 - 256, by omega⟩ c) (fun a => ?_)).trans (hf _)
        match a with
        | ⟨0, _⟩ => show r.val + 128 - 256 = 0 + (r.val - 128); omega
        | ⟨1, _⟩ => show c.val = 0 + c.val; omega
  have e0 : u (ix2 r c) = hist 256 (fun k => at2 st k c.val) f (r.val + 256) := by
    unfold hist
    rw [if_neg (by omega), hf r, Nat.add_sub_cancel]
  have ew : ∀ k : Fin 3, ∀ hs, broadcastTo S1024x256 (extractStridedSlice S1x256 ![k.val, 0] cw hs) broadcasts_S1x256_S1024x256 (ix2 r c)
      = at2 cw k.val c.val := by
    intro k hs
    rw [lay_apply]
    refine (extractStridedSlice_apply ![k.val, 0] cw _ _ (ix2 k c) (fun a => ?_)).trans (at2_eq cw _ _ _ rfl rfl)
    match a with
    | ⟨0, _⟩ => show k.val = k.val + 0; omega
    | ⟨1, _⟩ => show c.val = 0 + c.val; omega
  have eb : broadcastTo S1024x256 cb broadcasts_S1x256_S1024x256 (ix2 r c) = at2 cb 0 c.val := by
    rw [lay_apply]; exact at2_eq cb _ _ _ rfl rfl
  unfold conv tapsAt
  rw [addf_apply, addf_apply, addf_apply, mulf_apply, mulf_apply, mulf_apply, e2, e1, eb]
  refine congrArg₂ (fun p q : EReal => p + q) (congrArg₂ (fun p q : EReal => p + q) (congrArg₂ (fun p q : EReal => p + q) ?_ ?_) ?_) rfl
  · exact congrArg (· * _) (ew 0 _)
  · exact congrArg (· * _) (ew 1 _)
  · exact congrArg₂ (fun p q : EReal => p * q) (ew 2 _) e0

variable (h : FVec Ideal S1024x2048 .bf16) (w1 w2 : FVec Ideal S2048x256 .bf16) (cw1 cw2 : FVec Ideal S3x256 .f32)
  (cb1 cb2 : FVec Ideal S1x256 .f32) (st1 st2 : FVec Ideal S256x256 .f32)

theorem conv_up (w : FVec Ideal S2048x256 .bf16) (cw : FVec Ideal S3x256 .f32) (cb : FVec Ideal S1x256 .f32) (st : FVec Ideal S256x256 .f32)
    (r : Fin 1024) (c : Fin 256) : conv st (k0_pay1 h w) cw cb (ix2 r c) = convAt h w cw cb st r.val c.val :=
  conv_apply st (k0_pay1 h w) cw cb (fun k => up h w k c.val) r c fun k => matmul_up h w _ rfl k c

/-- The gated convolutions of 256 columns, of the first step. -/
theorem first (r : Fin 1024) (c : Fin 256) :
    k0_pay11 (F := Ideal) (k0_pay6 h w1 cw1 cb1 st1) (k0_pay7 h w2) cw2 cb2 st2 (k0_pay8 h w2 st2) (k0_pay9 h w2) (ix2 r c)
      = gate (convAt h w1 cw1 cb1 st1 r.val c.val) (convAt h w2 cw2 cb2 st2 r.val c.val) := by
  rw [← conv_up, ← conv_up]; rfl

/-- The gated convolutions of 256 columns, of the second step. -/
theorem second (r : Fin 1024) (c : Fin 256) :
    k0_pay3 (F := Ideal) h (k0_pay12 h w1) cb1 (k0_pay14 h w1 cw1 st1) (k0_pay15 cw1) w2 cw2 cb2 st2 (ix2 r c)
      = gate (convAt h w1 cw1 cb1 st1 r.val c.val) (convAt h w2 cw2 cb2 st2 r.val c.val) := by
  rw [← conv_up, ← conv_up]; rfl

theorem tail_up (w : FVec Ideal S2048x256 .bf16) (r : Fin 256) (c : Fin 256) :
    extractStridedSlice S256x256 ![768, 0] (k0_pay1 (F := Ideal) h w) slices_S1024x256_o768_0_S256x256 (ix2 r c) = up h w (768 + r.val) c.val := by
  refine (extractStridedSlice_apply ![768, 0] _ _ _ (ix2 ⟨768 + r.val, by omega⟩ c) (fun a => ?_)).trans (matmul_up h w _ rfl _ c)
  match a with
  | ⟨0, _⟩ => rfl
  | ⟨1, _⟩ => show c.val = 0 + c.val; omega

theorem zero2 : (![0, 0] : Fin 2 → Nat) = fun _ => 0 := by
  funext a; match a with | ⟨0, _⟩ => rfl | ⟨1, _⟩ => rfl

variable (x0 : FVec Ideal S1024x2048 .bf16) (x1 x2 : FVec Ideal S2048x512 .bf16) (x3 x4 : FVec Ideal S3x512 .f32) (x5 x6 : FVec Ideal S1x512 .f32)
  (x7 x8 : FVec Ideal S256x512 .f32)

theorem cols (w : FVec Ideal S2048x512 .bf16) (cw : FVec Ideal S3x512 .f32) (cb : FVec Ideal S1x512 .f32) (st : FVec Ideal S256x512 .f32)
    (r c : ℕ) (hc : c < 256) :
    convAt (N := 256) x0 (View.ld (Val := Elt Ideal) (e' := .bf16) w r0_1) (View.ld (Val := Elt Ideal) (e' := .f32) cw r0_2) (View.ld (Val := Elt Ideal) (e' := .f32) cb r0_3) (View.ld (Val := Elt Ideal) (e' := .f32) st r0_4) r c = convAt (N := 512) x0 w cw cb st r c
    ∧ convAt (N := 256) x0 (View.ld (Val := Elt Ideal) (e' := .bf16) w r0_6) (View.ld (Val := Elt Ideal) (e' := .f32) cw r0_7) (View.ld (Val := Elt Ideal) (e' := .f32) cb r0_8) (View.ld (Val := Elt Ideal) (e' := .f32) st r0_9) r c = convAt (N := 512) x0 w cw cb st r (256 + c) :=
  ⟨convAt_congr (fun q _ => (at2_ld w 0 _ q c hc (by omega)).trans (by rw [Nat.zero_add])) (fun q _ => (at2_ld cw 0 _ q c hc (by omega)).trans (by rw [Nat.zero_add]))
    ((at2_ld cb 0 _ 0 c hc (by omega)).trans (by rw [Nat.zero_add])) (fun q _ => (at2_ld st 0 _ q c hc (by omega)).trans (by rw [Nat.zero_add])) r,
   convAt_congr (fun q _ => at2_ld w 256 _ q c hc (by omega)) (fun q _ => at2_ld cw 256 _ q c hc (by omega))
    (at2_ld cb 256 _ 0 c hc (by omega)) (fun q _ => at2_ld st 256 _ q c hc (by omega)) r⟩

theorem cols_up (w : FVec Ideal S2048x512 .bf16) (r c : ℕ) (hc : c < 256) :
    up (N := 256) x0 (View.ld (Val := Elt Ideal) (e' := .bf16) w r0_1) r c = up (N := 512) x0 w r c ∧ up (N := 256) x0 (View.ld (Val := Elt Ideal) (e' := .bf16) w r0_6) r c = up (N := 512) x0 w r (256 + c) :=
  ⟨up_congr (fun q _ => (at2_ld w 0 _ q c hc (by omega)).trans (by rw [Nat.zero_add])) r, up_congr (fun q _ => at2_ld w 256 _ q c hc (by omega)) r⟩

/-- What a grid point computes of its blocks: the gated convolutions. -/
theorem out9 (r : Fin 1024) (c : Fin 512) : out0_9 (F := Ideal) x0 x1 x2 x3 x4 x5 x6 x7 x8 (ix2 r c)
    = gate (convAt x0 x1 x3 x5 x7 r.val c.val) (convAt x0 x2 x4 x6 x8 r.val c.val) := by
  unfold out0_9 k0_pay16
  simp only [View.ld_unit_zero (S := S1024x2048) zero2]
  refine halves (e := .bf16) _ _ _ _ (fun r c => gate (convAt x0 x1 x3 x5 x7 r c) (convAt x0 x2 x4 x6 x8 r c)) (fun r c => ?_) (fun r c => ?_) r c
  · refine (second _ _ _ _ _ _ _ _ _ r c).trans ?_
    rw [(cols x0 x1 x3 x5 x7 r.val c.val c.isLt).2, (cols x0 x2 x4 x6 x8 r.val c.val c.isLt).2]
  · refine (first _ _ _ _ _ _ _ _ _ r c).trans ?_
    rw [(cols x0 x1 x3 x5 x7 r.val c.val c.isLt).1, (cols x0 x2 x4 x6 x8 r.val c.val c.isLt).1]

/-- The last two times of the first half's columns. -/
theorem out10 (r : Fin 256) (c : Fin 512) : out0_10 (F := Ideal) x0 x1 x2 x3 x4 x5 x6 x7 x8 (ix2 r c) = up x0 x1 (768 + r.val) c.val := by
  unfold out0_10
  simp only [View.ld_unit_zero (S := S1024x2048) zero2]
  refine halves (e := .f32) _ _ _ _ (fun r c => up x0 x1 (768 + r) c) (fun r c => ?_) (fun r c => ?_) r c
  · exact (tail_up _ _ r c).trans (cols_up x0 x1 _ c.val c.isLt).2
  · exact (tail_up _ _ r c).trans (cols_up x0 x1 _ c.val c.isLt).1

/-- The last two times of the second half's columns. -/
theorem out11 (r : Fin 256) (c : Fin 512) : out0_11 (F := Ideal) x0 x1 x2 x3 x4 x5 x6 x7 x8 (ix2 r c) = up x0 x2 (768 + r.val) c.val := by
  unfold out0_11 k0_pay16
  simp only [View.ld_unit_zero (S := S1024x2048) zero2]
  refine halves (e := .f32) _ _ _ _ (fun r c => up x0 x2 (768 + r) c) (fun r c => ?_) (fun r c => ?_) r c
  · exact (tail_up _ _ r c).trans (cols_up x0 x2 _ c.val c.isLt).2
  · exact (tail_up _ _ r c).trans (cols_up x0 x2 _ c.val c.isLt).1

variable (m : (ℓ : Loc nD τ sig) → Buf (Elt Ideal) ℓ)

/-- Where the windows stand at each grid point. -/
theorem idx0 : ∀ t : Fin cfg0.N, win0_0.index t 0 = 0 ∧ win0_0.index t 1 = 0 :=
  (by decide +kernel : ∀ t : Fin grid0.N, win0_0.index t 0 = 0 ∧ win0_0.index t 1 = 0)

theorem idx1 : ∀ t : Fin cfg0.N, win0_1.index t 0 = 0 ∧ win0_1.index t 1 = t.val :=
  (by decide +kernel : ∀ t : Fin grid0.N, win0_1.index t 0 = 0 ∧ win0_1.index t 1 = t.val)

theorem idx2 : ∀ t : Fin cfg0.N, win0_2.index t 0 = 0 ∧ win0_2.index t 1 = t.val + 11 :=
  (by decide +kernel : ∀ t : Fin grid0.N, win0_2.index t 0 = 0 ∧ win0_2.index t 1 = t.val + 11)

theorem idx3 : ∀ t : Fin cfg0.N, win0_3.index t 0 = 0 ∧ win0_3.index t 1 = t.val :=
  (by decide +kernel : ∀ t : Fin grid0.N, win0_3.index t 0 = 0 ∧ win0_3.index t 1 = t.val)

theorem idx4 : ∀ t : Fin cfg0.N, win0_4.index t 0 = 0 ∧ win0_4.index t 1 = t.val + 11 :=
  (by decide +kernel : ∀ t : Fin grid0.N, win0_4.index t 0 = 0 ∧ win0_4.index t 1 = t.val + 11)

theorem idx5 : ∀ t : Fin cfg0.N, win0_5.index t 0 = 0 ∧ win0_5.index t 1 = t.val :=
  (by decide +kernel : ∀ t : Fin grid0.N, win0_5.index t 0 = 0 ∧ win0_5.index t 1 = t.val)

theorem idx6 : ∀ t : Fin cfg0.N, win0_6.index t 0 = 0 ∧ win0_6.index t 1 = t.val + 11 :=
  (by decide +kernel : ∀ t : Fin grid0.N, win0_6.index t 0 = 0 ∧ win0_6.index t 1 = t.val + 11)

theorem idx7 : ∀ t : Fin cfg0.N, win0_7.index t 0 = 0 ∧ win0_7.index t 1 = t.val :=
  (by decide +kernel : ∀ t : Fin grid0.N, win0_7.index t 0 = 0 ∧ win0_7.index t 1 = t.val)

theorem idx8 : ∀ t : Fin cfg0.N, win0_8.index t 0 = 0 ∧ win0_8.index t 1 = t.val + 11 :=
  (by decide +kernel : ∀ t : Fin grid0.N, win0_8.index t 0 = 0 ∧ win0_8.index t 1 = t.val + 11)

theorem idx9 : ∀ t : Fin cfg0.N, win0_9.index t 0 = 0 ∧ win0_9.index t 1 = t.val :=
  (by decide +kernel : ∀ t : Fin grid0.N, win0_9.index t 0 = 0 ∧ win0_9.index t 1 = t.val)

theorem idx10 : ∀ t : Fin cfg0.N, win0_10.index t 0 = 0 ∧ win0_10.index t 1 = t.val :=
  (by decide +kernel : ∀ t : Fin grid0.N, win0_10.index t 0 = 0 ∧ win0_10.index t 1 = t.val)

theorem idx11 : ∀ t : Fin cfg0.N, win0_11.index t 0 = 0 ∧ win0_11.index t 1 = t.val :=
  (by decide +kernel : ∀ t : Fin grid0.N, win0_11.index t 0 = 0 ∧ win0_11.index t 1 = t.val)

/-- The first block is the whole of its array. -/
theorem blk0 (c : Dev nD) (t : Fin cfg0.N) : iblk m c 0 t = m ((c.tc : Thread nD τ).loc main_arg0) := by
  funext i
  unfold iblk; rw [View.read_apply]
  show V m c main_arg0 _ = m ((c.tc : Thread nD τ).loc main_arg0) _
  unfold V; congr 1; funext a; apply Fin.ext
  match a with
  | ⟨0, _⟩ => show win0_0.index t 0 * 1024 + 1 * (i 0).val = (i 0).val; rw [(idx0 t).1]; omega
  | ⟨1, _⟩ => show win0_0.index t 1 * 2048 + 1 * (i 1).val = (i 1).val; rw [(idx0 t).2]; omega

/-- The other blocks are columns of theirs. -/
theorem blk1 (c : Dev nD) (t : Fin cfg0.N) (r c' : ℕ) (hr : r < 2048) (hc : c' < 512) :
    at2 (M := 2048) (N := 512) (iblk m c 1 t) r c' = at2 (M := 2048) (N := 11264) (m ((c.tc : Thread nD τ).loc main_arg1)) r (512 * t.val + c') := by
  have ht : t.val < 11 := t.isLt
  unfold at2
  rw [dif_pos ⟨hr, hc⟩, dif_pos ⟨hr, by omega⟩]
  unfold iblk; rw [View.read_apply]
  show V m c main_arg1 _ = m ((c.tc : Thread nD τ).loc main_arg1) _
  unfold V; congr 1; funext a; apply Fin.ext
  match a with
  | ⟨0, _⟩ => show win0_1.index t 0 * 2048 + 1 * r = r; rw [(idx1 t).1]; omega
  | ⟨1, _⟩ => show win0_1.index t 1 * 512 + 1 * c' = 512 * t.val + c'; rw [(idx1 t).2]; omega

theorem blk2 (c : Dev nD) (t : Fin cfg0.N) (r c' : ℕ) (hr : r < 2048) (hc : c' < 512) :
    at2 (M := 2048) (N := 512) (iblk m c 2 t) r c' = at2 (M := 2048) (N := 11264) (m ((c.tc : Thread nD τ).loc main_arg1)) r (5632 + (512 * t.val + c')) := by
  have ht : t.val < 11 := t.isLt
  unfold at2
  rw [dif_pos ⟨hr, hc⟩, dif_pos ⟨hr, by omega⟩]
  unfold iblk; rw [View.read_apply]
  show V m c main_arg1 _ = m ((c.tc : Thread nD τ).loc main_arg1) _
  unfold V; congr 1; funext a; apply Fin.ext
  match a with
  | ⟨0, _⟩ => show win0_2.index t 0 * 2048 + 1 * r = r; rw [(idx2 t).1]; omega
  | ⟨1, _⟩ => show win0_2.index t 1 * 512 + 1 * c' = 5632 + (512 * t.val + c'); rw [(idx2 t).2]; omega

theorem blk3 (c : Dev nD) (t : Fin cfg0.N) (r c' : ℕ) (hr : r < 3) (hc : c' < 512) :
    at2 (M := 3) (N := 512) (iblk m c 3 t) r c' = at2 (M := 3) (N := 11264) (m ((c.tc : Thread nD τ).loc main_arg2)) r (512 * t.val + c') := by
  have ht : t.val < 11 := t.isLt
  unfold at2
  rw [dif_pos ⟨hr, hc⟩, dif_pos ⟨hr, by omega⟩]
  unfold iblk; rw [View.read_apply]
  show V m c main_arg2 _ = m ((c.tc : Thread nD τ).loc main_arg2) _
  unfold V; congr 1; funext a; apply Fin.ext
  match a with
  | ⟨0, _⟩ => show win0_3.index t 0 * 3 + 1 * r = r; rw [(idx3 t).1]; omega
  | ⟨1, _⟩ => show win0_3.index t 1 * 512 + 1 * c' = 512 * t.val + c'; rw [(idx3 t).2]; omega

theorem blk4 (c : Dev nD) (t : Fin cfg0.N) (r c' : ℕ) (hr : r < 3) (hc : c' < 512) :
    at2 (M := 3) (N := 512) (iblk m c 4 t) r c' = at2 (M := 3) (N := 11264) (m ((c.tc : Thread nD τ).loc main_arg2)) r (5632 + (512 * t.val + c')) := by
  have ht : t.val < 11 := t.isLt
  unfold at2
  rw [dif_pos ⟨hr, hc⟩, dif_pos ⟨hr, by omega⟩]
  unfold iblk; rw [View.read_apply]
  show V m c main_arg2 _ = m ((c.tc : Thread nD τ).loc main_arg2) _
  unfold V; congr 1; funext a; apply Fin.ext
  match a with
  | ⟨0, _⟩ => show win0_4.index t 0 * 3 + 1 * r = r; rw [(idx4 t).1]; omega
  | ⟨1, _⟩ => show win0_4.index t 1 * 512 + 1 * c' = 5632 + (512 * t.val + c'); rw [(idx4 t).2]; omega

theorem blk5 (c : Dev nD) (t : Fin cfg0.N) (r c' : ℕ) (hr : r < 1) (hc : c' < 512) :
    at2 (M := 1) (N := 512) (iblk m c 5 t) r c' = at2 (M := 1) (N := 11264) (m ((c.tc : Thread nD τ).loc main_arg3)) r (512 * t.val + c') := by
  have ht : t.val < 11 := t.isLt
  unfold at2
  rw [dif_pos ⟨hr, hc⟩, dif_pos ⟨hr, by omega⟩]
  unfold iblk; rw [View.read_apply]
  show V m c main_arg3 _ = m ((c.tc : Thread nD τ).loc main_arg3) _
  unfold V; congr 1; funext a; apply Fin.ext
  match a with
  | ⟨0, _⟩ => show win0_5.index t 0 * 1 + 1 * r = r; rw [(idx5 t).1]; omega
  | ⟨1, _⟩ => show win0_5.index t 1 * 512 + 1 * c' = 512 * t.val + c'; rw [(idx5 t).2]; omega

theorem blk6 (c : Dev nD) (t : Fin cfg0.N) (r c' : ℕ) (hr : r < 1) (hc : c' < 512) :
    at2 (M := 1) (N := 512) (iblk m c 6 t) r c' = at2 (M := 1) (N := 11264) (m ((c.tc : Thread nD τ).loc main_arg3)) r (5632 + (512 * t.val + c')) := by
  have ht : t.val < 11 := t.isLt
  unfold at2
  rw [dif_pos ⟨hr, hc⟩, dif_pos ⟨hr, by omega⟩]
  unfold iblk; rw [View.read_apply]
  show V m c main_arg3 _ = m ((c.tc : Thread nD τ).loc main_arg3) _
  unfold V; congr 1; funext a; apply Fin.ext
  match a with
  | ⟨0, _⟩ => show win0_6.index t 0 * 1 + 1 * r = r; rw [(idx6 t).1]; omega
  | ⟨1, _⟩ => show win0_6.index t 1 * 512 + 1 * c' = 5632 + (512 * t.val + c'); rw [(idx6 t).2]; omega

theorem blk7 (c : Dev nD) (t : Fin cfg0.N) (r c' : ℕ) (hr : r < 256) (hc : c' < 512) :
    at2 (M := 256) (N := 512) (iblk m c 7 t) r c' = at2 (M := 256) (N := 11264) (m ((c.tc : Thread nD τ).loc main_arg4)) r (512 * t.val + c') := by
  have ht : t.val < 11 := t.isLt
  unfold at2
  rw [dif_pos ⟨hr, hc⟩, dif_pos ⟨hr, by omega⟩]
  unfold iblk; rw [View.read_apply]
  show V m c main_arg4 _ = m ((c.tc : Thread nD τ).loc main_arg4) _
  unfold V; congr 1; funext a; apply Fin.ext
  match a with
  | ⟨0, _⟩ => show win0_7.index t 0 * 256 + 1 * r = r; rw [(idx7 t).1]; omega
  | ⟨1, _⟩ => show win0_7.index t 1 * 512 + 1 * c' = 512 * t.val + c'; rw [(idx7 t).2]; omega

theorem blk8 (c : Dev nD) (t : Fin cfg0.N) (r c' : ℕ) (hr : r < 256) (hc : c' < 512) :
    at2 (M := 256) (N := 512) (iblk m c 8 t) r c' = at2 (M := 256) (N := 11264) (m ((c.tc : Thread nD τ).loc main_arg4)) r (5632 + (512 * t.val + c')) := by
  have ht : t.val < 11 := t.isLt
  unfold at2
  rw [dif_pos ⟨hr, hc⟩, dif_pos ⟨hr, by omega⟩]
  unfold iblk; rw [View.read_apply]
  show V m c main_arg4 _ = m ((c.tc : Thread nD τ).loc main_arg4) _
  unfold V; congr 1; funext a; apply Fin.ext
  match a with
  | ⟨0, _⟩ => show win0_8.index t 0 * 256 + 1 * r = r; rw [(idx8 t).1]; omega
  | ⟨1, _⟩ => show win0_8.index t 1 * 512 + 1 * c' = 5632 + (512 * t.val + c'); rw [(idx8 t).2]; omega

end

/-- The call's first result as a function of its arguments: the gated convolutions. -/
def outG (h : FVec Ideal ⟨2, ![1024, 2048]⟩ .bf16) (w : FVec Ideal ⟨2, ![2048, 11264]⟩ .bf16) (cw : FVec Ideal ⟨2, ![3, 11264]⟩ .f32)
    (cb : FVec Ideal ⟨2, ![1, 11264]⟩ .f32) (st : FVec Ideal ⟨2, ![256, 11264]⟩ .f32) : FVec Ideal ⟨2, ![1024, 5632]⟩ .bf16 :=
  fun i => gate (convAt h w cw cb st (i 0).val (i 1).val) (convAt h w cw cb st (i 0).val (5632 + (i 1).val))

/-- The others: the up projection at the last two times, of the first and of the second half of its columns. -/
def outT (o : ℕ) (h : FVec Ideal ⟨2, ![1024, 2048]⟩ .bf16) (w : FVec Ideal ⟨2, ![2048, 11264]⟩ .bf16) : FVec Ideal ⟨2, ![256, 5632]⟩ .f32 :=
  fun i => up h w (768 + (i 0).val) (o + (i 1).val)

section
open Cert.Kernel3Ideal Cert.Kernel3Ideal.Gen

variable (m : (ℓ : Loc nD τ sig) → Buf (Elt Ideal) ℓ)

/-- The call's results of the launched arguments. -/
abbrev G9 (c : Dev nD) : FVec Ideal ⟨2, ![1024, 5632]⟩ .bf16 :=
  outG (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))
abbrev G10 (c : Dev nD) : FVec Ideal ⟨2, ![256, 5632]⟩ .f32 :=
  outT 0 (m ((c.tc : Thread nD τ).loc main_arg0)) (m ((c.tc : Thread nD τ).loc main_arg1))
abbrev G11 (c : Dev nD) : FVec Ideal ⟨2, ![256, 5632]⟩ .f32 :=
  outT 5632 (m ((c.tc : Thread nD τ).loc main_arg0)) (m ((c.tc : Thread nD τ).loc main_arg1))

/-- A column of a point's block, as a column of the whole array. -/
def col (t : Fin cfg0.N) (q : Fin 512) : Fin 5632 := ⟨512 * t.val + q.val, by have := t.isLt; have : t.val < 11 := this; omega⟩

theorem at9 (c : Dev nD) (t : Fin cfg0.N) (r : Fin 1024) (q : Fin 512) :
    out0_9 (F := Ideal) (iblk m c 0 t) (iblk m c 1 t) (iblk m c 2 t) (iblk m c 3 t) (iblk m c 4 t) (iblk m c 5 t) (iblk m c 6 t) (iblk m c 7 t)
      (iblk m c 8 t) (ix2 r q) = G9 m c (ix2 r (col t q)) := by
  refine (out9 _ _ _ _ _ _ _ _ _ r q).trans ?_
  rw [blk0]
  refine congrArg₂ gate ?_ ?_
  · exact convAt_congr (fun k hk => blk1 m c t k q.val hk q.isLt) (fun k hk => blk3 m c t k q.val hk q.isLt)
      (blk5 m c t 0 q.val (by omega) q.isLt) (fun k hk => blk7 m c t k q.val hk q.isLt) r.val
  · exact convAt_congr (fun k hk => blk2 m c t k q.val hk q.isLt) (fun k hk => blk4 m c t k q.val hk q.isLt)
      (blk6 m c t 0 q.val (by omega) q.isLt) (fun k hk => blk8 m c t k q.val hk q.isLt) r.val

theorem at10 (c : Dev nD) (t : Fin cfg0.N) (r : Fin 256) (q : Fin 512) :
    out0_10 (F := Ideal) (iblk m c 0 t) (iblk m c 1 t) (iblk m c 2 t) (iblk m c 3 t) (iblk m c 4 t) (iblk m c 5 t) (iblk m c 6 t) (iblk m c 7 t)
      (iblk m c 8 t) (ix2 r q) = G10 m c (ix2 r (col t q)) := by
  refine (out10 _ _ _ _ _ _ _ _ _ r q).trans ?_
  rw [blk0]
  exact (up_congr (fun k hk => blk1 m c t k q.val hk q.isLt) _).trans (congrArg (up _ _ _) (Nat.zero_add _).symm)

theorem at11 (c : Dev nD) (t : Fin cfg0.N) (r : Fin 256) (q : Fin 512) :
    out0_11 (F := Ideal) (iblk m c 0 t) (iblk m c 1 t) (iblk m c 2 t) (iblk m c 3 t) (iblk m c 4 t) (iblk m c 5 t) (iblk m c 6 t) (iblk m c 7 t)
      (iblk m c 8 t) (ix2 r q) = G11 m c (ix2 r (col t q)) := by
  refine (out11 _ _ _ _ _ _ _ _ _ r q).trans ?_
  rw [blk0]
  exact up_congr (fun k hk => blk2 m c t k q.val hk q.isLt) _

theorem flushed9_eq (c : Dev nD) (t : Fin cfg0.N) (_ : (cfg0.win 9).flush t = true) :
    (dats m 0 c).flushed 9 t = ((cfg0.win 9).blk t).view.read (Elt Ideal) (G9 m c) := by
  rw [Cert.Kernel3Ideal.Value.flushed9]
  funext j
  rw [View.read_apply]
  refine ((congrArg _ (eq_ix2 j)).trans (at9 m c t (j 0) (j 1))).trans ?_
  congr 1; funext a; apply Fin.ext
  match a with
  | ⟨0, _⟩ => show (j 0).val = win0_9.index t 0 * 1024 + 1 * (j 0).val; rw [(idx9 t).1]; omega
  | ⟨1, _⟩ => show 512 * t.val + (j 1).val = win0_9.index t 1 * 512 + 1 * (j 1).val; rw [(idx9 t).2]; omega

theorem covered9 (i : S1024x5632.Idx) :
    ∃ t : Fin cfg0.N, (cfg0.win 9).flush t = true ∧ i ∈ ((cfg0.win 9).blk t).view.set := by
  have h0 : (i 0).val < 1024 := (i 0).isLt
  have h1 : (i 1).val < 5632 := (i 1).isLt
  let t : Fin cfg0.N := ⟨(i 1).val / 512, by show _ < 11; omega⟩
  have e : t.val = (i 1).val / 512 := rfl
  refine ⟨t, flush0_9 t, ?_⟩
  show i ∈ ((View.whole main_v0_0).slice (win0_9.rect t)).set
  rw [View.set_slice_whole, Rect.mem_set_unit]
  intro a
  match a with
  | ⟨0, _⟩ =>
    show win0_9.index t 0 * 1024 ≤ (i 0).val ∧ (i 0).val < win0_9.index t 0 * 1024 + 1024
    rw [(idx9 t).1]; omega
  | ⟨1, _⟩ =>
    show win0_9.index t 1 * 512 ≤ (i 1).val ∧ (i 1).val < win0_9.index t 1 * 512 + 512
    rw [(idx9 t).2, e]; omega

theorem final9 (c : Dev nD) : (dats m 0 c).arrAt 9 cfg0.N = G9 m c :=
  (dats m 0 c).arrAt_eq_of_cover 9 (G9 m c) (flushed9_eq m c) covered9

theorem flushed10_eq (c : Dev nD) (t : Fin cfg0.N) (_ : (cfg0.win 10).flush t = true) :
    (dats m 0 c).flushed 10 t = ((cfg0.win 10).blk t).view.read (Elt Ideal) (G10 m c) := by
  rw [Cert.Kernel3Ideal.Value.flushed10]
  funext j
  rw [View.read_apply]
  refine ((congrArg _ (eq_ix2 j)).trans (at10 m c t (j 0) (j 1))).trans ?_
  congr 1; funext a; apply Fin.ext
  match a with
  | ⟨0, _⟩ => show (j 0).val = win0_10.index t 0 * 256 + 1 * (j 0).val; rw [(idx10 t).1]; omega
  | ⟨1, _⟩ => show 512 * t.val + (j 1).val = win0_10.index t 1 * 512 + 1 * (j 1).val; rw [(idx10 t).2]; omega

theorem covered10 (i : S256x5632.Idx) :
    ∃ t : Fin cfg0.N, (cfg0.win 10).flush t = true ∧ i ∈ ((cfg0.win 10).blk t).view.set := by
  have h0 : (i 0).val < 256 := (i 0).isLt
  have h1 : (i 1).val < 5632 := (i 1).isLt
  let t : Fin cfg0.N := ⟨(i 1).val / 512, by show _ < 11; omega⟩
  have e : t.val = (i 1).val / 512 := rfl
  refine ⟨t, flush0_10 t, ?_⟩
  show i ∈ ((View.whole main_v0_1).slice (win0_10.rect t)).set
  rw [View.set_slice_whole, Rect.mem_set_unit]
  intro a
  match a with
  | ⟨0, _⟩ =>
    show win0_10.index t 0 * 256 ≤ (i 0).val ∧ (i 0).val < win0_10.index t 0 * 256 + 256
    rw [(idx10 t).1]; omega
  | ⟨1, _⟩ =>
    show win0_10.index t 1 * 512 ≤ (i 1).val ∧ (i 1).val < win0_10.index t 1 * 512 + 512
    rw [(idx10 t).2, e]; omega

theorem final10 (c : Dev nD) : (dats m 0 c).arrAt 10 cfg0.N = G10 m c :=
  (dats m 0 c).arrAt_eq_of_cover 10 (G10 m c) (flushed10_eq m c) covered10

theorem flushed11_eq (c : Dev nD) (t : Fin cfg0.N) (_ : (cfg0.win 11).flush t = true) :
    (dats m 0 c).flushed 11 t = ((cfg0.win 11).blk t).view.read (Elt Ideal) (G11 m c) := by
  rw [Cert.Kernel3Ideal.Value.flushed11]
  funext j
  rw [View.read_apply]
  refine ((congrArg _ (eq_ix2 j)).trans (at11 m c t (j 0) (j 1))).trans ?_
  congr 1; funext a; apply Fin.ext
  match a with
  | ⟨0, _⟩ => show (j 0).val = win0_11.index t 0 * 256 + 1 * (j 0).val; rw [(idx11 t).1]; omega
  | ⟨1, _⟩ => show 512 * t.val + (j 1).val = win0_11.index t 1 * 512 + 1 * (j 1).val; rw [(idx11 t).2]; omega

theorem covered11 (i : S256x5632.Idx) :
    ∃ t : Fin cfg0.N, (cfg0.win 11).flush t = true ∧ i ∈ ((cfg0.win 11).blk t).view.set := by
  have h0 : (i 0).val < 256 := (i 0).isLt
  have h1 : (i 1).val < 5632 := (i 1).isLt
  let t : Fin cfg0.N := ⟨(i 1).val / 512, by show _ < 11; omega⟩
  have e : t.val = (i 1).val / 512 := rfl
  refine ⟨t, flush0_11 t, ?_⟩
  show i ∈ ((View.whole main_v0_2).slice (win0_11.rect t)).set
  rw [View.set_slice_whole, Rect.mem_set_unit]
  intro a
  match a with
  | ⟨0, _⟩ =>
    show win0_11.index t 0 * 256 ≤ (i 0).val ∧ (i 0).val < win0_11.index t 0 * 256 + 256
    rw [(idx11 t).1]; omega
  | ⟨1, _⟩ =>
    show win0_11.index t 1 * 512 ≤ (i 1).val ∧ (i 1).val < win0_11.index t 1 * 512 + 512
    rw [(idx11 t).2, e]; omega

theorem final11 (c : Dev nD) : (dats m 0 c).arrAt 11 cfg0.N = G11 m c :=
  (dats m 0 c).arrAt_eq_of_cover 11 (G11 m c) (flushed11_eq m c) covered11

end

section
open Cert.Reference3Ideal Cert.Reference3Ideal.Read

variable (h : FVec Ideal S1024x2048 .bf16) (w : FVec Ideal S2048x11264 .bf16) (cw : FVec Ideal S3x11264 .f32)
  (cb : FVec Ideal S1x11264 .f32) (st : FVec Ideal S256x11264 .f32)

theorem ref_up (i : S1024x11264.Idx) : val_main_v2 (F := Ideal) h w i = up h w (i 0).val (i 1).val := by
  rw [val_main_v2_apply]
  refine Finset.sum_congr rfl fun q _ => ?_
  exact congrArg₂ (fun x y : EReal => x * y) (at2_eq h _ _ _ rfl rfl) (at2_eq w _ _ _ rfl rfl)

/-- The state followed by the up projection, of the reference. -/
theorem ref_hist (p : Fin 10) (b : Fin 128) (C : Fin 11264) : val_main_v5 (F := Ideal) h w st (ix3 p b C)
    = hist 256 (fun k => at2 st k C.val) (fun k => up h w k C.val) (p.val * 128 + b.val) := by
  have hp := p.isLt
  have hb := b.isLt
  have hC := C.isLt
  unfold val_main_v5 hist
  by_cases hlt : p.val < 2
  · rw [if_pos (by omega)]
    refine (concatenate_pair_apply_left 0 (val_main_v4 (F := Ideal) st) (val_main_v3 (F := Ideal) h w) _ (ix3 p b C) rfl (ix3 (⟨p.val, hlt⟩ : Fin 2) b C)
      (fun a => ?_)).trans ?_
    · match a with
      | ⟨0, _⟩ => rfl
      | ⟨1, _⟩ => rfl
      | ⟨2, _⟩ => rfl
    · rw [val_main_v4_apply]
      refine at2_eq st _ _ _ ?_ ?_
      · show ((p.val * 128 + b.val) * 11264 + C.val) / 11264 = _; omega
      · show ((p.val * 128 + b.val) * 11264 + C.val) % 11264 = _; omega
  · rw [if_neg (by omega)]
    refine (concatenate_pair_apply_right 0 (val_main_v4 (F := Ideal) st) (val_main_v3 (F := Ideal) h w) _ (ix3 p b C) rfl rfl
      (ix3 (⟨p.val - 2, by omega⟩ : Fin 8) b C) (fun a ha => ?_) ?_).trans ?_
    · match a with
      | ⟨0, _⟩ => exact absurd rfl ha
      | ⟨1, _⟩ => rfl
      | ⟨2, _⟩ => rfl
    · show p.val - 2 + 2 = p.val; omega
    · rw [val_main_v3_apply, ref_up]
      refine congrArg₂ (up h w) ?_ ?_
      · show (((p.val - 2) * 128 + b.val) * 11264 + C.val) / 11264 = _; omega
      · show (((p.val - 2) * 128 + b.val) * 11264 + C.val) % 11264 = _; omega

theorem ref_hist' (i : S10x128x11264.Idx) (k C : ℕ) (hk : (i 0).val * 128 + (i 1).val = k) (hC : (i 2).val = C) :
    val_main_v5 (F := Ideal) h w st i = hist 256 (fun k => at2 st k C) (fun k => up h w k C) k := by
  subst hk; subst hC
  refine (congrArg _ ?_).trans (ref_hist h w st (i 0) (i 1) (i 2))
  funext a
  match a with
  | ⟨0, _⟩ => rfl
  | ⟨1, _⟩ => rfl
  | ⟨2, _⟩ => rfl

/-- The reference's convolution. -/
theorem ref_conv (i : S8x128x11264.Idx) (r C : ℕ) (hr : (i 0).val * 128 + (i 1).val = r) (hC : (i 2).val = C) :
    val_main_v29 (F := Ideal) h w cw cb st i = convAt h w cw cb st r C := by
  have h2 : (i 2).val < 11264 := (i 2).isLt
  rw [val_main_v29_apply, val_main_v25_apply, val_main_v18_apply, val_main_v11_apply, val_main_v17_apply, val_main_v24_apply,
    val_main_v8_apply, val_main_v14_apply, val_main_v21_apply,
    ref_hist' h w st (idx_main_v8 i) r C hr hC,
    ref_hist' h w st (idx_main_v14 i) (r + 128) C (by show (1 + (i 0).val) * 128 + (i 1).val = _; omega) hC,
    ref_hist' h w st (idx_main_v21 i) (r + 256) C (by show (2 + (i 0).val) * 128 + (i 1).val = _; omega) hC,
    val_main_v10_apply, val_main_v9_apply, val_main_v7_apply, val_main_v6_apply,
    val_main_v16_apply, val_main_v15_apply, val_main_v13_apply, val_main_v12_apply,
    val_main_v23_apply, val_main_v22_apply, val_main_v20_apply, val_main_v19_apply,
    val_main_v28_apply, val_main_v27_apply, val_main_v26_apply]
  unfold convAt tapsAt
  have hm : (i 2).val % 11264 = C := by omega
  refine congrArg₂ (fun p q : EReal => p + q) (congrArg₂ (fun p q : EReal => p + q) (congrArg₂ (fun p q : EReal => p + q) ?_ ?_) ?_) ?_
  · exact congrArg (fun q : EReal => q * _) (at2_eq cw _ _ _ rfl hm)
  · exact congrArg (fun q : EReal => q * _) (at2_eq cw _ _ _ rfl hm)
  · exact congrArg (fun q : EReal => q * _) (at2_eq cw _ _ _ rfl hm)
  · exact at2_eq cb _ _ _ rfl hm

theorem ref_gate (i : S8x128x5632.Idx) (r C : ℕ) (hr : (i 0).val * 128 + (i 1).val = r) (hC : (i 2).val = C) :
    val_main_v36 (F := Ideal) h w cw cb st i = gate (convAt h w cw cb st r C) (convAt h w cw cb st r (5632 + C)) := by
  rw [val_main_v36_apply, val_main_v35_apply, val_main_call0_v5_apply, val_main_call0_v4_apply, val_main_call0_cst_0_apply,
    val_main_call0_v3_apply, val_main_call0_v2_apply, val_main_call0_cst_apply, val_main_call0_v1_apply, val_main_call0_v0_apply,
    val_main_v30_apply, val_main_v31_apply, ref_conv h w cw cb st (idx_main_v30 i) r C hr hC,
    ref_conv h w cw cb st (idx_main_v31 i) r (5632 + C) hr (by show 5632 + (i 2).val = _; omega)]
  unfold gate Ideal.logistic
  rw [← Ideal.ofBits_one_f32]
  rfl

theorem ref_outG : val_main_v38 (F := Ideal) h w cw cb st = outG h w cw cb st := by
  funext i
  have h0 : (i 0).val < 1024 := (i 0).isLt
  have h1 : (i 1).val < 5632 := (i 1).isLt
  rw [val_main_v38_apply, val_main_v37_apply]
  refine ref_gate h w cw cb st _ _ _ ?_ ?_
  · show ((i 0).val * 5632 + (i 1).val) / 720896 * 128 + ((i 0).val * 5632 + (i 1).val) / 5632 % 128 = _; omega
  · show ((i 0).val * 5632 + (i 1).val) % 5632 = _; omega

theorem ref_out0 : val_main_v39 (F := Ideal) h w st = outT 0 h w := by
  funext i
  have h0 : (i 0).val < 256 := (i 0).isLt
  have h1 : (i 1).val < 5632 := (i 1).isLt
  rw [val_main_v39_apply, val_main_v33_apply, val_main_v32_apply]
  refine (ref_hist' h w st _ (1024 + (i 0).val) (0 + (i 1).val) ?_ ?_).trans ?_
  · show (8 + ((i 0).val * 5632 + (i 1).val) / 720896) * 128 + ((i 0).val * 5632 + (i 1).val) / 5632 % 128 = _; omega
  · show ((i 0).val * 5632 + (i 1).val) % 5632 = _; omega
  · unfold hist outT
    rw [if_neg (by omega)]
    exact congrArg (fun k => up h w k _) (by omega)

theorem ref_out1 : val_main_v40 (F := Ideal) h w st = outT 5632 h w := by
  funext i
  have h0 : (i 0).val < 256 := (i 0).isLt
  have h1 : (i 1).val < 5632 := (i 1).isLt
  rw [val_main_v40_apply, val_main_v34_apply, val_main_v32_apply]
  refine (ref_hist' h w st _ (1024 + (i 0).val) (5632 + (i 1).val) ?_ ?_).trans ?_
  · show (8 + ((i 0).val * 5632 + (i 1).val) / 720896) * 128 + ((i 0).val * 5632 + (i 1).val) / 5632 % 128 = _; omega
  · show 5632 + ((i 0).val * 5632 + (i 1).val) % 5632 = _; omega
  · unfold hist outT
    rw [if_neg (by omega)]
    exact congrArg (fun k => up h w k _) (by omega)

end

/-- Run on the same arguments, the kernel and the reference end with the same result arrays. -/
theorem algebraic : Cert.algebraic_Kernel3Ideal_Reference3Ideal := by
  intro m ρ m' ρ' _ hagree
  refine ⟨fun c => G9 m c, fun c => G10 m c, fun c => G11 m c, ?_, ?_⟩
  · refine (θ_run Cert.Kernel3Ideal.defs _ _).mono (fun _ h c => ?_) (Cert.Kernel3Ideal.Value.run_blocks m ρ)
    exact ⟨(h c).1.trans (final9 m c), (h c).2.1.trans (final10 m c), (h c).2.2.1.trans (final11 m c), (h c).2.2.2⟩
  · refine (θ_run Cert.Reference3Ideal.defs _ _).mono (fun _ h c => ?_) (Cert.Reference3Ideal.Value.run (F := Ideal) m' ρ')
    obtain ⟨e0, e1, e2, e3, e4⟩ := hagree c
    have key9 := (ref_outG (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4))).trans
      (show _ = G9 m c by unfold G9; rw [← e0, ← e1, ← e2, ← e3, ← e4])
    have key10 := (ref_out0 (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg4))).trans
      (show _ = G10 m c by unfold G10; rw [← e0, ← e1])
    have key11 := (ref_out1 (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg4))).trans
      (show _ = G11 m c by unfold G11; rw [← e0, ← e1])
    exact ⟨(h c).1.trans ((Cert.Reference3Ideal.Read.val_main_v38_eq ..).trans key9),
      (h c).2.1.trans ((Cert.Reference3Ideal.Read.val_main_v39_eq ..).trans key10),
      (h c).2.2.1.trans ((Cert.Reference3Ideal.Read.val_main_v40_eq ..).trans key11), (h c).2.2.2⟩

/-- The reference runs to its end and leaves its arguments and every counter as they were. -/
theorem quiescent : Cert.quiescent_Reference3Ideal := fun m ρ _ =>
  (θ_run Cert.Reference3Ideal.defs _ _).mono
    (fun r h => ⟨fun c => (h c).2.2.2, Idealize.ShloMosaic.sem_eq_zero_of_no_sems (by decide) r.2⟩)
    (Cert.Reference3Ideal.Value.run (F := Ideal) m ρ)

end Cert.Proof.FfnUpSample
-- ==== Proof.ProjIdeal.lean ====
/- The frame of the projection kernel (`Kernel4Ideal`): what one step of its body leaves in the three output
   windows, and the run of the whole launch with every window's array at the end of it. -/
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Kernel4Ideal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.ProjIdeal

open Cert.Kernel4Ideal Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

/-- The whole of a window of 256 rows of the activations, -/
abbrev rX : Rect S256x2048 := Rect.unit (s := S256x2048) ![0, 0] S256x2048.size inb_S256x2048_S256x2048_0_0
/-- the whole of the weights, -/
abbrev rW : Rect S5120x2048 := Rect.unit (s := S5120x2048) ![0, 0] S5120x2048.size inb_S5120x2048_S5120x2048_0_0
/-- the whole of a window of the projection. -/
abbrev rP : Rect S256x5120 := Rect.unit (s := S256x5120) ![0, 0] S256x5120.size inb_S256x5120_S256x5120_0_0

/-! Every eighth row of the window of interleaved rows, from row 0, 1, … 7. -/

abbrev r0 : Rect S2048x128 := ⟨(⟨![0, 0], S256x128.size, ![8, 1], inb_S2048x128_S256x128_0_0_s_8_1⟩ : LoadRect S2048x128), spos_8_1⟩
abbrev r1 : Rect S2048x128 := ⟨(⟨![1, 0], S256x128.size, ![8, 1], inb_S2048x128_S256x128_1_0_s_8_1⟩ : LoadRect S2048x128), spos_8_1⟩
abbrev r2 : Rect S2048x128 := ⟨(⟨![2, 0], S256x128.size, ![8, 1], inb_S2048x128_S256x128_2_0_s_8_1⟩ : LoadRect S2048x128), spos_8_1⟩
abbrev r3 : Rect S2048x128 := ⟨(⟨![3, 0], S256x128.size, ![8, 1], inb_S2048x128_S256x128_3_0_s_8_1⟩ : LoadRect S2048x128), spos_8_1⟩
abbrev r4 : Rect S2048x128 := ⟨(⟨![4, 0], S256x128.size, ![8, 1], inb_S2048x128_S256x128_4_0_s_8_1⟩ : LoadRect S2048x128), spos_8_1⟩
abbrev r5 : Rect S2048x128 := ⟨(⟨![5, 0], S256x128.size, ![8, 1], inb_S2048x128_S256x128_5_0_s_8_1⟩ : LoadRect S2048x128), spos_8_1⟩
abbrev r6 : Rect S2048x128 := ⟨(⟨![6, 0], S256x128.size, ![8, 1], inb_S2048x128_S256x128_6_0_s_8_1⟩ : LoadRect S2048x128), spos_8_1⟩
abbrev r7 : Rect S2048x128 := ⟨(⟨![7, 0], S256x128.size, ![8, 1], inb_S2048x128_S256x128_7_0_s_8_1⟩ : LoadRect S2048x128), spos_8_1⟩

/-- The projection's window after the body. -/
def outP (x0 : Vec F S256x2048 .bf16) (x1 : Vec F S5120x2048 .bf16) : Vec F S256x5120 .f32 :=
  View.canon [⟨rP, k0_pay1 (View.ld x0 rX) (View.ld x1 rW)⟩]

/-- The rounded projection's window after the body. -/
def outH (x0 : Vec F S256x2048 .bf16) (x1 : Vec F S5120x2048 .bf16) : Vec F S256x5120 .bf16 :=
  View.canon [⟨rP, k0_pay2 (View.ld x0 rX) (View.ld x1 rW)⟩]

/-- The eight strided stores into the window of interleaved rows, the last first. -/
abbrev rowStores (x0 : Vec F S256x2048 .bf16) (x1 : Vec F S5120x2048 .bf16) : List (View.Piece (Elt F) S2048x128 .f32) :=
  [⟨r7, k0_pay10 (View.ld x0 rX) (View.ld x1 rW)⟩,
    ⟨r6, k0_pay9 (View.ld x0 rX) (View.ld x1 rW)⟩,
    ⟨r5, k0_pay8 (View.ld x0 rX) (View.ld x1 rW)⟩,
    ⟨r4, k0_pay7 (View.ld x0 rX) (View.ld x1 rW)⟩,
    ⟨r3, k0_pay6 (View.ld x0 rX) (View.ld x1 rW)⟩,
    ⟨r2, k0_pay5 (View.ld x0 rX) (View.ld x1 rW)⟩,
    ⟨r1, k0_pay4 (View.ld x0 rX) (View.ld x1 rW)⟩,
    ⟨r0, k0_pay3 (View.ld x0 rX) (View.ld x1 rW)⟩]

/-- The window of interleaved rows after the body. -/
def outR (x0 : Vec F S256x2048 .bf16) (x1 : Vec F S5120x2048 .bf16) : Vec F S2048x128 .f32 :=
  View.canon (rowStores x0 x1)

/-- One store of a whole window covers it (32-bit floats), -/
theorem coverP (p : Vec F S256x5120 .f32) (y : S256x5120.Idx) :
    ∃ pc ∈ ([⟨rP, p⟩] : List (View.Piece (Elt F) S256x5120 .f32)), y ∈ pc.1.set :=
  View.cover_of_tiled [⟨rP, p⟩] S256x5120.size (by rfl) y

/-- and 16-bit floats. -/
theorem coverH (p : Vec F S256x5120 .bf16) (y : S256x5120.Idx) :
    ∃ pc ∈ ([⟨rP, p⟩] : List (View.Piece (Elt F) S256x5120 .bf16)), y ∈ pc.1.set :=
  View.cover_of_tiled [⟨rP, p⟩] S256x5120.size (by rfl) y

/-- A row is among every eighth row from `n` when its number leaves remainder `n`. -/
theorem mem_every_eighth (n : ℕ) (inb) (y : S2048x128.Idx) (h : (y 0).val % 8 = n) :
    y ∈ ((⟨(⟨![n, 0], S256x128.size, ![8, 1], inb⟩ : LoadRect S2048x128), spos_8_1⟩ : Rect S2048x128)).set := by
  refine (LoadRect.mem_set _).mpr fun a => ?_
  have h0 : (y 0).val < 2048 := (y 0).isLt
  have h1 : (y 1).val < 128 := (y 1).isLt
  match a with
  | ⟨0, _⟩ =>
    refine ⟨(y 0).val / 8, ?_, ?_⟩
    · show (y 0).val / 8 < 256
      omega
    · show (y 0).val = n + 8 * ((y 0).val / 8)
      omega
  | ⟨1, _⟩ =>
    refine ⟨(y 1).val, h1, ?_⟩
    show (y 1).val = 0 + 1 * (y 1).val
    omega

/-- The eight strided stores cover the window: a row is in the one its number's remainder names. -/
theorem coverR (p0 p1 p2 p3 p4 p5 p6 p7 : Vec F S256x128 .f32) (y : S2048x128.Idx) :
    ∃ pc ∈ ([⟨r7, p7⟩, ⟨r6, p6⟩, ⟨r5, p5⟩, ⟨r4, p4⟩, ⟨r3, p3⟩, ⟨r2, p2⟩, ⟨r1, p1⟩, ⟨r0, p0⟩] : List (View.Piece (Elt F) S2048x128 .f32)), y ∈ pc.1.set := by
  have h8 : (y 0).val % 8 = 0 ∨ (y 0).val % 8 = 1 ∨ (y 0).val % 8 = 2 ∨ (y 0).val % 8 = 3
      ∨ (y 0).val % 8 = 4 ∨ (y 0).val % 8 = 5 ∨ (y 0).val % 8 = 6 ∨ (y 0).val % 8 = 7 := by omega
  rcases h8 with h | h | h | h | h | h | h | h
  · exact ⟨⟨r0, p0⟩, by simp, mem_every_eighth 0 _ y h⟩
  · exact ⟨⟨r1, p1⟩, by simp, mem_every_eighth 1 _ y h⟩
  · exact ⟨⟨r2, p2⟩, by simp, mem_every_eighth 2 _ y h⟩
  · exact ⟨⟨r3, p3⟩, by simp, mem_every_eighth 3 _ y h⟩
  · exact ⟨⟨r4, p4⟩, by simp, mem_every_eighth 4 _ y h⟩
  · exact ⟨⟨r5, p5⟩, by simp, mem_every_eighth 5 _ y h⟩
  · exact ⟨⟨r6, p6⟩, by simp, mem_every_eighth 6 _ y h⟩
  · exact ⟨⟨r7, p7⟩, by simp, mem_every_eighth 7 _ y h⟩

/-! ## The body's triple -/

set_option maxHeartbeats 4000000 in
/-- The body on whole windows, the inputs' at `x0` and `x1` and the outputs' at anything, ends with the inputs'
    as they were and the outputs' at `outP`, `outH` and `outR` of them. -/
theorem sound_kernel (c : Dev nD) (E : Set ℕ) (i : grid0.Coords) (arg1 : Memref sig .tc .vmem S256x2048 .bf16) (harg1 : arg1.IsWhole)
    (arg2 : Memref sig .tc .vmem S5120x2048 .bf16) (harg2 : arg2.IsWhole) (arg3 : Memref sig .tc .vmem S256x5120 .f32) (harg3 : arg3.IsWhole)
    (arg4 : Memref sig .tc .vmem S256x5120 .bf16) (harg4 : arg4.IsWhole) (arg5 : Memref sig .tc .vmem S2048x128 .f32) (harg5 : arg5.IsWhole)
    (x0 : Vec F S256x2048 .bf16) (x1 : Vec F S5120x2048 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (outP x0 x1) ∗ owns (c : Thread nD τ) arg4 fullShare (outH x0 x1)
            ∗ owns (c : Thread nD τ) arg5 fullShare (outR x0 x1)) -∗ K ⟨⟩))
      ⊢ wp frame (wpE (defs₀ (F := F)) Variants.none c none) E (cc0_proj i arg1 harg1 arg2 harg2 arg3 harg3 arg4 harg4 arg5 harg5) K := by
  simp only [cc0_proj_eq_skeleton]; unfold cc0_proj_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverP _)
  isplitl [H3]
  · iexists _; isplitr
    swap; · iexact H3
    ipureintro
    exact View.read_writes_eq_canon _ _ _ (coverH _)
  iexists _; isplitr
  swap; · iexact H4
  ipureintro
  exact View.read_writes_eq_canon _ _ _ (coverR _ _ _ _ _ _ _ _)

/-! ## The launch's set-up -/

/-- The launch's proof data on one core: the arrays as launched; after the body an input window at its block and an
    output window at what the body leaves of the blocks; nothing else kept, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outP (iblk m c 0 t) (iblk m c 1 t)
    | ⟨3, _⟩ => outH (iblk m c 0 t) (iblk m c 1 t)
    | ⟨4, _⟩ => outR (iblk m c 0 t) (iblk m c 1 t)
  Φ _ := Pipeline.ΦA spec0 c
  q _ := fullShare
  owed _ := 0

/-- The data's arrays are the launch's. -/
theorem A_eq (c : Dev nD) (w : Fin cfg0.W) : (dats m 0 c).A w = V m c (Pipeline.arrRef spec0 w) := by
  dsimp only [dats]

/-! What the body leaves, window by window. -/

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outP (iblk m c 0 t) (iblk m c 1 t) := by dsimp only [dats]
theorem after3 (c : Dev nD) (t : Fin cfg0.N) : (dats m 0 c).after 3 t = outH (iblk m c 0 t) (iblk m c 1 t) := by dsimp only [dats]
theorem after4 (c : Dev nD) (t : Fin cfg0.N) : (dats m 0 c).after 4 t = outR (iblk m c 0 t) (iblk m c 1 t) := by dsimp only [dats]

/-! An input window holds its block at every point, before the body. -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- What the body is given at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The launch calls the body on the windows current at point `t`. -/
theorem body_row (t : Fin cfg0.N) :
    defs₀ (F := F) .tc cfg0.body (cfg0.bodyArgs t (cfg0.slots t)) = bodyAt0 t := by
  unfold defs₀; rw [Defs.onTc_tc]

/-- The body meets what the launch asks of it at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
set_option maxHeartbeats 800000 in
/-- Every fair run ends, with each window's array at what the proof data say, every other buffer as launched, and
    every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run : θ_run defs (onTc (τ := τ) (main (F := F))) (s₀ m ρ) (Pipeline.FramePost cfgs (dats m) 0 (V m)) :=
  (θ_run defs _ _).mono (fun _ h => h.1) (run_quiescent m ρ)

/-- The frame: every fair run ends with both arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run m ρ))
    ((θ_run defs _ _).mono (fun _ h => h.2) (run_quiescent m ρ))

end Cert.Proof.ProjIdeal

end
-- ==== Proof.Proj.lean ====
/-
  The projection: the kernel's three results and the reference's are the same functions of the activations and the weights — the
  product with the transposed weights, the same rounded, and its columns 2560 to 3583 dealt out, eight rows of 128 to each row.
-/
module

public import proofs.«01_k».proof.Defs
public import proofs.«01_k».proof.Proof.Norm
public import proofs.«01_k».proof.Proof.Entries
public import proofs.«01_k».proof.Proof.ProjIdeal
public import proofs.«01_k».proof.Proof.Gen.Reference4Ideal.Run
public import proofs.«01_k».proof.Proof.Gen.Reference4Ideal.Read
public import Idealize.ShloMosaic.Lib.MatmulPlain
public import Idealize.ShloMosaic.Lib.Quiescent
public import Idealize.ShloMosaic.Lib.Pipeline.Value
public import Idealize.ShloMosaic.Adequacy
public import Idealize.ShloMosaic.Init

@[expose] public section

set_option maxRecDepth 16384

noncomputable section

namespace Cert.Proof.Proj

open Idealize.ShloMosaic Idealize.ShloMosaic.ValueIdx Idealize.ShloMosaic.TcCoe Idealize.SL.Sem Cert.Proof.Norm Cert.Proof.Entries
open Idealize.ShloMosaic.Pipeline (Dat)

/-- An entry of the product of the activations with the transposed weights. -/
def prod {M : ℕ} (x : (⟨2, ![M, 2048]⟩ : Shape).Idx → EReal) (w : (⟨2, ![5120, 2048]⟩ : Shape).Idx → EReal) (r c : ℕ) : EReal :=
  ∑ q : Fin 2048, at2 x r q.val * at2 w c q.val

/-- The product. -/
def whole {M : ℕ} (x : (⟨2, ![M, 2048]⟩ : Shape).Idx → EReal) (w : (⟨2, ![5120, 2048]⟩ : Shape).Idx → EReal) :
    (⟨2, ![M, 5120]⟩ : Shape).Idx → EReal := fun i => prod x w (i 0).val (i 1).val

/-- Row `8 r + n` of the dealt-out rows: columns `2560 + 128 n` and the 127 after it of row `r` of the product. -/
def dealt {M N : ℕ} (x : (⟨2, ![M, 2048]⟩ : Shape).Idx → EReal) (w : (⟨2, ![5120, 2048]⟩ : Shape).Idx → EReal) :
    (⟨2, ![N, 128]⟩ : Shape).Idx → EReal := fun i => prod x w ((i 0).val / 8) (2560 + 128 * ((i 0).val % 8) + (i 1).val)

section
open Cert.Kernel4Ideal Cert.Kernel4Ideal.Gen Cert.Proof.ProjIdeal

theorem zero2 : (![0, 0] : Fin 2 → Nat) = fun _ => 0 := by
  funext a; match a with | ⟨0, _⟩ => rfl | ⟨1, _⟩ => rfl

variable (x : FVec Ideal S256x2048 .bf16) (w : FVec Ideal S5120x2048 .bf16)

/-- What a grid point multiplies, at an index. -/
theorem pay_apply (r : Fin 256) (j : Fin 5120) : k0_pay1 (F := Ideal) x w (ix2 r j) = prod x w r.val j.val := by
  unfold k0_pay1
  refine (Ideal.matmul_transposedRhs_apply (M := 256) (K := 2048) (N := 5120) none x w _ r j).trans ?_
  refine Eq.trans (congrArg (· + _) (show _ = (0 : EReal) from Ideal.ofBits_zero_f32)) ((zero_add _).trans ?_)
  exact Finset.sum_congr rfl fun q _ => congrArg₂ (fun p q : EReal => p * q) (at2_ix x r q) (at2_ix w j q)

theorem outP_apply (r : Fin 256) (j : Fin 5120) : outP (F := Ideal) x w (ix2 r j) = prod x w r.val j.val := by
  unfold outP
  rw [View.canon_unit_zero zero2]
  simp only [View.ld_unit_zero (S := S256x2048) zero2, View.ld_unit_zero (S := S5120x2048) zero2]
  exact pay_apply x w r j

theorem outH_apply (r : Fin 256) (j : Fin 5120) : outH (F := Ideal) x w (ix2 r j) = prod x w r.val j.val := by
  unfold outH k0_pay2
  rw [View.canon_unit_zero zero2]
  simp only [View.ld_unit_zero (S := S256x2048) zero2, View.ld_unit_zero (S := S5120x2048) zero2]
  exact pay_apply x w r j

/-- A slice of 128 columns of the product is what every eighth row of the dealt-out rows holds. -/
theorem slice_apply (n o : ℕ) (hn : n < 8) (ho : o = 2560 + 128 * n) (h) (inb)
    (z : (⟨(⟨![n, 0], S256x128.size, ![8, 1], inb⟩ : LoadRect S2048x128), spos_8_1⟩ : Rect S2048x128).shape.Idx) :
    extractStridedSlice S256x128 ![0, o] (k0_pay1 (F := Ideal) x w) h z
      = dealt x w ((⟨(⟨![n, 0], S256x128.size, ![8, 1], inb⟩ : LoadRect S2048x128), spos_8_1⟩ : Rect S2048x128).emb z) := by
  have hz0 : (z 0).val < 256 := (z 0).isLt
  have hz1 : (z 1).val < 128 := (z 1).isLt
  refine (extractStridedSlice_apply ![0, o] _ h z (ix2 ⟨(z 0).val, hz0⟩ ⟨o + (z 1).val, by omega⟩) (fun a => ?_)).trans ?_
  · match a with
    | ⟨0, _⟩ => show (z 0).val = 0 + (z 0).val; omega
    | ⟨1, _⟩ => rfl
  · rw [pay_apply]
    unfold dealt
    show prod x w (z 0).val (o + (z 1).val) = prod x w ((n + 8 * (z 0).val) / 8) (2560 + 128 * ((n + 8 * (z 0).val) % 8) + (0 + 1 * (z 1).val))
    have e0 : (n + 8 * (z 0).val) / 8 = (z 0).val := by omega
    have e1 : (n + 8 * (z 0).val) % 8 = n := by omega
    rw [e0, e1, ho]
    congr 1
    omega

/-- The window of dealt-out rows after the body. -/
theorem outR_apply (y : S2048x128.Idx) : outR (F := Ideal) x w y = dealt x w y := by
  unfold outR rowStores
  simp only [View.ld_unit_zero (S := S256x2048) zero2, View.ld_unit_zero (S := S5120x2048) zero2]
  refine View.canon_apply_of_pieces (Val := Elt Ideal) (e := .f32) (dealt x w) _ (fun p hp => ?_) y (coverR (F := Ideal) _ _ _ _ _ _ _ _ y)
  simp only [List.mem_cons, List.not_mem_nil, or_false] at hp
  rcases hp with rfl | rfl | rfl | rfl | rfl | rfl | rfl | rfl
  · exact fun z => slice_apply x w 7 3456 (by omega) (by omega) slices_S256x5120_o0_3456_S256x128 _ z
  · exact fun z => slice_apply x w 6 3328 (by omega) (by omega) slices_S256x5120_o0_3328_S256x128 _ z
  · exact fun z => slice_apply x w 5 3200 (by omega) (by omega) slices_S256x5120_o0_3200_S256x128 _ z
  · exact fun z => slice_apply x w 4 3072 (by omega) (by omega) slices_S256x5120_o0_3072_S256x128 _ z
  · exact fun z => slice_apply x w 3 2944 (by omega) (by omega) slices_S256x5120_o0_2944_S256x128 _ z
  · exact fun z => slice_apply x w 2 2816 (by omega) (by omega) slices_S256x5120_o0_2816_S256x128 _ z
  · exact fun z => slice_apply x w 1 2688 (by omega) (by omega) slices_S256x5120_o0_2688_S256x128 _ z
  · exact fun z => slice_apply x w 0 2560 (by omega) (by omega) slices_S256x5120_o0_2560_S256x128 _ z

variable (m : (ℓ : Loc nD τ sig) → Buf (Elt Ideal) ℓ) (ρ : Dev nD → PrngReg)

theorem idx0 : ∀ t : Fin cfg0.N, win0_0.index t 0 = t.val ∧ win0_0.index t 1 = 0 :=
  (by decide +kernel : ∀ t : Fin grid0.N, win0_0.index t 0 = t.val ∧ win0_0.index t 1 = 0)

theorem idx1 : ∀ t : Fin cfg0.N, win0_1.index t 0 = 0 ∧ win0_1.index t 1 = 0 :=
  (by decide +kernel : ∀ t : Fin grid0.N, win0_1.index t 0 = 0 ∧ win0_1.index t 1 = 0)

theorem idx2 : ∀ t : Fin cfg0.N, win0_2.index t 0 = t.val ∧ win0_2.index t 1 = 0 :=
  (by decide +kernel : ∀ t : Fin grid0.N, win0_2.index t 0 = t.val ∧ win0_2.index t 1 = 0)

theorem idx3 : ∀ t : Fin cfg0.N, win0_3.index t 0 = t.val ∧ win0_3.index t 1 = 0 :=
  (by decide +kernel : ∀ t : Fin grid0.N, win0_3.index t 0 = t.val ∧ win0_3.index t 1 = 0)

theorem idx4 : ∀ t : Fin cfg0.N, win0_4.index t 0 = t.val ∧ win0_4.index t 1 = 0 :=
  (by decide +kernel : ∀ t : Fin grid0.N, win0_4.index t 0 = t.val ∧ win0_4.index t 1 = 0)

/-- A point's rows of the activations, -/
theorem blk0 (c : Dev nD) (t : Fin cfg0.N) (r q : ℕ) (hr : r < 256) (hq : q < 2048) :
    at2 (M := 256) (N := 2048) (iblk m c 0 t) r q = at2 (M := 8192) (N := 2048) (m ((c.tc : Thread nD τ).loc main_arg0)) (256 * t.val + r) q := by
  refine at2_congr _ _ _ _ _ _ hr hq ?_
  refine Eq.trans ?_ (at2_eq (M := 8192) (N := 2048) (m ((c.tc : Thread nD τ).loc main_arg0)) (((cfg0.win 0).blk t).view.emb (ix2 ⟨r, hr⟩ ⟨q, hq⟩)) _ _ ?_ ?_)
  · unfold iblk; rw [View.read_apply]; rfl
  · show win0_0.index t 0 * 256 + 1 * r = _; rw [(idx0 t).1]; omega
  · show win0_0.index t 1 * 2048 + 1 * q = _; rw [(idx0 t).2]; omega

/-- and its weights, all of them. -/
theorem blk1 (c : Dev nD) (t : Fin cfg0.N) : iblk m c 1 t = m ((c.tc : Thread nD τ).loc main_arg1) := by
  funext i
  unfold iblk; rw [View.read_apply]
  show V m c main_arg1 _ = m ((c.tc : Thread nD τ).loc main_arg1) _
  unfold V; congr 1; funext a; apply Fin.ext
  match a with
  | ⟨0, _⟩ => show win0_1.index t 0 * 5120 + 1 * (i 0).val = (i 0).val; rw [(idx1 t).1]; omega
  | ⟨1, _⟩ => show win0_1.index t 1 * 2048 + 1 * (i 1).val = (i 1).val; rw [(idx1 t).2]; omega

/-- The launched activations and weights. -/
abbrev X (c : Dev nD) : FVec Ideal ⟨2, ![8192, 2048]⟩ .bf16 := m ((c.tc : Thread nD τ).loc main_arg0)
abbrev W (c : Dev nD) : FVec Ideal ⟨2, ![5120, 2048]⟩ .bf16 := m ((c.tc : Thread nD τ).loc main_arg1)

/-- The call's three results of the launched arguments. -/
abbrev GP (c : Dev nD) : FVec Ideal ⟨2, ![8192, 5120]⟩ .f32 := whole (X m c) (W m c)
abbrev GH (c : Dev nD) : FVec Ideal ⟨2, ![8192, 5120]⟩ .bf16 := whole (X m c) (W m c)
abbrev GR (c : Dev nD) : FVec Ideal ⟨2, ![65536, 128]⟩ .f32 := dealt (X m c) (W m c)

/-- A product over a point's blocks is that of its row of the arrays. -/
theorem prod_blk (c : Dev nD) (t : Fin cfg0.N) (r k : ℕ) (hr : r < 256) :
    prod (M := 256) (iblk m c 0 t) (iblk m c 1 t) r k = prod (X m c) (W m c) (256 * t.val + r) k := by
  unfold prod
  refine Finset.sum_congr rfl fun q _ => ?_
  exact congrArg₂ (fun p q : EReal => p * q) (blk0 m c t r q.val hr q.isLt)
    (congrArg (fun v : S5120x2048.Idx → EReal => at2 v k q.val) (blk1 m c t))

theorem flushed2_eq (c : Dev nD) (t : Fin cfg0.N) (_ : (cfg0.win 2).flush t = true) :
    (dats m 0 c).flushed 2 t = ((cfg0.win 2).blk t).view.read (Elt Ideal) (GP m c) := by
  refine Eq.trans (show _ = (cfg0.win 2).cut (grid0.coords t) ((dats m 0 c).after 2 t) from rfl) ?_
  rw [after2]
  funext j
  rw [View.read_apply]
  have h0 : (j 0).val < 256 := (j 0).isLt
  refine ((congrArg _ (eq_ix2 j)).trans (outP_apply (iblk m c 0 t) (iblk m c 1 t) (j 0) (j 1))).trans ((prod_blk m c t (j 0).val (j 1).val h0).trans ?_)
  refine congrArg₂ (prod (X m c) (W m c)) ?_ ?_
  · show 256 * t.val + (j 0).val = win0_2.index t 0 * 256 + 1 * (j 0).val; rw [(idx2 t).1]; omega
  · show (j 1).val = win0_2.index t 1 * 5120 + 1 * (j 1).val; rw [(idx2 t).2]; omega

theorem covered2 (i : S8192x5120.Idx) :
    ∃ t : Fin cfg0.N, (cfg0.win 2).flush t = true ∧ i ∈ ((cfg0.win 2).blk t).view.set := by
  have h0 : (i 0).val < 8192 := (i 0).isLt
  have h1 : (i 1).val < 5120 := (i 1).isLt
  let t : Fin cfg0.N := ⟨(i 0).val / 256, by show _ < 32; omega⟩
  have e : t.val = (i 0).val / 256 := rfl
  refine ⟨t, flush0_2 t, ?_⟩
  show i ∈ ((View.whole main_v0_0).slice (win0_2.rect t)).set
  rw [View.set_slice_whole, Rect.mem_set_unit]
  intro a
  match a with
  | ⟨0, _⟩ =>
    show win0_2.index t 0 * 256 ≤ (i 0).val ∧ (i 0).val < win0_2.index t 0 * 256 + 256
    rw [(idx2 t).1, e]; omega
  | ⟨1, _⟩ =>
    show win0_2.index t 1 * 5120 ≤ (i 1).val ∧ (i 1).val < win0_2.index t 1 * 5120 + 5120
    rw [(idx2 t).2]; omega

theorem final2 (c : Dev nD) : (dats m 0 c).arrAt 2 cfg0.N = (GP m c) :=
  (dats m 0 c).arrAt_eq_of_cover 2 (GP m c) (flushed2_eq m c) covered2

theorem flushed3_eq (c : Dev nD) (t : Fin cfg0.N) (_ : (cfg0.win 3).flush t = true) :
    (dats m 0 c).flushed 3 t = ((cfg0.win 3).blk t).view.read (Elt Ideal) (GH m c) := by
  refine Eq.trans (show _ = (cfg0.win 3).cut (grid0.coords t) ((dats m 0 c).after 3 t) from rfl) ?_
  rw [after3]
  funext j
  rw [View.read_apply]
  have h0 : (j 0).val < 256 := (j 0).isLt
  refine ((congrArg _ (eq_ix2 j)).trans (outH_apply (iblk m c 0 t) (iblk m c 1 t) (j 0) (j 1))).trans ((prod_blk m c t (j 0).val (j 1).val h0).trans ?_)
  refine congrArg₂ (prod (X m c) (W m c)) ?_ ?_
  · show 256 * t.val + (j 0).val = win0_3.index t 0 * 256 + 1 * (j 0).val; rw [(idx3 t).1]; omega
  · show (j 1).val = win0_3.index t 1 * 5120 + 1 * (j 1).val; rw [(idx3 t).2]; omega

theorem covered3 (i : S8192x5120.Idx) :
    ∃ t : Fin cfg0.N, (cfg0.win 3).flush t = true ∧ i ∈ ((cfg0.win 3).blk t).view.set := by
  have h0 : (i 0).val < 8192 := (i 0).isLt
  have h1 : (i 1).val < 5120 := (i 1).isLt
  let t : Fin cfg0.N := ⟨(i 0).val / 256, by show _ < 32; omega⟩
  have e : t.val = (i 0).val / 256 := rfl
  refine ⟨t, flush0_3 t, ?_⟩
  show i ∈ ((View.whole main_v0_1).slice (win0_3.rect t)).set
  rw [View.set_slice_whole, Rect.mem_set_unit]
  intro a
  match a with
  | ⟨0, _⟩ =>
    show win0_3.index t 0 * 256 ≤ (i 0).val ∧ (i 0).val < win0_3.index t 0 * 256 + 256
    rw [(idx3 t).1, e]; omega
  | ⟨1, _⟩ =>
    show win0_3.index t 1 * 5120 ≤ (i 1).val ∧ (i 1).val < win0_3.index t 1 * 5120 + 5120
    rw [(idx3 t).2]; omega

theorem final3 (c : Dev nD) : (dats m 0 c).arrAt 3 cfg0.N = (GH m c) :=
  (dats m 0 c).arrAt_eq_of_cover 3 (GH m c) (flushed3_eq m c) covered3

theorem flushed4_eq (c : Dev nD) (t : Fin cfg0.N) (_ : (cfg0.win 4).flush t = true) :
    (dats m 0 c).flushed 4 t = ((cfg0.win 4).blk t).view.read (Elt Ideal) (GR m c) := by
  refine Eq.trans (show _ = (cfg0.win 4).cut (grid0.coords t) ((dats m 0 c).after 4 t) from rfl) ?_
  rw [after4]
  funext j
  rw [View.read_apply]
  have h0 : (j 0).val < 2048 := (j 0).isLt
  refine (outR_apply (iblk m c 0 t) (iblk m c 1 t) j).trans ((prod_blk m c t _ _ (by omega)).trans ?_)
  refine congrArg₂ (prod (X m c) (W m c)) ?_ ?_
  · show 256 * t.val + (j 0).val / 8 = (win0_4.index t 0 * 2048 + 1 * (j 0).val) / 8; rw [(idx4 t).1]; omega
  · show 2560 + 128 * ((j 0).val % 8) + (j 1).val = 2560 + 128 * ((win0_4.index t 0 * 2048 + 1 * (j 0).val) % 8) + (win0_4.index t 1 * 128 + 1 * (j 1).val)
    rw [(idx4 t).1, (idx4 t).2]; omega

theorem covered4 (i : S65536x128.Idx) :
    ∃ t : Fin cfg0.N, (cfg0.win 4).flush t = true ∧ i ∈ ((cfg0.win 4).blk t).view.set := by
  have h0 : (i 0).val < 65536 := (i 0).isLt
  have h1 : (i 1).val < 128 := (i 1).isLt
  let t : Fin cfg0.N := ⟨(i 0).val / 2048, by show _ < 32; omega⟩
  have e : t.val = (i 0).val / 2048 := rfl
  refine ⟨t, flush0_4 t, ?_⟩
  show i ∈ ((View.whole main_v0_2).slice (win0_4.rect t)).set
  rw [View.set_slice_whole, Rect.mem_set_unit]
  intro a
  match a with
  | ⟨0, _⟩ =>
    show win0_4.index t 0 * 2048 ≤ (i 0).val ∧ (i 0).val < win0_4.index t 0 * 2048 + 2048
    rw [(idx4 t).1, e]; omega
  | ⟨1, _⟩ =>
    show win0_4.index t 1 * 128 ≤ (i 1).val ∧ (i 1).val < win0_4.index t 1 * 128 + 128
    rw [(idx4 t).2]; omega

theorem final4 (c : Dev nD) : (dats m 0 c).arrAt 4 cfg0.N = (GR m c) :=
  (dats m 0 c).arrAt_eq_of_cover 4 (GR m c) (flushed4_eq m c) covered4

/-- The run, with the three result arrays at the call's results and the arguments unchanged. -/
theorem run_results : θ_run defs (onTc (τ := τ) (main (F := Ideal))) ⟨m, fun _ => 0, ρ⟩ (fun r => ∀ c : Dev nD,
      r.2.mem ((c.tc : Thread nD τ).loc main_v0_0) = GP m c
      ∧ r.2.mem ((c.tc : Thread nD τ).loc main_v0_1) = GH m c
      ∧ r.2.mem ((c.tc : Thread nD τ).loc main_v0_2) = GR m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).1 2).trans (final2 m c), ((h c).1 3).trans (final3 m c), ((h c).1 4).trans (final4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (Cert.Proof.ProjIdeal.run m ρ)

end

section
open Cert.Reference4Ideal Cert.Reference4Ideal.Read

variable (x : FVec Ideal S8192x2048 .bf16) (w : FVec Ideal S5120x2048 .bf16)

/-- The reference's product, at an index. -/
theorem ref_prod (i : S8192x5120.Idx) : val_main_v3 (F := Ideal) x w i = prod x w (i 0).val (i 1).val := by
  rw [val_main_v3_apply]
  refine Finset.sum_congr rfl fun q _ => ?_
  rw [val_main_v2_apply]
  exact congrArg₂ (fun p q : EReal => p * q) (at2_eq x _ _ _ rfl rfl) (at2_eq w _ _ _ rfl rfl)

theorem ref_whole : val_main_v3 (F := Ideal) x w = whole x w := funext (ref_prod x w)

/-- The first four heads' columns, -/
theorem ref_left (i : S8192x1x4x128.Idx) : val_main_v8 (F := Ideal) x w i = prod x w (i 0).val (2560 + 128 * (i 2).val + (i 3).val) := by
  rw [val_main_v8_apply, val_main_v6_apply, val_main_v4_apply, ref_prod]
  have h2 : (i 2).val < 4 := (i 2).isLt
  have h3 : (i 3).val < 128 := (i 3).isLt
  refine congrArg₂ (prod x w) ?_ ?_
  · show (((i 0).val * 4 + (i 2).val) * 128 + (i 3).val) / 512 = (i 0).val; omega
  · show 2560 + (((i 0).val * 4 + (i 2).val) * 128 + (i 3).val) % 512 = _; omega

/-- and the next four's. -/
theorem ref_right (i : S8192x1x4x128.Idx) : val_main_v9 (F := Ideal) x w i = prod x w (i 0).val (3072 + 128 * (i 2).val + (i 3).val) := by
  rw [val_main_v9_apply, val_main_v7_apply, val_main_v5_apply, ref_prod]
  have h2 : (i 2).val < 4 := (i 2).isLt
  have h3 : (i 3).val < 128 := (i 3).isLt
  refine congrArg₂ (prod x w) ?_ ?_
  · show (((i 0).val * 4 + (i 2).val) * 128 + (i 3).val) / 512 = (i 0).val; omega
  · show 3072 + (((i 0).val * 4 + (i 2).val) * 128 + (i 3).val) % 512 = _; omega

/-- The reference's stacked heads, at an index. -/
theorem ref_stacked (i : S8192x2x4x128.Idx) : val_main_v10 (F := Ideal) x w i
    = prod x w (i 0).val (2560 + 512 * (i 1).val + 128 * (i 2).val + (i 3).val) := by
  have h1 : (i 1).val < 2 := (i 1).isLt
  unfold val_main_v10
  let k : S8192x1x4x128.Idx := fun a => match a with
    | ⟨0, _⟩ => ⟨(i 0).val, (i 0).isLt⟩
    | ⟨1, _⟩ => ⟨0, by show 0 < 1; omega⟩
    | ⟨2, _⟩ => ⟨(i 2).val, (i 2).isLt⟩
    | ⟨3, _⟩ => ⟨(i 3).val, (i 3).isLt⟩
  by_cases h : (i 1).val = 0
  · refine (concatenate_apply_piece 1 _ _ i 0 (by simp) S8192x1x4x128 (val_main_v8 (F := Ideal) x w) rfl rfl 0 rfl k (fun b hb => ?_) ?_).trans ((ref_left x w k).trans ?_)
    · match b with
      | ⟨0, _⟩ => rfl
      | ⟨1, _⟩ => exact absurd rfl hb
      | ⟨2, _⟩ => rfl
      | ⟨3, _⟩ => rfl
    · show 0 + 0 = (i 1).val; omega
    · refine congrArg (prod x w (i 0).val) ?_
      show 2560 + 128 * (i 2).val + (i 3).val = _; omega
  · refine (concatenate_apply_piece 1 _ _ i 1 (by simp) S8192x1x4x128 (val_main_v9 (F := Ideal) x w) rfl rfl 1 rfl k (fun b hb => ?_) ?_).trans ((ref_right x w k).trans ?_)
    · match b with
      | ⟨0, _⟩ => rfl
      | ⟨1, _⟩ => exact absurd rfl hb
      | ⟨2, _⟩ => rfl
      | ⟨3, _⟩ => rfl
    · show 1 + 0 = (i 1).val; omega
    · refine congrArg (prod x w (i 0).val) ?_
      show 3072 + 128 * (i 2).val + (i 3).val = _; omega

/-- The reference's dealt-out rows. -/
theorem ref_dealt : val_main_v12 (F := Ideal) x w = dealt x w := by
  funext i
  have h1 : (i 1).val < 128 := (i 1).isLt
  rw [val_main_v12_apply, ref_stacked]
  refine congrArg₂ (prod x w) ?_ ?_
  · show ((i 0).val * 128 + (i 1).val) / 1024 = (i 0).val / 8; omega
  · show 2560 + 512 * (((i 0).val * 128 + (i 1).val) / 512 % 2) + 128 * (((i 0).val * 128 + (i 1).val) / 128 % 4) + ((i 0).val * 128 + (i 1).val) % 128 = _
    omega

end

/-- Run on the same arguments, the kernel and the reference end with the same three result arrays. -/
theorem algebraic : Cert.algebraic_Kernel4Ideal_Reference4Ideal := by
  intro m ρ m' ρ' _ hagree
  refine ⟨fun c => GP m c, fun c => GH m c, fun c => GR m c, ?_, ?_⟩
  · exact run_results m ρ
  · refine (θ_run Cert.Reference4Ideal.defs _ _).mono (fun _ h c => ?_) (Cert.Reference4Ideal.Value.run (F := Ideal) m' ρ')
    obtain ⟨e0, e1⟩ := hagree c
    have kw := (ref_whole
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))).trans
      (show _ = GP m c by unfold GP X W; rw [← e0, ← e1])
    have kr := (ref_dealt
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))).trans
      (show _ = GR m c by unfold GR X W; rw [← e0, ← e1])
    exact ⟨(h c).1.trans ((Cert.Reference4Ideal.Read.val_main_v3_eq ..).trans kw),
      (h c).2.1.trans ((Cert.Reference4Ideal.Read.val_main_v11_eq ..).trans kw),
      (h c).2.2.1.trans ((Cert.Reference4Ideal.Read.val_main_v12_eq ..).trans kr), (h c).2.2.2⟩

/-- The reference runs to its end and leaves its arguments and every counter as they were. -/
theorem quiescent : Cert.quiescent_Reference4Ideal := fun m ρ _ =>
  (θ_run Cert.Reference4Ideal.defs _ _).mono
    (fun r h => ⟨fun c => (h c).2.2.2, Idealize.ShloMosaic.sem_eq_zero_of_no_sems (by decide) r.2⟩)
    (Cert.Reference4Ideal.Value.run (F := Ideal) m ρ)

end Cert.Proof.Proj
-- ==== Proof.OutProj.lean ====
/-
  The attention's output projection with its residual and layer norm. The heads' results come in four groups of 512
  columns. The kernel multiplies each group with its 512 rows of the weight and adds the four products; the reference joins
  the groups and multiplies once. Each grid point computes 512 rows.
-/
module

public import proofs.«01_k».proof.Defs
public import proofs.«01_k».proof.Proof.Norm
public import proofs.«01_k».proof.Proof.Entries
public import proofs.«01_k».proof.Proof.Gen.Kernel5Ideal.Value
public import proofs.«01_k».proof.Proof.Gen.Reference5Ideal.Run
public import proofs.«01_k».proof.Proof.Gen.Reference5Ideal.Read
public import Idealize.ShloMosaic.Lib.MatmulPlain
public import Idealize.ShloMosaic.Lib.Quiescent
public import Idealize.ShloMosaic.Adequacy
public import Idealize.ShloMosaic.Init

@[expose] public section

set_option maxRecDepth 16384

noncomputable section

namespace Cert.Proof.OutProj

open Idealize.ShloMosaic Idealize.ShloMosaic.ValueIdx Idealize.ShloMosaic.TcCoe Idealize.SL.Sem Cert.Proof.Norm Cert.Proof.Entries

/-- The weight of the residual, as the programs write it. -/
abbrev alpha : EReal := Ideal.ofBits .f32 0x3FB504F3#32

section
variable {M : ℕ} (y0 y1 y2 y3 : (⟨2, ![M, 512]⟩ : Shape).Idx → EReal) (w : (⟨2, ![2048, 2048]⟩ : Shape).Idx → EReal)
  (x : (⟨2, ![M, 2048]⟩ : Shape).Idx → EReal)

/-- The four groups side by side, at a row and a column. -/
def joined (r q : ℕ) : EReal :=
  if q < 512 then at2 y0 r q else if q < 1024 then at2 y1 r (q - 512) else if q < 1536 then at2 y2 r (q - 1024) else at2 y3 r (q - 1536)

/-- The residual plus the projection, at a row and a column. -/
def sumAt (r : ℕ) (k : Fin 2048) : EReal := alpha * at2 x r k.val + ∑ q : Fin 2048, joined y0 y1 y2 y3 r q.val * at2 w q.val k.val

/-- The product with the joined groups is the sum of the groups' products with their rows of the weight. -/
theorem groups (r k : ℕ) : ∑ q : Fin 2048, joined y0 y1 y2 y3 r q.val * at2 w q.val k
    = (((∑ q : Fin 512, at2 y0 r q.val * at2 w q.val k) + ∑ q : Fin 512, at2 y1 r q.val * at2 w (512 + q.val) k)
      + ∑ q : Fin 512, at2 y2 r q.val * at2 w (1024 + q.val) k) + ∑ q : Fin 512, at2 y3 r q.val * at2 w (1536 + q.val) k := by
  have hs : ∀ f : ℕ → EReal, ∑ q ∈ Finset.range 2048, f q = ((∑ q ∈ Finset.range 512, f q) + ∑ q ∈ Finset.range 512, f (512 + q)
      + ∑ q ∈ Finset.range 512, f (1024 + q)) + ∑ q ∈ Finset.range 512, f (1536 + q) := by
    intro f
    rw [show 2048 = 512 + 512 + 512 + 512 from rfl, Finset.sum_range_add, Finset.sum_range_add, Finset.sum_range_add]
  rw [Fin.sum_univ_eq_sum_range (fun q => joined y0 y1 y2 y3 r q * at2 w q k) 2048,
    Fin.sum_univ_eq_sum_range (fun q => at2 y0 r q * at2 w q k) 512, Fin.sum_univ_eq_sum_range (fun q => at2 y1 r q * at2 w (512 + q) k) 512,
    Fin.sum_univ_eq_sum_range (fun q => at2 y2 r q * at2 w (1024 + q) k) 512,
    Fin.sum_univ_eq_sum_range (fun q => at2 y3 r q * at2 w (1536 + q) k) 512, hs]
  unfold joined
  refine congrArg₂ (fun p q : EReal => p + q) (congrArg₂ (fun p q : EReal => p + q) (congrArg₂ (fun p q : EReal => p + q) ?_ ?_) ?_) ?_ <;>
    refine Finset.sum_congr rfl fun q hq => ?_ <;> have hq' := Finset.mem_range.mp hq
  · rw [if_pos hq']
  · rw [if_neg (by omega), if_pos (by omega), show 512 + q - 512 = q by omega]
  · rw [if_neg (by omega), if_neg (by omega), if_pos (by omega), show 1024 + q - 1024 = q by omega]
  · rw [if_neg (by omega), if_neg (by omega), if_neg (by omega), show 1536 + q - 1536 = q by omega]

end

/-- The call's result as a function of its arguments: the layer norm of each row of that sum. -/
def out (y0 y1 y2 y3 : FVec Ideal ⟨2, ![8192, 512]⟩ .bf16) (w : FVec Ideal ⟨2, ![2048, 2048]⟩ .bf16)
    (x : FVec Ideal ⟨2, ![8192, 2048]⟩ .f32) (a b : FVec Ideal ⟨2, ![1, 2048]⟩ .f32) : FVec Ideal ⟨2, ![8192, 2048]⟩ .f32 :=
  fun i => normAt (sumAt y0 y1 y2 y3 w x (i 0).val) (a (ix2 0 (i 1))) (b (ix2 0 (i 1))) (i 1)

section
open Cert.Kernel5Ideal Cert.Kernel5Ideal.Gen

/-- A group's product with 512 rows of the weight, read at an index. -/
theorem part (y : FVec Ideal S512x512 .bf16) (w : FVec Ideal S2048x2048 .bf16) (v : FVec Ideal S512x2048 .bf16) (o : ℕ)
    (hv : ∀ (q : Fin 512) (k : Fin 2048), v (ix2 q k) = at2 w (o + q.val) k.val) (r : Fin 512) (k : Fin 2048) :
    matmul dot_S512x512_S512x2048_S512x2048_1_0_0_1_n_n none y v (constant (F := Ideal) S512x2048 .f32 0x00000000#32) (ix2 r k)
      = ∑ q : Fin 512, at2 y r.val q.val * at2 w (o + q.val) k.val := by
  refine (Ideal.matmul_plain_apply (M := 512) (K := 512) (N := 2048) none y v _ r k).trans ?_
  refine Eq.trans (congrArg (· + _) (show _ = (0 : EReal) from Ideal.ofBits_zero_f32)) ((zero_add _).trans ?_)
  exact Finset.sum_congr rfl fun q _ => congrArg₂ (fun p q : EReal => p * q) (at2_ix y r q) (hv q k)

variable (y0 y1 y2 y3 : FVec Ideal S512x512 .bf16) (w : FVec Ideal S2048x2048 .bf16) (x : FVec Ideal S512x2048 .f32)
  (a b : FVec Ideal S1x2048 .f32)

/-- What a grid point computes of its blocks, at an index: the layer norm of the row. -/
theorem pay_apply (r : Fin 512) (j : Fin 2048) :
    k0_pay1 (F := Ideal) a b
      (k0_pay3 y0 (View.ld (Val := Elt Ideal) (e' := .bf16) w r0_1) y1 (View.ld (Val := Elt Ideal) (e' := .bf16) w r0_2) y2
        (View.ld (Val := Elt Ideal) (e' := .bf16) w r0_3) y3 (View.ld (Val := Elt Ideal) (e' := .bf16) w r0_4) x)
      (k0_pay4 y0 (View.ld (Val := Elt Ideal) (e' := .bf16) w r0_1) y1 (View.ld (Val := Elt Ideal) (e' := .bf16) w r0_2) y2
        (View.ld (Val := Elt Ideal) (e' := .bf16) w r0_3) y3 (View.ld (Val := Elt Ideal) (e' := .bf16) w r0_4) x) (ix2 r j)
      = normAt (sumAt y0 y1 y2 y3 w x r.val) (a (ix2 0 j)) (b (ix2 0 j)) j := by
  refine Eq.trans (show _ = normRows (addf (mulf (broadcast S512x2048 (Scalar.ofBits .f32 0x3FB504F3#32)) x)
    (addf (addf (addf
      (matmul dot_S512x512_S512x2048_S512x2048_1_0_0_1_n_n none y0 (View.ld (Val := Elt Ideal) (e' := .bf16) w r0_1) (constant S512x2048 .f32 0x00000000#32))
      (matmul dot_S512x512_S512x2048_S512x2048_1_0_0_1_n_n none y1 (View.ld (Val := Elt Ideal) (e' := .bf16) w r0_2) (constant S512x2048 .f32 0x00000000#32)))
      (matmul dot_S512x512_S512x2048_S512x2048_1_0_0_1_n_n none y2 (View.ld (Val := Elt Ideal) (e' := .bf16) w r0_3) (constant S512x2048 .f32 0x00000000#32)))
      (matmul dot_S512x512_S512x2048_S512x2048_1_0_0_1_n_n none y3 (View.ld (Val := Elt Ideal) (e' := .bf16) w r0_4) (constant S512x2048 .f32 0x00000000#32)))) a b
    reduces_S512x2048_S512 shapeCasts_S512_S512x1 broadcasts_S512x1_S512x2048 broadcasts_S1x2048_S512x2048 (ix2 r j)
    from rfl) ?_
  rw [normRows_apply]
  congr 1
  funext k
  unfold sumAt
  rw [groups, addf_apply, mulf_apply, addf_apply, addf_apply, addf_apply,
    part y0 w (View.ld (Val := Elt Ideal) (e' := .bf16) w r0_1) 0 (fun q k => at2_eq w _ _ _ (by show 0 + 1 * q.val = _; omega) (by show 0 + 1 * k.val = _; omega)),
    part y1 w (View.ld (Val := Elt Ideal) (e' := .bf16) w r0_2) 512 (fun q k => at2_eq w _ _ _ (by show 512 + 1 * q.val = _; omega) (by show 0 + 1 * k.val = _; omega)),
    part y2 w (View.ld (Val := Elt Ideal) (e' := .bf16) w r0_3) 1024 (fun q k => at2_eq w _ _ _ (by show 1024 + 1 * q.val = _; omega) (by show 0 + 1 * k.val = _; omega)),
    part y3 w (View.ld (Val := Elt Ideal) (e' := .bf16) w r0_4) 1536 (fun q k => at2_eq w _ _ _ (by show 1536 + 1 * q.val = _; omega) (by show 0 + 1 * k.val = _; omega)),
    at2_ix x]
  simp only [Nat.zero_add]
  rfl

theorem zero2 : (![0, 0] : Fin 2 → Nat) = fun _ => 0 := by
  funext a; match a with | ⟨0, _⟩ => rfl | ⟨1, _⟩ => rfl

theorem out8 (r : Fin 512) (j : Fin 2048) : out0_8 (F := Ideal) y0 y1 y2 y3 w x a b (ix2 r j)
    = normAt (sumAt y0 y1 y2 y3 w x r.val) (a (ix2 0 j)) (b (ix2 0 j)) j := by
  unfold out0_8 k0_pay5 k0_pay6
  rw [View.canon_unit_zero zero2]
  simp only [View.ld_unit_zero (S := S512x2048) zero2, View.ld_unit_zero (S := S512x512) zero2, View.ld_unit_zero (S := S1x2048) zero2]
  exact pay_apply y0 y1 y2 y3 w x a b r j

theorem out9 (r : Fin 512) (j : Fin 2048) : out0_9 (F := Ideal) y0 y1 y2 y3 w x a b (ix2 r j)
    = normAt (sumAt y0 y1 y2 y3 w x r.val) (a (ix2 0 j)) (b (ix2 0 j)) j := by
  unfold out0_9 k0_pay5 k0_pay6 k0_pay2
  rw [View.canon_unit_zero zero2]
  simp only [View.ld_unit_zero (S := S512x2048) zero2, View.ld_unit_zero (S := S512x512) zero2, View.ld_unit_zero (S := S1x2048) zero2]
  exact pay_apply y0 y1 y2 y3 w x a b r j

variable (m : (ℓ : Loc nD τ sig) → Buf (Elt Ideal) ℓ)

/-- Where the windows stand at each grid point. -/
theorem idx0 : ∀ t : Fin cfg0.N, win0_0.index t 0 = t.val ∧ win0_0.index t 1 = 0 :=
  (by decide +kernel : ∀ t : Fin grid0.N, win0_0.index t 0 = t.val ∧ win0_0.index t 1 = 0)

theorem idx1 : ∀ t : Fin cfg0.N, win0_1.index t 0 = t.val ∧ win0_1.index t 1 = 0 :=
  (by decide +kernel : ∀ t : Fin grid0.N, win0_1.index t 0 = t.val ∧ win0_1.index t 1 = 0)

theorem idx2 : ∀ t : Fin cfg0.N, win0_2.index t 0 = t.val ∧ win0_2.index t 1 = 0 :=
  (by decide +kernel : ∀ t : Fin grid0.N, win0_2.index t 0 = t.val ∧ win0_2.index t 1 = 0)

theorem idx3 : ∀ t : Fin cfg0.N, win0_3.index t 0 = t.val ∧ win0_3.index t 1 = 0 :=
  (by decide +kernel : ∀ t : Fin grid0.N, win0_3.index t 0 = t.val ∧ win0_3.index t 1 = 0)

theorem idx4 : ∀ t : Fin cfg0.N, win0_4.index t 0 = 0 ∧ win0_4.index t 1 = 0 :=
  (by decide +kernel : ∀ t : Fin grid0.N, win0_4.index t 0 = 0 ∧ win0_4.index t 1 = 0)

theorem idx5 : ∀ t : Fin cfg0.N, win0_5.index t 0 = t.val ∧ win0_5.index t 1 = 0 :=
  (by decide +kernel : ∀ t : Fin grid0.N, win0_5.index t 0 = t.val ∧ win0_5.index t 1 = 0)

theorem idx6 : ∀ t : Fin cfg0.N, win0_6.index t 0 = 0 ∧ win0_6.index t 1 = 0 :=
  (by decide +kernel : ∀ t : Fin grid0.N, win0_6.index t 0 = 0 ∧ win0_6.index t 1 = 0)

theorem idx7 : ∀ t : Fin cfg0.N, win0_7.index t 0 = 0 ∧ win0_7.index t 1 = 0 :=
  (by decide +kernel : ∀ t : Fin grid0.N, win0_7.index t 0 = 0 ∧ win0_7.index t 1 = 0)

theorem idx8 : ∀ t : Fin cfg0.N, win0_8.index t 0 = t.val ∧ win0_8.index t 1 = 0 :=
  (by decide +kernel : ∀ t : Fin grid0.N, win0_8.index t 0 = t.val ∧ win0_8.index t 1 = 0)

theorem idx9 : ∀ t : Fin cfg0.N, win0_9.index t 0 = t.val ∧ win0_9.index t 1 = 0 :=
  (by decide +kernel : ∀ t : Fin grid0.N, win0_9.index t 0 = t.val ∧ win0_9.index t 1 = 0)

/-- The blocks of the groups and of the residual are rows of theirs. -/
theorem blk0 (c : Dev nD) (t : Fin cfg0.N) (r q : ℕ) (hr : r < 512) (hq : q < 512) :
    at2 (M := 512) (N := 512) (iblk m c 0 t) r q = at2 (M := 8192) (N := 512) (m ((c.tc : Thread nD τ).loc main_arg0)) (512 * t.val + r) q := by
  have ht : t.val < 16 := t.isLt
  unfold at2
  rw [dif_pos ⟨hr, hq⟩, dif_pos ⟨by omega, hq⟩]
  unfold iblk; rw [View.read_apply]
  show V m c main_arg0 _ = m ((c.tc : Thread nD τ).loc main_arg0) _
  unfold V; congr 1; funext a; apply Fin.ext
  match a with
  | ⟨0, _⟩ => show win0_0.index t 0 * 512 + 1 * r = 512 * t.val + r; rw [(idx0 t).1]; omega
  | ⟨1, _⟩ => show win0_0.index t 1 * 512 + 1 * q = q; rw [(idx0 t).2]; omega

theorem blk1 (c : Dev nD) (t : Fin cfg0.N) (r q : ℕ) (hr : r < 512) (hq : q < 512) :
    at2 (M := 512) (N := 512) (iblk m c 1 t) r q = at2 (M := 8192) (N := 512) (m ((c.tc : Thread nD τ).loc main_arg1)) (512 * t.val + r) q := by
  have ht : t.val < 16 := t.isLt
  unfold at2
  rw [dif_pos ⟨hr, hq⟩, dif_pos ⟨by omega, hq⟩]
  unfold iblk; rw [View.read_apply]
  show V m c main_arg1 _ = m ((c.tc : Thread nD τ).loc main_arg1) _
  unfold V; congr 1; funext a; apply Fin.ext
  match a with
  | ⟨0, _⟩ => show win0_1.index t 0 * 512 + 1 * r = 512 * t.val + r; rw [(idx1 t).1]; omega
  | ⟨1, _⟩ => show win0_1.index t 1 * 512 + 1 * q = q; rw [(idx1 t).2]; omega

theorem blk2 (c : Dev nD) (t : Fin cfg0.N) (r q : ℕ) (hr : r < 512) (hq : q < 512) :
    at2 (M := 512) (N := 512) (iblk m c 2 t) r q = at2 (M := 8192) (N := 512) (m ((c.tc : Thread nD τ).loc main_arg2)) (512 * t.val + r) q := by
  have ht : t.val < 16 := t.isLt
  unfold at2
  rw [dif_pos ⟨hr, hq⟩, dif_pos ⟨by omega, hq⟩]
  unfold iblk; rw [View.read_apply]
  show V m c main_arg2 _ = m ((c.tc : Thread nD τ).loc main_arg2) _
  unfold V; congr 1; funext a; apply Fin.ext
  match a with
  | ⟨0, _⟩ => show win0_2.index t 0 * 512 + 1 * r = 512 * t.val + r; rw [(idx2 t).1]; omega
  | ⟨1, _⟩ => show win0_2.index t 1 * 512 + 1 * q = q; rw [(idx2 t).2]; omega

theorem blk3 (c : Dev nD) (t : Fin cfg0.N) (r q : ℕ) (hr : r < 512) (hq : q < 512) :
    at2 (M := 512) (N := 512) (iblk m c 3 t) r q = at2 (M := 8192) (N := 512) (m ((c.tc : Thread nD τ).loc main_arg3)) (512 * t.val + r) q := by
  have ht : t.val < 16 := t.isLt
  unfold at2
  rw [dif_pos ⟨hr, hq⟩, dif_pos ⟨by omega, hq⟩]
  unfold iblk; rw [View.read_apply]
  show V m c main_arg3 _ = m ((c.tc : Thread nD τ).loc main_arg3) _
  unfold V; congr 1; funext a; apply Fin.ext
  match a with
  | ⟨0, _⟩ => show win0_3.index t 0 * 512 + 1 * r = 512 * t.val + r; rw [(idx3 t).1]; omega
  | ⟨1, _⟩ => show win0_3.index t 1 * 512 + 1 * q = q; rw [(idx3 t).2]; omega

theorem blk5 (c : Dev nD) (t : Fin cfg0.N) (r q : ℕ) (hr : r < 512) (hq : q < 2048) :
    at2 (M := 512) (N := 2048) (iblk m c 5 t) r q = at2 (M := 8192) (N := 2048) (m ((c.tc : Thread nD τ).loc main_arg5)) (512 * t.val + r) q := by
  have ht : t.val < 16 := t.isLt
  unfold at2
  rw [dif_pos ⟨hr, hq⟩, dif_pos ⟨by omega, hq⟩]
  unfold iblk; rw [View.read_apply]
  show V m c main_arg5 _ = m ((c.tc : Thread nD τ).loc main_arg5) _
  unfold V; congr 1; funext a; apply Fin.ext
  match a with
  | ⟨0, _⟩ => show win0_5.index t 0 * 512 + 1 * r = 512 * t.val + r; rw [(idx5 t).1]; omega
  | ⟨1, _⟩ => show win0_5.index t 1 * 2048 + 1 * q = q; rw [(idx5 t).2]; omega

/-- The other blocks are the whole of their arrays. -/
theorem blk4 (c : Dev nD) (t : Fin cfg0.N) : iblk m c 4 t = m ((c.tc : Thread nD τ).loc main_arg4) := by
  funext i
  unfold iblk; rw [View.read_apply]
  show V m c main_arg4 _ = m ((c.tc : Thread nD τ).loc main_arg4) _
  unfold V; congr 1; funext a; apply Fin.ext
  match a with
  | ⟨0, _⟩ => show win0_4.index t 0 * 2048 + 1 * (i 0).val = (i 0).val; rw [(idx4 t).1]; omega
  | ⟨1, _⟩ => show win0_4.index t 1 * 2048 + 1 * (i 1).val = (i 1).val; rw [(idx4 t).2]; omega

theorem blk6 (c : Dev nD) (t : Fin cfg0.N) : iblk m c 6 t = m ((c.tc : Thread nD τ).loc main_arg6) := by
  funext i
  unfold iblk; rw [View.read_apply]
  show V m c main_arg6 _ = m ((c.tc : Thread nD τ).loc main_arg6) _
  unfold V; congr 1; funext a; apply Fin.ext
  match a with
  | ⟨0, _⟩ => show win0_6.index t 0 * 1 + 1 * (i 0).val = (i 0).val; rw [(idx6 t).1]; omega
  | ⟨1, _⟩ => show win0_6.index t 1 * 2048 + 1 * (i 1).val = (i 1).val; rw [(idx6 t).2]; omega

theorem blk7 (c : Dev nD) (t : Fin cfg0.N) : iblk m c 7 t = m ((c.tc : Thread nD τ).loc main_arg7) := by
  funext i
  unfold iblk; rw [View.read_apply]
  show V m c main_arg7 _ = m ((c.tc : Thread nD τ).loc main_arg7) _
  unfold V; congr 1; funext a; apply Fin.ext
  match a with
  | ⟨0, _⟩ => show win0_7.index t 0 * 1 + 1 * (i 0).val = (i 0).val; rw [(idx7 t).1]; omega
  | ⟨1, _⟩ => show win0_7.index t 1 * 2048 + 1 * (i 1).val = (i 1).val; rw [(idx7 t).2]; omega

/-- The call's result of the launched arguments. -/
abbrev G (c : Dev nD) : FVec Ideal ⟨2, ![8192, 2048]⟩ .f32 :=
  out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- A row of a point's block, as a row of the whole array. -/
def row (t : Fin cfg0.N) (r : Fin 512) : Fin 8192 := ⟨512 * t.val + r.val, by have := t.isLt; have : t.val < 16 := this; omega⟩

/-- A row's sum over a point's blocks is that of its row of the arrays. -/
theorem sum_blk (c : Dev nD) (t : Fin cfg0.N) (r : Fin 512) :
    sumAt (M := 512) (iblk m c 0 t) (iblk m c 1 t) (iblk m c 2 t) (iblk m c 3 t) (m ((c.tc : Thread nD τ).loc main_arg4)) (iblk m c 5 t) r.val
      = sumAt (M := 8192) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (512 * t.val + r.val) := by
  funext k
  unfold sumAt
  refine congrArg₂ (fun p q : EReal => p + q) (congrArg (alpha * ·) (blk5 m c t _ _ r.isLt k.isLt)) (Finset.sum_congr rfl fun q _ => ?_)
  refine congrArg (fun p : EReal => p * _) ?_
  have hq := q.isLt
  unfold joined
  split
  · exact blk0 m c t _ _ r.isLt (by omega)
  split
  · exact blk1 m c t _ _ r.isLt (by omega)
  split
  · exact blk2 m c t _ _ r.isLt (by omega)
  · exact blk3 m c t _ _ r.isLt (by omega)

theorem at8 (c : Dev nD) (t : Fin cfg0.N) (r : Fin 512) (j : Fin 2048) :
    out0_8 (F := Ideal) (iblk m c 0 t) (iblk m c 1 t) (iblk m c 2 t) (iblk m c 3 t) (iblk m c 4 t) (iblk m c 5 t) (iblk m c 6 t) (iblk m c 7 t)
      (ix2 r j) = G m c (ix2 (row t r) j) := by
  refine (out8 _ _ _ _ _ _ _ _ r j).trans ?_
  rw [blk4, blk6, blk7, sum_blk]
  rfl

theorem flushed8_eq (c : Dev nD) (t : Fin cfg0.N) (_ : (cfg0.win 8).flush t = true) :
    (dats m 0 c).flushed 8 t = ((cfg0.win 8).blk t).view.read (Elt Ideal) (G m c) := by
  rw [Cert.Kernel5Ideal.Value.flushed8]
  funext j
  rw [View.read_apply]
  refine ((congrArg _ (eq_ix2 j)).trans (at8 m c t (j 0) (j 1))).trans ?_
  refine congrArg (G m c) ?_
  funext a; apply Fin.ext
  match a with
  | ⟨0, _⟩ => show 512 * t.val + (j 0).val = win0_8.index t 0 * 512 + 1 * (j 0).val; rw [(idx8 t).1]; omega
  | ⟨1, _⟩ => show (j 1).val = win0_8.index t 1 * 2048 + 1 * (j 1).val; rw [(idx8 t).2]; omega

theorem covered8 (i : S8192x2048.Idx) :
    ∃ t : Fin cfg0.N, (cfg0.win 8).flush t = true ∧ i ∈ ((cfg0.win 8).blk t).view.set := by
  have h0 : (i 0).val < 8192 := (i 0).isLt
  have h1 : (i 1).val < 2048 := (i 1).isLt
  let t : Fin cfg0.N := ⟨(i 0).val / 512, by show _ < 16; omega⟩
  have e : t.val = (i 0).val / 512 := rfl
  refine ⟨t, flush0_8 t, ?_⟩
  show i ∈ ((View.whole main_v0_0).slice (win0_8.rect t)).set
  rw [View.set_slice_whole, Rect.mem_set_unit]
  intro a
  match a with
  | ⟨0, _⟩ =>
    show win0_8.index t 0 * 512 ≤ (i 0).val ∧ (i 0).val < win0_8.index t 0 * 512 + 512
    rw [(idx8 t).1, e]; omega
  | ⟨1, _⟩ =>
    show win0_8.index t 1 * 2048 ≤ (i 1).val ∧ (i 1).val < win0_8.index t 1 * 2048 + 2048
    rw [(idx8 t).2]; omega

theorem final8 (c : Dev nD) : (dats m 0 c).arrAt 8 cfg0.N = (G m c) :=
  (dats m 0 c).arrAt_eq_of_cover 8 (G m c) (flushed8_eq m c) covered8

theorem at9 (c : Dev nD) (t : Fin cfg0.N) (r : Fin 512) (j : Fin 2048) :
    out0_9 (F := Ideal) (iblk m c 0 t) (iblk m c 1 t) (iblk m c 2 t) (iblk m c 3 t) (iblk m c 4 t) (iblk m c 5 t) (iblk m c 6 t) (iblk m c 7 t)
      (ix2 r j) = G m c (ix2 (row t r) j) := by
  refine (out9 _ _ _ _ _ _ _ _ r j).trans ?_
  rw [blk4, blk6, blk7, sum_blk]
  rfl

theorem flushed9_eq (c : Dev nD) (t : Fin cfg0.N) (_ : (cfg0.win 9).flush t = true) :
    (dats m 0 c).flushed 9 t = ((cfg0.win 9).blk t).view.read (Elt Ideal) (show FVec Ideal S8192x2048 .bf16 from G m c) := by
  rw [Cert.Kernel5Ideal.Value.flushed9]
  funext j
  rw [View.read_apply]
  refine ((congrArg _ (eq_ix2 j)).trans (at9 m c t (j 0) (j 1))).trans ?_
  refine congrArg (G m c) ?_
  funext a; apply Fin.ext
  match a with
  | ⟨0, _⟩ => show 512 * t.val + (j 0).val = win0_9.index t 0 * 512 + 1 * (j 0).val; rw [(idx9 t).1]; omega
  | ⟨1, _⟩ => show (j 1).val = win0_9.index t 1 * 2048 + 1 * (j 1).val; rw [(idx9 t).2]; omega

theorem covered9 (i : S8192x2048.Idx) :
    ∃ t : Fin cfg0.N, (cfg0.win 9).flush t = true ∧ i ∈ ((cfg0.win 9).blk t).view.set := by
  have h0 : (i 0).val < 8192 := (i 0).isLt
  have h1 : (i 1).val < 2048 := (i 1).isLt
  let t : Fin cfg0.N := ⟨(i 0).val / 512, by show _ < 16; omega⟩
  have e : t.val = (i 0).val / 512 := rfl
  refine ⟨t, flush0_9 t, ?_⟩
  show i ∈ ((View.whole main_v0_1).slice (win0_9.rect t)).set
  rw [View.set_slice_whole, Rect.mem_set_unit]
  intro a
  match a with
  | ⟨0, _⟩ =>
    show win0_9.index t 0 * 512 ≤ (i 0).val ∧ (i 0).val < win0_9.index t 0 * 512 + 512
    rw [(idx9 t).1, e]; omega
  | ⟨1, _⟩ =>
    show win0_9.index t 1 * 2048 ≤ (i 1).val ∧ (i 1).val < win0_9.index t 1 * 2048 + 2048
    rw [(idx9 t).2]; omega

theorem final9 (c : Dev nD) : (dats m 0 c).arrAt 9 cfg0.N = (show FVec Ideal S8192x2048 .bf16 from G m c) :=
  (dats m 0 c).arrAt_eq_of_cover 9 (show FVec Ideal S8192x2048 .bf16 from G m c) (flushed9_eq m c) covered9

end

section
open Cert.Reference5Ideal Cert.Reference5Ideal.Read

variable (y0 y1 y2 y3 : FVec Ideal S8192x512 .bf16) (w : FVec Ideal S2048x2048 .bf16) (x : FVec Ideal S8192x2048 .f32)
  (a b : FVec Ideal S1x2048 .f32)

/-- The reference's joined groups. -/
theorem ref_joined (r : Fin 8192) (q : Fin 2048) : val_main_v0 (F := Ideal) y0 y1 y2 y3 (ix2 r q) = joined y0 y1 y2 y3 r.val q.val := by
  have hq := q.isLt
  unfold val_main_v0 joined
  split
  · next h =>
    refine (concatenate_apply_piece 1 _ _ (ix2 r q) 0 (by simp) S8192x512 y0 rfl rfl 0 rfl (ix2 r ⟨q.val, h⟩) (fun b hb => ?_) ?_).trans (at2_ix y0 _ _)
    · match b with
      | ⟨0, _⟩ => rfl
      | ⟨1, _⟩ => exact absurd rfl hb
    · show 0 + q.val = q.val; omega
  split
  · refine (concatenate_apply_piece 1 _ _ (ix2 r q) 1 (by simp) S8192x512 y1 rfl rfl 512 rfl (ix2 r ⟨q.val - 512, by omega⟩) (fun b hb => ?_) ?_).trans (at2_ix y1 _ _)
    · match b with
      | ⟨0, _⟩ => rfl
      | ⟨1, _⟩ => exact absurd rfl hb
    · show 512 + (q.val - 512) = q.val; omega
  split
  · refine (concatenate_apply_piece 1 _ _ (ix2 r q) 2 (by simp) S8192x512 y2 rfl rfl 1024 rfl (ix2 r ⟨q.val - 1024, by omega⟩) (fun b hb => ?_) ?_).trans (at2_ix y2 _ _)
    · match b with
      | ⟨0, _⟩ => rfl
      | ⟨1, _⟩ => exact absurd rfl hb
    · show 1024 + (q.val - 1024) = q.val; omega
  · refine (concatenate_apply_piece 1 _ _ (ix2 r q) 3 (by simp) S8192x512 y3 rfl rfl 1536 rfl (ix2 r ⟨q.val - 1536, by omega⟩) (fun b hb => ?_) ?_).trans (at2_ix y3 _ _)
    · match b with
      | ⟨0, _⟩ => rfl
      | ⟨1, _⟩ => exact absurd rfl hb
    · show 1536 + (q.val - 1536) = q.val; omega

theorem ref_sum (r : Fin 8192) (k : Fin 2048) : val_main_v6 (F := Ideal) y0 y1 y2 y3 w x (ix2 r k) = sumAt y0 y1 y2 y3 w x r.val k := by
  rw [val_main_v6_apply, val_main_v5_apply, val_main_v4_apply, val_main_v3_apply]
  unfold sumAt
  refine congrArg₂ (fun p q : EReal => p + q) (congrArg (alpha * ·) (at2_ix x r k)) (Finset.sum_congr rfl fun q _ => ?_)
  exact congrArg₂ (fun p q : EReal => p * q) ((congrArg _ (eq_ix2 _)).trans (ref_joined y0 y1 y2 y3 r q)) (at2_eq w _ _ _ rfl rfl)

theorem ref_mean (i : S8192x1.Idx) : val_main_v10 (F := Ideal) y0 y1 y2 y3 w x i = mean (sumAt y0 y1 y2 y3 w x (i 0).val) := by
  rw [val_main_v10_apply, val_main_v9_apply, val_main_v8_apply, val_main_v7_apply]
  refine congrArg (Ideal.div · width) ?_
  refine Eq.trans (congrArg (· + _) (show _ = (0 : EReal) from Ideal.ofBits_zero_f32)) ((zero_add _).trans ?_)
  exact Finset.sum_congr rfl fun q _ => (congrArg _ (eq_ix2 _)).trans (ref_sum y0 y1 y2 y3 w x (i 0) q)

theorem ref_centred (r : Fin 8192) (k : Fin 2048) : val_main_v19 (F := Ideal) y0 y1 y2 y3 w x (ix2 r k)
    = sumAt y0 y1 y2 y3 w x r.val k - mean (sumAt y0 y1 y2 y3 w x r.val) := by
  rw [val_main_v19_apply, val_main_v18_apply, ref_mean, ref_sum]; rfl

theorem ref_square (r : Fin 8192) (k : Fin 2048) : val_main_v13 (F := Ideal) y0 y1 y2 y3 w x (ix2 r k)
    = (sumAt y0 y1 y2 y3 w x r.val k - mean (sumAt y0 y1 y2 y3 w x r.val)) * (sumAt y0 y1 y2 y3 w x r.val k - mean (sumAt y0 y1 y2 y3 w x r.val)) := by
  rw [val_main_v13_apply, val_main_v12_apply, val_main_v11_apply, ref_mean, ref_sum]; rfl

theorem ref_variance (i : S8192x1.Idx) : val_main_v17 (F := Ideal) y0 y1 y2 y3 w x i = variance (sumAt y0 y1 y2 y3 w x (i 0).val) := by
  rw [val_main_v17_apply, val_main_v16_apply, val_main_v15_apply, val_main_v14_apply]
  refine congrArg (Ideal.div · width) ?_
  refine Eq.trans (congrArg (· + _) (show _ = (0 : EReal) from Ideal.ofBits_zero_f32)) ((zero_add _).trans ?_)
  exact Finset.sum_congr rfl fun q _ => (congrArg _ (eq_ix2 _)).trans (ref_square y0 y1 y2 y3 w x (i 0) q)

theorem ref_apply (r : Fin 8192) (k : Fin 2048) : val_main_v28 (F := Ideal) y0 y1 y2 y3 w x a b (ix2 r k)
    = normAt (sumAt y0 y1 y2 y3 w x r.val) (a (ix2 0 k)) (b (ix2 0 k)) k := by
  rw [val_main_v28_apply, val_main_v27_apply, val_main_v26_apply, val_main_v25_apply, val_main_v24_apply,
    val_main_v23_apply, val_main_v22_apply, val_main_v21_apply, val_main_v20_apply, ref_variance, ref_centred]
  unfold normAt
  refine congrArg₂ (fun x y : EReal => x + y) (congrArg₂ (fun x y : EReal => x * y) rfl (congrArg a ?_)) (congrArg b ?_) <;>
    (funext c; match c with | ⟨0, _⟩ => rfl | ⟨1, _⟩ => rfl)

/-- The reference computes the call's result. -/
theorem ref_out : val_main_v28 (F := Ideal) y0 y1 y2 y3 w x a b = out y0 y1 y2 y3 w x a b :=
  funext fun i => (congrArg _ (eq_ix2 i)).trans (ref_apply y0 y1 y2 y3 w x a b (i 0) (i 1))

end

/-- Run on the same arguments, the kernel and the reference end with the same result arrays. -/
theorem algebraic : Cert.algebraic_Kernel5Ideal_Reference5Ideal := by
  intro m ρ m' ρ' _ hagree
  refine ⟨fun c => G m c, fun c => G m c, ?_, ?_⟩
  · refine (θ_run Cert.Kernel5Ideal.defs _ _).mono (fun _ h c => ?_) (Cert.Kernel5Ideal.Value.run_blocks m ρ)
    exact ⟨(h c).1.trans (final8 m c), (h c).2.1.trans (final9 m c), (h c).2.2⟩
  · refine (θ_run Cert.Reference5Ideal.defs _ _).mono (fun _ h c => ?_) (Cert.Reference5Ideal.Value.run (F := Ideal) m' ρ')
    obtain ⟨e0, e1, e2, e3, e4, e5, e6, e7⟩ := hagree c
    have key := ref_out
      (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2))
      (m' ((c.tc : Thread Cert.Reference5Ideal.nD Cert.Reference5Ideal.τ).loc Cert.Reference5Ideal.main_arg3))
      (m' ((c.tc : Thread Cert.Reference5Ideal.nD Cert.Reference5Ideal.τ).loc Cert.Reference5Ideal.main_arg4))
      (m' ((c.tc : Thread Cert.Reference5Ideal.nD Cert.Reference5Ideal.τ).loc Cert.Reference5Ideal.main_arg5))
      (m' ((c.tc : Thread Cert.Reference5Ideal.nD Cert.Reference5Ideal.τ).loc Cert.Reference5Ideal.main_arg6))
      (m' ((c.tc : Thread Cert.Reference5Ideal.nD Cert.Reference5Ideal.τ).loc Cert.Reference5Ideal.main_arg7))
    have key' := key.trans (show _ = G m c by unfold G; rw [← e0, ← e1, ← e2, ← e3, ← e4, ← e5, ← e6, ← e7])
    exact ⟨(h c).1.trans ((Cert.Reference5Ideal.Read.val_main_v28_eq ..).trans key'),
      (h c).2.1.trans ((Cert.Reference5Ideal.Read.val_main_v29_eq ..).trans key'), (h c).2.2⟩

/-- The reference runs to its end and leaves its arguments and every counter as they were. -/
theorem quiescent : Cert.quiescent_Reference5Ideal := fun m ρ _ =>
  (θ_run Cert.Reference5Ideal.defs _ _).mono
    (fun r h => ⟨fun c => (h c).2.2, Idealize.ShloMosaic.sem_eq_zero_of_no_sems (by decide) r.2⟩)
    (Cert.Reference5Ideal.Value.run (F := Ideal) m ρ)

end Cert.Proof.OutProj
-- ==== Proof.FfnUpPromptIdeal.lean ====
/- The frame of the feed-forward part's first half for the prompt (`Kernel6Ideal`): what one step of its body leaves in
   the three output windows and in the rows kept for the next step of the same columns, and the run of the whole launch
   with every window's array at the end of it. -/
module

public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Kernel6Ideal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.WritesUnit
public import Idealize.ShloMosaic.Lib.ValueLayout
public import Idealize.ShloMosaic.Lib.Pipeline.Value

@[expose] public section

set_option maxRecDepth 16384

noncomputable section

namespace Cert.Proof.FfnUpPromptIdeal

open Cert.Kernel6Ideal Cert.Kernel6Ideal.Gen

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

abbrev rX : Rect S512x2048 := Rect.unit (s := S512x2048) ![0, 0] S512x2048.size inb_S512x2048_S512x2048_0_0

/-! The left and the right 256 columns of a window, of the weights, the convolution's weights and bias, the gated
    values and the last rows. -/

abbrev rW0 : Rect S2048x512 := Rect.unit (s := S2048x512) ![0, 0] S2048x256.size inb_S2048x512_S2048x256_0_0
abbrev rW1 : Rect S2048x512 := Rect.unit (s := S2048x512) ![0, 256] S2048x256.size inb_S2048x512_S2048x256_0_256
abbrev rC0 : Rect S3x512 := Rect.unit (s := S3x512) ![0, 0] S3x256.size inb_S3x512_S3x256_0_0
abbrev rC1 : Rect S3x512 := Rect.unit (s := S3x512) ![0, 256] S3x256.size inb_S3x512_S3x256_0_256
abbrev rB0 : Rect S1x512 := Rect.unit (s := S1x512) ![0, 0] S1x256.size inb_S1x512_S1x256_0_0
abbrev rB1 : Rect S1x512 := Rect.unit (s := S1x512) ![0, 256] S1x256.size inb_S1x512_S1x256_0_256
abbrev rG0 : Rect S512x512 := Rect.unit (s := S512x512) ![0, 0] S512x256.size inb_S512x512_S512x256_0_0
abbrev rG1 : Rect S512x512 := Rect.unit (s := S512x512) ![0, 256] S512x256.size inb_S512x512_S512x256_0_256
abbrev rT0 : Rect S1x8x512 := Rect.unit (s := S1x8x512) ![0, 0, 0] S1x8x256.size inb_S1x8x512_S1x8x256_0_0_0
abbrev rT1 : Rect S1x8x512 := Rect.unit (s := S1x8x512) ![0, 0, 256] S1x8x256.size inb_S1x8x512_S1x8x256_0_0_256
/-- The rows kept for the columns of point `i`. -/
abbrev rK (i : grid0.Coords) : Rect S11x8x512 := Rect.unit (s := S11x8x512) (k0_off2 i) S1x8x512.size (k0_off2_inb i)

/-- Eight rows `p` and then 512 rows `u`, read from row `o / 2` of them on. -/
def back (o : ℕ) (p : Vec F S1x8x128 .f32) (u : Vec F S1x512x128 .f32) : Vec F S1x512x128 .f32 := fun j =>
  if h : o + 2 * (j 1).val < 16 then p (ix3 (0 : Fin 1) (⟨(o + 2 * (j 1).val) / 2, by omega⟩ : Fin 8) (j 2))
  else u (ix3 (0 : Fin 1) (⟨(o + 2 * (j 1).val - 16) / 2 % 512, Nat.mod_lt _ (by omega)⟩ : Fin 512) (j 2))

/-- The convolution of 256 columns from the projection `u`, the weights `w`, the bias `b` and the rows two back and one
    back, of the left (`l2`, `l1`) and of the right (`r2`, `r1`) 128 columns. -/
def convV (u : FVec F S512x256 .f32) (w : FVec F S3x256 .f32) (b : FVec F S1x256 .f32) (l2 l1 r2 r1 : Vec F S1x512x128 .f32) :
    FVec F S512x256 .f32 :=
  k0_pay20 (k0_pay11 u w b l2 l1) (k0_pay14 w) (k0_pay15 b) (k0_pay16 r1) (k0_pay17 u) (k0_pay18 w r2) (k0_pay19 w)

/-- The first 128 columns of 256, as one block of rows. -/
def left (u : FVec F S512x256 .f32) : Vec F S1x512x128 .f32 :=
  shapeCast S1x512x128 (extractStridedSlice S512x128 ![0, 0] u slices_S512x256_o0_0_S512x128) shapeCasts_S512x128_S1x512x128

/-- The same of eight rows. -/
def left8 (q : FVec F S8x256 .f32) : Vec F S1x8x128 .f32 :=
  shapeCast S1x8x128 (extractStridedSlice S8x128 ![0, 0] q slices_S8x256_o0_0_S8x128) shapeCasts_S8x128_S1x8x128

/-- The convolution of 256 columns, the rows before the first being `q`. -/
def convH (u : FVec F S512x256 .f32) (q : FVec F S8x256 .f32) (w : FVec F S3x256 .f32) (b : FVec F S1x256 .f32) : FVec F S512x256 .f32 :=
  convV u w b (back 12 (left8 q) (left u)) (back 14 (left8 q) (left u)) (back 12 (k0_pay12 q) (k0_pay13 u)) (back 14 (k0_pay12 q) (k0_pay13 u))

/-- The gate. -/
def gateH (a b : FVec F S512x256 .f32) : FVec F S512x256 .bf16 := truncf .bf16 (mulf (mulf a (logistic a)) b) bitsLt_bf16_f32

/-- The gated values' window after the body, from the blocks and the rows kept. -/
def outG (x2 : Vec F S512x2048 .bf16) (x3 x4 : Vec F S2048x512 .bf16) (x5 x6 : Vec F S3x512 .f32) (x7 x8 : Vec F S1x512 .f32)
    (pa pb : Vec F S1x8x512 .f32) : Vec F S512x512 .bf16 :=
  View.canon [⟨rG1, gateH (convH (k0_pay7 (View.ld x2 rX) (View.ld x3 rW1)) (k0_pay43 pa) (View.ld x5 rC1) (View.ld x7 rB1))
      (convH (k0_pay7 (View.ld x2 rX) (View.ld x4 rW1)) (k0_pay43 pb) (View.ld x6 rC1) (View.ld x8 rB1))⟩,
    ⟨rG0, gateH (convH (k0_pay7 (View.ld x2 rX) (View.ld x3 rW0)) (k0_pay8 pa) (View.ld x5 rC0) (View.ld x7 rB0))
      (convH (k0_pay7 (View.ld x2 rX) (View.ld x4 rW0)) (k0_pay8 pb) (View.ld x6 rC0) (View.ld x8 rB0))⟩]

/-- A window of last rows after the body. -/
def outT (x2 : Vec F S512x2048 .bf16) (w : Vec F S2048x512 .bf16) : Vec F S1x8x512 .f32 :=
  View.canon [⟨rT1, k0_pay23 (k0_pay7 (View.ld x2 rX) (View.ld w rW1))⟩, ⟨rT0, k0_pay23 (k0_pay7 (View.ld x2 rX) (View.ld w rW0))⟩]

/-- The rows kept after the body: those of the point's columns are now `T`. -/
def kept (i : grid0.Coords) (x : Vec F S11x8x512 .f32) (T : Vec F S1x8x512 .f32) : Vec F S11x8x512 .f32 := fun y =>
  if (y 0).val = (i 1).val then T (ix3 (0 : Fin 1) (y 1 : Fin 8) (y 2 : Fin 512)) else x y

/-! ## Reads of what the body has stored -/

theorem off1 : ∀ i : grid0.Coords, k0_off1 i = ![(i 1).val, 0, 0] :=
  fun i => (by decide +kernel : ∀ f : Fin 11, ![(Scalar.indexCast (BitVec.ofNat 32 f.val)).toNat, 0, 0] = ![f.val, 0, 0]) (i 1)
theorem off2 : ∀ i : grid0.Coords, k0_off2 i = ![(i 1).val, 0, 0] :=
  fun i => (by decide +kernel : ∀ f : Fin 11, ![(Scalar.indexCast (BitVec.ofNat 32 f.val)).toNat, 0, 0] = ![f.val, 0, 0]) (i 1)
theorem off3 : ∀ i : grid0.Coords, k0_off3 i = ![(i 1).val, 0, 0] :=
  fun i => (by decide +kernel : ∀ f : Fin 11, ![(Scalar.indexCast (BitVec.ofNat 32 f.val)).toNat, 0, 0] = ![f.val, 0, 0]) (i 1)
theorem off4 : ∀ i : grid0.Coords, k0_off4 i = ![(i 1).val, 0, 256] :=
  fun i => (by decide +kernel : ∀ f : Fin 11, ![(Scalar.indexCast (BitVec.ofNat 32 f.val)).toNat, 0, 256] = ![f.val, 0, 256]) (i 1)

theorem mem_emb {s : Shape} (r : Rect s) (x : r.shape.Idx) : r.emb x ∈ r.set :=
  r.map_emb_univ ▸ Finset.mem_map_of_mem _ (Finset.mem_univ x)

/-- A load of every second row from row `o` of a slab where the eight rows `p` and the 512 rows `u` stand, is `back o`. -/
theorem read_back (v : View sig .tc .vmem S4x1040x128 .f32) (f : v.ty.Contents (Elt F)) (s o : ℕ) (ho : o = 12 ∨ o = 14)
    (L : List (View.Piece (Elt F) S4x1040x128 .f32)) (p : Vec F S1x8x128 .f32) (u : Vec F S1x512x128 .f32) (inb inb8 inbu) :
    View.readAt (Elt F) v (⟨![s, o, 0], S1x512x128.size, ![1, 2, 1], inb⟩ : LoadRect S4x1040x128)
      (v.writes (Elt F) f (⟨⟨(⟨![s, 16, 0], S1x512x128.size, ![1, 2, 1], inbu⟩ : LoadRect S4x1040x128), spos_1_2_1⟩, u⟩
        :: ⟨⟨(⟨![s, 0, 0], S1x8x128.size, ![1, 2, 1], inb8⟩ : LoadRect S4x1040x128), spos_1_2_1⟩, p⟩ :: L)) = back o p u := by
  funext j
  have h0 : (j 0).val = 0 := by have h : (j 0).val < 1 := (j 0).isLt; omega
  have h1 : (j 1).val < 512 := (j 1).isLt
  have h2 : (j 2).val < 128 := (j 2).isLt
  show v.read (Elt F) (v.writes (Elt F) f _) ((⟨![s, o, 0], S1x512x128.size, ![1, 2, 1], inb⟩ : LoadRect S4x1040x128).idx j) = back o p u j
  unfold back
  by_cases h : o + 2 * (j 1).val < 16
  · rw [dif_pos h]
    have e : (⟨![s, o, 0], S1x512x128.size, ![1, 2, 1], inb⟩ : LoadRect S4x1040x128).idx j
        = (⟨(⟨![s, 0, 0], S1x8x128.size, ![1, 2, 1], inb8⟩ : LoadRect S4x1040x128), spos_1_2_1⟩ : Rect S4x1040x128).emb
          (ix3 (0 : Fin 1) (⟨(o + 2 * (j 1).val) / 2, by omega⟩ : Fin 8) (j 2)) := by
      funext a
      apply Fin.ext
      match a with
      | ⟨0, _⟩ => show s + 1 * (j 0).val = s + 1 * 0; omega
      | ⟨1, _⟩ => show o + 2 * (j 1).val = 0 + 2 * ((o + 2 * (j 1).val) / 2); omega
      | ⟨2, _⟩ => rfl
    rw [View.read_writes_apply_eq_canon v f _ _ ⟨_, List.mem_cons_of_mem _ (List.mem_cons_self ..), e ▸ mem_emb _ _⟩,
      View.canon_cons_of_not_mem, e, View.canon_cons_emb]
    intro hm
    obtain ⟨q, hq, hq'⟩ := (LoadRect.mem_set _).mp hm 1
    have hq'' : o + 2 * (j 1).val = 16 + 2 * q := hq'
    omega
  · rw [dif_neg h]
    have e : (⟨![s, o, 0], S1x512x128.size, ![1, 2, 1], inb⟩ : LoadRect S4x1040x128).idx j
        = (⟨(⟨![s, 16, 0], S1x512x128.size, ![1, 2, 1], inbu⟩ : LoadRect S4x1040x128), spos_1_2_1⟩ : Rect S4x1040x128).emb
          (ix3 (0 : Fin 1) (⟨(o + 2 * (j 1).val - 16) / 2 % 512, Nat.mod_lt _ (by omega)⟩ : Fin 512) (j 2)) := by
      funext a
      apply Fin.ext
      match a with
      | ⟨0, _⟩ => show s + 1 * (j 0).val = s + 1 * 0; omega
      | ⟨1, _⟩ => show o + 2 * (j 1).val = 16 + 2 * ((o + 2 * (j 1).val - 16) / 2 % 512); omega
      | ⟨2, _⟩ => rfl
    rw [View.read_writes_apply_eq_canon v f _ _ ⟨_, List.mem_cons_self .., e ▸ mem_emb _ _⟩, e, View.canon_cons_emb]

/-- Two rows back, -/
theorem read_back2 (v : View sig .tc .vmem S4x1040x128 .f32) (f : v.ty.Contents (Elt F)) (s : ℕ)
    (L : List (View.Piece (Elt F) S4x1040x128 .f32)) (p : Vec F S1x8x128 .f32) (u : Vec F S1x512x128 .f32) (inb inb8 inbu) :
    View.readAt (Elt F) v (⟨![s, 12, 0], S1x512x128.size, ![1, 2, 1], inb⟩ : LoadRect S4x1040x128)
      (v.writes (Elt F) f (⟨⟨(⟨![s, 16, 0], S1x512x128.size, ![1, 2, 1], inbu⟩ : LoadRect S4x1040x128), spos_1_2_1⟩, u⟩
        :: ⟨⟨(⟨![s, 0, 0], S1x8x128.size, ![1, 2, 1], inb8⟩ : LoadRect S4x1040x128), spos_1_2_1⟩, p⟩ :: L)) = back 12 p u :=
  read_back v f s 12 (.inl rfl) L p u inb inb8 inbu

/-- and one row back. -/
theorem read_back1 (v : View sig .tc .vmem S4x1040x128 .f32) (f : v.ty.Contents (Elt F)) (s : ℕ)
    (L : List (View.Piece (Elt F) S4x1040x128 .f32)) (p : Vec F S1x8x128 .f32) (u : Vec F S1x512x128 .f32) (inb inb8 inbu) :
    View.readAt (Elt F) v (⟨![s, 14, 0], S1x512x128.size, ![1, 2, 1], inb⟩ : LoadRect S4x1040x128)
      (v.writes (Elt F) f (⟨⟨(⟨![s, 16, 0], S1x512x128.size, ![1, 2, 1], inbu⟩ : LoadRect S4x1040x128), spos_1_2_1⟩, u⟩
        :: ⟨⟨(⟨![s, 0, 0], S1x8x128.size, ![1, 2, 1], inb8⟩ : LoadRect S4x1040x128), spos_1_2_1⟩, p⟩ :: L)) = back 14 p u :=
  read_back v f s 14 (.inr rfl) L p u inb inb8 inbu

section
variable (v : View sig .tc .vmem S11x8x512 .f32) (f : v.ty.Contents (Elt F)) (i : grid0.Coords)

/-- The right 256 columns of the eight rows, entry by entry. -/
theorem pay43_apply (q : Vec F S1x8x512 .f32) (r : Fin 8) (k : Fin 256) :
    k0_pay43 q (ix2 r k) = q (ix3 (0 : Fin 1) r (⟨256 + k.val, by omega⟩ : Fin 512)) := by
  unfold k0_pay43
  refine (extractStridedSlice_apply ![0, 256] _ _ _ (ix2 r (⟨256 + k.val, by omega⟩ : Fin 512)) (fun a => ?_)).trans ?_
  · match a with
    | ⟨0, _⟩ => show r.val = 0 + r.val; omega
    | ⟨1, _⟩ => rfl
  · exact shapeCast_1ab_ab_apply _ _ _ _

/-- A store of the left columns leaves the right ones. -/
theorem read_right (t : Vec F S1x8x256 .f32) (L : List (View.Piece (Elt F) S11x8x512 .f32)) (inb inbk) :
    k0_pay43 (View.readAt (Elt F) v (Rect.unit (s := S11x8x512) (k0_off2 i) S1x8x512.size inbk).toLoadRect
      (v.writes (Elt F) f (⟨Rect.unit (s := S11x8x512) (k0_off3 i) S1x8x256.size inb, t⟩ :: L)))
    = k0_pay43 (View.readAt (Elt F) v (Rect.unit (s := S11x8x512) (k0_off2 i) S1x8x512.size inbk).toLoadRect (v.writes (Elt F) f L)) := by
  funext j
  rw [eq_ix2 j]
  refine (pay43_apply _ (j 0) (j 1)).trans (Eq.trans ?_ (pay43_apply _ (j 0) (j 1)).symm)
  refine View.read_writes_cons_unit_of_not_mem v f inb t L _ (off3 i) 2 (.inr ?_)
  show 0 + 256 ≤ k0_off2 i 2 + 1 * (256 + (j 1).val)
  omega

/-- A store of all the rows kept, read. -/
theorem read_all (z : Vec F S1x8x512 .f32) (inb inbk) :
    View.readAt (Elt F) v (Rect.unit (s := S11x8x512) (k0_off2 i) S1x8x512.size inbk).toLoadRect
      (v.writes (Elt F) f [⟨Rect.unit (s := S11x8x512) (k0_off1 i) S1x8x512.size inb, z⟩]) = z := by
  funext j
  refine View.read_writes_cons_unit_of_mem v f inb z [] _ j (off1 i) fun a => ?_
  show k0_off2 i a + 1 * (j a).val = (![(i 1).val, 0, 0] : Fin 3 → ℕ) a + (j a).val
  have h := congrFun (off2 i) a
  omega

theorem outT_left (t1 t0 : Vec F S1x8x256 .f32) (r : Fin 8) (k : Fin 512) (h : k.val < 256) :
    View.canon [⟨rT1, t1⟩, ⟨rT0, t0⟩] (ix3 (0 : Fin 1) r k) = t0 (ix3 (0 : Fin 1) r ⟨k.val, h⟩) := by
  have e : (ix3 (0 : Fin 1) r k : S1x8x512.Idx) = rT0.emb (ix3 (0 : Fin 1) r ⟨k.val, h⟩) := by
    funext a
    apply Fin.ext
    match a with
    | ⟨0, _⟩ => rfl
    | ⟨1, _⟩ => show r.val = 0 + 1 * r.val; omega
    | ⟨2, _⟩ => show k.val = 0 + 1 * k.val; omega
  rw [View.canon_cons_of_not_mem, e, View.canon_cons_emb]
  rw [Rect.mem_set_unit]
  intro hm
  have h1 : 256 ≤ k.val := (hm 2).1
  omega

theorem outT_right (t1 t0 : Vec F S1x8x256 .f32) (r : Fin 8) (k : Fin 512) (h : ¬ k.val < 256) :
    View.canon [⟨rT1, t1⟩, ⟨rT0, t0⟩] (ix3 (0 : Fin 1) r k) = t1 (ix3 (0 : Fin 1) r ⟨k.val - 256, by omega⟩) := by
  have e : (ix3 (0 : Fin 1) r k : S1x8x512.Idx) = rT1.emb (ix3 (0 : Fin 1) r ⟨k.val - 256, by omega⟩) := by
    funext a
    apply Fin.ext
    match a with
    | ⟨0, _⟩ => rfl
    | ⟨1, _⟩ => show r.val = 0 + 1 * r.val; omega
    | ⟨2, _⟩ => show k.val = 256 + 1 * (k.val - 256); omega
  rw [e, View.canon_cons_emb]

/-- The rows kept after both halves' stores, whatever was stored before in the same rows. -/
theorem read_kept (t1 t0 : Vec F S1x8x256 .f32) (L : List (View.Piece (Elt F) S11x8x512 .f32)) (inb4 inb3)
    (hL : ∀ y : S11x8x512.Idx, (y 0).val ≠ (i 1).val → v.read (Elt F) (v.writes (Elt F) f L) y = v.read (Elt F) f y) :
    v.read (Elt F) (v.writes (Elt F) f (⟨Rect.unit (s := S11x8x512) (k0_off4 i) S1x8x256.size inb4, t1⟩
      :: ⟨Rect.unit (s := S11x8x512) (k0_off3 i) S1x8x256.size inb3, t0⟩ :: L))
    = kept i (v.read (Elt F) f) (View.canon [⟨rT1, t1⟩, ⟨rT0, t0⟩]) := by
  funext y
  have h1 : (y 1).val < 8 := (y 1).isLt
  have h2 : (y 2).val < 512 := (y 2).isLt
  unfold kept
  by_cases hy : (y 0).val = (i 1).val
  · rw [if_pos hy]
    by_cases h : (y 2).val < 256
    · rw [outT_left t1 t0 (y 1) (y 2) h, View.read_writes_cons_unit_of_not_mem v f inb4 t1 _ y (off4 i) 2 (.inl h)]
      refine View.read_writes_cons_unit_of_mem v f inb3 t0 L y _ (off3 i) fun a => ?_
      match a with
      | ⟨0, _⟩ => exact hy
      | ⟨1, _⟩ => show (y 1).val = 0 + (y 1).val; omega
      | ⟨2, _⟩ => show (y 2).val = 0 + (y 2).val; omega
    · rw [outT_right t1 t0 (y 1) (y 2) h]
      refine View.read_writes_cons_unit_of_mem v f inb4 t1 _ y _ (off4 i) fun a => ?_
      match a with
      | ⟨0, _⟩ => exact hy
      | ⟨1, _⟩ => show (y 1).val = 0 + (y 1).val; omega
      | ⟨2, _⟩ => show (y 2).val = 256 + ((y 2).val - 256); omega
  · rw [if_neg hy]
    have hlt : (y 0).val < (i 1).val ∨ (i 1).val + 1 ≤ (y 0).val := by omega
    rw [View.read_writes_cons_unit_of_not_mem v f inb4 t1 _ y (off4 i) 0 hlt,
      View.read_writes_cons_unit_of_not_mem v f inb3 t0 _ y (off3 i) 0 hlt]
    exact hL y hy

/-- A store into the point's rows leaves the others. -/
theorem others (z : Vec F S1x8x512 .f32) (inb) (y : S11x8x512.Idx) (hy : (y 0).val ≠ (i 1).val) :
    v.read (Elt F) (v.writes (Elt F) f [⟨Rect.unit (s := S11x8x512) (k0_off1 i) S1x8x512.size inb, z⟩]) y = v.read (Elt F) f y :=
  View.read_writes_cons_unit_of_not_mem v f inb z [] y (off1 i) 0
    (show (y 0).val < (i 1).val ∨ (i 1).val + 1 ≤ (y 0).val by omega)

end

/-- Two stores of halves cover a window of gated values, -/
theorem coverG (p q : Vec F S512x256 .bf16) (y : S512x512.Idx) :
    ∃ pc ∈ ([⟨rG1, p⟩, ⟨rG0, q⟩] : List (View.Piece (Elt F) S512x512 .bf16)), y ∈ pc.1.set :=
  View.cover_of_tiled [⟨rG1, p⟩, ⟨rG0, q⟩] S512x256.size (by rfl) y

/-- and of last rows. -/
theorem coverT (p q : Vec F S1x8x256 .f32) (y : S1x8x512.Idx) :
    ∃ pc ∈ ([⟨rT1, p⟩, ⟨rT0, q⟩] : List (View.Piece (Elt F) S1x8x512 .f32)), y ∈ pc.1.set :=
  View.cover_of_tiled [⟨rT1, p⟩, ⟨rT0, q⟩] S1x8x256.size (by rfl) y

/-- The gate of the first half, as the body writes it, -/
theorem first_gate (ya u : FVec F S512x256 .f32) (w : FVec F S3x256 .f32) (b : FVec F S1x256 .f32) (l2 l1 r2 r1 : Vec F S1x512x128 .f32) :
    k0_pay41 ya (k0_pay30 u (k0_pay28 w) (k0_pay29 b) l2 l1) (k0_pay34 b) (k0_pay35 u) (k0_pay36 w r2 r1) (k0_pay37 w)
      = gateH ya (convV u w b l2 l1 r2 r1) := rfl

/-- and of the second. -/
theorem second_gate (ya u : FVec F S512x256 .f32) (w : FVec F S3x256 .f32) (b : FVec F S1x256 .f32) (l2 l1 r2 r1 : Vec F S1x512x128 .f32) :
    k0_pay4 ya (k0_pay64 u b (k0_pay63 w) l2 l1) (k0_pay67 w) (k0_pay68 b) (k0_pay69 u) (k0_pay70 w r2) (k0_pay71 w r1)
      = gateH ya (convV u w b l2 l1 r2 r1) := rfl

/-- The first half's convolution of the first columns, as the body writes it, -/
theorem first_conv (u : FVec F S512x256 .f32) (w : FVec F S3x256 .f32) (b : FVec F S1x256 .f32) (l2 l1 r2 r1 : Vec F S1x512x128 .f32) :
    k0_pay20 (k0_pay11 u w b l2 l1) (k0_pay14 w) (k0_pay15 b) (k0_pay16 r1) (k0_pay17 u) (k0_pay18 w r2) (k0_pay19 w) = convV u w b l2 l1 r2 r1 := rfl

/-- and the second half's convolution of the first columns, as the body writes it. -/
theorem second_conv (u : FVec F S512x256 .f32) (w : FVec F S3x256 .f32) (b : FVec F S1x256 .f32) (l2 l1 r2 r1 : Vec F S1x512x128 .f32) :
    k0_pay55 (k0_pay47 u w b l2 l1) (k0_pay50 w) (k0_pay51 b) (k0_pay52 r1) (k0_pay53 u) (k0_pay54 w r2) = convV u w b l2 l1 r2 r1 := rfl

/-- A convolution whose rows back are read from the slabs of its projection. -/
theorem conv_of_slabs {u u' : FVec F S512x256 .f32} {w w' : FVec F S3x256 .f32} {b b' : FVec F S1x256 .f32} {q : FVec F S8x256 .f32}
    {l2 l1 r2 r1 : Vec F S1x512x128 .f32} (hu : u = u') (hw : w = w') (hb : b = b') {pl pr : Vec F S1x8x128 .f32} {ul ur : Vec F S1x512x128 .f32}
    (hl2 : l2 = back 12 pl ul) (hl1 : l1 = back 14 pl ul) (hr2 : r2 = back 12 pr ur) (hr1 : r1 = back 14 pr ur)
    (hpl : pl = left8 q) (hpr : pr = k0_pay12 q) (hul : ul = left u') (hur : ur = k0_pay13 u') : convV u w b l2 l1 r2 r1 = convH u' q w' b' := by
  subst hu hw hb hl2 hl1 hr2 hr1 hpl hpr hul hur
  rfl

/-! ## The body's triple -/

set_option maxHeartbeats 8000000 in
/-- The body at a point that goes on: the rows kept are those of the point before on the same columns. -/
theorem runB (c : Dev nD) (E : Set ℕ) (i : grid0.Coords) (hc : ¬ k0_cond1 i = 1#1) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S11x8x512 .f32) (harg12 : arg12.IsWhole) (arg13 : Memref sig .tc .vmem S11x8x512 .f32) (harg13 : arg13.IsWhole) (arg14 : Memref sig .tc .vmem S4x1040x128 .f32) (harg14 : arg14.IsWhole)
    (x2 : Vec F S512x2048 .bf16) (x3 : Vec F S2048x512 .bf16) (x4 : Vec F S2048x512 .bf16) (x5 : Vec F S3x512 .f32) (x6 : Vec F S3x512 .f32) (x7 : Vec F S1x512 .f32) (x8 : Vec F S1x512 .f32) (x12 : Vec F S11x8x512 .f32) (x13 : Vec F S11x8x512 .f32) (pa pb : Vec F S1x8x512 .f32) (hpa : pa = View.ld x12 (rK i)) (hpb : pb = View.ld x13 (rK i)) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (∃ d, owns (c : Thread nD τ) arg14 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outG x2 x3 x4 x5 x6 x7 x8 pa pb) ∗ owns (c : Thread nD τ) arg10 fullShare (outT x2 x3) ∗ owns (c : Thread nD τ) arg11 fullShare (outT x2 x4) ∗ owns (c : Thread nD τ) arg12 fullShare (kept i x12 (outT x2 x3)) ∗ owns (c : Thread nD τ) arg13 fullShare (kept i x13 (outT x2 x4)) ∗ (∃ d, owns (c : Thread nD τ) arg14 fullShare d)) -∗ K ⟨⟩))
      ⊢ wp frame (wpE (defs₀ (F := F)) Variants.none c none) E (cc0_ffn_up_prompt i arg2 harg2 arg3 harg3 arg4 harg4 arg5 harg5 arg6 harg6 arg7 harg7 arg8 harg8 arg9 harg9 arg10 harg10 arg11 harg11 arg12 harg12 arg13 harg13 arg14 harg14) K := by
  simp only [cc0_ffn_up_prompt_eq_skeleton]; unfold cc0_ffn_up_prompt_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, ⟨%d14, %f14, -, H14⟩, Hk⟩
  subst hf2 hf3 hf4 hf5 hf6 hf7 hf8 hf12 hf13
  subst hpa hpb
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (coverG _ _)).trans ?_
    unfold outG
    refine congrArg₂ (fun p q => View.canon [⟨rG1, p⟩, ⟨rG0, q⟩]) ?_ ?_
    · refine (second_gate _ _ _ _ _ _ _ _).trans (congrArg₂ gateH ((second_conv _ _ _ _ _ _ _).trans ?_) ?_)
      · exact conv_of_slabs rfl rfl rfl (read_back2 _ _ _ _ _ _ _ _ _) (read_back1 _ _ _ _ _ _ _ _ _) (read_back2 _ _ _ _ _ _ _ _ _) (read_back1 _ _ _ _ _ _ _ _ _)
          (congrArg left8 (read_right _ _ _ _ [] _ _))
          (congrArg k0_pay12 (read_right _ _ _ _ [] _ _)) rfl rfl
      · exact conv_of_slabs rfl rfl rfl (read_back2 _ _ _ _ _ _ _ _ _) (read_back1 _ _ _ _ _ _ _ _ _) (read_back2 _ _ _ _ _ _ _ _ _) (read_back1 _ _ _ _ _ _ _ _ _)
          (congrArg left8 (read_right _ _ _ _ [] _ _))
          (congrArg k0_pay12 (read_right _ _ _ _ [] _ _)) rfl rfl
    · refine (first_gate _ _ _ _ _ _ _ _).trans (congrArg₂ gateH ((first_conv _ _ _ _ _ _ _).trans ?_) ?_)
      · exact conv_of_slabs rfl rfl rfl (read_back2 _ _ _ _ _ _ _ _ _) (read_back1 _ _ _ _ _ _ _ _ _) (read_back2 _ _ _ _ _ _ _ _ _) (read_back1 _ _ _ _ _ _ _ _ _)
          (rfl)
          (rfl) rfl rfl
      · exact conv_of_slabs rfl rfl rfl (read_back2 _ _ _ _ _ _ _ _ _) (read_back1 _ _ _ _ _ _ _ _ _) (read_back2 _ _ _ _ _ _ _ _ _) (read_back1 _ _ _ _ _ _ _ _ _)
          (rfl)
          (rfl) rfl rfl
  isplitl [H10]
  · iexists _; isplitr
    swap; · iexact H10
    ipureintro
    exact View.read_writes_eq_canon _ _ _ (coverT _ _)
  isplitl [H11]
  · iexists _; isplitr
    swap; · iexact H11
    ipureintro
    exact View.read_writes_eq_canon _ _ _ (coverT _ _)
  isplitl [H12]
  · iexists _; isplitr
    swap; · iexact H12
    ipureintro
    exact read_kept _ _ i _ _ [] _ _ (fun _ _ => rfl)
  isplitl [H13]
  · iexists _; isplitr
    swap; · iexact H13
    ipureintro
    exact read_kept _ _ i _ _ [] _ _ (fun _ _ => rfl)
  iexists _; iexists _; isplitr
  swap; · iexact H14
  ipureintro; rfl

set_option maxHeartbeats 8000000 in
/-- The body at the first point of a sequence: the rows kept start from zero. -/
theorem runA (c : Dev nD) (E : Set ℕ) (i : grid0.Coords) (hc : k0_cond1 i = 1#1) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S11x8x512 .f32) (harg12 : arg12.IsWhole) (arg13 : Memref sig .tc .vmem S11x8x512 .f32) (harg13 : arg13.IsWhole) (arg14 : Memref sig .tc .vmem S4x1040x128 .f32) (harg14 : arg14.IsWhole)
    (x2 : Vec F S512x2048 .bf16) (x3 : Vec F S2048x512 .bf16) (x4 : Vec F S2048x512 .bf16) (x5 : Vec F S3x512 .f32) (x6 : Vec F S3x512 .f32) (x7 : Vec F S1x512 .f32) (x8 : Vec F S1x512 .f32) (x12 : Vec F S11x8x512 .f32) (x13 : Vec F S11x8x512 .f32) (pa pb : Vec F S1x8x512 .f32) (hpa : pa = k0_pay5) (hpb : pb = k0_pay6) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (∃ d, owns (c : Thread nD τ) arg14 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outG x2 x3 x4 x5 x6 x7 x8 pa pb) ∗ owns (c : Thread nD τ) arg10 fullShare (outT x2 x3) ∗ owns (c : Thread nD τ) arg11 fullShare (outT x2 x4) ∗ owns (c : Thread nD τ) arg12 fullShare (kept i x12 (outT x2 x3)) ∗ owns (c : Thread nD τ) arg13 fullShare (kept i x13 (outT x2 x4)) ∗ (∃ d, owns (c : Thread nD τ) arg14 fullShare d)) -∗ K ⟨⟩))
      ⊢ wp frame (wpE (defs₀ (F := F)) Variants.none c none) E (cc0_ffn_up_prompt i arg2 harg2 arg3 harg3 arg4 harg4 arg5 harg5 arg6 harg6 arg7 harg7 arg8 harg8 arg9 harg9 arg10 harg10 arg11 harg11 arg12 harg12 arg13 harg13 arg14 harg14) K := by
  simp only [cc0_ffn_up_prompt_eq_skeleton]; unfold cc0_ffn_up_prompt_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, ⟨%d14, %f14, -, H14⟩, Hk⟩
  subst hf2 hf3 hf4 hf5 hf6 hf7 hf8 hf12 hf13
  subst hpa hpb
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (coverG _ _)).trans ?_
    unfold outG
    refine congrArg₂ (fun p q => View.canon [⟨rG1, p⟩, ⟨rG0, q⟩]) ?_ ?_
    · refine (second_gate _ _ _ _ _ _ _ _).trans (congrArg₂ gateH ((second_conv _ _ _ _ _ _ _).trans ?_) ?_)
      · exact conv_of_slabs rfl rfl rfl (read_back2 _ _ _ _ _ _ _ _ _) (read_back1 _ _ _ _ _ _ _ _ _) (read_back2 _ _ _ _ _ _ _ _ _) (read_back1 _ _ _ _ _ _ _ _ _)
          (congrArg left8 ((read_right _ _ _ _ [⟨_, _⟩] _ _).trans (congrArg k0_pay43 (read_all _ _ _ _ _ _))))
          (congrArg k0_pay12 ((read_right _ _ _ _ [⟨_, _⟩] _ _).trans (congrArg k0_pay43 (read_all _ _ _ _ _ _)))) rfl rfl
      · exact conv_of_slabs rfl rfl rfl (read_back2 _ _ _ _ _ _ _ _ _) (read_back1 _ _ _ _ _ _ _ _ _) (read_back2 _ _ _ _ _ _ _ _ _) (read_back1 _ _ _ _ _ _ _ _ _)
          (congrArg left8 ((read_right _ _ _ _ [⟨_, _⟩] _ _).trans (congrArg k0_pay43 (read_all _ _ _ _ _ _))))
          (congrArg k0_pay12 ((read_right _ _ _ _ [⟨_, _⟩] _ _).trans (congrArg k0_pay43 (read_all _ _ _ _ _ _)))) rfl rfl
    · refine (first_gate _ _ _ _ _ _ _ _).trans (congrArg₂ gateH ((first_conv _ _ _ _ _ _ _).trans ?_) ?_)
      · exact conv_of_slabs rfl rfl rfl (read_back2 _ _ _ _ _ _ _ _ _) (read_back1 _ _ _ _ _ _ _ _ _) (read_back2 _ _ _ _ _ _ _ _ _) (read_back1 _ _ _ _ _ _ _ _ _)
          (congrArg (fun z => left8 (k0_pay8 z)) (read_all _ _ _ _ _ _))
          (congrArg (fun z => k0_pay12 (k0_pay8 z)) (read_all _ _ _ _ _ _)) rfl rfl
      · exact conv_of_slabs rfl rfl rfl (read_back2 _ _ _ _ _ _ _ _ _) (read_back1 _ _ _ _ _ _ _ _ _) (read_back2 _ _ _ _ _ _ _ _ _) (read_back1 _ _ _ _ _ _ _ _ _)
          (congrArg (fun z => left8 (k0_pay8 z)) (read_all _ _ _ _ _ _))
          (congrArg (fun z => k0_pay12 (k0_pay8 z)) (read_all _ _ _ _ _ _)) rfl rfl
  isplitl [H10]
  · iexists _; isplitr
    swap; · iexact H10
    ipureintro
    exact View.read_writes_eq_canon _ _ _ (coverT _ _)
  isplitl [H11]
  · iexists _; isplitr
    swap; · iexact H11
    ipureintro
    exact View.read_writes_eq_canon _ _ _ (coverT _ _)
  isplitl [H12]
  · iexists _; isplitr
    swap; · iexact H12
    ipureintro
    exact read_kept _ _ i _ _ [⟨Rect.unit (s := S11x8x512) (k0_off1 i) S1x8x512.size _, _⟩] _ _ (others _ _ i _ _)
  isplitl [H13]
  · iexists _; isplitr
    swap; · iexact H13
    ipureintro
    exact read_kept _ _ i _ _ [⟨Rect.unit (s := S11x8x512) (k0_off1 i) S1x8x512.size _, _⟩] _ _ (others _ _ i _ _)
  iexists _; iexists _; isplitr
  swap; · iexact H14
  ipureintro; rfl

/-! ## The launch -/

section Launch

variable (m : (ℓ : Loc nD τ sig) → Buf (Elt F) ℓ) (ρ : Dev nD → PrngReg)

/-- The point's second coordinate is the block of columns, -/
theorem coords_col (t : Fin cfg0.N) : (grid0.coords t 1).val = t.val % 11 :=
  (by decide +kernel : ∀ t : Fin grid0.N, (grid0.coords t 1).val = t.val % 11) t

/-- and the body starts its columns' sequence anew at every fourth block of rows. -/
theorem starts_iff (t : Fin cfg0.N) : k0_cond1 (grid0.coords t) = 1#1 ↔ t.val / 11 % 4 = 0 :=
  (by decide +kernel : ∀ t : Fin grid0.N, k0_cond1 (grid0.coords t) = 1#1 ↔ t.val / 11 % 4 = 0) t

/-- The last rows of the first projection of a point, -/
def tailA (c : Dev nD) (t : Fin cfg0.N) : Vec F S1x8x512 .f32 := outT (iblk m c 0 t) (iblk m c 1 t)
/-- and of the second. -/
def tailB (c : Dev nD) (t : Fin cfg0.N) : Vec F S1x8x512 .f32 := outT (iblk m c 0 t) (iblk m c 2 t)

/-- The point of the same columns one block of rows before. -/
def above (t : Fin cfg0.N) : Fin cfg0.N := ⟨t.val - 11, by omega⟩

/-- The rows before a point's own, of the first projection: zeros where a sequence starts, else the last rows of the
    block above, -/
def prevA (c : Dev nD) (t : Fin cfg0.N) : Vec F S1x8x512 .f32 := if t.val / 11 % 4 = 0 then k0_pay5 else tailA m c (above t)
/-- and of the second. -/
def prevB (c : Dev nD) (t : Fin cfg0.N) : Vec F S1x8x512 .f32 := if t.val / 11 % 4 = 0 then k0_pay6 else tailB m c (above t)

/-- Before point `n` the rows kept are the last rows `T` of the eleven points before it. -/
def Kept (T : Fin cfg0.N → Vec F S1x8x512 .f32) (n : ℕ) (x : Vec F S11x8x512 .f32) : Prop :=
  ∀ t' : Fin cfg0.N, t'.val < n → n ≤ t'.val + 11 → ∀ y : S11x8x512.Idx, (y 0).val = t'.val % 11 → x y = T t' (ix3 (0 : Fin 1) (y 1 : Fin 8) (y 2 : Fin 512))

/-- It holds of anything at the start, -/
theorem Kept.zero (T : Fin cfg0.N → Vec F S1x8x512 .f32) (x : Vec F S11x8x512 .f32) : Kept T 0 x := fun _ h => absurd h (Nat.not_lt_zero _)

/-- the body carries it to the next point, -/
theorem Kept.step {T : Fin cfg0.N → Vec F S1x8x512 .f32} {x : Vec F S11x8x512 .f32} (t : Fin cfg0.N) (h : Kept T t.val x) :
    Kept T (t.val + 1) (kept (grid0.coords t) x (T t)) := by
  intro t' h1 h2 y hy
  unfold kept
  have hc := coords_col t
  by_cases e : t'.val = t.val
  · have e' : t' = t := Fin.ext e
    subst e'
    rw [if_pos (hy.trans hc.symm)]
  · rw [if_neg (by omega)]
    exact h t' (by omega) (by omega) y hy

/-- and the body's load of it yields the last rows of the block above. -/
theorem Kept.load {T : Fin cfg0.N → Vec F S1x8x512 .f32} {x : Vec F S11x8x512 .f32} (t : Fin cfg0.N) (h : Kept T t.val x)
    (hs : ¬ t.val / 11 % 4 = 0) : View.ld x (rK (grid0.coords t)) = T (above t) := by
  funext j
  have hc := coords_col t
  have h0 : (j 0).val < 1 := (j 0).isLt
  have e0 : k0_off2 (grid0.coords t) 0 = (grid0.coords t 1).val := congrFun (off2 (grid0.coords t)) 0
  have e1 : k0_off2 (grid0.coords t) 1 = 0 := congrFun (off2 (grid0.coords t)) 1
  have e2 : k0_off2 (grid0.coords t) 2 = 0 := congrFun (off2 (grid0.coords t)) 2
  refine (h (above t) (show t.val - 11 < t.val by omega) (show t.val ≤ t.val - 11 + 11 by omega) ((rK (grid0.coords t)).idx j) ?_).trans ?_
  · show k0_off2 (grid0.coords t) 0 + 1 * (j 0).val = (t.val - 11) % 11
    omega
  · refine congrArg (T (above t)) ?_
    funext a
    apply Fin.ext
    match a with
    | ⟨0, _⟩ => show 0 = (j 0).val; omega
    | ⟨1, _⟩ => show k0_off2 (grid0.coords t) 1 + 1 * (j 1).val = (j 1).val; omega
    | ⟨2, _⟩ => show k0_off2 (grid0.coords t) 2 + 1 * (j 2).val = (j 2).val; omega

/-- What holds before point `n`: the rows kept of both projections, some contents of the slabs, the generator register. -/
def Inv (c : Dev nD) (n : ℕ) : sProp 𝕄 :=
  iprop(∃ x12 x13, ⌜Kept (tailA m c) n x12⌝ ∗ ⌜Kept (tailB m c) n x13⌝ ∗ owns (c : Thread nD τ) (Memref.whole cc0_scratch0) fullShare x12
    ∗ owns (c : Thread nD τ) (Memref.whole cc0_scratch1) fullShare x13 ∗ (∃ d, owns (c : Thread nD τ) (Memref.whole cc0_scratch2) fullShare d) ∗ ∃ r, prngReg c r)

/-- The launch's own start yields it before the first point, -/
theorem inv_start (c : Dev nD) : (Pipeline.ΦA spec0 c : sProp 𝕄) ⊢ Inv m c 0 := by
  unfold Pipeline.ΦA Inv
  rw [scopedRest0_eq]
  simp only [owns_whole]
  iintro ⟨⟨⟨%f0, H0⟩, ⟨%f1, H1⟩, ⟨%f2, H2⟩⟩, Hr⟩
  iexists f0; iexists f1
  isplitr; · ipureintro; exact Kept.zero _ _
  isplitr; · ipureintro; exact Kept.zero _ _
  isplitl [H0]; · iexact H0
  isplitl [H1]; · iexact H1
  isplitl [H2]; · iexists f2; iexact H2
  iexact Hr

/-- and it gives the scratch back after the last. -/
theorem inv_end (c : Dev nD) (n : ℕ) : Inv m c n ⊢ (Pipeline.ΦA spec0 c : sProp 𝕄) := by
  unfold Pipeline.ΦA Inv
  rw [scopedRest0_eq]
  simp only [owns_whole]
  iintro ⟨%f0, %f1, -, -, H0, H1, ⟨%f2, H2⟩, Hr⟩
  isplitr [Hr]
  · isplitl [H0]; · iexists f0; iexact H0
    isplitl [H1]; · iexists f1; iexact H1
    iexists f2; iexact H2
  iexact Hr

/-- The run's data on core `c`: the launch's arrays; after the body every input's block in place and the outputs as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outG (iblk m c 0 t) (iblk m c 1 t) (iblk m c 2 t) (iblk m c 3 t) (iblk m c 4 t) (iblk m c 5 t) (iblk m c 6 t) (prevA m c t) (prevB m c t)
    | ⟨8, _⟩ => tailA m c t
    | ⟨9, _⟩ => tailB m c t
  Φ t := Inv m c t.val
  q w := Pipeline.shareOf spec0 w
  owed _ := 0

/-- The data's arrays are the launch's. -/
theorem A_eq (c : Dev nD) (w : Fin cfg0.W) : (dats m 0 c).A w = V m c (Pipeline.arrRef spec0 w) := by
  dsimp only [dats]

/-! What the body leaves, window by window. -/

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outG (iblk m c 0 t) (iblk m c 1 t) (iblk m c 2 t) (iblk m c 3 t) (iblk m c 4 t) (iblk m c 5 t) (iblk m c 6 t) (prevA m c t) (prevB m c t) := by dsimp only [dats]
theorem after8 (c : Dev nD) (t : Fin cfg0.N) : (dats m 0 c).after 8 t = tailA m c t := by dsimp only [dats]
theorem after9 (c : Dev nD) (t : Fin cfg0.N) : (dats m 0 c).after 9 t = tailB m c t := by dsimp only [dats]

/-! An input window holds its block at every point, before the body. -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- What the body is given at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.castSucc = Inv m c t.val from rfl, show (dats m 0 c).Φ t.succ = Inv m c (t.val + 1) from rfl,
    show (dats m 0 c).owesAt () t.succ = (dats m 0 c).owesAt () t.castSucc from rfl,
    after0, after1, after2, after3, after4, after5, after6, after7, after8, after9]
  unfold Inv
  iintro ⟨⟨%x12, %x13, %hA, %hB, H12, H13, H14, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases hs : t.val / 11 % 4 = 0
  · have hc := (starts_iff t).mpr hs
    iapply (runA c Set.univ (grid0.coords t) hc _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) x12 x13
      (prevA m c t) (prevB m c t) (if_pos hs) (if_pos hs) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H12]; · iexact H12
    isplitl [H13]; · iexact H13
    isplitl [H14]; · iexact H14
    iintro ⟨H0, H1, H2, H3, H4, H5, H6, H7, H8, H9, H12, H13, H14⟩
    isplitl [H12 H13 H14 Hr]
    · iexists _; iexists _
      isplitr; · ipureintro; exact Kept.step t hA
      isplitr; · ipureintro; exact Kept.step t hB
      isplitl [H12]; · iexact H12
      isplitl [H13]; · iexact H13
      isplitl [H14]; · iexact H14
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hc : ¬ k0_cond1 (grid0.coords t) = 1#1 := fun h => hs ((starts_iff t).mp h)
    iapply (runB c Set.univ (grid0.coords t) hc _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) x12 x13
      (prevA m c t) (prevB m c t) ((if_neg hs).trans (hA.load t hs).symm) ((if_neg hs).trans (hB.load t hs).symm) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H12]; · iexact H12
    isplitl [H13]; · iexact H13
    isplitl [H14]; · iexact H14
    iintro ⟨H0, H1, H2, H3, H4, H5, H6, H7, H8, H9, H12, H13, H14⟩
    isplitl [H12 H13 H14 Hr]
    · iexists _; iexists _
      isplitr; · ipureintro; exact Kept.step t hA
      isplitr; · ipureintro; exact Kept.step t hB
      isplitl [H12]; · iexact H12
      isplitl [H13]; · iexact H13
      isplitl [H14]; · iexact H14
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The launch calls the body on the windows current at point `t`. -/
theorem body_row (t : Fin cfg0.N) :
    defs₀ (F := F) .tc cfg0.body (cfg0.bodyArgs t (cfg0.slots t)) = bodyAt0 t := by
  unfold defs₀; rw [Defs.onTc_tc]

/-- The body meets what the launch asks of it at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
set_option maxHeartbeats 800000 in
/-- Every fair run ends, with each window's array at what the proof data say, every other buffer as launched, and
    every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => inv_start m c) (hout := fun c => inv_end m c _)

/-- The same without the semaphores. -/
theorem run : θ_run defs (onTc (τ := τ) (main (F := F))) (s₀ m ρ) (Pipeline.FramePost cfgs (dats m) 0 (V m)) :=
  (θ_run defs _ _).mono (fun _ h => h.1) (run_quiescent m ρ)

/-- The frame: every fair run ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ))
    ((θ_run defs _ _).mono (fun _ h => h.2) (run_quiescent m ρ))

end Launch

end Cert.Proof.FfnUpPromptIdeal

end
-- ==== Proof.FfnUpPrompt.lean ====
/-
  The first half of the feed-forward part for the prompt: the up projection, the causal convolution over the tokens (4
  sequences of 2048 rows), the gate, and the last eight rows of the projection of every 512. The grid's points run over 16
  blocks of 512 rows and, within one, over 11 blocks of 512 columns of each half; the rows before a block's own are carried
  from the point of the same columns one block of rows above.
-/
module

public import proofs.«01_k».proof.Defs
public import proofs.«01_k».proof.Proof.Entries
public import proofs.«01_k».proof.Proof.FfnUpPromptIdeal
public import proofs.«01_k».proof.Proof.Gen.Reference6Ideal.Run
public import proofs.«01_k».proof.Proof.Gen.Reference6Ideal.Read
public import Idealize.ShloMosaic.Lib.IdealHost
public import Idealize.ShloMosaic.Lib.Quiescent
public import Idealize.ShloMosaic.Lib.Pipeline.Value
public import Idealize.ShloMosaic.Lib.ValueLayout
public import Idealize.ShloMosaic.Adequacy
public import Idealize.ShloMosaic.Init

@[expose] public section

set_option maxRecDepth 16384

noncomputable section

namespace Cert.Proof.FfnUpPrompt

open Idealize.ShloMosaic Idealize.ShloMosaic.ValueIdx Idealize.ShloMosaic.TcCoe Idealize.SL.Sem Cert.Proof.Norm Cert.Proof.Entries

/-- The up projection `d` rows before row `r` of the same sequence of 2048 rows; zero before the sequence's start. -/
def prior (d : ℕ) (h : (⟨2, ![8192, 2048]⟩ : Shape).Idx → EReal) (w : (⟨2, ![2048, 11264]⟩ : Shape).Idx → EReal) (r c : ℕ) : EReal :=
  if r % 2048 < d then 0 else up h w (r - d) c

/-- The convolution at a row and a column. -/
def convAt (h : (⟨2, ![8192, 2048]⟩ : Shape).Idx → EReal) (w : (⟨2, ![2048, 11264]⟩ : Shape).Idx → EReal)
    (cw : (⟨2, ![3, 11264]⟩ : Shape).Idx → EReal) (cb : (⟨2, ![1, 11264]⟩ : Shape).Idx → EReal) (r c : ℕ) : EReal :=
  tapsAt cw cb c (prior 2 h w r c) (prior 1 h w r c) (up h w r c)

theorem up_congr {M M' N N' : ℕ} {h : (⟨2, ![M, 2048]⟩ : Shape).Idx → EReal} {h' : (⟨2, ![M', 2048]⟩ : Shape).Idx → EReal}
    {w : (⟨2, ![2048, N]⟩ : Shape).Idx → EReal} {w' : (⟨2, ![2048, N']⟩ : Shape).Idx → EReal} {r r' c c' : ℕ}
    (hh : ∀ q, q < 2048 → at2 h r q = at2 h' r' q) (hw : ∀ q, q < 2048 → at2 w q c = at2 w' q c') : up h w r c = up h' w' r' c' :=
  Finset.sum_congr rfl fun q _ => by rw [hh q.val q.isLt, hw q.val q.isLt]

theorem taps_congr {N N' : ℕ} {cw : (⟨2, ![3, N]⟩ : Shape).Idx → EReal} {cb : (⟨2, ![1, N]⟩ : Shape).Idx → EReal}
    {cw' : (⟨2, ![3, N']⟩ : Shape).Idx → EReal} {cb' : (⟨2, ![1, N']⟩ : Shape).Idx → EReal} {c c' : ℕ} {p2 p1 p0 p2' p1' p0' : EReal}
    (hcw : ∀ k, k < 3 → at2 cw k c = at2 cw' k c') (hcb : at2 cb 0 c = at2 cb' 0 c') (h2 : p2 = p2') (h1 : p1 = p1') (h0 : p0 = p0') :
    tapsAt cw cb c p2 p1 p0 = tapsAt cw' cb' c' p2' p1' p0' := by
  subst h2 h1 h0
  unfold tapsAt
  rw [hcw 0 (by omega), hcw 1 (by omega), hcw 2 (by omega), hcb]

/-! ## What a grid point computes of its blocks -/

section
open Cert.Kernel6Ideal Cert.Kernel6Ideal.Gen Cert.Proof.FfnUpPromptIdeal

/-- A weight of 128 of the columns, laid over the rows. -/
theorem lane (w : FVec Ideal S3x256 .f32) (o : ℕ) (ho : o + 128 ≤ 256) (i : Fin 3) (hs) (hs') (r : Fin 512) (k : Fin 128) :
    broadcastTo S512x128 (extractStridedSlice S1x128 ![i.val, 0] (extractStridedSlice S3x128 ![0, o] w hs) hs') broadcasts_S1x128_S512x128 (ix2 r k)
      = at2 w i.val (o + k.val) := by
  rw [lay_apply]
  refine (extractStridedSlice_apply ![i.val, 0] _ _ _ (ix2 i k) (fun a => ?_)).trans ?_
  · match a with
    | ⟨0, _⟩ => show i.val = i.val + 0; omega
    | ⟨1, _⟩ => show k.val = 0 + k.val; omega
  · refine (extractStridedSlice_apply ![0, o] w _ _ (ix2 i (⟨o + k.val, by omega⟩ : Fin 256)) (fun a => ?_)).trans (at2_eq w _ _ _ rfl rfl)
    match a with
    | ⟨0, _⟩ => show i.val = 0 + i.val; omega
    | ⟨1, _⟩ => rfl

/-- The bias of 128 of the columns, laid over the rows. -/
theorem lane_bias (b : FVec Ideal S1x256 .f32) (o : ℕ) (ho : o + 128 ≤ 256) (hs) (r : Fin 512) (k : Fin 128) :
    broadcastTo S512x128 (extractStridedSlice S1x128 ![0, o] b hs) broadcasts_S1x128_S512x128 (ix2 r k) = at2 b 0 (o + k.val) := by
  rw [lay_apply]
  refine (extractStridedSlice_apply ![0, o] b _ _ (ix2 (0 : Fin 1) (⟨o + k.val, by omega⟩ : Fin 256)) (fun a => ?_)).trans (at2_eq b _ _ _ rfl rfl)
  match a with
  | ⟨0, _⟩ => rfl
  | ⟨1, _⟩ => rfl

/-- 128 of the columns of the projection. -/
theorem lane_up (u : FVec Ideal S512x256 .f32) (o : ℕ) (ho : o + 128 ≤ 256) (hs) (r : Fin 512) (k : Fin 128) :
    extractStridedSlice S512x128 ![0, o] u hs (ix2 r k) = u (ix2 r (⟨o + k.val, by omega⟩ : Fin 256)) := by
  refine extractStridedSlice_apply ![0, o] u _ _ (ix2 r (⟨o + k.val, by omega⟩ : Fin 256)) (fun a => ?_)
  match a with
  | ⟨0, _⟩ => show r.val = 0 + r.val; omega
  | ⟨1, _⟩ => rfl

/-- The convolution of the left 128 columns, -/
theorem conv_left (u : FVec Ideal S512x256 .f32) (w : FVec Ideal S3x256 .f32) (b : FVec Ideal S1x256 .f32) (l2 l1 : Vec Ideal S1x512x128 .f32)
    (r : Fin 512) (k : Fin 128) : k0_pay11 u w b l2 l1 (ix2 r k)
      = tapsAt w b (0 + k.val) (l2 (ix3 (0 : Fin 1) r k)) (l1 (ix3 (0 : Fin 1) r k)) (u (ix2 r (⟨0 + k.val, by omega⟩ : Fin 256))) := by
  unfold k0_pay11 tapsAt
  rw [addf_apply, addf_apply, addf_apply, mulf_apply, mulf_apply, mulf_apply, lane_bias b 0 (by omega), lane_up u 0 (by omega),
    shapeCast_1ab_ab_apply, shapeCast_1ab_ab_apply]
  exact congrArg₂ (fun p q : EReal => p + q) (congrArg₂ (fun p q : EReal => p + q) (congrArg₂ (fun p q : EReal => p + q)
    (congrArg (fun p : EReal => p * _) (lane w 0 (by omega) 0 _ _ r k)) (congrArg (fun p : EReal => p * _) (lane w 0 (by omega) 1 _ _ r k)))
    (congrArg (fun p : EReal => p * _) (lane w 0 (by omega) 2 _ _ r k))) rfl

/-- The convolution of the right 128 columns, as the body writes it. -/
def convR (u : FVec Ideal S512x256 .f32) (w : FVec Ideal S3x256 .f32) (b : FVec Ideal S1x256 .f32) (r2 r1 : Vec Ideal S1x512x128 .f32) :
    FVec Ideal S512x128 .f32 :=
  addf (addf (addf (k0_pay18 w r2) (mulf (k0_pay19 w) (k0_pay16 r1)))
    (mulf (broadcastTo S512x128 (extractStridedSlice S1x128 ![2, 0] (k0_pay14 w) slices_S3x128_o2_0_S1x128) broadcasts_S1x128_S512x128) (k0_pay17 u)))
    (broadcastTo S512x128 (k0_pay15 b) broadcasts_S1x128_S512x128)

theorem conv_right (u : FVec Ideal S512x256 .f32) (w : FVec Ideal S3x256 .f32) (b : FVec Ideal S1x256 .f32) (r2 r1 : Vec Ideal S1x512x128 .f32)
    (r : Fin 512) (k : Fin 128) : convR u w b r2 r1 (ix2 r k)
      = tapsAt w b (128 + k.val) (r2 (ix3 (0 : Fin 1) r k)) (r1 (ix3 (0 : Fin 1) r k)) (u (ix2 r (⟨128 + k.val, by omega⟩ : Fin 256))) := by
  unfold convR k0_pay18 k0_pay19 k0_pay16 k0_pay17 k0_pay15 k0_pay14 tapsAt
  simp only []
  rw [addf_apply, addf_apply, addf_apply, mulf_apply, mulf_apply, mulf_apply, lane_bias b 128 (by omega), lane_up u 128 (by omega),
    shapeCast_1ab_ab_apply, shapeCast_1ab_ab_apply]
  exact congrArg₂ (fun p q : EReal => p + q) (congrArg₂ (fun p q : EReal => p + q) (congrArg₂ (fun p q : EReal => p + q)
    (congrArg (fun p : EReal => p * _) (lane w 128 (by omega) 0 _ _ r k)) (congrArg (fun p : EReal => p * _) (lane w 128 (by omega) 1 _ _ r k)))
    (congrArg (fun p : EReal => p * _) (lane w 128 (by omega) 2 _ _ r k))) rfl

/-- The two halves of a convolution's columns, put side by side. -/
theorem conv_cases (u : FVec Ideal S512x256 .f32) (w : FVec Ideal S3x256 .f32) (b : FVec Ideal S1x256 .f32) (l2 l1 r2 r1 : Vec Ideal S1x512x128 .f32)
    (r : Fin 512) (k : Fin 256) (f : EReal)
    (hl : ∀ h : k.val < 128, k0_pay11 u w b l2 l1 (ix2 r (⟨k.val, h⟩ : Fin 128)) = f)
    (hr : ∀ h : ¬ k.val < 128, convR u w b r2 r1 (ix2 r (⟨k.val - 128, by omega⟩ : Fin 128)) = f) : convV u w b l2 l1 r2 r1 (ix2 r k) = f := by
  refine (show _ = concatenate S512x256 1 [⟨S512x128, k0_pay11 u w b l2 l1⟩, ⟨S512x128, convR u w b r2 r1⟩] concatenates_S512x128_S512x128_S512x256_d1 (ix2 r k) from rfl).trans ?_
  by_cases h : k.val < 128
  · refine (concatenate_pair_apply_left 1 _ _ concatenates_S512x128_S512x128_S512x256_d1 (ix2 r k) rfl (ix2 r ⟨k.val, h⟩) (fun a => ?_)).trans (hl h)
    match a with
    | ⟨0, _⟩ => rfl
    | ⟨1, _⟩ => rfl
  · refine (concatenate_pair_apply_right 1 _ _ concatenates_S512x128_S512x128_S512x256_d1 (ix2 r k) rfl rfl (ix2 r ⟨k.val - 128, by omega⟩)
      (fun a ha => ?_) ?_).trans (hr h)
    · match a with
      | ⟨0, _⟩ => rfl
      | ⟨1, _⟩ => exact absurd rfl ha
    · show k.val - 128 + 128 = k.val; omega

/-- Rows read back from a slab are those of the sequence of its eight rows and its 512. -/
theorem back_apply (o s : ℕ) (ho : o = 2 * s) (hs : s ≤ 8) (p : Vec Ideal S1x8x128 .f32) (u : Vec Ideal S1x512x128 .f32) (P U : ℕ → EReal) (k : Fin 128)
    (hp : ∀ n : Fin 8, p (ix3 (0 : Fin 1) n k) = P n.val) (hu : ∀ n : Fin 512, u (ix3 (0 : Fin 1) n k) = U n.val) (r : Fin 512) :
    back o p u (ix3 (0 : Fin 1) r k) = hist 8 P U (r.val + s) := by
  have hr := r.isLt
  unfold back hist
  by_cases h : r.val + s < 8
  · rw [if_pos h, dif_pos (show o + 2 * r.val < 16 by omega)]
    refine (hp _).trans (congrArg P ?_)
    show (o + 2 * r.val) / 2 = _; omega
  · rw [if_neg h, dif_neg (show ¬ o + 2 * r.val < 16 by omega)]
    refine (hu _).trans (congrArg U ?_)
    show (o + 2 * r.val - 16) / 2 % 512 = _; omega

/-- 128 of the columns of a matrix as one block of rows. -/
theorem lanes {M : ℕ} (q : FVec Ideal ⟨2, ![M, 256]⟩ .f32) (o : ℕ) (ho : o + 128 ≤ 256) (hs) (hc) (n : Fin M) (k : Fin 128) :
    shapeCast ⟨3, ![1, M, 128]⟩ (extractStridedSlice ⟨2, ![M, 128]⟩ ![0, o] q hs) hc (ix3 (0 : Fin 1) n k) = q (ix2 n (⟨o + k.val, by omega⟩ : Fin 256)) := by
  rw [shapeCast_ab_1ab_apply]
  refine extractStridedSlice_apply ![0, o] q _ _ (ix2 n (⟨o + k.val, by omega⟩ : Fin 256)) (fun a => ?_)
  match a with
  | ⟨0, _⟩ => show n.val = 0 + n.val; omega
  | ⟨1, _⟩ => rfl

/-- The convolution of 256 columns: the taps over each column's sequence. -/
theorem convH_apply (u : FVec Ideal S512x256 .f32) (q : FVec Ideal S8x256 .f32) (w : FVec Ideal S3x256 .f32) (b : FVec Ideal S1x256 .f32)
    (P U : ℕ → EReal) (k : Fin 256) (hq : ∀ n : Fin 8, q (ix2 n k) = P n.val) (hu : ∀ n : Fin 512, u (ix2 n k) = U n.val) (r : Fin 512) :
    convH u q w b (ix2 r k) = tapsAt w b k.val (hist 8 P U (r.val + 6)) (hist 8 P U (r.val + 7)) (U r.val) := by
  unfold convH
  refine conv_cases _ _ _ _ _ _ _ r k _ (fun h => ?_) (fun h => ?_)
  · have e : (⟨0 + k.val, by omega⟩ : Fin 256) = k := Fin.ext (Nat.zero_add _)
    refine (conv_left _ _ _ _ _ r ⟨k.val, h⟩).trans ?_
    refine taps_congr (fun i _ => congrArg (at2 w i) (Nat.zero_add _)) (congrArg (at2 b 0) (Nat.zero_add _)) ?_ ?_ ?_
    · exact back_apply 12 6 rfl (by omega) _ _ P U ⟨k.val, h⟩ (fun n => (lanes q 0 (by omega) _ _ n ⟨k.val, h⟩).trans ((congrArg (fun z => q (ix2 n z)) e).trans (hq n)))
        (fun n => (lanes u 0 (by omega) _ _ n ⟨k.val, h⟩).trans ((congrArg (fun z => u (ix2 n z)) e).trans (hu n))) r
    · exact back_apply 14 7 rfl (by omega) _ _ P U ⟨k.val, h⟩ (fun n => (lanes q 0 (by omega) _ _ n ⟨k.val, h⟩).trans ((congrArg (fun z => q (ix2 n z)) e).trans (hq n)))
        (fun n => (lanes u 0 (by omega) _ _ n ⟨k.val, h⟩).trans ((congrArg (fun z => u (ix2 n z)) e).trans (hu n))) r
    · exact (congrArg (fun z => u (ix2 r z)) e).trans (hu r)
  · have e' : 128 + (k.val - 128) = k.val := by omega
    have e : (⟨128 + (k.val - 128), by omega⟩ : Fin 256) = k := Fin.ext e'
    refine (conv_right _ _ _ _ _ r ⟨k.val - 128, by omega⟩).trans ?_
    refine taps_congr (fun i _ => congrArg (at2 w i) e') (congrArg (at2 b 0) e') ?_ ?_ ?_
    · exact back_apply 12 6 rfl (by omega) _ _ P U ⟨k.val - 128, by omega⟩ (fun n => (lanes q 128 (by omega) _ _ n ⟨k.val - 128, by omega⟩).trans ((congrArg (fun z => q (ix2 n z)) e).trans (hq n)))
        (fun n => (lanes u 128 (by omega) _ _ n ⟨k.val - 128, by omega⟩).trans ((congrArg (fun z => u (ix2 n z)) e).trans (hu n))) r
    · exact back_apply 14 7 rfl (by omega) _ _ P U ⟨k.val - 128, by omega⟩ (fun n => (lanes q 128 (by omega) _ _ n ⟨k.val - 128, by omega⟩).trans ((congrArg (fun z => q (ix2 n z)) e).trans (hq n)))
        (fun n => (lanes u 128 (by omega) _ _ n ⟨k.val - 128, by omega⟩).trans ((congrArg (fun z => u (ix2 n z)) e).trans (hu n))) r
    · exact (congrArg (fun z => u (ix2 r z)) e).trans (hu r)

theorem gateH_apply (a b : FVec Ideal S512x256 .f32) (i : S512x256.Idx) : gateH a b i = gate (a i) (b i) := rfl

theorem zero2 : (![0, 0] : Fin 2 → Nat) = fun _ => 0 := by
  funext a; match a with | ⟨0, _⟩ => rfl | ⟨1, _⟩ => rfl

variable (x0 : FVec Ideal S512x2048 .bf16) (x1 x2 : FVec Ideal S2048x512 .bf16) (x3 x4 : FVec Ideal S3x512 .f32) (x5 x6 : FVec Ideal S1x512 .f32)

theorem pay8_apply (q : Vec Ideal S1x8x512 .f32) (r : Fin 8) (k : Fin 256) :
    k0_pay8 q (ix2 r k) = q (ix3 (0 : Fin 1) r (⟨k.val, by omega⟩ : Fin 512)) := by
  unfold k0_pay8
  refine (extractStridedSlice_apply ![0, 0] _ _ _ (ix2 r (⟨k.val, by omega⟩ : Fin 512)) (fun a => ?_)).trans ?_
  · match a with
    | ⟨0, _⟩ => show r.val = 0 + r.val; omega
    | ⟨1, _⟩ => show k.val = 0 + k.val; omega
  · exact shapeCast_1ab_ab_apply _ _ _ _

/-- The projection onto the left and onto the right 256 columns of a block, entry by entry. -/
theorem proj_left (w : FVec Ideal S2048x512 .bf16) (r : Fin 512) (k : Fin 256) :
    k0_pay7 (F := Ideal) (View.ld (Val := Elt Ideal) (e' := .bf16) x0 rX) (View.ld (Val := Elt Ideal) (e' := .bf16) w rW0) (ix2 r k) = up x0 w r.val k.val := by
  rw [View.ld_unit_zero (S := S512x2048) zero2]
  refine (matmul_up x0 _ _ rfl r k).trans (up_congr (fun _ _ => rfl) (fun q _ => ?_))
  exact (at2_ld w 0 _ q k.val k.isLt (by omega)).trans (congrArg (at2 w q) (Nat.zero_add _))

theorem proj_right (w : FVec Ideal S2048x512 .bf16) (r : Fin 512) (k : Fin 256) :
    k0_pay7 (F := Ideal) (View.ld (Val := Elt Ideal) (e' := .bf16) x0 rX) (View.ld (Val := Elt Ideal) (e' := .bf16) w rW1) (ix2 r k) = up x0 w r.val (256 + k.val) := by
  rw [View.ld_unit_zero (S := S512x2048) zero2]
  exact (matmul_up x0 _ _ rfl r k).trans (up_congr (fun _ _ => rfl) (fun q _ => at2_ld w 256 _ q k.val k.isLt (by omega)))

/-- The convolution of a block's column over the sequence `P` of eight rows and the block's own projection. -/
def convBlk (w : FVec Ideal S2048x512 .bf16) (cw : FVec Ideal S3x512 .f32) (cb : FVec Ideal S1x512 .f32) (P : ℕ → ℕ → EReal) (r c : ℕ) : EReal :=
  tapsAt (N := 512) cw cb c (hist 8 (fun n => P n c) (fun n => up x0 w n c) (r + 6)) (hist 8 (fun n => P n c) (fun n => up x0 w n c) (r + 7)) (up x0 w r c)

theorem blk_left (w : FVec Ideal S2048x512 .bf16) (cw : FVec Ideal S3x512 .f32) (cb : FVec Ideal S1x512 .f32) (p : Vec Ideal S1x8x512 .f32) (P : ℕ → ℕ → EReal)
    (hP : ∀ (n : Fin 8) (k : Fin 512), p (ix3 (0 : Fin 1) n k) = P n.val k.val) (r : Fin 512) (k : Fin 256) :
    convH (F := Ideal) (k0_pay7 (View.ld (Val := Elt Ideal) (e' := .bf16) x0 rX) (View.ld (Val := Elt Ideal) (e' := .bf16) w rW0)) (k0_pay8 p)
      (View.ld (Val := Elt Ideal) (e' := .f32) cw rC0) (View.ld (Val := Elt Ideal) (e' := .f32) cb rB0) (ix2 r k) = convBlk x0 w cw cb P r.val k.val := by
  refine (convH_apply _ _ _ _ (fun n => P n k.val) (fun n => up x0 w n k.val) k (fun n => (pay8_apply p n k).trans (hP _ _)) (fun n => proj_left x0 w n k) r).trans ?_
  exact taps_congr (fun i _ => (at2_ld cw 0 _ i k.val k.isLt (by omega)).trans (congrArg (at2 cw i) (Nat.zero_add _)))
    ((at2_ld cb 0 _ 0 k.val k.isLt (by omega)).trans (congrArg (at2 cb 0) (Nat.zero_add _))) rfl rfl rfl

theorem blk_right (w : FVec Ideal S2048x512 .bf16) (cw : FVec Ideal S3x512 .f32) (cb : FVec Ideal S1x512 .f32) (p : Vec Ideal S1x8x512 .f32) (P : ℕ → ℕ → EReal)
    (hP : ∀ (n : Fin 8) (k : Fin 512), p (ix3 (0 : Fin 1) n k) = P n.val k.val) (r : Fin 512) (k : Fin 256) :
    convH (F := Ideal) (k0_pay7 (View.ld (Val := Elt Ideal) (e' := .bf16) x0 rX) (View.ld (Val := Elt Ideal) (e' := .bf16) w rW1)) (k0_pay43 p)
      (View.ld (Val := Elt Ideal) (e' := .f32) cw rC1) (View.ld (Val := Elt Ideal) (e' := .f32) cb rB1) (ix2 r k) = convBlk x0 w cw cb P r.val (256 + k.val) := by
  refine (convH_apply _ _ _ _ (fun n => P n (256 + k.val)) (fun n => up x0 w n (256 + k.val)) k (fun n => (pay43_apply p n k).trans (hP _ _)) (fun n => proj_right x0 w n k) r).trans ?_
  exact taps_congr (fun i _ => at2_ld cw 256 _ i k.val k.isLt (by omega)) (at2_ld cb 256 _ 0 k.val k.isLt (by omega)) rfl rfl rfl

/-- The gated values of a grid point. -/
theorem outG_apply (pa pb : Vec Ideal S1x8x512 .f32) (PA PB : ℕ → ℕ → EReal)
    (hA : ∀ (n : Fin 8) (k : Fin 512), pa (ix3 (0 : Fin 1) n k) = PA n.val k.val) (hB : ∀ (n : Fin 8) (k : Fin 512), pb (ix3 (0 : Fin 1) n k) = PB n.val k.val)
    (r : Fin 512) (k : Fin 512) : FfnUpPromptIdeal.outG (F := Ideal) x0 x1 x2 x3 x4 x5 x6 pa pb (ix2 r k)
      = gate (convBlk x0 x1 x3 x5 PA r.val k.val) (convBlk x0 x2 x4 x6 PB r.val k.val) := by
  unfold FfnUpPromptIdeal.outG
  refine halves (e := .bf16) _ _ _ _ (fun r k => gate (convBlk x0 x1 x3 x5 PA r k) (convBlk x0 x2 x4 x6 PB r k)) (fun r k => ?_) (fun r k => ?_) r k
  · exact (gateH_apply _ _ _).trans (congrArg₂ gate (blk_right x0 x1 x3 x5 pa PA hA r k) (blk_right x0 x2 x4 x6 pb PB hB r k))
  · exact (gateH_apply _ _ _).trans (congrArg₂ gate (blk_left x0 x1 x3 x5 pa PA hA r k) (blk_left x0 x2 x4 x6 pb PB hB r k))

/-- The last eight rows of 512. -/
theorem tail_apply (u : FVec Ideal S512x256 .f32) (n : Fin 8) (k : Fin 256) :
    k0_pay23 u (ix3 (0 : Fin 1) n k) = u (ix2 (⟨504 + n.val, by omega⟩ : Fin 512) k) := by
  unfold k0_pay23 k0_pay21
  refine (shapeCast_ab_1ab_apply _ _ _ _ _).trans ?_
  refine extractStridedSlice_apply ![504, 0] u _ _ (ix2 (⟨504 + n.val, by omega⟩ : Fin 512) k) (fun a => ?_)
  match a with
  | ⟨0, _⟩ => rfl
  | ⟨1, _⟩ => show k.val = 0 + k.val; omega

/-- The last rows of a grid point's projection. -/
theorem outT_apply (w : FVec Ideal S2048x512 .bf16) (n : Fin 8) (k : Fin 512) :
    FfnUpPromptIdeal.outT (F := Ideal) x0 w (ix3 (0 : Fin 1) n k) = up x0 w (504 + n.val) k.val := by
  have hk := k.isLt
  unfold FfnUpPromptIdeal.outT
  by_cases h : k.val < 256
  · refine (outT_left _ _ n k h).trans ((tail_apply _ n ⟨k.val, h⟩).trans ?_)
    exact proj_left x0 w _ _
  · refine (outT_right _ _ n k h).trans ((tail_apply _ n ⟨k.val - 256, by omega⟩).trans ((proj_right x0 w _ _).trans ?_))
    exact congrArg (up x0 w _) (show 256 + (k.val - 256) = k.val by omega)

/-! ## The blocks of the launched arrays -/

variable (m : (ℓ : Loc nD τ sig) → Buf (Elt Ideal) ℓ)

/-- The launched arguments. -/
abbrev X (c : Dev nD) : FVec Ideal ⟨2, ![8192, 2048]⟩ .bf16 := m ((c.tc : Thread nD τ).loc main_arg0)
abbrev W (c : Dev nD) : FVec Ideal ⟨2, ![2048, 11264]⟩ .bf16 := m ((c.tc : Thread nD τ).loc main_arg1)
abbrev CW (c : Dev nD) : FVec Ideal ⟨2, ![3, 11264]⟩ .f32 := m ((c.tc : Thread nD τ).loc main_arg2)
abbrev CB (c : Dev nD) : FVec Ideal ⟨2, ![1, 11264]⟩ .f32 := m ((c.tc : Thread nD τ).loc main_arg3)

/-! Where the windows stand at each grid point. -/

theorem idx0 : ∀ t : Fin cfg0.N, win0_0.index t 0 = t.val / 11 ∧ win0_0.index t 1 = 0 :=
  (by decide +kernel : ∀ t : Fin grid0.N, win0_0.index t 0 = t.val / 11 ∧ win0_0.index t 1 = 0)

theorem idx1 : ∀ t : Fin cfg0.N, win0_1.index t 0 = 0 ∧ win0_1.index t 1 = t.val % 11 :=
  (by decide +kernel : ∀ t : Fin grid0.N, win0_1.index t 0 = 0 ∧ win0_1.index t 1 = t.val % 11)

theorem idx2 : ∀ t : Fin cfg0.N, win0_2.index t 0 = 0 ∧ win0_2.index t 1 = t.val % 11 + 11 :=
  (by decide +kernel : ∀ t : Fin grid0.N, win0_2.index t 0 = 0 ∧ win0_2.index t 1 = t.val % 11 + 11)

theorem idx3 : ∀ t : Fin cfg0.N, win0_3.index t 0 = 0 ∧ win0_3.index t 1 = t.val % 11 :=
  (by decide +kernel : ∀ t : Fin grid0.N, win0_3.index t 0 = 0 ∧ win0_3.index t 1 = t.val % 11)

theorem idx4 : ∀ t : Fin cfg0.N, win0_4.index t 0 = 0 ∧ win0_4.index t 1 = t.val % 11 + 11 :=
  (by decide +kernel : ∀ t : Fin grid0.N, win0_4.index t 0 = 0 ∧ win0_4.index t 1 = t.val % 11 + 11)

theorem idx5 : ∀ t : Fin cfg0.N, win0_5.index t 0 = 0 ∧ win0_5.index t 1 = t.val % 11 :=
  (by decide +kernel : ∀ t : Fin grid0.N, win0_5.index t 0 = 0 ∧ win0_5.index t 1 = t.val % 11)

theorem idx6 : ∀ t : Fin cfg0.N, win0_6.index t 0 = 0 ∧ win0_6.index t 1 = t.val % 11 + 11 :=
  (by decide +kernel : ∀ t : Fin grid0.N, win0_6.index t 0 = 0 ∧ win0_6.index t 1 = t.val % 11 + 11)

theorem idx7 : ∀ t : Fin cfg0.N, win0_7.index t 0 = t.val / 11 ∧ win0_7.index t 1 = t.val % 11 :=
  (by decide +kernel : ∀ t : Fin grid0.N, win0_7.index t 0 = t.val / 11 ∧ win0_7.index t 1 = t.val % 11)

theorem idx8 : ∀ t : Fin cfg0.N, win0_8.index t 0 = t.val / 11 ∧ win0_8.index t 1 = 0 ∧ win0_8.index t 2 = t.val % 11 :=
  (by decide +kernel : ∀ t : Fin grid0.N, win0_8.index t 0 = t.val / 11 ∧ win0_8.index t 1 = 0 ∧ win0_8.index t 2 = t.val % 11)

theorem idx9 : ∀ t : Fin cfg0.N, win0_9.index t 0 = t.val / 11 ∧ win0_9.index t 1 = 0 ∧ win0_9.index t 2 = t.val % 11 :=
  (by decide +kernel : ∀ t : Fin grid0.N, win0_9.index t 0 = t.val / 11 ∧ win0_9.index t 1 = 0 ∧ win0_9.index t 2 = t.val % 11)

/-- A point's rows of the activations, -/
theorem blk0 (c : Dev nD) (t : Fin cfg0.N) (r q : ℕ) (hr : r < 512) (hq : q < 2048) :
    at2 (M := 512) (N := 2048) (iblk m c 0 t) r q = at2 (X m c) (512 * (t.val / 11) + r) q := by
  refine at2_congr _ _ _ _ _ _ hr hq ?_
  refine Eq.trans ?_ (at2_eq (M := 8192) (N := 2048) (m ((c.tc : Thread nD τ).loc main_arg0)) (((cfg0.win 0).blk t).view.emb (ix2 ⟨r, hr⟩ ⟨q, hq⟩)) _ _ ?_ ?_)
  · unfold iblk; rw [View.read_apply]; rfl
  · show win0_0.index t 0 * 512 + 1 * r = _; rw [(idx0 t).1]; omega
  · show win0_0.index t 1 * 2048 + 1 * q = _; rw [(idx0 t).2]; omega

/-! and its columns of the other arguments. -/

theorem blk1 (c : Dev nD) (t : Fin cfg0.N) (r c' : ℕ) (hr : r < 2048) (hc : c' < 512) :
    at2 (M := 2048) (N := 512) (iblk m c 1 t) r c' = at2 (W m c) r (512 * (t.val % 11) + c') := by
  refine at2_congr _ _ _ _ _ _ hr hc ?_
  refine Eq.trans ?_ (at2_eq (M := 2048) (N := 11264) (m ((c.tc : Thread nD τ).loc main_arg1)) (((cfg0.win 1).blk t).view.emb (ix2 ⟨r, hr⟩ ⟨c', hc⟩)) _ _ ?_ ?_)
  · unfold iblk; rw [View.read_apply]; rfl
  · show win0_1.index t 0 * 2048 + 1 * r = _; rw [(idx1 t).1]; omega
  · show win0_1.index t 1 * 512 + 1 * c' = _; rw [(idx1 t).2]; omega

theorem blk2 (c : Dev nD) (t : Fin cfg0.N) (r c' : ℕ) (hr : r < 2048) (hc : c' < 512) :
    at2 (M := 2048) (N := 512) (iblk m c 2 t) r c' = at2 (W m c) r (5632 + (512 * (t.val % 11) + c')) := by
  refine at2_congr _ _ _ _ _ _ hr hc ?_
  refine Eq.trans ?_ (at2_eq (M := 2048) (N := 11264) (m ((c.tc : Thread nD τ).loc main_arg1)) (((cfg0.win 2).blk t).view.emb (ix2 ⟨r, hr⟩ ⟨c', hc⟩)) _ _ ?_ ?_)
  · unfold iblk; rw [View.read_apply]; rfl
  · show win0_2.index t 0 * 2048 + 1 * r = _; rw [(idx2 t).1]; omega
  · show win0_2.index t 1 * 512 + 1 * c' = _; rw [(idx2 t).2]; omega

theorem blk3 (c : Dev nD) (t : Fin cfg0.N) (r c' : ℕ) (hr : r < 3) (hc : c' < 512) :
    at2 (M := 3) (N := 512) (iblk m c 3 t) r c' = at2 (CW m c) r (512 * (t.val % 11) + c') := by
  refine at2_congr _ _ _ _ _ _ hr hc ?_
  refine Eq.trans ?_ (at2_eq (M := 3) (N := 11264) (m ((c.tc : Thread nD τ).loc main_arg2)) (((cfg0.win 3).blk t).view.emb (ix2 ⟨r, hr⟩ ⟨c', hc⟩)) _ _ ?_ ?_)
  · unfold iblk; rw [View.read_apply]; rfl
  · show win0_3.index t 0 * 3 + 1 * r = _; rw [(idx3 t).1]; omega
  · show win0_3.index t 1 * 512 + 1 * c' = _; rw [(idx3 t).2]; omega

theorem blk4 (c : Dev nD) (t : Fin cfg0.N) (r c' : ℕ) (hr : r < 3) (hc : c' < 512) :
    at2 (M := 3) (N := 512) (iblk m c 4 t) r c' = at2 (CW m c) r (5632 + (512 * (t.val % 11) + c')) := by
  refine at2_congr _ _ _ _ _ _ hr hc ?_
  refine Eq.trans ?_ (at2_eq (M := 3) (N := 11264) (m ((c.tc : Thread nD τ).loc main_arg2)) (((cfg0.win 4).blk t).view.emb (ix2 ⟨r, hr⟩ ⟨c', hc⟩)) _ _ ?_ ?_)
  · unfold iblk; rw [View.read_apply]; rfl
  · show win0_4.index t 0 * 3 + 1 * r = _; rw [(idx4 t).1]; omega
  · show win0_4.index t 1 * 512 + 1 * c' = _; rw [(idx4 t).2]; omega

theorem blk5 (c : Dev nD) (t : Fin cfg0.N) (r c' : ℕ) (hr : r < 1) (hc : c' < 512) :
    at2 (M := 1) (N := 512) (iblk m c 5 t) r c' = at2 (CB m c) r (512 * (t.val % 11) + c') := by
  refine at2_congr _ _ _ _ _ _ hr hc ?_
  refine Eq.trans ?_ (at2_eq (M := 1) (N := 11264) (m ((c.tc : Thread nD τ).loc main_arg3)) (((cfg0.win 5).blk t).view.emb (ix2 ⟨r, hr⟩ ⟨c', hc⟩)) _ _ ?_ ?_)
  · unfold iblk; rw [View.read_apply]; rfl
  · show win0_5.index t 0 * 1 + 1 * r = _; rw [(idx5 t).1]; omega
  · show win0_5.index t 1 * 512 + 1 * c' = _; rw [(idx5 t).2]; omega

theorem blk6 (c : Dev nD) (t : Fin cfg0.N) (r c' : ℕ) (hr : r < 1) (hc : c' < 512) :
    at2 (M := 1) (N := 512) (iblk m c 6 t) r c' = at2 (CB m c) r (5632 + (512 * (t.val % 11) + c')) := by
  refine at2_congr _ _ _ _ _ _ hr hc ?_
  refine Eq.trans ?_ (at2_eq (M := 1) (N := 11264) (m ((c.tc : Thread nD τ).loc main_arg3)) (((cfg0.win 6).blk t).view.emb (ix2 ⟨r, hr⟩ ⟨c', hc⟩)) _ _ ?_ ?_)
  · unfold iblk; rw [View.read_apply]; rfl
  · show win0_6.index t 0 * 1 + 1 * r = _; rw [(idx6 t).1]; omega
  · show win0_6.index t 1 * 512 + 1 * c' = _; rw [(idx6 t).2]; omega

/-- The projection onto a block's columns is that onto the array's. -/
theorem upA (c : Dev nD) (t : Fin cfg0.N) (n k : ℕ) (hn : n < 512) (hk : k < 512) :
    up (M := 512) (N := 512) (iblk m c 0 t) (iblk m c 1 t) n k = up (X m c) (W m c) (512 * (t.val / 11) + n) (512 * (t.val % 11) + k) :=
  up_congr (fun q hq => blk0 m c t n q hn hq) (fun q hq => blk1 m c t q k hq hk)

theorem upB (c : Dev nD) (t : Fin cfg0.N) (n k : ℕ) (hn : n < 512) (hk : k < 512) :
    up (M := 512) (N := 512) (iblk m c 0 t) (iblk m c 2 t) n k = up (X m c) (W m c) (512 * (t.val / 11) + n) (5632 + (512 * (t.val % 11) + k)) :=
  up_congr (fun q hq => blk0 m c t n q hn hq) (fun q hq => blk2 m c t q k hq hk)

/-- The eight rows before a point's own, of the column `C`. -/
def before8 (c : Dev nD) (t : Fin cfg0.N) (C n : ℕ) : EReal :=
  if t.val / 11 % 4 = 0 then 0 else up (X m c) (W m c) (512 * (t.val / 11) - 8 + n) C

theorem zeros5 (i : S1x8x512.Idx) : k0_pay5 (F := Ideal) i = 0 := Ideal.ofBits_zero_f32
theorem zeros6 (i : S1x8x512.Idx) : k0_pay6 (F := Ideal) i = 0 := Ideal.ofBits_zero_f32

theorem prevA_apply (c : Dev nD) (t : Fin cfg0.N) (n : Fin 8) (k : Fin 512) :
    prevA (F := Ideal) m c t (ix3 (0 : Fin 1) n k) = before8 m c t (512 * (t.val % 11) + k.val) n.val := by
  have hn := n.isLt
  unfold prevA before8
  by_cases hs : t.val / 11 % 4 = 0
  · rw [if_pos hs, if_pos hs]; exact zeros5 _
  · rw [if_neg hs, if_neg hs]
    have e : (above t).val = t.val - 11 := rfl
    refine (outT_apply (iblk m c 0 (above t)) (iblk m c 1 (above t)) n k).trans ((upA m c (above t) _ _ (by omega) k.isLt).trans ?_)
    refine congrArg₂ (up (X m c) (W m c)) ?_ ?_
    · rw [e]; omega
    · rw [e]; omega

theorem prevB_apply (c : Dev nD) (t : Fin cfg0.N) (n : Fin 8) (k : Fin 512) :
    prevB (F := Ideal) m c t (ix3 (0 : Fin 1) n k) = before8 m c t (5632 + (512 * (t.val % 11) + k.val)) n.val := by
  have hn := n.isLt
  unfold prevB before8
  by_cases hs : t.val / 11 % 4 = 0
  · rw [if_pos hs, if_pos hs]; exact zeros6 _
  · rw [if_neg hs, if_neg hs]
    have e : (above t).val = t.val - 11 := rfl
    refine (outT_apply (iblk m c 0 (above t)) (iblk m c 2 (above t)) n k).trans ((upB m c (above t) _ _ (by omega) k.isLt).trans ?_)
    refine congrArg₂ (up (X m c) (W m c)) ?_ ?_
    · rw [e]; omega
    · rw [e]; omega

/-- The taps of a point's column are those of the whole sequence's. -/
theorem conv_seq (c : Dev nD) (t : Fin cfg0.N) (C r : ℕ) (hr : r < 512) (U : ℕ → EReal) (P : ℕ → EReal)
    (hP : ∀ n, n < 8 → P n = before8 m c t C n) (hU : ∀ n, n < 512 → U n = up (X m c) (W m c) (512 * (t.val / 11) + n) C) (d s : ℕ) (hd : d + s = 8) (hs : 0 < d) (hd2 : d ≤ 2) :
    hist 8 P U (r + s) = prior d (X m c) (W m c) (512 * (t.val / 11) + r) C := by
  unfold hist prior
  by_cases h : r + s < 8
  · rw [if_pos h, hP _ h]
    unfold before8
    by_cases h0 : t.val / 11 % 4 = 0
    · rw [if_pos h0, if_pos (by omega)]
    · rw [if_neg h0, if_neg (by omega)]
      exact congrArg (fun n => up (X m c) (W m c) n C) (by omega)
  · rw [if_neg h, if_neg (by omega), hU _ (by omega)]
    exact congrArg (fun n => up (X m c) (W m c) n C) (by omega)

theorem blk_convA (c : Dev nD) (t : Fin cfg0.N) (r k : ℕ) (hr : r < 512) (hk : k < 512) :
    convBlk (iblk m c 0 t) (iblk m c 1 t) (iblk m c 3 t) (iblk m c 5 t) (fun n k => before8 m c t (512 * (t.val % 11) + k) n) r k
      = convAt (X m c) (W m c) (CW m c) (CB m c) (512 * (t.val / 11) + r) (512 * (t.val % 11) + k) := by
  unfold convBlk convAt
  refine taps_congr (fun i hi => blk3 m c t i k hi hk) (blk5 m c t 0 k (by omega) hk) ?_ ?_ (upA m c t r k hr hk)
  · exact conv_seq m c t _ r hr _ _ (fun _ _ => rfl) (fun n hn => upA m c t n k hn hk) 2 6 rfl (by omega) (by omega)
  · exact conv_seq m c t _ r hr _ _ (fun _ _ => rfl) (fun n hn => upA m c t n k hn hk) 1 7 rfl (by omega) (by omega)

theorem blk_convB (c : Dev nD) (t : Fin cfg0.N) (r k : ℕ) (hr : r < 512) (hk : k < 512) :
    convBlk (iblk m c 0 t) (iblk m c 2 t) (iblk m c 4 t) (iblk m c 6 t) (fun n k => before8 m c t (5632 + (512 * (t.val % 11) + k)) n) r k
      = convAt (X m c) (W m c) (CW m c) (CB m c) (512 * (t.val / 11) + r) (5632 + (512 * (t.val % 11) + k)) := by
  unfold convBlk convAt
  refine taps_congr (fun i hi => blk4 m c t i k hi hk) (blk6 m c t 0 k (by omega) hk) ?_ ?_ (upB m c t r k hr hk)
  · exact conv_seq m c t _ r hr _ _ (fun _ _ => rfl) (fun n hn => upB m c t n k hn hk) 2 6 rfl (by omega) (by omega)
  · exact conv_seq m c t _ r hr _ _ (fun _ _ => rfl) (fun n hn => upB m c t n k hn hk) 1 7 rfl (by omega) (by omega)

end

/-! ## The call's results -/

/-- The first result as a function of the arguments: the gated convolutions. -/
def outG (h : FVec Ideal ⟨2, ![8192, 2048]⟩ .bf16) (w : FVec Ideal ⟨2, ![2048, 11264]⟩ .bf16) (cw : FVec Ideal ⟨2, ![3, 11264]⟩ .f32)
    (cb : FVec Ideal ⟨2, ![1, 11264]⟩ .f32) : FVec Ideal ⟨2, ![8192, 5632]⟩ .bf16 :=
  fun i => gate (convAt h w cw cb (i 0).val (i 1).val) (convAt h w cw cb (i 0).val (5632 + (i 1).val))

/-- The others: the up projection at the last eight rows of every 512, from column `o` on. -/
def outT (o : ℕ) (h : FVec Ideal ⟨2, ![8192, 2048]⟩ .bf16) (w : FVec Ideal ⟨2, ![2048, 11264]⟩ .bf16) : FVec Ideal ⟨3, ![16, 8, 5632]⟩ .f32 :=
  fun i => up h w (512 * (i 0).val + (504 + (i 1).val)) (o + (i 2).val)

section
open Cert.Kernel6Ideal Cert.Kernel6Ideal.Gen Cert.Proof.FfnUpPromptIdeal

variable (m : (ℓ : Loc nD τ sig) → Buf (Elt Ideal) ℓ) (ρ : Dev nD → PrngReg)

/-- The call's results of the launched arguments. -/
abbrev G7 (c : Dev nD) : FVec Ideal ⟨2, ![8192, 5632]⟩ .bf16 := FfnUpPrompt.outG (X m c) (W m c) (CW m c) (CB m c)
abbrev G8 (c : Dev nD) : FVec Ideal ⟨3, ![16, 8, 5632]⟩ .f32 := FfnUpPrompt.outT 0 (X m c) (W m c)
abbrev G9 (c : Dev nD) : FVec Ideal ⟨3, ![16, 8, 5632]⟩ .f32 := FfnUpPrompt.outT 5632 (X m c) (W m c)

theorem flushed7_eq (c : Dev nD) (t : Fin cfg0.N) (_ : (cfg0.win 7).flush t = true) :
    (dats m 0 c).flushed 7 t = ((cfg0.win 7).blk t).view.read (Elt Ideal) (G7 m c) := by
  refine Eq.trans (show _ = (cfg0.win 7).cut (grid0.coords t) ((dats m 0 c).after 7 t) from rfl) ?_
  rw [after7]
  funext j
  rw [View.read_apply]
  have h0 : (j 0).val < 512 := (j 0).isLt
  have h1 : (j 1).val < 512 := (j 1).isLt
  refine ((congrArg _ (eq_ix2 j)).trans (outG_apply _ _ _ _ _ _ _ _ _ (fun n k => before8 m c t (512 * (t.val % 11) + k) n) (fun n k => before8 m c t (5632 + (512 * (t.val % 11) + k)) n) (fun n k => prevA_apply m c t n k) (fun n k => prevB_apply m c t n k) (j 0) (j 1))).trans ?_
  have e0 : ((((cfg0.win 7).blk t).view.emb j) 0).val = 512 * (t.val / 11) + (j 0).val := by
    show win0_7.index t 0 * 512 + 1 * (j 0).val = _; rw [(idx7 t).1]; omega
  have e1 : ((((cfg0.win 7).blk t).view.emb j) 1).val = 512 * (t.val % 11) + (j 1).val := by
    show win0_7.index t 1 * 512 + 1 * (j 1).val = _; rw [(idx7 t).2]; omega
  refine congrArg₂ gate ((blk_convA m c t _ _ h0 h1).trans ?_) ((blk_convB m c t _ _ h0 h1).trans ?_)
  · exact congrArg₂ (convAt (X m c) (W m c) (CW m c) (CB m c)) e0.symm e1.symm
  · exact congrArg₂ (convAt (X m c) (W m c) (CW m c) (CB m c)) e0.symm (congrArg (5632 + ·) e1.symm)

theorem covered7 (i : S8192x5632.Idx) :
    ∃ t : Fin cfg0.N, (cfg0.win 7).flush t = true ∧ i ∈ ((cfg0.win 7).blk t).view.set := by
  have h0 : (i 0).val < 8192 := (i 0).isLt
  have h1 : (i 1).val < 5632 := (i 1).isLt
  let t : Fin cfg0.N := ⟨11 * ((i 0).val / 512) + (i 1).val / 512, by show _ < 176; omega⟩
  have e : t.val = 11 * ((i 0).val / 512) + (i 1).val / 512 := rfl
  refine ⟨t, flush0_7 t, ?_⟩
  show i ∈ ((View.whole main_v0_0).slice (win0_7.rect t)).set
  rw [View.set_slice_whole, Rect.mem_set_unit]
  intro a
  match a with
  | ⟨0, _⟩ =>
    show win0_7.index t 0 * 512 ≤ (i 0).val ∧ (i 0).val < win0_7.index t 0 * 512 + 512
    rw [(idx7 t).1, e]; omega
  | ⟨1, _⟩ =>
    show win0_7.index t 1 * 512 ≤ (i 1).val ∧ (i 1).val < win0_7.index t 1 * 512 + 512
    rw [(idx7 t).2, e]; omega

theorem final7 (c : Dev nD) : (dats m 0 c).arrAt 7 cfg0.N = G7 m c :=
  (dats m 0 c).arrAt_eq_of_cover 7 (G7 m c) (flushed7_eq m c) covered7

theorem flushed8_eq (c : Dev nD) (t : Fin cfg0.N) (_ : (cfg0.win 8).flush t = true) :
    (dats m 0 c).flushed 8 t = ((cfg0.win 8).blk t).view.read (Elt Ideal) (G8 m c) := by
  refine Eq.trans (show _ = (cfg0.win 8).cut (grid0.coords t) ((dats m 0 c).after 8 t) from rfl) ?_
  rw [after8]
  funext j
  rw [View.read_apply]
  have h0 : (j 0).val < 1 := (j 0).isLt
  have h1 : (j 1).val < 8 := (j 1).isLt
  have h2 : (j 2).val < 512 := (j 2).isLt
  have ej : j = ix3 (0 : Fin 1) (j 1 : Fin 8) (j 2 : Fin 512) := by
    funext a
    match a with
    | ⟨0, _⟩ => exact Fin.ext (show (j 0).val = 0 by omega)
    | ⟨1, _⟩ => rfl
    | ⟨2, _⟩ => rfl
  refine ((congrArg _ ej).trans (outT_apply (iblk m c 0 t) (iblk m c 1 t) (j 1) (j 2))).trans ((upA m c t _ _ (by omega) h2).trans ?_)
  refine congrArg₂ (up (X m c) (W m c)) ?_ ?_
  · show 512 * (t.val / 11) + (504 + (j 1).val) = 512 * (win0_8.index t 0 * 1 + 1 * (j 0).val) + (504 + (win0_8.index t 1 * 8 + 1 * (j 1).val))
    rw [(idx8 t).1, (idx8 t).2.1]; omega
  · show 512 * (t.val % 11) + (j 2).val = 0 + (win0_8.index t 2 * 512 + 1 * (j 2).val)
    rw [(idx8 t).2.2]; omega

theorem covered8 (i : S16x8x5632.Idx) :
    ∃ t : Fin cfg0.N, (cfg0.win 8).flush t = true ∧ i ∈ ((cfg0.win 8).blk t).view.set := by
  have h0 : (i 0).val < 16 := (i 0).isLt
  have h1 : (i 1).val < 8 := (i 1).isLt
  have h2 : (i 2).val < 5632 := (i 2).isLt
  let t : Fin cfg0.N := ⟨11 * (i 0).val + (i 2).val / 512, by show _ < 176; omega⟩
  have e : t.val = 11 * (i 0).val + (i 2).val / 512 := rfl
  refine ⟨t, flush0_8 t, ?_⟩
  show i ∈ ((View.whole main_v0_1).slice (win0_8.rect t)).set
  rw [View.set_slice_whole, Rect.mem_set_unit]
  intro a
  match a with
  | ⟨0, _⟩ =>
    show win0_8.index t 0 * 1 ≤ (i 0).val ∧ (i 0).val < win0_8.index t 0 * 1 + 1
    rw [(idx8 t).1, e]; omega
  | ⟨1, _⟩ =>
    show win0_8.index t 1 * 8 ≤ (i 1).val ∧ (i 1).val < win0_8.index t 1 * 8 + 8
    rw [(idx8 t).2.1]; omega
  | ⟨2, _⟩ =>
    show win0_8.index t 2 * 512 ≤ (i 2).val ∧ (i 2).val < win0_8.index t 2 * 512 + 512
    rw [(idx8 t).2.2, e]; omega

theorem final8 (c : Dev nD) : (dats m 0 c).arrAt 8 cfg0.N = G8 m c :=
  (dats m 0 c).arrAt_eq_of_cover 8 (G8 m c) (flushed8_eq m c) covered8

theorem flushed9_eq (c : Dev nD) (t : Fin cfg0.N) (_ : (cfg0.win 9).flush t = true) :
    (dats m 0 c).flushed 9 t = ((cfg0.win 9).blk t).view.read (Elt Ideal) (G9 m c) := by
  refine Eq.trans (show _ = (cfg0.win 9).cut (grid0.coords t) ((dats m 0 c).after 9 t) from rfl) ?_
  rw [after9]
  funext j
  rw [View.read_apply]
  have h0 : (j 0).val < 1 := (j 0).isLt
  have h1 : (j 1).val < 8 := (j 1).isLt
  have h2 : (j 2).val < 512 := (j 2).isLt
  have ej : j = ix3 (0 : Fin 1) (j 1 : Fin 8) (j 2 : Fin 512) := by
    funext a
    match a with
    | ⟨0, _⟩ => exact Fin.ext (show (j 0).val = 0 by omega)
    | ⟨1, _⟩ => rfl
    | ⟨2, _⟩ => rfl
  refine ((congrArg _ ej).trans (outT_apply (iblk m c 0 t) (iblk m c 2 t) (j 1) (j 2))).trans ((upB m c t _ _ (by omega) h2).trans ?_)
  refine congrArg₂ (up (X m c) (W m c)) ?_ ?_
  · show 512 * (t.val / 11) + (504 + (j 1).val) = 512 * (win0_9.index t 0 * 1 + 1 * (j 0).val) + (504 + (win0_9.index t 1 * 8 + 1 * (j 1).val))
    rw [(idx9 t).1, (idx9 t).2.1]; omega
  · show 5632 + (512 * (t.val % 11) + (j 2).val) = 5632 + (win0_9.index t 2 * 512 + 1 * (j 2).val)
    rw [(idx9 t).2.2]; omega

theorem covered9 (i : S16x8x5632.Idx) :
    ∃ t : Fin cfg0.N, (cfg0.win 9).flush t = true ∧ i ∈ ((cfg0.win 9).blk t).view.set := by
  have h0 : (i 0).val < 16 := (i 0).isLt
  have h1 : (i 1).val < 8 := (i 1).isLt
  have h2 : (i 2).val < 5632 := (i 2).isLt
  let t : Fin cfg0.N := ⟨11 * (i 0).val + (i 2).val / 512, by show _ < 176; omega⟩
  have e : t.val = 11 * (i 0).val + (i 2).val / 512 := rfl
  refine ⟨t, flush0_9 t, ?_⟩
  show i ∈ ((View.whole main_v0_2).slice (win0_9.rect t)).set
  rw [View.set_slice_whole, Rect.mem_set_unit]
  intro a
  match a with
  | ⟨0, _⟩ =>
    show win0_9.index t 0 * 1 ≤ (i 0).val ∧ (i 0).val < win0_9.index t 0 * 1 + 1
    rw [(idx9 t).1, e]; omega
  | ⟨1, _⟩ =>
    show win0_9.index t 1 * 8 ≤ (i 1).val ∧ (i 1).val < win0_9.index t 1 * 8 + 8
    rw [(idx9 t).2.1]; omega
  | ⟨2, _⟩ =>
    show win0_9.index t 2 * 512 ≤ (i 2).val ∧ (i 2).val < win0_9.index t 2 * 512 + 512
    rw [(idx9 t).2.2, e]; omega

theorem final9 (c : Dev nD) : (dats m 0 c).arrAt 9 cfg0.N = G9 m c :=
  (dats m 0 c).arrAt_eq_of_cover 9 (G9 m c) (flushed9_eq m c) covered9

/-- Every run ends with these results and with its arguments unchanged. -/
theorem run_results : θ_run defs (onTc (τ := τ) (main (F := Ideal))) ⟨m, fun _ => 0, ρ⟩ (fun r => ∀ c : Dev nD,
      r.2.mem ((c.tc : Thread nD τ).loc main_v0_0) = G7 m c
      ∧ r.2.mem ((c.tc : Thread nD τ).loc main_v0_1) = G8 m c
      ∧ r.2.mem ((c.tc : Thread nD τ).loc main_v0_2) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 7).trans (final7 m c), ((h c).1 8).trans (final8 m c), ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 5).trans (((dats m 0 c).arrAt_in 5 rfl _).trans ((A_eq m c 5).trans (V_main_arg3 m c)))⟩)
    (Cert.Proof.FfnUpPromptIdeal.run m ρ)

end

/-! ## The reference's results -/

section
open Cert.Reference6Ideal Cert.Reference6Ideal.Read

variable (h : FVec Ideal S8192x2048 .bf16) (w : FVec Ideal S2048x11264 .bf16) (cw : FVec Ideal S3x11264 .f32) (cb : FVec Ideal S1x11264 .f32)

theorem ref_up (i : S8192x11264.Idx) : val_main_v2 (F := Ideal) h w i = up h w (i 0).val (i 1).val := by
  rw [val_main_v2_apply]
  refine Finset.sum_congr rfl fun q _ => ?_
  exact congrArg₂ (fun x y : EReal => x * y) (at2_eq h _ _ _ rfl rfl) (at2_eq w _ _ _ rfl rfl)

/-- The projection by sequence and place in it. -/
theorem ref_seq (i : S4x2048x11264.Idx) : val_main_v3 (F := Ideal) h w i = up h w ((i 0).val * 2048 + (i 1).val) (i 2).val := by
  have hC : (i 2).val < 11264 := (i 2).isLt
  rw [val_main_v3_apply, ref_up]
  refine congrArg₂ (up h w) ?_ ?_
  · show (((i 0).val * 2048 + (i 1).val) * 11264 + (i 2).val) / 11264 = _; omega
  · show (((i 0).val * 2048 + (i 1).val) * 11264 + (i 2).val) % 11264 = _; omega

/-- Two rows of zeros before every sequence's projection. -/
theorem ref_padded (b : Fin 4) (p : Fin 2050) (C : Fin 11264) : val_main_v5 (F := Ideal) h w (ix3 b p C)
    = if p.val < 2 then 0 else up h w (b.val * 2048 + (p.val - 2)) C.val := by
  have hp := p.isLt
  unfold val_main_v5
  by_cases hlt : p.val < 2
  · rw [if_pos hlt]
    refine (concatenate_pair_apply_left 1 (val_main_v4 (F := Ideal)) (val_main_v3 (F := Ideal) h w) _ (ix3 b p C) rfl (ix3 b (⟨p.val, hlt⟩ : Fin 2) C)
      (fun a => ?_)).trans ?_
    · match a with
      | ⟨0, _⟩ => rfl
      | ⟨1, _⟩ => rfl
      | ⟨2, _⟩ => rfl
    · rw [val_main_v4_apply, val_main_cst_apply]
      exact Ideal.ofBits_zero_f32
  · rw [if_neg hlt]
    refine (concatenate_pair_apply_right 1 (val_main_v4 (F := Ideal)) (val_main_v3 (F := Ideal) h w) _ (ix3 b p C) rfl rfl
      (ix3 b (⟨p.val - 2, by omega⟩ : Fin 2048) C) (fun a ha => ?_) ?_).trans (ref_seq h w _)
    · match a with
      | ⟨0, _⟩ => rfl
      | ⟨1, _⟩ => exact absurd rfl ha
      | ⟨2, _⟩ => rfl
    · show p.val - 2 + 2 = p.val; omega

/-- Read `d` rows back, it is the projection `d` rows before. -/
theorem ref_prior (i : S4x2050x11264.Idx) (d r C : ℕ) (hd : d ≤ 2) (hr : (i 0).val * 2048 + (i 1).val + d = r + 2) (hs : d ≤ 2 ∧ (i 1).val + d < 2050 ∧ 2 ≤ (i 1).val + d)
    (hC : (i 2).val = C) : val_main_v5 (F := Ideal) h w i = prior d h w r C := by
  subst hC
  have e : i = ix3 (i 0 : Fin 4) (i 1 : Fin 2050) (i 2 : Fin 11264) := by
    funext a
    match a with
    | ⟨0, _⟩ => rfl
    | ⟨1, _⟩ => rfl
    | ⟨2, _⟩ => rfl
  refine (congrArg _ e).trans ((ref_padded h w (i 0) (i 1) (i 2)).trans ?_)
  unfold prior
  by_cases hp : (i 1).val < 2
  · rw [if_pos hp, if_pos (by omega)]
  · rw [if_neg hp, if_neg (by omega)]
    exact congrArg (fun k => up h w k _) (by omega)

/-- Zero rows before a row is the row itself. -/
theorem prior_zero (r C : ℕ) : prior 0 h w r C = up h w r C := by
  unfold prior
  rw [if_neg (Nat.not_lt_zero _), Nat.sub_zero]

/-- The reference's convolution. -/
theorem ref_conv (i : S4x2048x11264.Idx) (r C : ℕ) (hr : (i 0).val * 2048 + (i 1).val = r) (hC : (i 2).val = C) :
    val_main_v29 (F := Ideal) h w cw cb i = convAt h w cw cb r C := by
  have h1 : (i 1).val < 2048 := (i 1).isLt
  have h2 : (i 2).val < 11264 := (i 2).isLt
  have e8 : ((idx_main_v8 i) 1).val = (i 1).val := rfl
  have e14 : ((idx_main_v14 i) 1).val = 1 + (i 1).val := rfl
  have e21 : ((idx_main_v21 i) 1).val = 2 + (i 1).val := rfl
  have f8 : ((idx_main_v8 i) 0).val = (i 0).val := rfl
  have f14 : ((idx_main_v14 i) 0).val = (i 0).val := rfl
  have f21 : ((idx_main_v21 i) 0).val = (i 0).val := rfl
  rw [val_main_v29_apply, val_main_v25_apply, val_main_v18_apply, val_main_v11_apply, val_main_v17_apply, val_main_v24_apply,
    val_main_v8_apply, val_main_v14_apply, val_main_v21_apply,
    ref_prior h w (idx_main_v8 i) 2 r C (by omega) (by rw [f8, e8]; omega) (by rw [e8]; omega) hC,
    ref_prior h w (idx_main_v14 i) 1 r C (by omega) (by rw [f14, e14]; omega) (by rw [e14]; omega) hC,
    ref_prior h w (idx_main_v21 i) 0 r C (by omega) (by rw [f21, e21]; omega) (by rw [e21]; omega) hC, prior_zero,
    val_main_v10_apply, val_main_v9_apply, val_main_v7_apply, val_main_v6_apply,
    val_main_v16_apply, val_main_v15_apply, val_main_v13_apply, val_main_v12_apply,
    val_main_v23_apply, val_main_v22_apply, val_main_v20_apply, val_main_v19_apply,
    val_main_v28_apply, val_main_v27_apply, val_main_v26_apply]
  unfold convAt tapsAt
  have hm : (i 2).val % 11264 = C := by omega
  refine congrArg₂ (fun p q : EReal => p + q) (congrArg₂ (fun p q : EReal => p + q) (congrArg₂ (fun p q : EReal => p + q) ?_ ?_) ?_) ?_
  · exact congrArg (fun q : EReal => q * _) (at2_eq cw _ _ _ rfl hm)
  · exact congrArg (fun q : EReal => q * _) (at2_eq cw _ _ _ rfl hm)
  · exact congrArg (fun q : EReal => q * _) (at2_eq cw _ _ _ rfl hm)
  · exact at2_eq cb _ _ _ rfl hm

theorem ref_gate (i : S4x2048x5632.Idx) (r C : ℕ) (hr : (i 0).val * 2048 + (i 1).val = r) (hC : (i 2).val = C) :
    val_main_v33 (F := Ideal) h w cw cb i = gate (convAt h w cw cb r C) (convAt h w cw cb r (5632 + C)) := by
  rw [val_main_v33_apply, val_main_v32_apply, val_main_call0_v5_apply, val_main_call0_v4_apply, val_main_call0_cst_0_apply,
    val_main_call0_v3_apply, val_main_call0_v2_apply, val_main_call0_cst_apply, val_main_call0_v1_apply, val_main_call0_v0_apply,
    val_main_v30_apply, val_main_v31_apply, ref_conv h w cw cb (idx_main_v30 i) r C hr hC,
    ref_conv h w cw cb (idx_main_v31 i) r (5632 + C) hr (by show 5632 + (i 2).val = _; omega)]
  unfold gate Ideal.logistic
  rw [← Ideal.ofBits_one_f32]
  rfl

theorem ref_outG : val_main_v39 (F := Ideal) h w cw cb = outG h w cw cb := by
  funext i
  have h0 : (i 0).val < 8192 := (i 0).isLt
  have h1 : (i 1).val < 5632 := (i 1).isLt
  rw [val_main_v39_apply, val_main_v38_apply]
  refine ref_gate h w cw cb _ _ _ ?_ ?_
  · show ((i 0).val * 5632 + (i 1).val) / 11534336 * 2048 + ((i 0).val * 5632 + (i 1).val) / 5632 % 2048 = _; omega
  · show ((i 0).val * 5632 + (i 1).val) % 5632 = _; omega

/-- The projection's rows by block of 512 and place in it. -/
theorem ref_rows (i : S16x512x11264.Idx) : val_main_v34 (F := Ideal) h w i = up h w (512 * (i 0).val + (i 1).val) (i 2).val := by
  have h0 : (i 0).val < 16 := (i 0).isLt
  have h1 : (i 1).val < 512 := (i 1).isLt
  have h2 : (i 2).val < 11264 := (i 2).isLt
  rw [val_main_v34_apply, ref_seq]
  refine congrArg₂ (up h w) ?_ ?_
  · show (((i 0).val * 512 + (i 1).val) * 11264 + (i 2).val) / 23068672 * 2048 + (((i 0).val * 512 + (i 1).val) * 11264 + (i 2).val) / 11264 % 2048 = _; omega
  · show (((i 0).val * 512 + (i 1).val) * 11264 + (i 2).val) % 11264 = _; omega

theorem ref_out0 : val_main_v36 (F := Ideal) h w = outT 0 h w := by
  funext i
  rw [val_main_v36_apply, val_main_v35_apply, ref_rows]
  exact congrArg₂ (up h w) rfl (show (i 2).val = 0 + (i 2).val by omega)

theorem ref_out1 : val_main_v37 (F := Ideal) h w = outT 5632 h w := by
  funext i
  rw [val_main_v37_apply, val_main_v35_apply, ref_rows]
  rfl

end

/-- Run on the same arguments, the kernel and the reference end with the same result arrays. -/
theorem algebraic : Cert.algebraic_Kernel6Ideal_Reference6Ideal := by
  intro m ρ m' ρ' _ hagree
  refine ⟨fun c => G7 m c, fun c => G8 m c, fun c => G9 m c, ?_, ?_⟩
  · exact run_results m ρ
  · refine (θ_run Cert.Reference6Ideal.defs _ _).mono (fun _ h c => ?_) (Cert.Reference6Ideal.Value.run (F := Ideal) m' ρ')
    obtain ⟨e0, e1, e2, e3⟩ := hagree c
    have key7 := (ref_outG (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1))
      (m' ((c.tc : Thread Cert.Reference6Ideal.nD Cert.Reference6Ideal.τ).loc Cert.Reference6Ideal.main_arg2))
      (m' ((c.tc : Thread Cert.Reference6Ideal.nD Cert.Reference6Ideal.τ).loc Cert.Reference6Ideal.main_arg3))).trans
      (show _ = G7 m c by unfold G7 X W CW CB; rw [← e0, ← e1, ← e2, ← e3])
    have key8 := (ref_out0 (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1))).trans
      (show _ = G8 m c by unfold G8 X W; rw [← e0, ← e1])
    have key9 := (ref_out1 (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1))).trans
      (show _ = G9 m c by unfold G9 X W; rw [← e0, ← e1])
    exact ⟨(h c).1.trans ((Cert.Reference6Ideal.Read.val_main_v39_eq ..).trans key7),
      (h c).2.1.trans ((Cert.Reference6Ideal.Read.val_main_v36_eq ..).trans key8),
      (h c).2.2.1.trans ((Cert.Reference6Ideal.Read.val_main_v37_eq ..).trans key9), (h c).2.2.2⟩

/-- The reference runs to its end and leaves its arguments and every counter as they were. -/
theorem quiescent : Cert.quiescent_Reference6Ideal := fun m ρ _ =>
  (θ_run Cert.Reference6Ideal.defs _ _).mono
    (fun r h => ⟨fun c => (h c).2.2.2, Idealize.ShloMosaic.sem_eq_zero_of_no_sems (by decide) r.2⟩)
    (Cert.Reference6Ideal.Value.run (F := Ideal) m ρ)

end Cert.Proof.FfnUpPrompt
-- ==== Proof.Mlp.lean ====
/-
  The two-layer network of the compression: entries of three-dimensional arrays by their numbers, the tanh form of the
  gaussian error unit, and the network of one row of inputs.
-/
module

public import proofs.«01_k».proof.Proof.Entries
public import Idealize.ShloMosaic.Lib.ValueLayout

@[expose] public section

set_option maxRecDepth 16384

noncomputable section

namespace Cert.Proof.Mlp

open Idealize.ShloMosaic Idealize.ShloMosaic.ValueIdx

/-- The entry of a three-dimensional array at three numbers; zero outside. -/
def at3 {A B C : ℕ} (x : (⟨3, ![A, B, C]⟩ : Shape).Idx → EReal) (a b c : ℕ) : EReal :=
  if h : a < A ∧ b < B ∧ c < C then x (ix3 ⟨a, h.1⟩ ⟨b, h.2.1⟩ ⟨c, h.2.2⟩) else 0

theorem at3_eq {A B C : ℕ} (x : (⟨3, ![A, B, C]⟩ : Shape).Idx → EReal) (i : (⟨3, ![A, B, C]⟩ : Shape).Idx) (a b c : ℕ)
    (h0 : (i 0).val = a) (h1 : (i 1).val = b) (h2 : (i 2).val = c) : x i = at3 x a b c := by
  have ha : a < A := h0 ▸ (i 0).isLt
  have hb : b < B := h1 ▸ (i 1).isLt
  have hc : c < C := h2 ▸ (i 2).isLt
  unfold at3
  rw [dif_pos ⟨ha, hb, hc⟩]
  refine congrArg x (funext fun k => Fin.ext ?_)
  match k with
  | ⟨0, _⟩ => exact h0
  | ⟨1, _⟩ => exact h1
  | ⟨2, _⟩ => exact h2

/-- The only index of the first dimension of a block of depth one. -/
theorem eq_slab {B C : ℕ} (j : (⟨3, ![1, B, C]⟩ : Shape).Idx) : j = ix3 (0 : Fin 1) (j 1 : Fin B) (j 2 : Fin C) := by
  have h0 : (j 0).val < 1 := (j 0).isLt
  funext a
  match a with
  | ⟨0, _⟩ => exact Fin.ext (show (j 0).val = 0 by omega)
  | ⟨1, _⟩ => rfl
  | ⟨2, _⟩ => rfl

theorem hz3 : (![0, 0, 0] : Fin 3 → Nat) = fun _ => 0 := by
  funext a; match a with | ⟨0, _⟩ => rfl | ⟨1, _⟩ => rfl | ⟨2, _⟩ => rfl

/-- The gaussian error unit by the hyperbolic tangent, with the constants as they are rounded. -/
def gelu (x : EReal) : EReal :=
  x * (Ideal.ofBits .f32 0x3F000000#32 * (Ideal.ofBits .f32 0x3F800000#32
    + FloatOps.tanh (F := Ideal) (φ := .f32) (Ideal.ofBits .f32 0x3F4C422A#32 * (x + Ideal.ofBits .f32 0x3D372713#32 * (x * x * x)))))

/-- A hidden unit before the nonlinearity: the first `n` inputs of a row against a column of weights. -/
def preact (n : ℕ) (h w : ℕ → ℕ → EReal) (r e : ℕ) : EReal := ∑ q ∈ Finset.range n, h r q * w q e

/-- The sum over the inputs taken 256 further. -/
theorem preact_add (n : ℕ) (h w : ℕ → ℕ → EReal) (r e : ℕ) :
    preact (n + 256) h w r e = preact n h w r e + ∑ j : Fin 256, h r (n + j.val) * w (n + j.val) e := by
  unfold preact
  rw [Finset.sum_range_add, Finset.sum_range (n := 256)]

/-- The network: 8192 inputs, 128 hidden units, 128 results. -/
def mlp (h w w' : ℕ → ℕ → EReal) (r c : ℕ) : EReal := ∑ e : Fin 128, gelu (preact 8192 h w r e.val) * w' e.val c

/-- The nonlinearity on a matrix of hidden units. -/
def act {M : ℕ} (x : FVec Ideal ⟨2, ![M, 128]⟩ .f32) : FVec Ideal ⟨2, ![M, 128]⟩ .f32 :=
  mulf x (mulf (broadcast ⟨2, ![M, 128]⟩ (Scalar.ofBits (F := Ideal) .f32 0x3F000000#32)) (addf (broadcast ⟨2, ![M, 128]⟩ (Scalar.ofBits (F := Ideal) .f32 0x3F800000#32))
    (tanh (mulf (broadcast ⟨2, ![M, 128]⟩ (Scalar.ofBits (F := Ideal) .f32 0x3F4C422A#32))
      (addf x (mulf (broadcast ⟨2, ![M, 128]⟩ (Scalar.ofBits (F := Ideal) .f32 0x3D372713#32)) (mulf (mulf x x) x)))))))

theorem act_apply {M : ℕ} (x : FVec Ideal ⟨2, ![M, 128]⟩ .f32) (i : (⟨2, ![M, 128]⟩ : Shape).Idx) : act x i = gelu (x i) := rfl

/-- The second layer of a block of rows whose hidden units are the network's. -/
theorem down_apply {M : ℕ} (x : FVec Ideal ⟨2, ![M, 128]⟩ .f32) (w : FVec Ideal ⟨3, ![1, 128, 128]⟩ .bf16)
    (hb : FTy.bits .bf16 < FTy.bits .f32) (hw : (⟨3, ![1, 128, 128]⟩ : Shape).ShapeCasts ⟨2, ![128, 128]⟩)
    (ho : (⟨2, ![M, 128]⟩ : Shape).ShapeCasts ⟨3, ![1, M, 128]⟩)
    (d : DotDims ⟨2, ![M, 128]⟩ ⟨2, ![128, 128]⟩ ⟨2, ![M, 128]⟩) (hd : d = .plain M 128 128) (u : Fin 1) (r : Fin M) (c : Fin 128) :
    shapeCast ⟨3, ![1, M, 128]⟩ (matmul d none (truncf .bf16 (act x) hb) (shapeCast ⟨2, ![128, 128]⟩ w hw)
      (constant (F := Ideal) ⟨2, ![M, 128]⟩ .f32 0x00000000#32)) ho (ix3 u r c)
      = ∑ e : Fin 128, gelu (x (ix2 r e)) * at3 (A := 1) (B := 128) (C := 128) w 0 e.val c.val := by
  subst hd
  rw [shapeCast_ab_1ab_apply]
  refine (Ideal.matmul_plain_apply (M := M) (K := 128) (N := 128) none _ _ _ r c).trans ?_
  show Ideal.ofBits .f32 0x00000000#32 + _ = _
  rw [Ideal.ofBits_zero_f32, zero_add]
  refine Finset.sum_congr rfl fun e _ => congrArg₂ (fun p q : EReal => p * q) rfl ?_
  rw [shapeCast_1ab_ab_apply]
  exact at3_eq (A := 1) (B := 128) (C := 128) w _ _ _ _ rfl rfl rfl

end Cert.Proof.Mlp
-- ==== Proof.CompressRows.lean ====
/-
  The compression of the sample's past keys and values at a grid point, at the ideal values: the point adds up 32 products of
  256 inputs each, which together are the whole first layer, and puts the sums through the second one.
-/
module

public import proofs.«01_k».proof.Proof.Mlp
public import proofs.«01_k».proof.Proof.Gen.Kernel7Ideal.Value

@[expose] public section

set_option maxRecDepth 16384

noncomputable section

namespace Cert.Proof.CompressRows

open Idealize.ShloMosaic Idealize.ShloMosaic.ValueIdx Idealize.ShloMosaic.TcCoe Idealize.SL.Sem
open Cert.Proof.Mlp

/-- The inputs of a row of the result: the first 64 of its 72 rows of 128, one after the other. -/
def inputs (x : ℕ → ℕ → EReal) (r q : ℕ) : EReal := x (72 * r + q / 128) (q % 128)

section
open Cert.Kernel7Ideal Cert.Kernel7Ideal.Gen

/-- One product of 256 inputs, two rows of 128 from every 72, added to the sums. -/
def step (acc : FVec Ideal S256x128 .f32) (u v : FVec Ideal S1x256x128 .f32) (w : FVec Ideal S1x256x128 .bf16) : FVec Ideal S256x128 .f32 :=
  addf acc (matmul dot_S256x256_S256x128_S256x128_1_0_0_1_n_n none
    (truncf .bf16 (concatenate S256x256 1 [⟨S256x128, shapeCast S256x128 u shapeCasts_S1x256x128_S256x128⟩,
      ⟨S256x128, shapeCast S256x128 v shapeCasts_S1x256x128_S256x128⟩] concatenates_S256x128_S256x128_S256x256_d1) bitsLt_bf16_f32)
    (shapeCast S256x128 w shapeCasts_S1x256x128_S256x128) (constant S256x128 .f32 0x00000000#32))

/-- The sums over the first `256 n` inputs. -/
def Sums (h w : ℕ → ℕ → EReal) (n : ℕ) (acc : FVec Ideal S256x128 .f32) : Prop :=
  ∀ (r : Fin 256) (e : Fin 128), acc (ix2 r e) = preact (256 * n) h w r.val e.val

/-- The `p`-th 128 inputs of every row. -/
def Inputs (h : ℕ → ℕ → EReal) (p : ℕ) (u : FVec Ideal S1x256x128 .f32) : Prop :=
  ∀ (r : Fin 256) (j : Fin 128), u (ix3 (0 : Fin 1) r j) = h r.val (128 * p + j.val)

/-- The `n`-th 256 rows of the weights. -/
def Weights (w : ℕ → ℕ → EReal) (n : ℕ) (v : FVec Ideal S1x256x128 .bf16) : Prop :=
  ∀ (j : Fin 256) (e : Fin 128), v (ix3 (0 : Fin 1) j e) = w (256 * n + j.val) e.val

variable {h w : ℕ → ℕ → EReal}

theorem sums_step {n : ℕ} {acc : FVec Ideal S256x128 .f32} {u v : FVec Ideal S1x256x128 .f32} {q : FVec Ideal S1x256x128 .bf16}
    (ha : Sums h w n acc) (hu : Inputs h (2 * n) u) (hv : Inputs h (2 * n + 1) v) (hq : Weights w n q) : Sums h w (n + 1) (step acc u v q) := by
  intro r e
  unfold step
  rw [addf_apply, ha r e, Nat.mul_succ, preact_add]
  refine congrArg (fun p : EReal => _ + p) ?_
  refine (Ideal.matmul_plain_apply (M := 256) (K := 256) (N := 128) none _ _ _ r e).trans ?_
  show Ideal.ofBits .f32 0x00000000#32 + _ = _
  rw [Ideal.ofBits_zero_f32, zero_add]
  refine Finset.sum_congr rfl fun j _ => congrArg₂ (fun p q : EReal => p * q) ?_ ?_
  · have hj := j.isLt
    show concatenate S256x256 1 [⟨S256x128, shapeCast S256x128 u shapeCasts_S1x256x128_S256x128⟩,
      ⟨S256x128, shapeCast S256x128 v shapeCasts_S1x256x128_S256x128⟩] concatenates_S256x128_S256x128_S256x256_d1 (ix2 r j) = _
    by_cases hlt : j.val < 128
    · refine (concatenate_pair_apply_left (t := S256x256) (s₁ := S256x128) (s₂ := S256x128) 1 (shapeCast S256x128 u shapeCasts_S1x256x128_S256x128) (shapeCast S256x128 v shapeCasts_S1x256x128_S256x128) _ (ix2 r j) rfl (ix2 r (⟨j.val, hlt⟩ : Fin 128)) (fun a => ?_)).trans ?_
      · match a with
        | ⟨0, _⟩ => rfl
        | ⟨1, _⟩ => rfl
      · rw [shapeCast_1ab_ab_apply, hu]
        exact congrArg (h r.val) (show 128 * (2 * n) + j.val = 256 * n + j.val by omega)
    · refine (concatenate_pair_apply_right (t := S256x256) (s₁ := S256x128) (s₂ := S256x128) 1 (shapeCast S256x128 u shapeCasts_S1x256x128_S256x128) (shapeCast S256x128 v shapeCasts_S1x256x128_S256x128) _ (ix2 r j) rfl rfl (ix2 r (⟨j.val - 128, by omega⟩ : Fin 128)) (fun a ha => ?_) ?_).trans ?_
      · match a with
        | ⟨0, _⟩ => rfl
        | ⟨1, _⟩ => exact absurd rfl ha
      · show j.val - 128 + 128 = j.val; omega
      · rw [shapeCast_1ab_ab_apply, hv]
        exact congrArg (h r.val) (show 128 * (2 * n + 1) + (j.val - 128) = 256 * n + j.val by omega)
  · rw [shapeCast_1ab_ab_apply, hq]

/-- The first two products. -/
theorem sums_first {a b c d : FVec Ideal S1x256x128 .f32} {p q : FVec Ideal S1x256x128 .bf16}
    (ha : Inputs h 0 a) (hb : Inputs h 1 b) (hp : Weights w 0 p) (hc : Inputs h 2 c) (hd : Inputs h 3 d) (hq : Weights w 1 q) :
    Sums h w 2 (k0_pay2 (F := Ideal) a b p c d q) := by
  have h0 : Sums h w 0 (broadcast S256x128 (Scalar.ofBits (F := Ideal) .f32 0x00000000#32)) := fun r e => by
    show Ideal.ofBits .f32 0x00000000#32 = _
    rw [Ideal.ofBits_zero_f32]
    exact (Finset.sum_range_zero _).symm
  exact sums_step (n := 1) (sums_step (n := 0) h0 ha hb hp) hc hd hq

/-- Three products more. -/
theorem sums_three (n : ℕ) {acc : FVec Ideal S256x128 .f32} {a b c d e f : FVec Ideal S1x256x128 .f32} {p q s : FVec Ideal S1x256x128 .bf16}
    (h0 : Sums h w n acc) (ha : Inputs h (2 * n) a) (hb : Inputs h (2 * n + 1) b) (hp : Weights w n p)
    (hc : Inputs h (2 * n + 2) c) (hd : Inputs h (2 * n + 3) d) (hq : Weights w (n + 1) q)
    (he : Inputs h (2 * n + 4) e) (hf : Inputs h (2 * n + 5) f) (hs : Weights w (n + 2) s) :
    Sums h w (n + 3) (k0_pay4 (F := Ideal) acc (k0_pay3 (F := Ideal) a b) p c d q e f s) :=
  sums_step (n := n + 2) (sums_step (n := n + 1) (sums_step (n := n) h0 ha hb hp) hc hd hq) he hf hs

/-- A load of every 72nd row from the `p`-th on takes the `p`-th 128 inputs of every row of the result. -/
theorem inputs_readAt (arg : Memref sig .tc .vmem S1x18432x128 .f32) (harg : arg.IsWhole) (x : Vec Ideal S1x18432x128 .f32) (p : ℕ) (hp : p < 64)
    (inb : ∀ a, (![1, 256, 128] : Fin 3 → ℕ) a = 0 ∨ (![0, p, 0] : Fin 3 → ℕ) a + (![1, 72, 1] : Fin 3 → ℕ) a * ((![1, 256, 128] : Fin 3 → ℕ) a - 1) < S1x18432x128.size a) :
    Inputs (inputs (at3 (A := 1) (B := 18432) (C := 128) x 0)) p
      (View.readAt (Elt Ideal) arg.view (⟨![0, p, 0], ![1, 256, 128], ![1, 72, 1], inb⟩ : LoadRect S1x18432x128) (harg.unread x)) := by
  intro r j
  rw [View.readAt_apply, harg.read_unread]
  have hj := j.isLt
  unfold inputs
  refine at3_eq (A := 1) (B := 18432) (C := 128) x _ _ _ _ rfl ?_ ?_
  · show p + 72 * r.val = _; omega
  · show 0 + 1 * j.val = _; omega

/-- A load of 256 rows of the weights. -/
theorem weights_ld (x : Vec Ideal S1x8192x128 .bf16) (n : ℕ) (hn : n < 32)
    (inb : ∀ a, (![0, 256 * n, 0] : Fin 3 → ℕ) a + (![1, 256, 128] : Fin 3 → ℕ) a ≤ S1x8192x128.size a) :
    Weights (at3 (A := 1) (B := 8192) (C := 128) x 0) n (View.ld (Val := Elt Ideal) (e' := .bf16) x (Rect.unit (s := S1x8192x128) ![0, 256 * n, 0] ![1, 256, 128] inb)) := by
  intro j e
  refine at3_eq (A := 1) (B := 8192) (C := 128) x _ _ _ _ rfl ?_ ?_
  · show 256 * n + 1 * j.val = _; omega
  · show 0 + 1 * e.val = _; omega

/-! The kernel writes the same product, and the same three products, ten times. -/

theorem pay5_eq : k0_pay5 (F := Ideal) = k0_pay3 (F := Ideal) := rfl
theorem pay6_eq : k0_pay6 (F := Ideal) = k0_pay4 (F := Ideal) := rfl
theorem pay7_eq : k0_pay7 (F := Ideal) = k0_pay3 (F := Ideal) := rfl
theorem pay8_eq : k0_pay8 (F := Ideal) = k0_pay4 (F := Ideal) := rfl
theorem pay9_eq : k0_pay9 (F := Ideal) = k0_pay3 (F := Ideal) := rfl
theorem pay10_eq : k0_pay10 (F := Ideal) = k0_pay4 (F := Ideal) := rfl
theorem pay11_eq : k0_pay11 (F := Ideal) = k0_pay3 (F := Ideal) := rfl
theorem pay12_eq : k0_pay12 (F := Ideal) = k0_pay4 (F := Ideal) := rfl
theorem pay13_eq : k0_pay13 (F := Ideal) = k0_pay3 (F := Ideal) := rfl
theorem pay14_eq : k0_pay14 (F := Ideal) = k0_pay4 (F := Ideal) := rfl
theorem pay15_eq : k0_pay15 (F := Ideal) = k0_pay3 (F := Ideal) := rfl
theorem pay16_eq : k0_pay16 (F := Ideal) = k0_pay4 (F := Ideal) := rfl
theorem pay17_eq : k0_pay17 (F := Ideal) = k0_pay3 (F := Ideal) := rfl
theorem pay18_eq : k0_pay18 (F := Ideal) = k0_pay4 (F := Ideal) := rfl
theorem pay19_eq : k0_pay19 (F := Ideal) = k0_pay3 (F := Ideal) := rfl
theorem pay20_eq : k0_pay20 (F := Ideal) = k0_pay4 (F := Ideal) := rfl
theorem pay21_eq : k0_pay21 (F := Ideal) = k0_pay3 (F := Ideal) := rfl
theorem pay22_eq : k0_pay22 (F := Ideal) = k0_pay4 (F := Ideal) := rfl

/-- The second layer on the sums. -/
theorem second (acc : FVec Ideal S256x128 .f32) (t : FVec Ideal S256x256 .bf16) (p : Vec Ideal S1x256x128 .bf16) (a b : Vec Ideal S1x256x128 .f32)
    (q : Vec Ideal S1x256x128 .bf16) (d e : Vec Ideal S1x256x128 .f32) (s : Vec Ideal S1x256x128 .bf16) (w : Vec Ideal S1x128x128 .bf16) (r : Fin 256) (k : Fin 128) :
    k0_pay1 (F := Ideal) (k0_pay22 (F := Ideal) acc t p a b q d e s) (k0_pay23 (F := Ideal) acc t p a b q d e s) w (ix3 (0 : Fin 1) r k)
      = ∑ u : Fin 128, gelu (k0_pay22 (F := Ideal) acc t p a b q d e s (ix2 r u)) * at3 (A := 1) (B := 128) (C := 128) w 0 u.val k.val :=
  down_apply (M := 256) (k0_pay22 (F := Ideal) acc t p a b q d e s) w bitsLt_bf16_f32 shapeCasts_S1x128x128_S128x128
    shapeCasts_S256x128_S1x256x128 dot_S256x128_S128x128_S256x128_1_0_0_1_n_n rfl 0 r k

/-- What a point leaves at an index of its block. -/
theorem out_apply (c : Dev nD) (i : grid0.Coords) (arg2 : Memref sig .tc .vmem S1x18432x128 .f32) (harg2 : arg2.IsWhole) (arg3 : Memref sig .tc .vmem S1x8192x128 .bf16) (harg3 : arg3.IsWhole) (arg4 : Memref sig .tc .vmem S1x128x128 .bf16) (harg4 : arg4.IsWhole) (arg5 : Memref sig .tc .vmem S1x256x128 .f32) (harg5 : arg5.IsWhole)
    (x0 : Vec Ideal S1x18432x128 .f32) (x1 : Vec Ideal S1x8192x128 .bf16) (x2 : Vec Ideal S1x128x128 .bf16) (r : Fin 256) (k : Fin 128) :
    out0_A_3 c i arg2 harg2 arg3 harg3 arg4 harg4 arg5 harg5 x0 x1 x2 (ix3 (0 : Fin 1) r k)
      = mlp (inputs (at3 (A := 1) (B := 18432) (C := 128) x0 0)) (at3 (A := 1) (B := 8192) (C := 128) x1 0) (at3 (A := 1) (B := 128) (C := 128) x2 0) r.val k.val := by
  have I := inputs_readAt arg2 harg2 x0
  have J := weights_ld x1
  unfold out0_A_3
  rw [View.read_writes_eq_canon _ _ _ (cover0_A_3 c i arg2 harg2 arg3 harg3 arg4 harg4 arg5 harg5 x0 x1 x2)]
  unfold kernelRun0_A
  dsimp only
  sl_unfold_words
  rw [View.canon_unit_zero hz3]
  simp only [View.readAt_eq_ld, harg3.read_unread, harg4.read_unread, View.ld_unit_zero (S := S1x128x128) hz3]
  refine (second ..).trans ?_
  simp only [pay5_eq, pay6_eq, pay7_eq, pay8_eq, pay9_eq, pay10_eq, pay11_eq, pay12_eq, pay13_eq, pay14_eq, pay15_eq, pay16_eq, pay17_eq,
    pay18_eq, pay19_eq, pay20_eq, pay21_eq, pay22_eq]
  unfold mlp
  refine Finset.sum_congr rfl fun u _ => congrArg (fun p : EReal => gelu p * _) ?_
  suffices all : Sums (inputs (at3 (A := 1) (B := 18432) (C := 128) x0 0)) (at3 (A := 1) (B := 8192) (C := 128) x1 0) 32 _ from all r u
  refine sums_three 29 ?_ (I 58 (by omega) _) (I 59 (by omega) _) (J 29 (by omega) _) (I 60 (by omega) _) (I 61 (by omega) _) (J 30 (by omega) _) (I 62 (by omega) _) (I 63 (by omega) _) (J 31 (by omega) _)
  refine sums_three 26 ?_ (I 52 (by omega) _) (I 53 (by omega) _) (J 26 (by omega) _) (I 54 (by omega) _) (I 55 (by omega) _) (J 27 (by omega) _) (I 56 (by omega) _) (I 57 (by omega) _) (J 28 (by omega) _)
  refine sums_three 23 ?_ (I 46 (by omega) _) (I 47 (by omega) _) (J 23 (by omega) _) (I 48 (by omega) _) (I 49 (by omega) _) (J 24 (by omega) _) (I 50 (by omega) _) (I 51 (by omega) _) (J 25 (by omega) _)
  refine sums_three 20 ?_ (I 40 (by omega) _) (I 41 (by omega) _) (J 20 (by omega) _) (I 42 (by omega) _) (I 43 (by omega) _) (J 21 (by omega) _) (I 44 (by omega) _) (I 45 (by omega) _) (J 22 (by omega) _)
  refine sums_three 17 ?_ (I 34 (by omega) _) (I 35 (by omega) _) (J 17 (by omega) _) (I 36 (by omega) _) (I 37 (by omega) _) (J 18 (by omega) _) (I 38 (by omega) _) (I 39 (by omega) _) (J 19 (by omega) _)
  refine sums_three 14 ?_ (I 28 (by omega) _) (I 29 (by omega) _) (J 14 (by omega) _) (I 30 (by omega) _) (I 31 (by omega) _) (J 15 (by omega) _) (I 32 (by omega) _) (I 33 (by omega) _) (J 16 (by omega) _)
  refine sums_three 11 ?_ (I 22 (by omega) _) (I 23 (by omega) _) (J 11 (by omega) _) (I 24 (by omega) _) (I 25 (by omega) _) (J 12 (by omega) _) (I 26 (by omega) _) (I 27 (by omega) _) (J 13 (by omega) _)
  refine sums_three 8 ?_ (I 16 (by omega) _) (I 17 (by omega) _) (J 8 (by omega) _) (I 18 (by omega) _) (I 19 (by omega) _) (J 9 (by omega) _) (I 20 (by omega) _) (I 21 (by omega) _) (J 10 (by omega) _)
  refine sums_three 5 ?_ (I 10 (by omega) _) (I 11 (by omega) _) (J 5 (by omega) _) (I 12 (by omega) _) (I 13 (by omega) _) (J 6 (by omega) _) (I 14 (by omega) _) (I 15 (by omega) _) (J 7 (by omega) _)
  refine sums_three 2 ?_ (I 4 (by omega) _) (I 5 (by omega) _) (J 2 (by omega) _) (I 6 (by omega) _) (I 7 (by omega) _) (J 3 (by omega) _) (I 8 (by omega) _) (I 9 (by omega) _) (J 4 (by omega) _)
  exact sums_first (I 0 (by omega) _) (I 1 (by omega) _) (J 0 (by omega) _) (I 2 (by omega) _) (I 3 (by omega) _) (J 1 (by omega) _)

end

end Cert.Proof.CompressRows
-- ==== Proof.CompressPast.lean ====
/-
  The compression of the sample's past keys and values: each grid point puts 256 blocks of one of the two sides, the keys or
  the values, through the network, and the reference computes the same array.
-/
module

public import proofs.«01_k».proof.Defs
public import proofs.«01_k».proof.Proof.CompressRows
public import proofs.«01_k».proof.Proof.Gen.Reference7Ideal.Run
public import proofs.«01_k».proof.Proof.Gen.Reference7Ideal.Read
public import Idealize.ShloMosaic.Lib.Quiescent
public import Idealize.ShloMosaic.Adequacy
public import Idealize.ShloMosaic.Init

@[expose] public section

set_option maxRecDepth 16384

noncomputable section

namespace Cert.Proof.CompressPast

open Idealize.ShloMosaic Idealize.ShloMosaic.ValueIdx Idealize.ShloMosaic.TcCoe Idealize.SL.Sem
open Cert.Proof.Mlp Cert.Proof.CompressRows

/-- The compression of one side's rows. -/
def side (x : (⟨3, ![2, 294912, 128]⟩ : Shape).Idx → EReal) (w : (⟨3, ![2, 8192, 128]⟩ : Shape).Idx → EReal)
    (w' : (⟨3, ![2, 128, 128]⟩ : Shape).Idx → EReal) (s r c : ℕ) : EReal :=
  mlp (inputs (at3 x s)) (at3 w s) (at3 w' s) r c

section
open Cert.Kernel7Ideal Cert.Kernel7Ideal.Gen

variable (m : (ℓ : Loc nD τ sig) → Buf (Elt Ideal) ℓ)

/-- Point `t` is block `t % 16` of the blocks of side `t / 16`. -/
theorem idx : ∀ t : Fin cfg0.N, (win0_0.index t 0 = t.val / 16 ∧ win0_0.index t 1 = t.val % 16 ∧ win0_0.index t 2 = 0)
    ∧ (win0_1.index t 0 = t.val / 16 ∧ win0_1.index t 1 = 0 ∧ win0_1.index t 2 = 0)
    ∧ (win0_2.index t 0 = t.val / 16 ∧ win0_2.index t 1 = 0 ∧ win0_2.index t 2 = 0)
    ∧ (win0_3.index t 0 = t.val / 16 ∧ win0_3.index t 1 = t.val % 16 ∧ win0_3.index t 2 = 0) :=
  (by decide +kernel : ∀ t : Fin grid0.N, (win0_0.index t 0 = t.val / 16 ∧ win0_0.index t 1 = t.val % 16 ∧ win0_0.index t 2 = 0)
    ∧ (win0_1.index t 0 = t.val / 16 ∧ win0_1.index t 1 = 0 ∧ win0_1.index t 2 = 0)
    ∧ (win0_2.index t 0 = t.val / 16 ∧ win0_2.index t 1 = 0 ∧ win0_2.index t 2 = 0)
    ∧ (win0_3.index t 0 = t.val / 16 ∧ win0_3.index t 1 = t.val % 16 ∧ win0_3.index t 2 = 0))

abbrev X (c : Dev nD) : FVec Ideal S2x294912x128 .f32 := m ((c.tc : Thread nD τ).loc main_arg0)
abbrev W (c : Dev nD) : FVec Ideal S2x8192x128 .bf16 := m ((c.tc : Thread nD τ).loc main_arg1)
abbrev W' (c : Dev nD) : FVec Ideal S2x128x128 .bf16 := m ((c.tc : Thread nD τ).loc main_arg2)

/-! A point's blocks are its rows of its side of the arguments. -/

theorem blk0 (c : Dev nD) (t : Fin cfg0.N) (r q : ℕ) (hr : r < 18432) (hq : q < 128) :
    at3 (A := 1) (B := 18432) (C := 128) (iblk m c 0 t) 0 r q = at3 (X m c) (t.val / 16) (18432 * (t.val % 16) + r) q := by
  conv_lhs => unfold at3
  rw [dif_pos ⟨Nat.one_pos, hr, hq⟩]
  refine Eq.trans ?_ (at3_eq (A := 2) (B := 294912) (C := 128) (X m c) (((cfg0.win 0).blk t).view.emb (ix3 ⟨0, Nat.one_pos⟩ ⟨r, hr⟩ ⟨q, hq⟩)) _ _ _ ?_ ?_ ?_)
  · unfold iblk; rw [View.read_apply]; rfl
  · show win0_0.index t 0 * 1 + 1 * 0 = _; rw [(idx t).1.1]; omega
  · show win0_0.index t 1 * 18432 + 1 * r = _; rw [(idx t).1.2.1]; omega
  · show win0_0.index t 2 * 128 + 1 * q = _; rw [(idx t).1.2.2]; omega

/-- The inputs of a row of the block. -/
theorem blk_inputs (c : Dev nD) (t : Fin cfg0.N) (r q : ℕ) (hr : r < 256) (hq : q < 8192) :
    inputs (at3 (A := 1) (B := 18432) (C := 128) (iblk m c 0 t) 0) r q = inputs (at3 (X m c) (t.val / 16)) (256 * (t.val % 16) + r) q := by
  unfold inputs
  rw [blk0 m c t (72 * r + q / 128) (q % 128) (by omega) (by omega)]
  exact congrArg (fun p => at3 (X m c) (t.val / 16) p (q % 128))
    (show 18432 * (t.val % 16) + (72 * r + q / 128) = 72 * (256 * (t.val % 16) + r) + q / 128 by omega)

theorem blk1 (c : Dev nD) (t : Fin cfg0.N) (r q : ℕ) (hr : r < 8192) (hq : q < 128) :
    at3 (A := 1) (B := 8192) (C := 128) (iblk m c 1 t) 0 r q = at3 (W m c) (t.val / 16) r q := by
  unfold at3
  rw [dif_pos ⟨Nat.one_pos, hr, hq⟩]
  refine Eq.trans ?_ (at3_eq (A := 2) (B := 8192) (C := 128) (W m c) (((cfg0.win 1).blk t).view.emb (ix3 ⟨0, Nat.one_pos⟩ ⟨r, hr⟩ ⟨q, hq⟩)) _ _ _ ?_ ?_ ?_)
  · unfold iblk; rw [View.read_apply]; rfl
  · show win0_1.index t 0 * 1 + 1 * 0 = _; rw [(idx t).2.1.1]; omega
  · show win0_1.index t 1 * 8192 + 1 * r = _; rw [(idx t).2.1.2.1]; omega
  · show win0_1.index t 2 * 128 + 1 * q = _; rw [(idx t).2.1.2.2]; omega

theorem blk2 (c : Dev nD) (t : Fin cfg0.N) (r q : ℕ) (hr : r < 128) (hq : q < 128) :
    at3 (A := 1) (B := 128) (C := 128) (iblk m c 2 t) 0 r q = at3 (W' m c) (t.val / 16) r q := by
  unfold at3
  rw [dif_pos ⟨Nat.one_pos, hr, hq⟩]
  refine Eq.trans ?_ (at3_eq (A := 2) (B := 128) (C := 128) (W' m c) (((cfg0.win 2).blk t).view.emb (ix3 ⟨0, Nat.one_pos⟩ ⟨r, hr⟩ ⟨q, hq⟩)) _ _ _ ?_ ?_ ?_)
  · unfold iblk; rw [View.read_apply]; rfl
  · show win0_2.index t 0 * 1 + 1 * 0 = _; rw [(idx t).2.2.1.1]; omega
  · show win0_2.index t 1 * 128 + 1 * r = _; rw [(idx t).2.2.1.2.1]; omega
  · show win0_2.index t 2 * 128 + 1 * q = _; rw [(idx t).2.2.1.2.2]; omega

/-- The result array. -/
def G (c : Dev nD) : S2x4096x128.Idx → EReal := fun i => side (X m c) (W m c) (W' m c) (i 0).val (i 1).val (i 2).val

theorem flushed_eq (c : Dev nD) (t : Fin cfg0.N) (_ : (cfg0.win 3).flush t = true) :
    (dats m 0 c).flushed 3 t = ((cfg0.win 3).blk t).view.read (Elt Ideal) (G m c) := by
  refine Eq.trans (show _ = (cfg0.win 3).cut (grid0.coords t) ((dats m 0 c).after 3 t) from rfl) ?_
  rw [after0_3]
  unfold outsAt0
  funext j
  rw [View.read_apply]
  have h0 : (j 0).val < 1 := (j 0).isLt
  have h1 : (j 1).val < 256 := (j 1).isLt
  have h2 : (j 2).val < 128 := (j 2).isLt
  refine ((congrArg _ (eq_slab (B := 256) (C := 128) j)).trans (out_apply c (grid0.coords t) (ms0_0 t) (hs0_0 t) (ms0_1 t) (hs0_1 t) (ms0_2 t) (hs0_2 t) (ms0_3 t) (hs0_3 t)
    (iblk m c 0 t) (iblk m c 1 t) (iblk m c 2 t) (j 1) (j 2))).trans ?_
  have e0 : ((((cfg0.win 3).blk t).view.emb j) 0).val = t.val / 16 := by
    show win0_3.index t 0 * 1 + 1 * (j 0).val = _; rw [(idx t).2.2.2.1]; omega
  have e1 : ((((cfg0.win 3).blk t).view.emb j) 1).val = 256 * (t.val % 16) + (j 1).val := by
    show win0_3.index t 1 * 256 + 1 * (j 1).val = _; rw [(idx t).2.2.2.2.1]; omega
  have e2 : ((((cfg0.win 3).blk t).view.emb j) 2).val = (j 2).val := by
    show win0_3.index t 2 * 128 + 1 * (j 2).val = _; rw [(idx t).2.2.2.2.2]; omega
  show _ = side (X m c) (W m c) (W' m c) _ _ _
  rw [e0, e1, e2]
  unfold side mlp preact
  refine Finset.sum_congr rfl fun e _ => congrArg₂ (fun p q : EReal => gelu p * q) (Finset.sum_congr rfl fun q hq => congrArg₂ (fun p q : EReal => p * q) ?_ ?_) ?_
  · exact blk_inputs m c t _ q h1 (Finset.mem_range.mp hq)
  · exact blk1 m c t q _ (Finset.mem_range.mp hq) e.isLt
  · exact blk2 m c t _ _ e.isLt h2

theorem covered (i : S2x4096x128.Idx) :
    ∃ t : Fin cfg0.N, (cfg0.win 3).flush t = true ∧ i ∈ ((cfg0.win 3).blk t).view.set := by
  have h0 : (i 0).val < 2 := (i 0).isLt
  have h1 : (i 1).val < 4096 := (i 1).isLt
  have h2 : (i 2).val < 128 := (i 2).isLt
  let t : Fin cfg0.N := ⟨16 * (i 0).val + (i 1).val / 256, by show _ < 32; omega⟩
  have e : t.val = 16 * (i 0).val + (i 1).val / 256 := rfl
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [(idx t).2.2.2.1, e]; omega
  | ⟨1, _⟩ =>
    show win0_3.index t 1 * 256 ≤ (i 1).val ∧ (i 1).val < win0_3.index t 1 * 256 + 256
    rw [(idx t).2.2.2.2.1, e]; omega
  | ⟨2, _⟩ =>
    show win0_3.index t 2 * 128 ≤ (i 2).val ∧ (i 2).val < win0_3.index t 2 * 128 + 128
    rw [(idx t).2.2.2.2.2]; omega

theorem final (c : Dev nD) : (dats m 0 c).arrAt 3 cfg0.N = G m c :=
  (dats m 0 c).arrAt_eq_of_cover 3 (G m c) (flushed_eq m c) covered

end

section
open Cert.Reference7Ideal Cert.Reference7Ideal.Read

variable (x : FVec Ideal S2x294912x128 .f32) (w : FVec Ideal S2x8192x128 .bf16) (w' : FVec Ideal S2x128x128 .bf16)

/-- The reference's rows are the kernel's inputs. -/
theorem ref_inputs (i : S2x4096x8192.Idx) : val_main_v2 (F := Ideal) x i = inputs (at3 x (i 0).val) (i 1).val (i 2).val := by
  have h0 : (i 0).val < 2 := (i 0).isLt
  have h1 : (i 1).val < 4096 := (i 1).isLt
  have h2 : (i 2).val < 8192 := (i 2).isLt
  rw [val_main_v2_apply, val_main_v1_apply, val_main_v0_apply]
  have a0 : ((idx_main_v1 (idx_main_v2 i)) 0).val = (i 0).val := by
    show (((i 0).val * 4096 + (i 1).val) * 8192 + (i 2).val) / 33554432 = _; omega
  have a1 : ((idx_main_v1 (idx_main_v2 i)) 1).val = (i 1).val := by
    show (((i 0).val * 4096 + (i 1).val) * 8192 + (i 2).val) / 8192 % 4096 = _; omega
  have a2 : ((idx_main_v1 (idx_main_v2 i)) 2).val = (i 2).val / 128 := by
    show (((i 0).val * 4096 + (i 1).val) * 8192 + (i 2).val) / 128 % 64 = _; omega
  have a3 : ((idx_main_v1 (idx_main_v2 i)) 3).val = (i 2).val % 128 := by
    show (((i 0).val * 4096 + (i 1).val) * 8192 + (i 2).val) % 128 = _; omega
  generalize idx_main_v1 (idx_main_v2 i) = k at a0 a1 a2 a3
  unfold inputs
  refine at3_eq x _ _ _ _ ?_ ?_ ?_
  · show ((((k 0).val * 4096 + (k 1).val) * 72 + (k 2).val) * 128 + (k 3).val) / 37748736 = _; omega
  · show ((((k 0).val * 4096 + (k 1).val) * 72 + (k 2).val) * 128 + (k 3).val) / 128 % 294912 = _; omega
  · show ((((k 0).val * 4096 + (k 1).val) * 72 + (k 2).val) * 128 + (k 3).val) % 128 = _; omega

theorem ref_preact (i : S2x4096x128.Idx) :
    val_main_v4 (F := Ideal) x w i = preact 8192 (inputs (at3 x (i 0).val)) (at3 w (i 0).val) (i 1).val (i 2).val := by
  rw [val_main_v4_apply]
  unfold preact
  rw [Finset.sum_range]
  refine Finset.sum_congr rfl fun q _ => ?_
  exact congrArg₂ (fun x y : EReal => x * y) (ref_inputs x _) (at3_eq w _ _ _ _ rfl rfl rfl)

theorem ref_act (i : S2x4096x128.Idx) :
    val_main_v17 (F := Ideal) x w i = gelu (preact 8192 (inputs (at3 x (i 0).val)) (at3 w (i 0).val) (i 1).val (i 2).val) := by
  rw [val_main_v17_apply, val_main_v16_apply, val_main_v15_apply, val_main_cst_2_apply, val_main_v14_apply, val_main_v13_apply,
    val_main_cst_1_apply, val_main_v12_apply, val_main_v11_apply, val_main_v10_apply, val_main_cst_0_apply, val_main_v9_apply,
    val_main_v8_apply, val_main_v7_apply, val_main_cst_apply, val_main_v6_apply, val_main_v5_apply, ref_preact]
  rfl

/-- The reference's result array. -/
theorem ref_out : val_main_v19 (F := Ideal) x w w' = fun i => side x w w' (i 0).val (i 1).val (i 2).val := by
  funext i
  rw [val_main_v19_apply]
  unfold side mlp
  refine Finset.sum_congr rfl fun e _ => ?_
  rw [ref_act]
  exact congrArg₂ (fun x y : EReal => x * y) rfl (at3_eq w' _ _ _ _ rfl rfl rfl)

end

/-- Run on the same arguments, the kernel and the reference end with the same result array. -/
theorem algebraic : Cert.algebraic_Kernel7Ideal_Reference7Ideal := by
  intro m ρ m' ρ' _ hagree
  refine ⟨fun c => G m c, ?_, ?_⟩
  · exact (θ_run Cert.Kernel7Ideal.defs _ _).mono (fun r h c => ⟨(h c).1.trans (final m c), (h c).2⟩)
      (Cert.Kernel7Ideal.Value.run_blocks (F := Ideal) m ρ)
  · refine (θ_run Cert.Reference7Ideal.defs _ _).mono (fun _ h c => ?_) (Cert.Reference7Ideal.Value.run (F := Ideal) m' ρ')
    obtain ⟨e0, e1, e2⟩ := hagree c
    have key := (ref_out (m' ((c.tc : Thread Cert.Reference7Ideal.nD Cert.Reference7Ideal.τ).loc Cert.Reference7Ideal.main_arg0))
      (m' ((c.tc : Thread Cert.Reference7Ideal.nD Cert.Reference7Ideal.τ).loc Cert.Reference7Ideal.main_arg1))
      (m' ((c.tc : Thread Cert.Reference7Ideal.nD Cert.Reference7Ideal.τ).loc Cert.Reference7Ideal.main_arg2))).trans
      (show _ = G m c by unfold G X W W'; rw [← e0, ← e1, ← e2])
    exact ⟨(h c).1.trans ((Cert.Reference7Ideal.Read.val_main_v19_eq ..).trans key), (h c).2⟩

/-- The reference runs to its end and leaves its arguments and every counter as they were. -/
theorem quiescent : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

end Cert.Proof.CompressPast
-- ==== Proof.Compress.lean ====
/-
  The compression of the prompt's keys and values: each grid point puts the blocks of one of the two sides, the keys or the
  values, through the network, and the reference computes the same array.
-/
module

public import proofs.«01_k».proof.Defs
public import proofs.«01_k».proof.Proof.Mlp
public import proofs.«01_k».proof.Proof.Gen.Kernel8Ideal.Value
public import proofs.«01_k».proof.Proof.Gen.Reference8Ideal.Run
public import proofs.«01_k».proof.Proof.Gen.Reference8Ideal.Read
public import Idealize.ShloMosaic.Lib.Quiescent
public import Idealize.ShloMosaic.Adequacy
public import Idealize.ShloMosaic.Init

@[expose] public section

set_option maxRecDepth 16384

noncomputable section

namespace Cert.Proof.Compress

open Idealize.ShloMosaic Idealize.ShloMosaic.ValueIdx Idealize.ShloMosaic.TcCoe Idealize.SL.Sem
open Cert.Proof.Mlp

/-- The compression of one side's rows. -/
def side (x : (⟨3, ![2, 128, 8192]⟩ : Shape).Idx → EReal) (w : (⟨3, ![2, 8192, 128]⟩ : Shape).Idx → EReal)
    (w' : (⟨3, ![2, 128, 128]⟩ : Shape).Idx → EReal) (s r c : ℕ) : EReal :=
  mlp (at3 x s) (at3 w s) (at3 w' s) r c

section
open Cert.Kernel8Ideal Cert.Kernel8Ideal.Gen

/-- What a point leaves at an index of its block. -/
theorem out_apply (x0 : Vec Ideal S1x128x8192 .bf16) (x1 : Vec Ideal S1x8192x128 .bf16) (x2 : Vec Ideal S1x128x128 .bf16) (r c : Fin 128) :
    out0_3 (F := Ideal) x0 x1 x2 (ix3 (0 : Fin 1) r c)
      = mlp (at3 (A := 1) (B := 128) (C := 8192) x0 0) (at3 (A := 1) (B := 8192) (C := 128) x1 0) (at3 (A := 1) (B := 128) (C := 128) x2 0) r.val c.val := by
  unfold out0_3
  rw [View.canon_unit_zero hz3, View.ld_unit_zero hz3, View.ld_unit_zero hz3, View.ld_unit_zero hz3]
  refine (down_apply (M := 128) (matmul dot_S128x8192_S8192x128_S128x128_1_0_0_1_n_n none (shapeCast S128x8192 x0 shapeCasts_S1x128x8192_S128x8192)
    (shapeCast S8192x128 x1 shapeCasts_S1x8192x128_S8192x128) (constant (F := Ideal) S128x128 .f32 0x00000000#32)) x2 bitsLt_bf16_f32
    shapeCasts_S1x128x128_S128x128 shapeCasts_S128x128_S1x128x128 dot_S128x128_S128x128_S128x128_1_0_0_1_n_n rfl 0 r c).trans ?_
  refine Finset.sum_congr rfl fun e _ => congrArg (fun p : EReal => gelu p * _) ?_
  refine (Ideal.matmul_plain_apply (M := 128) (K := 8192) (N := 128) none _ _ _ r e).trans ?_
  show Ideal.ofBits .f32 0x00000000#32 + _ = _
  rw [Ideal.ofBits_zero_f32, zero_add]
  unfold preact
  rw [Finset.sum_range]
  refine Finset.sum_congr rfl fun q _ => congrArg₂ (fun p q : EReal => p * q) ?_ ?_
  · rw [shapeCast_1ab_ab_apply]; exact at3_eq (A := 1) (B := 128) (C := 8192) x0 _ _ _ _ rfl rfl rfl
  · rw [shapeCast_1ab_ab_apply]; exact at3_eq (A := 1) (B := 8192) (C := 128) x1 _ _ _ _ rfl rfl rfl

variable (m : (ℓ : Loc nD τ sig) → Buf (Elt Ideal) ℓ)

/-- Each point's windows are the point's side. -/
theorem idx : ∀ t : Fin cfg0.N, (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0) :=
  (by decide +kernel : ∀ t : Fin grid0.N, (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0))

abbrev X (c : Dev nD) : FVec Ideal S2x128x8192 .bf16 := m ((c.tc : Thread nD τ).loc main_arg0)
abbrev W (c : Dev nD) : FVec Ideal S2x8192x128 .bf16 := m ((c.tc : Thread nD τ).loc main_arg1)
abbrev W' (c : Dev nD) : FVec Ideal S2x128x128 .bf16 := m ((c.tc : Thread nD τ).loc main_arg2)

/-! A point's blocks are its side of the arguments. -/

theorem blk0 (c : Dev nD) (t : Fin cfg0.N) (r q : ℕ) (hr : r < 128) (hq : q < 8192) :
    at3 (A := 1) (B := 128) (C := 8192) (iblk m c 0 t) 0 r q = at3 (X m c) t.val r q := by
  unfold at3
  rw [dif_pos ⟨Nat.one_pos, hr, hq⟩]
  refine Eq.trans ?_ (at3_eq (A := 2) (B := 128) (C := 8192) (X m c) (((cfg0.win 0).blk t).view.emb (ix3 ⟨0, Nat.one_pos⟩ ⟨r, hr⟩ ⟨q, hq⟩)) _ _ _ ?_ ?_ ?_)
  · unfold iblk; rw [View.read_apply]; rfl
  · show win0_0.index t 0 * 1 + 1 * 0 = _; rw [(idx t).1.1]; omega
  · show win0_0.index t 1 * 128 + 1 * r = _; rw [(idx t).1.2.1]; omega
  · show win0_0.index t 2 * 8192 + 1 * q = _; rw [(idx t).1.2.2]; omega

theorem blk1 (c : Dev nD) (t : Fin cfg0.N) (r q : ℕ) (hr : r < 8192) (hq : q < 128) :
    at3 (A := 1) (B := 8192) (C := 128) (iblk m c 1 t) 0 r q = at3 (W m c) t.val r q := by
  unfold at3
  rw [dif_pos ⟨Nat.one_pos, hr, hq⟩]
  refine Eq.trans ?_ (at3_eq (A := 2) (B := 8192) (C := 128) (W m c) (((cfg0.win 1).blk t).view.emb (ix3 ⟨0, Nat.one_pos⟩ ⟨r, hr⟩ ⟨q, hq⟩)) _ _ _ ?_ ?_ ?_)
  · unfold iblk; rw [View.read_apply]; rfl
  · show win0_1.index t 0 * 1 + 1 * 0 = _; rw [(idx t).2.1.1]; omega
  · show win0_1.index t 1 * 8192 + 1 * r = _; rw [(idx t).2.1.2.1]; omega
  · show win0_1.index t 2 * 128 + 1 * q = _; rw [(idx t).2.1.2.2]; omega

theorem blk2 (c : Dev nD) (t : Fin cfg0.N) (r q : ℕ) (hr : r < 128) (hq : q < 128) :
    at3 (A := 1) (B := 128) (C := 128) (iblk m c 2 t) 0 r q = at3 (W' m c) t.val r q := by
  unfold at3
  rw [dif_pos ⟨Nat.one_pos, hr, hq⟩]
  refine Eq.trans ?_ (at3_eq (A := 2) (B := 128) (C := 128) (W' m c) (((cfg0.win 2).blk t).view.emb (ix3 ⟨0, Nat.one_pos⟩ ⟨r, hr⟩ ⟨q, hq⟩)) _ _ _ ?_ ?_ ?_)
  · unfold iblk; rw [View.read_apply]; rfl
  · show win0_2.index t 0 * 1 + 1 * 0 = _; rw [(idx t).2.2.1.1]; omega
  · show win0_2.index t 1 * 128 + 1 * r = _; rw [(idx t).2.2.1.2.1]; omega
  · show win0_2.index t 2 * 128 + 1 * q = _; rw [(idx t).2.2.1.2.2]; omega

/-- The result array. -/
def G (c : Dev nD) : S2x128x128.Idx → EReal := fun i => side (X m c) (W m c) (W' m c) (i 0).val (i 1).val (i 2).val

theorem flushed_eq (c : Dev nD) (t : Fin cfg0.N) (_ : (cfg0.win 3).flush t = true) :
    (dats m 0 c).flushed 3 t = ((cfg0.win 3).blk t).view.read (Elt Ideal) (G m c) := by
  refine Eq.trans (show _ = (cfg0.win 3).cut (grid0.coords t) ((dats m 0 c).after 3 t) from rfl) ?_
  rw [after0_3]
  funext j
  rw [View.read_apply]
  have h0 : (j 0).val < 1 := (j 0).isLt
  have h1 : (j 1).val < 128 := (j 1).isLt
  have h2 : (j 2).val < 128 := (j 2).isLt
  refine ((congrArg _ (eq_slab (B := 128) (C := 128) j)).trans (out_apply (iblk m c 0 t) (iblk m c 1 t) (iblk m c 2 t) (j 1) (j 2))).trans ?_
  have e0 : ((((cfg0.win 3).blk t).view.emb j) 0).val = t.val := by
    show win0_3.index t 0 * 1 + 1 * (j 0).val = _; rw [(idx t).2.2.2.1]; omega
  have e1 : ((((cfg0.win 3).blk t).view.emb j) 1).val = (j 1).val := by
    show win0_3.index t 1 * 128 + 1 * (j 1).val = _; rw [(idx t).2.2.2.2.1]; omega
  have e2 : ((((cfg0.win 3).blk t).view.emb j) 2).val = (j 2).val := by
    show win0_3.index t 2 * 128 + 1 * (j 2).val = _; rw [(idx t).2.2.2.2.2]; omega
  show _ = side (X m c) (W m c) (W' m c) _ _ _
  rw [e0, e1, e2]
  unfold side mlp preact
  refine Finset.sum_congr rfl fun e _ => congrArg₂ (fun p q : EReal => gelu p * q) (Finset.sum_congr rfl fun q hq => congrArg₂ (fun p q : EReal => p * q) ?_ ?_) ?_
  · exact blk0 m c t _ q h1 (Finset.mem_range.mp hq)
  · exact blk1 m c t q _ (Finset.mem_range.mp hq) e.isLt
  · exact blk2 m c t _ _ e.isLt h2

theorem covered (i : S2x128x128.Idx) :
    ∃ t : Fin cfg0.N, (cfg0.win 3).flush t = true ∧ i ∈ ((cfg0.win 3).blk t).view.set := by
  have h0 : (i 0).val < 2 := (i 0).isLt
  have h1 : (i 1).val < 128 := (i 1).isLt
  have h2 : (i 2).val < 128 := (i 2).isLt
  let t : Fin cfg0.N := ⟨(i 0).val, by show _ < 2; omega⟩
  have e : t.val = (i 0).val := rfl
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [(idx t).2.2.2.1, e]; omega
  | ⟨1, _⟩ =>
    show win0_3.index t 1 * 128 ≤ (i 1).val ∧ (i 1).val < win0_3.index t 1 * 128 + 128
    rw [(idx t).2.2.2.2.1]; omega
  | ⟨2, _⟩ =>
    show win0_3.index t 2 * 128 ≤ (i 2).val ∧ (i 2).val < win0_3.index t 2 * 128 + 128
    rw [(idx t).2.2.2.2.2]; omega

theorem final (c : Dev nD) : (dats m 0 c).arrAt 3 cfg0.N = G m c :=
  (dats m 0 c).arrAt_eq_of_cover 3 (G m c) (flushed_eq m c) covered

end

section
open Cert.Reference8Ideal Cert.Reference8Ideal.Read

variable (x : FVec Ideal S2x128x8192 .bf16) (w : FVec Ideal S2x8192x128 .bf16) (w' : FVec Ideal S2x128x128 .bf16)

theorem ref_preact (i : S2x128x128.Idx) :
    val_main_v2 (F := Ideal) x w i = preact 8192 (at3 x (i 0).val) (at3 w (i 0).val) (i 1).val (i 2).val := by
  rw [val_main_v2_apply]
  unfold preact
  rw [Finset.sum_range]
  refine Finset.sum_congr rfl fun q _ => ?_
  exact congrArg₂ (fun x y : EReal => x * y) (at3_eq x _ _ _ _ rfl rfl rfl) (at3_eq w _ _ _ _ rfl rfl rfl)

theorem ref_act (i : S2x128x128.Idx) :
    val_main_v15 (F := Ideal) x w i = gelu (preact 8192 (at3 x (i 0).val) (at3 w (i 0).val) (i 1).val (i 2).val) := by
  rw [val_main_v15_apply, val_main_v14_apply, val_main_v13_apply, val_main_cst_2_apply, val_main_v12_apply, val_main_v11_apply,
    val_main_cst_1_apply, val_main_v10_apply, val_main_v9_apply, val_main_v8_apply, val_main_cst_0_apply, val_main_v7_apply,
    val_main_v6_apply, val_main_v5_apply, val_main_cst_apply, val_main_v4_apply, val_main_v3_apply, ref_preact]
  rfl

/-- The reference's result array. -/
theorem ref_out : val_main_v17 (F := Ideal) x w w' = fun i => side x w w' (i 0).val (i 1).val (i 2).val := by
  funext i
  rw [val_main_v17_apply]
  unfold side mlp
  refine Finset.sum_congr rfl fun e _ => ?_
  rw [ref_act]
  exact congrArg₂ (fun x y : EReal => x * y) rfl (at3_eq w' _ _ _ _ rfl rfl rfl)

end

/-- Run on the same arguments, the kernel and the reference end with the same result array. -/
theorem algebraic : Cert.algebraic_Kernel8Ideal_Reference8Ideal := by
  intro m ρ m' ρ' _ hagree
  refine ⟨fun c => G m c, ?_, ?_⟩
  · exact (θ_run Cert.Kernel8Ideal.defs _ _).mono (fun r h c => ⟨(h c).1.trans (final m c), (h c).2⟩)
      (Cert.Kernel8Ideal.Value.run_blocks (F := Ideal) m ρ)
  · refine (θ_run Cert.Reference8Ideal.defs _ _).mono (fun _ h c => ?_) (Cert.Reference8Ideal.Value.run (F := Ideal) m' ρ')
    obtain ⟨e0, e1, e2⟩ := hagree c
    have key := (ref_out (m' ((c.tc : Thread Cert.Reference8Ideal.nD Cert.Reference8Ideal.τ).loc Cert.Reference8Ideal.main_arg0))
      (m' ((c.tc : Thread Cert.Reference8Ideal.nD Cert.Reference8Ideal.τ).loc Cert.Reference8Ideal.main_arg1))
      (m' ((c.tc : Thread Cert.Reference8Ideal.nD Cert.Reference8Ideal.τ).loc Cert.Reference8Ideal.main_arg2))).trans
      (show _ = G m c by unfold G X W W'; rw [← e0, ← e1, ← e2])
    exact ⟨(h c).1.trans ((Cert.Reference8Ideal.Read.val_main_v17_eq ..).trans key), (h c).2⟩

/-- The reference runs to its end and leaves its arguments and every counter as they were. -/
theorem quiescent : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

end Cert.Proof.Compress
-- ==== Proof.Gating.lean ====
/-
  The gating of the prompt in chunks of 128 rows: each grid point norms the chunk's second half of columns, mixes its rows by
  four lower triangular matrices, one for each 128 columns, and multiplies by the first half. The reference computes the same
  array.
-/
module

public import proofs.«01_k».proof.Defs
public import proofs.«01_k».proof.Proof.Mlp
public import proofs.«01_k».proof.Proof.Gen.Kernel9Ideal.Value
public import proofs.«01_k».proof.Proof.Gen.Reference9Ideal.Run
public import proofs.«01_k».proof.Proof.Gen.Reference9Ideal.Read
public import Idealize.ShloMosaic.Lib.WordCmp
public import Idealize.ShloMosaic.Lib.Quiescent
public import Idealize.ShloMosaic.Adequacy
public import Idealize.ShloMosaic.Init

@[expose] public section

set_option maxRecDepth 16384

noncomputable section

namespace Cert.Proof.Gating

open Idealize.ShloMosaic Idealize.ShloMosaic.ValueIdx Idealize.ShloMosaic.TcCoe Idealize.SL.Sem
open Cert.Proof.Norm Cert.Proof.Entries Cert.Proof.Mlp

/-- An entry of a lower triangular matrix. -/
def low (r q : ℕ) (x : EReal) : EReal := if q ≤ r then x else 0

/-- A normed entry of rows of 512. -/
def normed (v : ℕ → ℕ → EReal) (g b : ℕ → EReal) (r c : ℕ) : EReal :=
  normOf (N := 512) 0x44000000#32 (fun k => v r k.val) (g c) (b c) (v r c)

/-- The gated entry at row `r` of the chunk that starts at row `s`, in column `c`. -/
def gated (u v : ℕ → ℕ → EReal) (w : ℕ → ℕ → ℕ → EReal) (t : ℕ → ℕ → EReal) (g b : ℕ → EReal) (s r c : ℕ) : EReal :=
  u (s + r) c * (∑ q : Fin 128, low r q.val (w (c / 128) r q.val) * normed v g b (s + q.val) c + t r (c / 128))

/-- The choice that a comparison of two numbers makes. -/
theorem select_low (r q : ℕ) (hr : r < 128) (hq : q < 128) (x : EReal) :
    Scalar.select (IntOp.cmpi .sge (BitVec.ofNat 32 r) (BitVec.ofNat 32 q)) x (Ideal.ofBits .f32 0x00000000#32) = low r q x := by
  rw [WordCmp.cmpi_sge_ofNat (by omega) (by omega), Ideal.ofBits_zero_f32]
  unfold low
  by_cases h : q ≤ r
  · rw [if_pos h, decide_eq_true h]; rfl
  · rw [if_neg h, decide_eq_false h]; rfl

section
open Cert.Kernel9Ideal Cert.Kernel9Ideal.Gen

/-- What a grid point stores for the 128 columns from `o` on: its vector operations in their order. -/
def mixed (o : ℕ) (hs : S128x512.Slices ![0, o] S128x128) (v : FVec Ideal S128x512 .f32) (w : FVec Ideal S1x128x128 .f32)
    (t : FVec Ideal S128x1 .f32) (u : FVec Ideal S128x128 .f32) : FVec Ideal S128x128 .bf16 :=
  truncf .bf16 (mulf u (addf (matmul dot_S128x128_S128x128_S128x128_1_0_0_1_n_n none
    (truncf .bf16 (select (cmpi .sge (iota .tc S128x128 32 [0] iota_S128x128_d0_w32) (iota .tc S128x128 32 [1] iota_S128x128_d1_w32))
      (shapeCast S128x128 w shapeCasts_S1x128x128_S128x128) (broadcast S128x128 (Scalar.ofBits .f32 0x00000000#32))) bitsLt_bf16_f32)
    (truncf .bf16 (extractStridedSlice S128x128 ![0, o] v hs) bitsLt_bf16_f32) (constant S128x128 .f32 0x00000000#32))
    (broadcastTo S128x128 t broadcasts_S128x1_S128x128))) bitsLt_bf16_f32

theorem mixed_apply (o : ℕ) (hs : S128x512.Slices ![0, o] S128x128) (v : FVec Ideal S128x512 .f32) (w : FVec Ideal S1x128x128 .f32)
    (t : FVec Ideal S128x1 .f32) (u : FVec Ideal S128x128 .f32) (ho : o + 128 ≤ 512) (r c : Fin 128) :
    mixed o hs v w t u (ix2 r c) = u (ix2 r c) * (∑ q : Fin 128, low r.val q.val (w (ix3 0 r q))
      * v (ix2 q ⟨o + c.val, by omega⟩) + t (ix2 r 0)) := by
  unfold mixed
  show u (ix2 r c) * (matmul dot_S128x128_S128x128_S128x128_1_0_0_1_n_n none _ _ _ (ix2 r c)
    + broadcastTo S128x128 t broadcasts_S128x1_S128x128 (ix2 r c)) = _
  refine congrArg (fun p : EReal => u (ix2 r c) * p) (congrArg₂ (fun p q : EReal => p + q) ?_ ?_)
  · refine (Ideal.matmul_plain_apply (M := 128) (K := 128) (N := 128) none _ _ _ r c).trans ?_
    show Ideal.ofBits .f32 0x00000000#32 + _ = _
    rw [Ideal.ofBits_zero_f32, zero_add]
    refine Finset.sum_congr rfl fun q _ => congrArg₂ (fun p q : EReal => p * q) ?_ ?_
    · show Scalar.select (IntOp.cmpi .sge (iota .tc S128x128 32 [0] iota_S128x128_d0_w32 (ix2 r q))
        (iota .tc S128x128 32 [1] iota_S128x128_d1_w32 (ix2 r q))) (shapeCast S128x128 w shapeCasts_S1x128x128_S128x128 (ix2 r q))
        (Ideal.ofBits .f32 0x00000000#32) = _
      rw [iota_single_apply, iota_single_apply, shapeCast_1ab_ab_apply]
      exact select_low r.val q.val r.isLt q.isLt _
    · refine extractStridedSlice_apply ![0, o] v hs (ix2 q c) (ix2 q ⟨o + c.val, by omega⟩) fun a => ?_
      match a with
      | ⟨0, _⟩ => show q.val = 0 + q.val; omega
      | ⟨1, _⟩ => rfl
  · exact spread_apply (M := 128) (N := 128) t broadcasts_S128x1_S128x128 r c

/-- The normed block. -/
theorem normed_apply (x : FVec Ideal S128x512 .f32) (g b : FVec Ideal S1x512 .f32) (r : Fin 128) (c : Fin 512) :
    k0_pay2 (F := Ideal) x g b (ix2 r c) = normOf (N := 512) 0x44000000#32 (fun k => x (ix2 r k)) (g (ix2 0 c)) (b (ix2 0 c)) (x (ix2 r c)) :=
  (show _ = normRowsOf (M := 128) (N := 512) 0x44000000#32 x g b reduces_S128x512_S128 shapeCasts_S128_S128x1 broadcasts_S128x1_S128x512
    broadcasts_S1x512_S128x512 (ix2 r c) from rfl).trans
    (normRowsOf_apply (M := 128) (N := 512) 0x44000000#32 x g b reduces_S128x512_S128 shapeCasts_S128_S128x1 broadcasts_S128x1_S128x512
      broadcasts_S1x512_S128x512 r c)

/-- A store of 128 columns before others, read at an index. -/
theorem canon_columns (o : ℕ) (hp : ∀ a, (![0, o] : Fin 2 → ℕ) a + S128x128.size a ≤ S128x512.size a)
    (p : S128x128.Idx → Elt Ideal .bf16) (L : List (View.Piece (Elt Ideal) S128x512 .bf16)) (f : ℕ → ℕ → EReal) (r : Fin 128) (c : Fin 512)
    (hin : ∀ k : Fin 128, p (ix2 r k) = f r.val (o + k.val))
    (hout : ¬(o ≤ c.val ∧ c.val < o + 128) → View.canon (Val := Elt Ideal) L (ix2 r c) = f r.val c.val) :
    View.canon (Val := Elt Ideal) (⟨Rect.unit (s := S128x512) ![0, o] S128x128.size hp, p⟩ :: L) (ix2 r c) = f r.val c.val := by
  by_cases h : o ≤ c.val ∧ c.val < o + 128
  · have e : (ix2 r c : S128x512.Idx) = (Rect.unit (s := S128x512) ![0, o] S128x128.size hp).emb (ix2 r ⟨c.val - o, by omega⟩) := by
      funext a
      apply Fin.ext
      match a with
      | ⟨0, _⟩ => show r.val = 0 + 1 * r.val; omega
      | ⟨1, _⟩ => show c.val = o + 1 * (c.val - o); omega
    rw [e, View.canon_cons_emb, hin]
    congr 1
    show o + (c.val - o) = c.val
    omega
  · rw [View.canon_cons_of_not_mem]
    · exact hout h
    · rw [Rect.mem_set_unit]
      exact fun hm => h (hm 1)

variable (x0 : Vec Ideal S128x1024 .f32) (x1 : Vec Ideal S4x128x128 .f32) (x2 : Vec Ideal S128x4 .f32) (x3 x4 : Vec Ideal S1x512 .f32)

/-- The gated entry of a point's block. -/
def entry (r c : ℕ) : EReal :=
  gated (at2 (M := 128) (N := 1024) x0) (fun r k => at2 (M := 128) (N := 1024) x0 r (512 + k)) (at3 (A := 4) (B := 128) (C := 128) x1)
    (at2 (M := 128) (N := 4) x2) (at2 (M := 1) (N := 512) x3 0) (at2 (M := 1) (N := 512) x4 0) 0 r c

theorem pay9_apply (r : Fin 128) (c : Fin 512) : k0_pay9 (F := Ideal) x0 x1 x2 x3 x4 (ix2 r c)
    = normed (fun r k => at2 (M := 128) (N := 1024) x0 r (512 + k)) (at2 (M := 1) (N := 512) x3 0) (at2 (M := 1) (N := 512) x4 0) r.val c.val := by
  have hx : ∀ k : Fin 512, View.ld x0 r0_0 (ix2 r k) = at2 (M := 128) (N := 1024) x0 r.val (512 + k.val) := fun k =>
    at2_eq (M := 128) (N := 1024) x0 (r0_0.idx (ix2 r k)) _ _ (show 0 + 1 * r.val = r.val by omega) (show 512 + 1 * k.val = 512 + k.val by omega)
  have h1 : ∀ y : Vec Ideal S1x512 .f32, View.ld y r0_1 (ix2 0 c) = at2 (M := 1) (N := 512) y 0 c.val := fun y =>
    at2_eq (M := 1) (N := 512) y (r0_1.idx (ix2 0 c)) _ _ rfl (show 0 + 1 * c.val = c.val by omega)
  refine (normed_apply (View.ld x0 r0_0) (View.ld x3 r0_1) (View.ld x4 r0_1) r c).trans ?_
  unfold normed
  rw [h1, h1, hx]
  exact congrArg (fun f => normOf (N := 512) 0x44000000#32 f _ _ _) (funext hx)

/-- One of a point's four stores is the gated entries of its columns. -/
theorem mixed_entry (n : ℕ) (hn : n < 4) (hs : S128x512.Slices ![0, 128 * n] S128x128)
    (iw : ∀ a, (![n, 0, 0] : Fin 3 → ℕ) a + S1x128x128.size a ≤ S4x128x128.size a)
    (it : ∀ a, (![0, n] : Fin 2 → ℕ) a + S128x1.size a ≤ S128x4.size a)
    (iu : ∀ a, (![0, 128 * n] : Fin 2 → ℕ) a + S128x128.size a ≤ S128x1024.size a) (r c : Fin 128) :
    mixed (128 * n) hs (k0_pay9 (F := Ideal) x0 x1 x2 x3 x4) (View.ld x1 (Rect.unit (s := S4x128x128) ![n, 0, 0] S1x128x128.size iw))
      (View.ld x2 (Rect.unit (s := S128x4) ![0, n] S128x1.size it)) (View.ld x0 (Rect.unit (s := S128x1024) ![0, 128 * n] S128x128.size iu)) (ix2 r c)
      = entry x0 x1 x2 x3 x4 r.val (128 * n + c.val) := by
  have hc := c.isLt
  have ed : (128 * n + c.val) / 128 = n := by omega
  refine (mixed_apply (128 * n) hs _ _ _ _ (by omega) r c).trans ?_
  unfold entry gated
  rw [ed]
  refine congrArg₂ (fun p q : EReal => p * q) ?_ (congrArg₂ (fun p q : EReal => p + q) (Finset.sum_congr rfl fun q _ =>
    congrArg₂ (fun p q : EReal => p * q) (congrArg (low r.val q.val) ?_) ?_) ?_)
  · exact at2_eq (M := 128) (N := 1024) x0 ((Rect.unit (s := S128x1024) ![0, 128 * n] S128x128.size iu).idx (ix2 r c)) _ _
      (show 0 + 1 * r.val = 0 + r.val by omega) (show 128 * n + 1 * c.val = 128 * n + c.val by omega)
  · exact at3_eq (A := 4) (B := 128) (C := 128) x1 ((Rect.unit (s := S4x128x128) ![n, 0, 0] S1x128x128.size iw).idx (ix3 0 r q)) _ _ _
      (show n + 1 * 0 = n by omega) (show 0 + 1 * r.val = r.val by omega) (show 0 + 1 * q.val = q.val by omega)
  · rw [pay9_apply, Nat.zero_add]
  · exact at2_eq (M := 128) (N := 4) x2 ((Rect.unit (s := S128x4) ![0, n] S128x1.size it).idx (ix2 r 0)) _ _
      (show 0 + 1 * r.val = r.val by omega) (show n + 1 * 0 = n by omega)

/-- What a point leaves at an index of its block. -/
theorem out_apply (r : Fin 128) (c : Fin 512) : out0_5 (F := Ideal) x0 x1 x2 x3 x4 (ix2 r c) = entry x0 x1 x2 x3 x4 r.val c.val := by
  have hc := c.isLt
  unfold out0_5
  refine canon_columns 384 _ _ _ (entry x0 x1 x2 x3 x4) r c (fun k => ?_) fun h3 => ?_
  · exact (show _ = mixed (128 * 3) slices_S128x512_o0_384_S128x128 _ _ _ _ (ix2 r k) from rfl).trans
      (mixed_entry x0 x1 x2 x3 x4 3 (by omega) _ inb_S4x128x128_S1x128x128_3_0_0 inb_S128x4_S128x1_0_3 inb_S128x1024_S128x128_0_384 r k)
  refine canon_columns 256 _ _ _ (entry x0 x1 x2 x3 x4) r c (fun k => ?_) fun h2 => ?_
  · exact (show _ = mixed (128 * 2) slices_S128x512_o0_256_S128x128 _ _ _ _ (ix2 r k) from rfl).trans
      (mixed_entry x0 x1 x2 x3 x4 2 (by omega) _ inb_S4x128x128_S1x128x128_2_0_0 inb_S128x4_S128x1_0_2 inb_S128x1024_S128x128_0_256 r k)
  refine canon_columns 128 _ _ _ (entry x0 x1 x2 x3 x4) r c (fun k => ?_) fun h1 => ?_
  · exact (show _ = mixed (128 * 1) slices_S128x512_o0_128_S128x128 _ _ _ _ (ix2 r k) from rfl).trans
      (mixed_entry x0 x1 x2 x3 x4 1 (by omega) _ inb_S4x128x128_S1x128x128_1_0_0 inb_S128x4_S128x1_0_1 inb_S128x1024_S128x128_0_128 r k)
  refine canon_columns 0 _ _ _ (entry x0 x1 x2 x3 x4) r c (fun k => ?_) fun h0 => ?_
  · exact (show _ = mixed (128 * 0) slices_S128x512_o0_0_S128x128 _ _ _ _ (ix2 r k) from rfl).trans
      (mixed_entry x0 x1 x2 x3 x4 0 (by omega) _ inb_S4x128x128_S1x128x128_0_0_0 inb_S128x4_S128x1_0_0 inb_S128x1024_S128x128_0_0 r k)
  omega

variable (m : (ℓ : Loc nD τ sig) → Buf (Elt Ideal) ℓ)

/-- Where each window stands at each grid point. -/
theorem idx : ∀ t : Fin cfg0.N, (win0_0.index t 0 = t.val ∧ win0_0.index t 1 = 1)
    ∧ (win0_1.index t 0 = 0 ∧ win0_1.index t 1 = 0 ∧ win0_1.index t 2 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = t.val ∧ win0_5.index t 1 = 0) :=
  (by decide +kernel : ∀ t : Fin grid0.N, (win0_0.index t 0 = t.val ∧ win0_0.index t 1 = 1)
    ∧ (win0_1.index t 0 = 0 ∧ win0_1.index t 1 = 0 ∧ win0_1.index t 2 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = t.val ∧ win0_5.index t 1 = 0))

abbrev X (c : Dev nD) : FVec Ideal S8192x5120 .f32 := m ((c.tc : Thread nD τ).loc main_arg0)
abbrev W (c : Dev nD) : FVec Ideal S4x128x128 .f32 := m ((c.tc : Thread nD τ).loc main_arg1)
abbrev T (c : Dev nD) : FVec Ideal S128x4 .f32 := m ((c.tc : Thread nD τ).loc main_arg2)
abbrev Ga (c : Dev nD) : FVec Ideal S1x512 .f32 := m ((c.tc : Thread nD τ).loc main_arg3)
abbrev Be (c : Dev nD) : FVec Ideal S1x512 .f32 := m ((c.tc : Thread nD τ).loc main_arg4)

/-! A point's blocks: its chunk's columns from 1024 on, and the other arguments whole. -/

theorem blk0 (c : Dev nD) (t : Fin cfg0.N) (r q : ℕ) (hr : r < 128) (hq : q < 1024) :
    at2 (M := 128) (N := 1024) (iblk m c 0 t) r q = at2 (X m c) (t.val * 128 + r) (1024 + q) := by
  refine at2_congr (M := 128) (N := 1024) (iblk m c 0 t) (X m c) r q _ _ hr hq ?_
  refine Eq.trans ?_ (at2_eq (M := 8192) (N := 5120) (X m c) (((cfg0.win 0).blk t).view.emb (ix2 ⟨r, hr⟩ ⟨q, hq⟩)) _ _ ?_ ?_)
  · unfold iblk; rw [View.read_apply]; rfl
  · show win0_0.index t 0 * 128 + 1 * r = _; rw [(idx t).1.1]; omega
  · show win0_0.index t 1 * 1024 + 1 * q = _; rw [(idx t).1.2]; omega

theorem blk1 (c : Dev nD) (t : Fin cfg0.N) (a r q : ℕ) (ha : a < 4) (hr : r < 128) (hq : q < 128) :
    at3 (A := 4) (B := 128) (C := 128) (iblk m c 1 t) a r q = at3 (W m c) a r q := by
  refine Eq.trans (b := iblk m c 1 t (ix3 ⟨a, ha⟩ ⟨r, hr⟩ ⟨q, hq⟩)) ?_ ?_
  · unfold at3; rw [dif_pos ⟨ha, hr, hq⟩]
  refine Eq.trans ?_ (at3_eq (A := 4) (B := 128) (C := 128) (W m c) (((cfg0.win 1).blk t).view.emb (ix3 ⟨a, ha⟩ ⟨r, hr⟩ ⟨q, hq⟩)) _ _ _ ?_ ?_ ?_)
  · unfold iblk; rw [View.read_apply]; rfl
  · show win0_1.index t 0 * 4 + 1 * a = _; rw [(idx t).2.1.1]; omega
  · show win0_1.index t 1 * 128 + 1 * r = _; rw [(idx t).2.1.2.1]; omega
  · show win0_1.index t 2 * 128 + 1 * q = _; rw [(idx t).2.1.2.2]; omega

theorem blk2 (c : Dev nD) (t : Fin cfg0.N) (r q : ℕ) (hr : r < 128) (hq : q < 4) :
    at2 (M := 128) (N := 4) (iblk m c 2 t) r q = at2 (T m c) r q := by
  refine at2_congr (M := 128) (N := 4) (iblk m c 2 t) (T m c) r q _ _ hr hq ?_
  refine Eq.trans ?_ (at2_eq (M := 128) (N := 4) (T m c) (((cfg0.win 2).blk t).view.emb (ix2 ⟨r, hr⟩ ⟨q, hq⟩)) _ _ ?_ ?_)
  · unfold iblk; rw [View.read_apply]; rfl
  · show win0_2.index t 0 * 128 + 1 * r = _; rw [(idx t).2.2.1.1]; omega
  · show win0_2.index t 1 * 4 + 1 * q = _; rw [(idx t).2.2.1.2]; omega

theorem blk3 (c : Dev nD) (t : Fin cfg0.N) (q : ℕ) (hq : q < 512) :
    at2 (M := 1) (N := 512) (iblk m c 3 t) 0 q = at2 (Ga m c) 0 q := by
  refine at2_congr (M := 1) (N := 512) (iblk m c 3 t) (Ga m c) 0 q _ _ Nat.one_pos hq ?_
  refine Eq.trans ?_ (at2_eq (M := 1) (N := 512) (Ga m c) (((cfg0.win 3).blk t).view.emb (ix2 ⟨0, Nat.one_pos⟩ ⟨q, hq⟩)) _ _ ?_ ?_)
  · unfold iblk; rw [View.read_apply]; rfl
  · show win0_3.index t 0 * 1 + 1 * 0 = _; rw [(idx t).2.2.2.1.1]
  · show win0_3.index t 1 * 512 + 1 * q = _; rw [(idx t).2.2.2.1.2]; omega

theorem blk4 (c : Dev nD) (t : Fin cfg0.N) (q : ℕ) (hq : q < 512) :
    at2 (M := 1) (N := 512) (iblk m c 4 t) 0 q = at2 (Be m c) 0 q := by
  refine at2_congr (M := 1) (N := 512) (iblk m c 4 t) (Be m c) 0 q _ _ Nat.one_pos hq ?_
  refine Eq.trans ?_ (at2_eq (M := 1) (N := 512) (Be m c) (((cfg0.win 4).blk t).view.emb (ix2 ⟨0, Nat.one_pos⟩ ⟨q, hq⟩)) _ _ ?_ ?_)
  · unfold iblk; rw [View.read_apply]; rfl
  · show win0_4.index t 0 * 1 + 1 * 0 = _; rw [(idx t).2.2.2.2.1.1]
  · show win0_4.index t 1 * 512 + 1 * q = _; rw [(idx t).2.2.2.2.1.2]; omega

end

/-- The call's result as a function of its arguments. -/
def out (x : FVec Ideal ⟨2, ![8192, 5120]⟩ .f32) (w : FVec Ideal ⟨3, ![4, 128, 128]⟩ .f32) (t : FVec Ideal ⟨2, ![128, 4]⟩ .f32)
    (g b : FVec Ideal ⟨2, ![1, 512]⟩ .f32) (r c : ℕ) : EReal :=
  gated (fun r k => at2 x r (1024 + k)) (fun r k => at2 x r (1024 + (512 + k))) (at3 w) (at2 t) (at2 g 0) (at2 b 0) (r / 128 * 128) (r % 128) c

section
open Cert.Kernel9Ideal Cert.Kernel9Ideal.Gen

variable (m : (ℓ : Loc nD τ sig) → Buf (Elt Ideal) ℓ)

/-- The result array. -/
def G (c : Dev nD) : S8192x512.Idx → EReal := fun i => out (X m c) (W m c) (T m c) (Ga m c) (Be m c) (i 0).val (i 1).val

theorem entry_blk (c : Dev nD) (t : Fin cfg0.N) (r k : ℕ) (hr : r < 128) (hk : k < 512) :
    entry (iblk m c 0 t) (iblk m c 1 t) (iblk m c 2 t) (iblk m c 3 t) (iblk m c 4 t) r k
      = out (X m c) (W m c) (T m c) (Ga m c) (Be m c) (t.val * 128 + r) k := by
  have e1 : (t.val * 128 + r) / 128 = t.val := by omega
  have e2 : (t.val * 128 + r) % 128 = r := by omega
  have hv : ∀ q e : ℕ, q < 128 → e < 512 → at2 (M := 128) (N := 1024) (iblk m c 0 t) q (512 + e) = at2 (X m c) (t.val * 128 + q) (1024 + (512 + e)) :=
    fun q e hq he => blk0 m c t q (512 + e) hq (by omega)
  unfold entry out gated
  rw [e1, e2, Nat.zero_add, blk0 m c t r k hr (by omega), blk2 m c t r (k / 128) hr (by omega)]
  refine congrArg (fun p : EReal => _ * (p + _)) (Finset.sum_congr rfl fun q _ => congrArg₂ (fun p q : EReal => p * q) ?_ ?_)
  · rw [blk1 m c t (k / 128) r q.val (by omega) hr q.isLt]
  · unfold normed
    rw [Nat.zero_add, blk3 m c t k hk, blk4 m c t k hk]
    exact congrArg₂ (fun f e => normOf (N := 512) 0x44000000#32 f _ _ e) (funext fun e => hv q.val e.val q.isLt e.isLt) (hv q.val k q.isLt hk)

theorem flushed_eq (c : Dev nD) (t : Fin cfg0.N) (_ : (cfg0.win 5).flush t = true) :
    (dats m 0 c).flushed 5 t = ((cfg0.win 5).blk t).view.read (Elt Ideal) (G m c) := by
  rw [Cert.Kernel9Ideal.Value.flushed5]
  funext j
  rw [View.read_apply]
  have h0 : (j 0).val < 128 := (j 0).isLt
  have h1 : (j 1).val < 512 := (j 1).isLt
  refine ((congrArg _ (eq_ix2 j)).trans (out_apply (iblk m c 0 t) (iblk m c 1 t) (iblk m c 2 t) (iblk m c 3 t) (iblk m c 4 t) (j 0) (j 1))).trans ?_
  have e0 : ((((cfg0.win 5).blk t).view.emb j) 0).val = t.val * 128 + (j 0).val := by
    show win0_5.index t 0 * 128 + 1 * (j 0).val = _; rw [(idx t).2.2.2.2.2.1]; omega
  have e1 : ((((cfg0.win 5).blk t).view.emb j) 1).val = (j 1).val := by
    show win0_5.index t 1 * 512 + 1 * (j 1).val = _; rw [(idx t).2.2.2.2.2.2]; omega
  show _ = out (X m c) (W m c) (T m c) (Ga m c) (Be m c) _ _
  rw [e0, e1]
  exact entry_blk m c t _ _ h0 h1

theorem covered (i : S8192x512.Idx) :
    ∃ t : Fin cfg0.N, (cfg0.win 5).flush t = true ∧ i ∈ ((cfg0.win 5).blk t).view.set := by
  have h0 : (i 0).val < 8192 := (i 0).isLt
  have h1 : (i 1).val < 512 := (i 1).isLt
  let t : Fin cfg0.N := ⟨(i 0).val / 128, by show _ < 64; omega⟩
  have e : t.val = (i 0).val / 128 := rfl
  refine ⟨t, flush0_5 t, ?_⟩
  show i ∈ ((View.whole main_v0).slice (win0_5.rect t)).set
  rw [View.set_slice_whole, Rect.mem_set_unit]
  intro a
  match a with
  | ⟨0, _⟩ =>
    show win0_5.index t 0 * 128 ≤ (i 0).val ∧ (i 0).val < win0_5.index t 0 * 128 + 128
    rw [(idx t).2.2.2.2.2.1, e]; omega
  | ⟨1, _⟩ =>
    show win0_5.index t 1 * 512 ≤ (i 1).val ∧ (i 1).val < win0_5.index t 1 * 512 + 512
    rw [(idx t).2.2.2.2.2.2]; omega

theorem final (c : Dev nD) : (dats m 0 c).arrAt 5 cfg0.N = G m c :=
  (dats m 0 c).arrAt_eq_of_cover 5 (G m c) (flushed_eq m c) covered

end

section
open Cert.Reference9Ideal Cert.Reference9Ideal.Read

variable (x : FVec Ideal S8192x5120 .f32) (w : FVec Ideal S4x128x128 .f32) (t : FVec Ideal S128x4 .f32) (g b : FVec Ideal S1x512 .f32)

/-- The second half of the columns. -/
abbrev half (r k : ℕ) : EReal := at2 x r (1024 + (512 + k))

theorem ref_half (i : S8192x512.Idx) : val_main_v2 (F := Ideal) x i = half x (i 0).val (i 1).val := by
  rw [val_main_v2_apply, val_main_v0_apply]
  exact at2_eq x _ _ _ rfl rfl

theorem ref_mean (i : S8192x1.Idx) : val_main_v6 (F := Ideal) x i = meanOf (N := 512) 0x44000000#32 (fun k => half x (i 0).val k.val) := by
  rw [val_main_v6_apply, val_main_v5_apply, val_main_v4_apply, val_main_v3_apply]
  refine congrArg (Ideal.div · (Ideal.ofBits .f32 0x44000000#32)) ?_
  refine Eq.trans (congrArg (· + _) (show _ = (0 : EReal) from Ideal.ofBits_zero_f32)) ((zero_add _).trans ?_)
  exact Finset.sum_congr rfl fun q _ => ref_half x _

theorem ref_variance (i : S8192x1.Idx) : val_main_v13 (F := Ideal) x i = varianceOf (N := 512) 0x44000000#32 (fun k => half x (i 0).val k.val) := by
  rw [val_main_v13_apply, val_main_v12_apply, val_main_v11_apply, val_main_v10_apply]
  refine congrArg (Ideal.div · (Ideal.ofBits .f32 0x44000000#32)) ?_
  refine Eq.trans (congrArg (· + _) (show _ = (0 : EReal) from Ideal.ofBits_zero_f32)) ((zero_add _).trans ?_)
  refine Finset.sum_congr rfl fun q _ => ?_
  rw [val_main_v9_apply, val_main_v8_apply, val_main_v7_apply, ref_half, ref_mean]
  rfl

theorem ref_normed (i : S8192x512.Idx) :
    val_main_v24 (F := Ideal) x g b i = normed (half x) (at2 g 0) (at2 b 0) (i 0).val (i 1).val := by
  rw [val_main_v24_apply, val_main_v23_apply, val_main_v22_apply, val_main_v21_apply, val_main_v20_apply, val_main_v19_apply,
    val_main_v18_apply, val_main_v17_apply, val_main_v16_apply, val_main_v15_apply, val_main_v14_apply, ref_half, ref_mean, ref_variance]
  unfold normed normOf
  refine congrArg₂ (fun x y : EReal => x + y) (congrArg₂ (fun x y : EReal => x * y) rfl ?_) ?_
  · exact at2_eq (M := 1) (N := 512) g _ _ _ rfl rfl
  · exact at2_eq (M := 1) (N := 512) b _ _ _ rfl rfl

theorem ref_low (i : S4x128x128.Idx) : val_main_v26 (F := Ideal) w i = low (i 1).val (i 2).val (at3 w (i 0).val (i 1).val (i 2).val) := by
  rw [val_main_v26_apply, val_main_call0_v5_apply, val_main_call0_v4_apply, val_main_call0_v3_apply, val_main_call0_v2_apply,
    val_main_call0_v1_apply, val_main_call0_v0_apply, val_main_call0_c_apply, val_main_call0_v6_apply, val_main_call0_cst_apply]
  refine Eq.trans ?_ (select_low (i 1).val (i 2).val (i 1).isLt (i 2).isLt _)
  refine congrArg₂ (fun p (y : EReal) => Scalar.select (IntOp.cmpi .sge p (BitVec.ofNat 32 (i 2).val)) y (Ideal.ofBits .f32 0x00000000#32)) ?_ ?_
  · exact BitVec.add_zero _
  · exact at3_eq w _ _ _ _ rfl rfl rfl

/-- The reference's result array. -/
theorem ref_out : val_main_v34 (F := Ideal) x w t g b = fun i => out x w t g b (i 0).val (i 1).val := by
  funext i
  have h0 : (i 0).val < 8192 := (i 0).isLt
  have h1 : (i 1).val < 512 := (i 1).isLt
  rw [val_main_v34_apply, val_main_v33_apply, val_main_v32_apply, val_main_v31_apply, val_main_v30_apply, val_main_v29_apply,
    val_main_v28_apply, val_main_v27_apply, val_main_v1_apply, val_main_v0_apply]
  unfold out gated
  have er : (i 0).val / 128 * 128 + (i 0).val % 128 = (i 0).val := by omega
  have ea : ((i 0).val * 512 + (i 1).val) / 512 % 128 = (i 0).val % 128 := by omega
  have eb : ((i 0).val * 512 + (i 1).val) / 128 % 4 = (i 1).val / 128 := by omega
  refine congrArg₂ (fun p q : EReal => p * q) ?_ (congrArg₂ (fun p q : EReal => p + q) (Finset.sum_congr rfl fun q _ => ?_) ?_)
  · exact at2_eq x _ _ _ er.symm (show 1024 + (i 1).val = _ from rfl)
  · have hq := q.isLt
    rw [val_main_v25_apply, ref_normed, ref_low, mul_comm]
    refine congrArg₂ (fun p q : EReal => p * q) ?_ ?_
    · show low (((i 0).val * 512 + (i 1).val) / 512 % 128) q.val (at3 w (((i 0).val * 512 + (i 1).val) / 128 % 4) (((i 0).val * 512 + (i 1).val) / 512 % 128) q.val) = _
      rw [ea, eb]
    · refine congrArg₂ (normed (half x) (at2 g 0) (at2 b 0)) ?_ ?_
      · show ((((((i 0).val * 512 + (i 1).val) / 1048576 * 16 + ((i 0).val * 512 + (i 1).val) / 65536 % 16) * 128 + q.val) * 4
          + ((i 0).val * 512 + (i 1).val) / 128 % 4) * 128 + ((i 0).val * 512 + (i 1).val) % 128) / 512 = (i 0).val / 128 * 128 + q.val
        omega
      · show ((((((i 0).val * 512 + (i 1).val) / 1048576 * 16 + ((i 0).val * 512 + (i 1).val) / 65536 % 16) * 128 + q.val) * 4
          + ((i 0).val * 512 + (i 1).val) / 128 % 4) * 128 + ((i 0).val * 512 + (i 1).val) % 128) % 512 = (i 1).val
        omega
  · exact at2_eq t _ _ _ ea eb

end

/-- Run on the same arguments, the kernel and the reference end with the same result array. -/
theorem algebraic : Cert.algebraic_Kernel9Ideal_Reference9Ideal := by
  intro m ρ m' ρ' _ hagree
  refine ⟨fun c => G m c, ?_, ?_⟩
  · exact (θ_run Cert.Kernel9Ideal.defs _ _).mono (fun r h c => ⟨(h c).1.trans (final m c), (h c).2⟩)
      (Cert.Kernel9Ideal.Value.run_blocks (F := Ideal) m ρ)
  · refine (θ_run Cert.Reference9Ideal.defs _ _).mono (fun _ h c => ?_) (Cert.Reference9Ideal.Value.run (F := Ideal) m' ρ')
    obtain ⟨e0, e1, e2, e3, e4⟩ := hagree c
    have key := (ref_out (m' ((c.tc : Thread Cert.Reference9Ideal.nD Cert.Reference9Ideal.τ).loc Cert.Reference9Ideal.main_arg0))
      (m' ((c.tc : Thread Cert.Reference9Ideal.nD Cert.Reference9Ideal.τ).loc Cert.Reference9Ideal.main_arg1))
      (m' ((c.tc : Thread Cert.Reference9Ideal.nD Cert.Reference9Ideal.τ).loc Cert.Reference9Ideal.main_arg2))
      (m' ((c.tc : Thread Cert.Reference9Ideal.nD Cert.Reference9Ideal.τ).loc Cert.Reference9Ideal.main_arg3))
      (m' ((c.tc : Thread Cert.Reference9Ideal.nD Cert.Reference9Ideal.τ).loc Cert.Reference9Ideal.main_arg4))).trans
      (show _ = G m c by unfold G X W T Ga Be; rw [← e0, ← e1, ← e2, ← e3, ← e4])
    exact ⟨(h c).1.trans ((Cert.Reference9Ideal.Read.val_main_v34_eq ..).trans key), (h c).2⟩

/-- The reference runs to its end and leaves its arguments and every counter as they were. -/
theorem quiescent : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

end Cert.Proof.Gating
-- ==== Proof.SampleSpec.lean ====
/-
  What the stick-breaking attention call of the sample computes, as a function of the projection, the pool of pages and the
  page table: keys and values by position, scores, their finiteness, and the weighted sums of the values.
-/
module

public import proofs.«01_k».proof.Proof.StickSpec
public import proofs.«01_k».proof.Proof.Gen.Pre_pages_named_and_finite
public import proofs.«01_k».proof.Proof.Gen.Pre_pages_named

@[expose] public section

set_option maxRecDepth 16384

noncomputable section

namespace Cert.Proof.SampleSpec

open Idealize.ShloMosaic Idealize.ShloMosaic.ValueIdx
open Cert.Proof.Stick Cert.Proof.StickChunk

/-- The projection of the sample: queries, new keys and new values. -/
abbrev Proj := FVec Ideal ⟨3, ![128, 8, 1536]⟩ .f32
/-- The pools of both layers. -/
abbrev Pool := FVec Ideal ⟨4, ![2, 2560, 1024, 128]⟩ .f32
/-- The pages of each sequence. -/
abbrev Table := IVec ⟨2, ![128, 16]⟩ 32

/-- An entry of the projection by its numbers; zero outside. -/
def proj (x : Proj) (b t c : ℕ) : EReal := if h : b < 128 ∧ t < 8 ∧ c < 1536 then x (ix3 ⟨b, h.1⟩ ⟨t, h.2.1⟩ ⟨c, h.2.2⟩) else 0

theorem proj_eq (x : Proj) (i : (⟨3, ![128, 8, 1536]⟩ : Shape).Idx) (b t c : ℕ) (h0 : (i 0).val = b) (h1 : (i 1).val = t) (h2 : (i 2).val = c) :
    x i = proj x b t c := by
  have hb : b < 128 := h0 ▸ (i 0).isLt
  have ht : t < 8 := h1 ▸ (i 1).isLt
  have hc : c < 1536 := h2 ▸ (i 2).isLt
  unfold proj
  rw [dif_pos ⟨hb, ht, hc⟩]
  congr 1
  funext a
  apply Fin.ext
  match a with
  | ⟨0, _⟩ => exact h0
  | ⟨1, _⟩ => exact h1
  | ⟨2, _⟩ => exact h2

/-- An entry of the first layer's pool by page, row and column. -/
def pool (y : Pool) (p r c : ℕ) : EReal := if h : p < 2560 ∧ r < 1024 ∧ c < 128 then y (ix4 0 ⟨p, h.1⟩ ⟨r, h.2.1⟩ ⟨c, h.2.2⟩) else 0

theorem pool_eq (y : Pool) (i : (⟨4, ![2, 2560, 1024, 128]⟩ : Shape).Idx) (p r c : ℕ) (h : (i 0).val = 0) (h0 : (i 1).val = p) (h1 : (i 2).val = r) (h2 : (i 3).val = c) :
    y i = pool y p r c := by
  have hb : p < 2560 := h0 ▸ (i 1).isLt
  have ht : r < 1024 := h1 ▸ (i 2).isLt
  have hc : c < 128 := h2 ▸ (i 3).isLt
  unfold pool
  rw [dif_pos ⟨hb, ht, hc⟩]
  congr 1
  funext a
  apply Fin.ext
  match a with
  | ⟨0, _⟩ => exact h
  | ⟨1, _⟩ => exact h0
  | ⟨2, _⟩ => exact h1
  | ⟨3, _⟩ => exact h2

/-- The page a sequence holds at a place. -/
def page (p : Table) (b n : ℕ) : ℕ := if h : b < 128 ∧ n < 16 then (p (ix2 ⟨b, h.1⟩ ⟨n, h.2⟩)).toNat else 0

theorem page_eq (p : Table) (i : (⟨2, ![128, 16]⟩ : Shape).Idx) (b n : ℕ) (h0 : (i 0).val = b) (h1 : (i 1).val = n) : (p i).toNat = page p b n := by
  have hb : b < 128 := h0 ▸ (i 0).isLt
  have hn : n < 16 := h1 ▸ (i 1).isLt
  unfold page
  rw [dif_pos ⟨hb, hn⟩]
  congr 2
  funext a
  apply Fin.ext
  match a with
  | ⟨0, _⟩ => exact h0
  | ⟨1, _⟩ => exact h1

/-- Every word of the table is a page of the pool. -/
def Named (p : Table) : Prop := ∀ b n, page p b n < 2560

/-- The key of a sequence at a position, by the column among 4 heads of 128: from the pages, and from position 2048 on new. -/
def key (x : Proj) (y : Pool) (p : Table) (b s c : ℕ) : EReal :=
  if s < 2048 then pool y (page p b (s / 128)) (8 * (s % 128) + c / 128) (c % 128) else proj x b (s - 2048) (512 + c)
/-- The value of a sequence at a position. -/
def value (x : Proj) (y : Pool) (p : Table) (b s c : ℕ) : EReal :=
  if s < 2048 then pool y (page p b (s / 128)) (8 * (s % 128) + (4 + c / 128)) (c % 128) else proj x b (s - 2048) (1024 + c)

/-- The score of new query `t` against key `s` in head `h` of sequence `b`. -/
def score (x : Proj) (y : Pool) (p : Table) (b h t s : ℕ) : EReal :=
  (∑ d : Fin 128, proj x b t (128 * h + d.val) * key x y p b s (128 * h + d.val)) * scale
/-- It as a real number. -/
def scoreR (x : Proj) (y : Pool) (p : Table) (b h t s : ℕ) : ℝ := (score x y p b h t s).toReal
/-- The attention's result at new query `t` of sequence `b`, column `c`. -/
def result (x : Proj) (y : Pool) (p : Table) (b t c : ℕ) : EReal :=
  ∑ u ∈ Finset.range 2056, ((weight 2056 (scoreR x y p b (c / 128) t) (2048 + t) u : ℝ) : EReal) * value x y p b u c
/-- The result array. -/
def attention (x : Proj) (y : Pool) (p : Table) : FVec Ideal ⟨3, ![128, 8, 512]⟩ .f32 :=
  fun i => result x y p (i 0).val (i 1).val (i 2).val

/-- All queries and keys are finite. -/
structure Finite (x : Proj) (y : Pool) : Prop where
  new : ∀ b t c, c < 1024 → ∃ r : ℝ, proj x b t c = (r : EReal)
  old : ∀ p r c, r % 8 < 4 → ∃ z : ℝ, pool y p r c = (z : EReal)

theorem key_real (x : Proj) (y : Pool) (p : Table) (hf : Finite x y) (b s c : ℕ) (hc : c < 512) : ∃ r : ℝ, key x y p b s c = (r : EReal) := by
  unfold key
  split
  · exact hf.old _ _ _ (by omega)
  · exact hf.new _ _ _ (by omega)

theorem score_real (x : Proj) (y : Pool) (p : Table) (hf : Finite x y) (b h t s : ℕ) (hh : h < 4) :
    score x y p b h t s = ((scoreR x y p b h t s : ℝ) : EReal) := by
  have real : ∃ r : ℝ, score x y p b h t s = (r : EReal) := by
    obtain ⟨κ, hκ⟩ := StickSpec.scale_real
    have hq : ∀ d : Fin 128, ∃ r : ℝ, proj x b t (128 * h + d.val) = (r : EReal) := fun d => hf.new _ _ _ (by have := d.isLt; omega)
    have hk : ∀ d : Fin 128, ∃ r : ℝ, key x y p b s (128 * h + d.val) = (r : EReal) := fun d => key_real x y p hf _ _ _ (by have := d.isLt; omega)
    choose q hq using hq
    choose k hk using hk
    refine ⟨(∑ d : Fin 128, q d * k d) * κ, ?_⟩
    unfold score
    rw [hκ, EReal.coe_mul, ← coe_sum]
    refine congrArg (· * (κ : EReal)) (Finset.sum_congr rfl fun d _ => ?_)
    rw [hq d, hk d, EReal.coe_mul]
  obtain ⟨r, hr⟩ := real
  unfold scoreR
  rw [hr, EReal.toReal_coe]

/-! ## What the preconditions say -/

theorem named_of_bits (p : Table) (h : ∀ i, IntOp.andi (IntOp.cmpi .sge (p i) 0#32) (IntOp.cmpi .slt (p i) 2560#32) = 1#1) : Named p := by
  intro b n
  unfold page
  split
  · rename_i hb
    have e := h (ix2 ⟨b, hb.1⟩ ⟨n, hb.2⟩)
    generalize p (ix2 ⟨b, hb.1⟩ ⟨n, hb.2⟩) = w at e
    have e0 : BitVec.ofBool ((0#32).sle w) &&& BitVec.ofBool (w.slt 2560#32) = 1#1 := e
    have h1 : (0#32).sle w = true := by
      by_contra hn
      rw [Bool.not_eq_true] at hn
      rw [hn] at e0
      revert e0
      cases w.slt 2560#32 <;> decide
    have h2 : w.slt 2560#32 = true := by
      by_contra hn
      rw [Bool.not_eq_true] at hn
      rw [hn, h1] at e0
      revert e0
      decide
    rw [BitVec.sle_iff_toInt_le] at h1
    rw [BitVec.slt_iff_toInt_lt] at h2
    have t0 : (0#32).toInt = 0 := by decide
    have t1 : (2560#32).toInt = 2560 := by decide
    rw [t0] at h1
    rw [t1] at h2
    have hw := w.isLt
    rw [BitVec.toInt_eq_toNat_cond] at h1 h2
    split at h1 <;> omega
  · omega

theorem named_of_pre {F : FTy → Type} [FloatOps F] (x : FVec F ⟨3, ![128, 8, 1536]⟩ .f32) (y : FVec F ⟨4, ![2, 2560, 1024, 128]⟩ .f32) (p : Table)
    (h : Cert.Pre_pages_named.fn (F := F) x y p = fun _ => 1#1) : Named p :=
  named_of_bits p fun i => congrFun h i

theorem real_of_bit (X : EReal) (e : Ideal.cmp .olt (max X (-X)) (Ideal.ofBits .f32 0x7F800000#32) = 1#1) : ∃ z : ℝ, X = (z : EReal) := by
  have top : Ideal.ofBits .f32 0x7F800000#32 = ⊤ := by simp [Ideal.ofBits, Ideal.ieee]
  rw [top] at e
  have lt : max X (-X) < ⊤ := by
    by_contra hn
    unfold Ideal.cmp at e
    simp [hn] at e
  induction hX : X with
  | coe y => exact ⟨y, rfl⟩
  | top => rw [hX] at lt; simp at lt
  | bot => rw [hX] at lt; simp at lt

theorem of_pre (x : Proj) (y : Pool) (p : Table)
    (h0 : (Cert.Pre_pages_named_and_finite.fn (F := Ideal) x y p).1 = fun _ => 1#1)
    (h1 : (Cert.Pre_pages_named_and_finite.fn (F := Ideal) x y p).2.1 = fun _ => 1#1)
    (h2 : (Cert.Pre_pages_named_and_finite.fn (F := Ideal) x y p).2.2 = fun _ => 1#1) : Named p ∧ Finite x y := by
  refine ⟨named_of_bits p fun i => congrFun h0 i, ⟨fun b t c hc => ?_, fun q r c hr => ?_⟩⟩
  · by_cases hb : b < 128 ∧ t < 8
    · refine real_of_bit _ ?_
      have e := congrFun h1 (ix3 ⟨b, hb.1⟩ ⟨t, hb.2⟩ ⟨c, hc⟩)
      have hs : (extractStridedSlice Cert.Pre_pages_named_and_finite.S128x8x1024 ![0, 0, 0] x
          Cert.Pre_pages_named_and_finite.Facts.slices_S128x8x1536_S128x8x1024_0_0_0) (ix3 ⟨b, hb.1⟩ ⟨t, hb.2⟩ ⟨c, hc⟩) = proj x b t c := by
        refine (extractStridedSlice_apply ![0, 0, 0] x _ _ (ix3 ⟨b, hb.1⟩ ⟨t, hb.2⟩ ⟨c, by omega⟩) (fun a => ?_)).trans (proj_eq x _ b t c rfl rfl rfl)
        match a with
        | ⟨0, _⟩ => show b = 0 + b; omega
        | ⟨1, _⟩ => show t = 0 + t; omega
        | ⟨2, _⟩ => show c = 0 + c; omega
      rw [← hs]
      exact e
    · unfold proj
      rw [dif_neg (fun hh => hb ⟨hh.1, hh.2.1⟩)]
      exact ⟨0, rfl⟩
  · by_cases hb : q < 2560 ∧ r < 1024 ∧ c < 128
    · obtain ⟨hq, hr', hc⟩ := hb
      refine real_of_bit _ ?_
      have e := congrFun h2 (ix4 ⟨q, hq⟩ ⟨r / 8, by omega⟩ ⟨r % 8, hr⟩ ⟨c, hc⟩)
      have hs : (extractStridedSlice Cert.Pre_pages_named_and_finite.S2560x128x4x128 ![0, 0, 0, 0]
          (shapeCast Cert.Pre_pages_named_and_finite.S2560x128x8x128
            (shapeCast Cert.Pre_pages_named_and_finite.S2560x1024x128
              (extractStridedSlice Cert.Pre_pages_named_and_finite.S1x2560x1024x128 ![0, 0, 0, 0] y
                Cert.Pre_pages_named_and_finite.Facts.slices_S2x2560x1024x128_S1x2560x1024x128_0_0_0_0)
              Cert.Pre_pages_named_and_finite.Facts.shapeCasts_S1x2560x1024x128_S2560x1024x128)
            Cert.Pre_pages_named_and_finite.Facts.shapeCasts_S2560x1024x128_S2560x128x8x128)
          Cert.Pre_pages_named_and_finite.Facts.slices_S2560x128x8x128_S2560x128x4x128_0_0_0_0)
          (ix4 ⟨q, hq⟩ ⟨r / 8, by omega⟩ ⟨r % 8, hr⟩ ⟨c, hc⟩) = pool y q r c := by
        refine (extractStridedSlice_apply ![0, 0, 0, 0] _ _ _ (ix4 ⟨q, hq⟩ ⟨r / 8, by omega⟩ ⟨r % 8, by omega⟩ ⟨c, hc⟩) (fun a => ?_)).trans ?_
        · match a with
          | ⟨0, _⟩ => exact (Nat.zero_add _).symm
          | ⟨1, _⟩ => exact (Nat.zero_add _).symm
          | ⟨2, _⟩ => exact (Nat.zero_add _).symm
          | ⟨3, _⟩ => exact (Nat.zero_add _).symm
        refine (shapeCast_apply _ _ _ (ix3 ⟨q, hq⟩ ⟨r, hr'⟩ ⟨c, hc⟩) ?_).trans ?_
        · rw [Shape.rowMajor_val_three, Shape.rowMajor_val_four]
          show (q * 1024 + r) * 128 + c = ((q * 128 + r / 8) * 8 + r % 8) * 128 + c
          omega
        refine (shapeCast_apply _ _ _ (ix4 0 ⟨q, hq⟩ ⟨r, hr'⟩ ⟨c, hc⟩) ?_).trans ?_
        · rw [Shape.rowMajor_val_three, Shape.rowMajor_val_four]
          show ((0 * 2560 + q) * 1024 + r) * 128 + c = (q * 1024 + r) * 128 + c
          omega
        refine (extractStridedSlice_apply ![0, 0, 0, 0] y _ _ (ix4 0 ⟨q, hq⟩ ⟨r, hr'⟩ ⟨c, hc⟩) (fun a => ?_)).trans (pool_eq y _ q r c rfl rfl rfl rfl)
        match a with
        | ⟨0, _⟩ => rfl
        | ⟨1, _⟩ => exact (Nat.zero_add _).symm
        | ⟨2, _⟩ => exact (Nat.zero_add _).symm
        | ⟨3, _⟩ => exact (Nat.zero_add _).symm
      rw [← hs]
      exact e
    · unfold pool
      rw [dif_neg hb]
      exact ⟨0, rfl⟩

end Cert.Proof.SampleSpec
-- ==== Proof.SampleTable.lean ====
/-
  The page table of the sample's stick-breaking attention call at the ideal values: where each page window stands, and that it stands
  inside the pool when every word of the table names a page.
-/
module

public import proofs.«01_k».proof.Proof.SampleSpec
public import proofs.«01_k».proof.Proof.Gen.Kernel10Ideal.Frame

@[expose] public section

set_option maxRecDepth 16384

noncomputable section

namespace Cert.Proof.SampleTable

open Idealize.ShloMosaic Idealize.ShloMosaic.ValueIdx Idealize.ShloMosaic.TcCoe Idealize.SL.Sem
open Cert.Kernel10Ideal Cert.Kernel10Ideal.Gen
open Cert.Proof.SampleSpec (page page_eq Named)

variable {F : FTy → Type} [FloatOps F]

/-- The word of the table at a place. -/
theorem word (p : SampleSpec.Table) (o : Fin 2 → ℕ) (inb : ∀ a, o a + S1x1.size a ≤ S128x16.size a) (k : (Rect.unit (s := S128x16) o S1x1.size inb).shape.Idx)
    (b n : ℕ) (h0 : o 0 = b) (h1 : o 1 = n) : (p ((Rect.unit (s := S128x16) o S1x1.size inb).emb k)).toNat = page p b n := by
  have k0 : (k 0).val < 1 := (k 0).isLt
  have k1 : (k 1).val < 1 := (k 1).isLt
  refine page_eq p _ b n ?_ ?_
  · show o 0 + 1 * (k 0).val = b
    omega
  · show o 1 + 1 * (k 1).val = n
    omega

theorem row (i : grid0.Coords) : (Scalar.indexCast (BitVec.ofNat 32 (i 0).val)).toNat = (i 0).val := by
  have h : (i 0).val < 128 := (i 0).isLt
  show (BitVec.ofNat 32 (i 0).val).toNat = _
  rw [BitVec.toNat_ofNat]
  omega

/-- A block number in the first layer's pool, of the page `n`. -/
theorem block (f : Fin 4 → ℕ) (n : ℕ) (w : BitVec 32) (hw : w.toNat = n) (hf : f = ![(0#32).toNat, w.toNat, (0#32).toNat, (0#32).toNat]) :
    f = ![0, n, 0, 0] := by
  rw [hf, hw]
  rfl

/-- Such a block lies inside the pools. -/
theorem inside (f : Fin 4 → ℕ) (n : ℕ) (hn : n < 2560) (hf : f = ![0, n, 0, 0]) (a : Fin 4) :
    (f a + 1) * S1x1x1024x128.size a ≤ S2x2560x1024x128.size a := by
  subst hf
  match a with
  | ⟨0, _⟩ => show (0 + 1) * 1 ≤ 2; omega
  | ⟨1, _⟩ => show (n + 1) * 1 ≤ 2560; omega
  | ⟨2, _⟩ => show (0 + 1) * 1024 ≤ 1024; omega
  | ⟨3, _⟩ => show (0 + 1) * 128 ≤ 128; omega

section maps
variable (pf : pre0.Contents (Elt F)) (i : grid0.Coords)

theorem map1 : cc0_transform_1 k0_off1_inb numel1_S1x1 pf i = ![0, page (pf 0) (i 0).val 0, 0, 0] :=
  block _ _ _ (word (pf 0) _ _ _ _ _ (row i) rfl) rfl
theorem map2 : cc0_transform_2 k0_off2_inb numel1_S1x1 pf i = ![0, page (pf 0) (i 0).val 1, 0, 0] :=
  block _ _ _ (word (pf 0) _ _ _ _ _ (row i) rfl) rfl
theorem map3 : cc0_transform_3 k0_off3_inb numel1_S1x1 pf i = ![0, page (pf 0) (i 0).val 2, 0, 0] :=
  block _ _ _ (word (pf 0) _ _ _ _ _ (row i) rfl) rfl
theorem map4 : cc0_transform_4 k0_off4_inb numel1_S1x1 pf i = ![0, page (pf 0) (i 0).val 3, 0, 0] :=
  block _ _ _ (word (pf 0) _ _ _ _ _ (row i) rfl) rfl
theorem map5 : cc0_transform_5 k0_off5_inb numel1_S1x1 pf i = ![0, page (pf 0) (i 0).val 4, 0, 0] :=
  block _ _ _ (word (pf 0) _ _ _ _ _ (row i) rfl) rfl
theorem map6 : cc0_transform_6 k0_off6_inb numel1_S1x1 pf i = ![0, page (pf 0) (i 0).val 5, 0, 0] :=
  block _ _ _ (word (pf 0) _ _ _ _ _ (row i) rfl) rfl
theorem map7 : cc0_transform_7 k0_off7_inb numel1_S1x1 pf i = ![0, page (pf 0) (i 0).val 6, 0, 0] :=
  block _ _ _ (word (pf 0) _ _ _ _ _ (row i) rfl) rfl
theorem map8 : cc0_transform_8 k0_off8_inb numel1_S1x1 pf i = ![0, page (pf 0) (i 0).val 7, 0, 0] :=
  block _ _ _ (word (pf 0) _ _ _ _ _ (row i) rfl) rfl
theorem map9 : cc0_transform_9 k0_off9_inb numel1_S1x1 pf i = ![0, page (pf 0) (i 0).val 8, 0, 0] :=
  block _ _ _ (word (pf 0) _ _ _ _ _ (row i) rfl) rfl
theorem map10 : cc0_transform_10 k0_off10_inb numel1_S1x1 pf i = ![0, page (pf 0) (i 0).val 9, 0, 0] :=
  block _ _ _ (word (pf 0) _ _ _ _ _ (row i) rfl) rfl
theorem map11 : cc0_transform_11 k0_off11_inb numel1_S1x1 pf i = ![0, page (pf 0) (i 0).val 10, 0, 0] :=
  block _ _ _ (word (pf 0) _ _ _ _ _ (row i) rfl) rfl
theorem map12 : cc0_transform_12 k0_off12_inb numel1_S1x1 pf i = ![0, page (pf 0) (i 0).val 11, 0, 0] :=
  block _ _ _ (word (pf 0) _ _ _ _ _ (row i) rfl) rfl
theorem map13 : cc0_transform_13 k0_off13_inb numel1_S1x1 pf i = ![0, page (pf 0) (i 0).val 12, 0, 0] :=
  block _ _ _ (word (pf 0) _ _ _ _ _ (row i) rfl) rfl
theorem map14 : cc0_transform_14 k0_off14_inb numel1_S1x1 pf i = ![0, page (pf 0) (i 0).val 13, 0, 0] :=
  block _ _ _ (word (pf 0) _ _ _ _ _ (row i) rfl) rfl
theorem map15 : cc0_transform_15 k0_off15_inb numel1_S1x1 pf i = ![0, page (pf 0) (i 0).val 14, 0, 0] :=
  block _ _ _ (word (pf 0) _ _ _ _ _ (row i) rfl) rfl
theorem map16 : cc0_transform_16 k0_off16_inb numel1_S1x1 pf i = ![0, page (pf 0) (i 0).val 15, 0, 0] :=
  block _ _ _ (word (pf 0) _ _ _ _ _ (row i) rfl) rfl

/-- Where every word of the table names a page, every page window stands inside the pools. -/
theorem fits (h : Named (pf 0)) : ok0 pf :=
  ⟨fun i => ⟨inside _ _ (h _ _) (map1 pf i), Or.inl rfl⟩,
    fun i => ⟨inside _ _ (h _ _) (map2 pf i), Or.inl rfl⟩,
    fun i => ⟨inside _ _ (h _ _) (map3 pf i), Or.inl rfl⟩,
    fun i => ⟨inside _ _ (h _ _) (map4 pf i), Or.inl rfl⟩,
    fun i => ⟨inside _ _ (h _ _) (map5 pf i), Or.inl rfl⟩,
    fun i => ⟨inside _ _ (h _ _) (map6 pf i), Or.inl rfl⟩,
    fun i => ⟨inside _ _ (h _ _) (map7 pf i), Or.inl rfl⟩,
    fun i => ⟨inside _ _ (h _ _) (map8 pf i), Or.inl rfl⟩,
    fun i => ⟨inside _ _ (h _ _) (map9 pf i), Or.inl rfl⟩,
    fun i => ⟨inside _ _ (h _ _) (map10 pf i), Or.inl rfl⟩,
    fun i => ⟨inside _ _ (h _ _) (map11 pf i), Or.inl rfl⟩,
    fun i => ⟨inside _ _ (h _ _) (map12 pf i), Or.inl rfl⟩,
    fun i => ⟨inside _ _ (h _ _) (map13 pf i), Or.inl rfl⟩,
    fun i => ⟨inside _ _ (h _ _) (map14 pf i), Or.inl rfl⟩,
    fun i => ⟨inside _ _ (h _ _) (map15 pf i), Or.inl rfl⟩,
    fun i => ⟨inside _ _ (h _ _) (map16 pf i), Or.inl rfl⟩⟩

end maps

/-- The same of the table a call is launched with. -/
theorem fits_launched (m : (ℓ : Loc nD τ sig) → Buf (Elt F) ℓ) (h : Named (m (((0 : Dev nD) : Thread nD τ).loc main_arg2))) : Ok m :=
  fits (tbl m) h

end Cert.Proof.SampleTable
-- ==== Proof.SampleChunk.lean ====
/-
  The stick-breaking attention of the sample at the ideal values: 32 rows, the 8 queries of each of 4 heads, against 17
  chunks of 128 keys. The kernel's vector operations are named in groups, and each group is read at an index.
-/
module

public import proofs.«01_k».proof.Proof.StickChunk
public import proofs.«01_k».proof.Proof.Entries
public import proofs.«01_k».proof.Proof.Gen.Kernel10Ideal.Skeleton
public import Idealize.ShloMosaic.Lib.Pipeline.Value

@[expose] public section

set_option maxRecDepth 16384

noncomputable section

namespace Cert.Proof.SampleChunk

open Idealize.ShloMosaic Idealize.ShloMosaic.ValueIdx
open Cert.Kernel10Ideal Cert.Kernel10Ideal.Gen Cert.Proof.Stick Cert.Proof.Entries
open Cert.Proof.StickChunk (scale coe_sum left weight one_bits)

/-! ## The groups of operations -/

/-- Seventeen chunks by their number. -/
abbrev seq (v0 v1 v2 v3 v4 v5 v6 v7 v8 v9 v10 v11 v12 v13 v14 v15 v16 : FVec Ideal S128x512 .bf16) (n : ℕ) : FVec Ideal S128x512 .bf16 :=
  match n with
  | 0 => v0
  | 1 => v1
  | 2 => v2
  | 3 => v3
  | 4 => v4
  | 5 => v5
  | 6 => v6
  | 7 => v7
  | 8 => v8
  | 9 => v9
  | 10 => v10
  | 11 => v11
  | 12 => v12
  | 13 => v13
  | 14 => v14
  | 15 => v15
  | _ => v16

/-- The scores of all chunks, one below the other. -/
def scores (q : FVec Ideal S32x512 .bf16) (k : ℕ → FVec Ideal S128x512 .bf16) : FVec Ideal S544x128 .f32 :=
  concatenate S544x128 0 (List.ofFn fun n : Fin 17 => (⟨S32x128, k0_pay16 (F := Ideal) q (k n.val)⟩ : (s : Shape) × FVec Ideal s .f32))
    concatenates_S32x128_S32x128_S32x128_S32x128_S32x128_S32x128_S32x128_S32x128_S32x128_S32x128_S32x128_S32x128_S32x128_S32x128_S32x128_S32x128_S32x128_S544x128_d0
/-- A column's 32 rows from row `o` on. -/
def col (x : FVec Ideal S544x1 .f32) (o : ℕ) : FVec Ideal S32x1 .f32 := fun i => at2 (M := 544) (N := 1) x (o + (i 0).val) (i 1).val
/-- A matrix's 32 rows from row `o` on. -/
def rows (x : FVec Ideal S544x128 .bf16) (o : ℕ) : FVec Ideal S32x128 .bf16 := fun i => at2 (M := 544) (N := 128) x (o + (i 0).val) (i 1).val
/-- The sum of the last `k` chunks' totals. -/
def carry (x : FVec Ideal S544x1 .f32) : ℕ → FVec Ideal S32x1 .f32
  | 0 => k0_pay86 (F := Ideal)
  | k + 1 => addf (carry x k) (col x (32 * (16 - k)))
/-- The logarithms of what the scores leave, where the mask holds. -/
def kept (μ : IVec S544x128 1) (z : FVec Ideal S544x128 .f32) : FVec Ideal S544x128 .f32 :=
  select μ (subf (k0_pay82 (F := Ideal) z) z) (broadcast S544x128 (Scalar.ofBits (F := Ideal) .f32 0x00000000#32))
/-- The matrix that sums what comes later. -/
def later : FVec Ideal S128x128 .bf16 :=
  truncf .bf16 (select (cmpi .sgt (iota .tc S128x128 32 [0] iota_S128x128_d0_w32) (iota .tc S128x128 32 [1] iota_S128x128_d1_w32))
    (broadcast S128x128 (Scalar.ofBits (F := Ideal) .f32 0x3F800000#32)) (broadcast S128x128 (Scalar.ofBits (F := Ideal) .f32 0x00000000#32))) bitsLt_bf16_f32
/-- What the later keys of the same chunk leave. -/
def within (l : FVec Ideal S544x128 .f32) : FVec Ideal S544x128 .f32 :=
  addf (matmul dot_S544x128_S128x128_S544x128_1_0_0_1_n_n none (truncf .bf16 l bitsLt_bf16_f32) later (constant S544x128 .f32 0x00000000#32))
    (matmul dot_S544x128_S128x128_S544x128_1_0_0_1_n_n none
      (truncf .bf16 (subf l (extf .f32 (truncf .bf16 l bitsLt_bf16_f32) bitsLt_bf16_f32)) bitsLt_bf16_f32) later (constant S544x128 .f32 0x00000000#32))
/-- The chunks' totals. -/
def totals (l : FVec Ideal S544x128 .f32) : FVec Ideal S544x1 .f32 :=
  shapeCast S544x1 (multiReduction .add [1] S544 l 0x00000000#32 reduces_S544x128_S544 (.inl rfl) rfl) shapeCasts_S544_S544x1
/-- What the later chunks leave. -/
def beyond (x : FVec Ideal S544x1 .f32) : FVec Ideal S544x1 .f32 :=
  concatenate S544x1 0 (List.ofFn fun n : Fin 17 => (⟨S32x1, carry x (16 - n.val)⟩ : (s : Shape) × FVec Ideal s .f32))
    concatenates_S32x1_S32x1_S32x1_S32x1_S32x1_S32x1_S32x1_S32x1_S32x1_S32x1_S32x1_S32x1_S32x1_S32x1_S32x1_S32x1_S32x1_S544x1_d0
/-- The weights. -/
def weights (μ : IVec S544x128 1) (z : FVec Ideal S544x128 .f32) : FVec Ideal S544x128 .bf16 :=
  truncf .bf16 (select μ (exp (addf (k0_pay82 (F := Ideal) z)
      (addf (within (kept μ z)) (broadcastTo S544x128 (beyond (totals (kept μ z))) broadcasts_S544x1_S544x128))))
    (broadcast S544x128 (Scalar.ofBits (F := Ideal) .f32 0x00000000#32))) bitsLt_bf16_f32
/-- The weighted values of the first `k` chunks. -/
def gathered (w : FVec Ideal S544x128 .bf16) (v : ℕ → FVec Ideal S128x512 .bf16) : ℕ → FVec Ideal S32x512 .f32
  | 0 => broadcast S32x512 (Scalar.ofBits (F := Ideal) .f32 0x00000000#32)
  | k + 1 => addf (gathered w v k) (matmul dot_S32x128_S128x512_S32x512_1_0_0_1_n_n none (rows w (32 * k)) (v k) (constant S32x512 .f32 0x00000000#32))

/-! ## The kernel's operations in these terms -/

theorem pay17_eq (a b c d : Vec Ideal S1x1x128x128 .f32) :
    k0_pay17 (F := Ideal) a b c d = k0_pay13 (F := Ideal) a b c d := rfl
theorem pay21_eq (a b c d : Vec Ideal S1x1x128x128 .f32) :
    k0_pay21 (F := Ideal) a b c d = k0_pay13 (F := Ideal) a b c d := rfl
theorem pay26_eq (a b c d : Vec Ideal S1x1x128x128 .f32) :
    k0_pay26 (F := Ideal) a b c d = k0_pay13 (F := Ideal) a b c d := rfl
theorem pay31_eq (a b c d : Vec Ideal S1x1x128x128 .f32) :
    k0_pay31 (F := Ideal) a b c d = k0_pay13 (F := Ideal) a b c d := rfl
theorem pay37_eq (a b c d : Vec Ideal S1x1x128x128 .f32) :
    k0_pay37 (F := Ideal) a b c d = k0_pay13 (F := Ideal) a b c d := rfl
theorem pay43_eq (a b c d : Vec Ideal S1x1x128x128 .f32) :
    k0_pay43 (F := Ideal) a b c d = k0_pay13 (F := Ideal) a b c d := rfl
theorem pay44_eq (a b c d : Vec Ideal S1x1x128x128 .f32) :
    k0_pay44 (F := Ideal) a b c d = k0_pay13 (F := Ideal) a b c d := rfl
theorem pay46_eq (a b c d : Vec Ideal S1x1x128x128 .f32) :
    k0_pay46 (F := Ideal) a b c d = k0_pay13 (F := Ideal) a b c d := rfl
theorem pay49_eq (a b c d : Vec Ideal S1x1x128x128 .f32) :
    k0_pay49 (F := Ideal) a b c d = k0_pay13 (F := Ideal) a b c d := rfl
theorem pay51_eq (a b c d : Vec Ideal S1x1x128x128 .f32) :
    k0_pay51 (F := Ideal) a b c d = k0_pay13 (F := Ideal) a b c d := rfl
theorem pay53_eq (a b c d : Vec Ideal S1x1x128x128 .f32) :
    k0_pay53 (F := Ideal) a b c d = k0_pay13 (F := Ideal) a b c d := rfl
theorem pay56_eq (a b c d : Vec Ideal S1x1x128x128 .f32) :
    k0_pay56 (F := Ideal) a b c d = k0_pay13 (F := Ideal) a b c d := rfl
theorem pay59_eq (a b c d : Vec Ideal S1x1x128x128 .f32) :
    k0_pay59 (F := Ideal) a b c d = k0_pay13 (F := Ideal) a b c d := rfl
theorem pay63_eq (a b c d : Vec Ideal S1x1x128x128 .f32) :
    k0_pay63 (F := Ideal) a b c d = k0_pay13 (F := Ideal) a b c d := rfl
theorem pay67_eq (a b c d : Vec Ideal S1x1x128x128 .f32) :
    k0_pay67 (F := Ideal) a b c d = k0_pay13 (F := Ideal) a b c d := rfl
theorem pay72_eq (a b c d : Vec Ideal S1x1x128x128 .f32) :
    k0_pay72 (F := Ideal) a b c d = k0_pay13 (F := Ideal) a b c d := rfl
theorem pay15_eq (a b c d : Vec Ideal S1x1x128x128 .f32) :
    k0_pay15 (F := Ideal) (k0_pay14 (F := Ideal) a) b c d = k0_pay13 (F := Ideal) a b c d := rfl
theorem pay19_eq (a b c d : Vec Ideal S1x1x128x128 .f32) :
    k0_pay19 (F := Ideal) (k0_pay18 (F := Ideal) a) b c d = k0_pay13 (F := Ideal) a b c d := rfl
theorem pay24_eq (a b c d : Vec Ideal S1x1x128x128 .f32) :
    k0_pay24 (F := Ideal) (k0_pay22 (F := Ideal) a) (k0_pay23 (F := Ideal) b) c d = k0_pay13 (F := Ideal) a b c d := rfl
theorem pay29_eq (a b c d : Vec Ideal S1x1x128x128 .f32) :
    k0_pay29 (F := Ideal) (k0_pay27 (F := Ideal) a) (k0_pay28 (F := Ideal) b) c d = k0_pay13 (F := Ideal) a b c d := rfl
theorem pay35_eq (a b c d : Vec Ideal S1x1x128x128 .f32) :
    k0_pay35 (F := Ideal) (k0_pay32 (F := Ideal) a) (k0_pay33 (F := Ideal) b) (k0_pay34 (F := Ideal) c) d = k0_pay13 (F := Ideal) a b c d := rfl
theorem pay41_eq (a b c d : Vec Ideal S1x1x128x128 .f32) :
    k0_pay41 (F := Ideal) (k0_pay38 (F := Ideal) a) (k0_pay39 (F := Ideal) b) (k0_pay40 (F := Ideal) c) d = k0_pay13 (F := Ideal) a b c d := rfl
theorem pay20_eq (q : FVec Ideal S32x512 .bf16) (k : FVec Ideal S128x512 .bf16) :
    k0_pay20 (F := Ideal) q k = k0_pay16 (F := Ideal) q k := rfl
theorem pay25_eq (q : FVec Ideal S32x512 .bf16) (k : FVec Ideal S128x512 .bf16) :
    k0_pay25 (F := Ideal) q k = k0_pay16 (F := Ideal) q k := rfl
theorem pay30_eq (q : FVec Ideal S32x512 .bf16) (k : FVec Ideal S128x512 .bf16) :
    k0_pay30 (F := Ideal) q k = k0_pay16 (F := Ideal) q k := rfl
theorem pay36_eq (q : FVec Ideal S32x512 .bf16) (k : FVec Ideal S128x512 .bf16) :
    k0_pay36 (F := Ideal) q k = k0_pay16 (F := Ideal) q k := rfl
theorem pay42_eq (q : FVec Ideal S32x512 .bf16) (k : FVec Ideal S128x512 .bf16) :
    k0_pay42 (F := Ideal) q k = k0_pay16 (F := Ideal) q k := rfl
theorem pay45_eq (q : FVec Ideal S32x512 .bf16) (k : FVec Ideal S128x512 .bf16) :
    k0_pay45 (F := Ideal) q k = k0_pay16 (F := Ideal) q k := rfl
theorem pay48_eq (q : FVec Ideal S32x512 .bf16) (a b c d : Vec Ideal S1x1x128x128 .f32) :
    k0_pay48 (F := Ideal) (k0_pay47 (F := Ideal) q a b c d) (Scalar.ofBits (F := Ideal) .f32 0x3DB504F3#32) = k0_pay16 (F := Ideal) q (k0_pay13 (F := Ideal) a b c d) := rfl
theorem pay50_eq (q : FVec Ideal S32x512 .bf16) (a b c d : Vec Ideal S1x1x128x128 .f32) :
    k0_pay50 (F := Ideal) q a b c d = k0_pay16 (F := Ideal) q (k0_pay13 (F := Ideal) a b c d) := rfl
theorem pay52_eq (q : FVec Ideal S32x512 .bf16) (a b c d : Vec Ideal S1x1x128x128 .f32) :
    k0_pay52 (F := Ideal) q a b c d = k0_pay16 (F := Ideal) q (k0_pay13 (F := Ideal) a b c d) := rfl
theorem pay54_eq (q : FVec Ideal S32x512 .bf16) (a b c d : Vec Ideal S1x1x128x128 .f32) :
    k0_pay54 (F := Ideal) q a b c d = k0_pay16 (F := Ideal) q (k0_pay13 (F := Ideal) a b c d) := rfl
theorem pay57_eq (q : FVec Ideal S32x512 .bf16) (a b c d : Vec Ideal S1x1x128x128 .f32) :
    k0_pay57 (F := Ideal) q (k0_pay55 (F := Ideal) a) b c d = k0_pay16 (F := Ideal) q (k0_pay13 (F := Ideal) a b c d) := rfl
theorem pay60_eq (q : FVec Ideal S32x512 .bf16) (a b c d : Vec Ideal S1x1x128x128 .f32) :
    k0_pay60 (F := Ideal) q (k0_pay58 (F := Ideal) a) b c d = k0_pay16 (F := Ideal) q (k0_pay13 (F := Ideal) a b c d) := rfl
theorem pay64_eq (q : FVec Ideal S32x512 .bf16) (a b c d : Vec Ideal S1x1x128x128 .f32) :
    k0_pay64 (F := Ideal) q (k0_pay61 (F := Ideal) a) (k0_pay62 (F := Ideal) b) c d = k0_pay16 (F := Ideal) q (k0_pay13 (F := Ideal) a b c d) := rfl
theorem pay68_eq (q : FVec Ideal S32x512 .bf16) (a b c d : Vec Ideal S1x1x128x128 .f32) :
    k0_pay68 (F := Ideal) q (k0_pay65 (F := Ideal) a) (k0_pay66 (F := Ideal) b) c d = k0_pay16 (F := Ideal) q (k0_pay13 (F := Ideal) a b c d) := rfl
theorem pay73_eq (q : FVec Ideal S32x512 .bf16) (kn k0 k1 k2 k3 k4 k5 k6 k7 k8 k9 k10 k11 k12 k13 k14 : FVec Ideal S128x512 .bf16) (a b c d : Vec Ideal S1x1x128x128 .f32) :
    k0_pay73 (F := Ideal) q kn (k0_pay16 (F := Ideal) q k0) (k0_pay16 (F := Ideal) q k1) (k0_pay16 (F := Ideal) q k2) (k0_pay16 (F := Ideal) q k3) (k0_pay16 (F := Ideal) q k4) (k0_pay16 (F := Ideal) q k5) (k0_pay16 (F := Ideal) q k6) (k0_pay16 (F := Ideal) q k7) (k0_pay16 (F := Ideal) q k8) (k0_pay16 (F := Ideal) q k9) (k0_pay16 (F := Ideal) q k10) (k0_pay16 (F := Ideal) q k11) (k0_pay16 (F := Ideal) q k12) (k0_pay16 (F := Ideal) q k13) (k0_pay16 (F := Ideal) q k14) (k0_pay69 (F := Ideal) a) (k0_pay70 (F := Ideal) b) (k0_pay71 (F := Ideal) c) d = scores q (seq k0 k1 k2 k3 k4 k5 k6 k7 k8 k9 k10 k11 k12 k13 k14 (k0_pay13 (F := Ideal) a b c d) kn) := rfl

theorem col_eq (x : FVec Ideal S544x1 .f32) (o : ℕ) (h : S544x1.Slices ![o, 0] S32x1) :
    extractStridedSlice S32x1 ![o, 0] x h = col x o := by
  funext i
  show x _ = _
  exact at2_eq (M := 544) (N := 1) x _ _ _ rfl (Nat.zero_add _)

theorem rows_eq (x : FVec Ideal S544x128 .bf16) (o : ℕ) (h : S544x128.Slices ![o, 0] S32x128) :
    extractStridedSlice S32x128 ![o, 0] x h = rows x o := by
  funext i
  show x _ = _
  exact at2_eq (M := 544) (N := 128) x _ _ _ rfl (Nat.zero_add _)

theorem pay84_eq (z : FVec Ideal S544x128 .f32) (m0 : IVec S544x128 32) (m1 : BitVec 32) (m2 : IVec S544x1 32) (m3 m4 m5 : IVec S544x1 1) :
    k0_pay84 (F := Ideal) z m0 m1 m2 m3 m4 m5 = within (kept (k0_pay81 m0 m1 m2 m3 m4 m5) z) := rfl

theorem pay85_eq (z : FVec Ideal S544x128 .f32) (m0 : IVec S544x128 32) (m1 : BitVec 32) (m2 : IVec S544x1 32) (m3 m4 m5 : IVec S544x1 1) :
    k0_pay85 (F := Ideal) z m0 m1 m2 m3 m4 m5 = totals (kept (k0_pay81 m0 m1 m2 m3 m4 m5) z) := rfl

theorem carry_succ (x : FVec Ideal S544x1 .f32) (k : ℕ) : carry x (k + 1) = addf (carry x k) (col x (32 * (16 - k))) := rfl

theorem beyond_eq (x : FVec Ideal S544x1 .f32) :
    beyond x = (let c1 := addf (k0_pay86 (F := Ideal)) (col x 512)
      let c2 := addf c1 (col x 480)
      let c3 := addf c2 (col x 448)
      let c4 := addf c3 (col x 416)
      let c5 := addf c4 (col x 384)
      let c6 := addf c5 (col x 352)
      let c7 := addf c6 (col x 320)
      let c8 := addf c7 (col x 288)
      let c9 := addf c8 (col x 256)
      let c10 := addf c9 (col x 224)
      let c11 := addf c10 (col x 192)
      let c12 := addf c11 (col x 160)
      let c13 := addf c12 (col x 128)
      let c14 := addf c13 (col x 96)
      let c15 := addf c14 (col x 64)
      let c16 := addf c15 (col x 32)
      concatenate S544x1 0 [⟨S32x1, c16⟩, ⟨S32x1, c15⟩, ⟨S32x1, c14⟩, ⟨S32x1, c13⟩, ⟨S32x1, c12⟩, ⟨S32x1, c11⟩, ⟨S32x1, c10⟩, ⟨S32x1, c9⟩, ⟨S32x1, c8⟩, ⟨S32x1, c7⟩, ⟨S32x1, c6⟩, ⟨S32x1, c5⟩, ⟨S32x1, c4⟩, ⟨S32x1, c3⟩, ⟨S32x1, c2⟩, ⟨S32x1, c1⟩, ⟨S32x1, k0_pay86 (F := Ideal)⟩]
        concatenates_S32x1_S32x1_S32x1_S32x1_S32x1_S32x1_S32x1_S32x1_S32x1_S32x1_S32x1_S32x1_S32x1_S32x1_S32x1_S32x1_S32x1_S544x1_d0) := by
  unfold beyond
  congr 1

theorem pay93_eq (z : FVec Ideal S544x128 .f32) (m0 : IVec S544x128 32) (m1 : BitVec 32) (m2 : IVec S544x1 32) (m3 m4 m5 : IVec S544x1 1) :
    k0_pay93 (F := Ideal) (k0_pay81 m0 m1 m2 m3 m4 m5) (k0_pay82 (F := Ideal) z) (k0_pay84 (F := Ideal) z m0 m1 m2 m3 m4 m5) (k0_pay85 (F := Ideal) z m0 m1 m2 m3 m4 m5) (k0_pay86 (F := Ideal)) (k0_pay87 (F := Ideal) z m0 m1 m2 m3 m4 m5) (k0_pay88 (F := Ideal) z m0 m1 m2 m3 m4 m5) (k0_pay89 (F := Ideal) z m0 m1 m2 m3 m4 m5) (k0_pay90 (F := Ideal) z m0 m1 m2 m3 m4 m5) (k0_pay91 (F := Ideal) z m0 m1 m2 m3 m4 m5) (k0_pay92 (F := Ideal) z m0 m1 m2 m3 m4 m5)
      = weights (k0_pay81 m0 m1 m2 m3 m4 m5) z := by
  unfold k0_pay93 k0_pay92 k0_pay91 k0_pay90 k0_pay89 k0_pay88 k0_pay87 weights
  rw [pay84_eq, pay85_eq]
  generalize totals _ = x
  generalize within _ = y
  dsimp only
  rw [col_eq x 512, col_eq x 480, col_eq x 448, col_eq x 416, col_eq x 384, col_eq x 352, col_eq x 320, col_eq x 288, col_eq x 256, col_eq x 224, col_eq x 192, col_eq x 160, col_eq x 128, col_eq x 96, col_eq x 64, col_eq x 32, beyond_eq]

theorem pay96_eq (v0 v1 v2 v3 v4 v5 v6 v7 v8 v9 v10 v11 v12 v13 v14 v15 v16 : FVec Ideal S128x512 .bf16) (z : FVec Ideal S544x128 .f32) (m0 : IVec S544x128 32) (m1 : BitVec 32) (m2 : IVec S544x1 32) (m3 m4 m5 : IVec S544x1 1) :
    k0_pay96 (F := Ideal) v16 v7 v8 v9 v10 v11 v12 v13 v14 v15
        (weights (k0_pay81 m0 m1 m2 m3 m4 m5) z)
        (k0_pay94 (F := Ideal) v0 v1 v2 v3 v4 v5 v6 (k0_pay81 m0 m1 m2 m3 m4 m5) (k0_pay82 (F := Ideal) z) (k0_pay84 (F := Ideal) z m0 m1 m2 m3 m4 m5) (k0_pay85 (F := Ideal) z m0 m1 m2 m3 m4 m5) (k0_pay86 (F := Ideal)) (k0_pay87 (F := Ideal) z m0 m1 m2 m3 m4 m5) (k0_pay88 (F := Ideal) z m0 m1 m2 m3 m4 m5) (k0_pay89 (F := Ideal) z m0 m1 m2 m3 m4 m5) (k0_pay90 (F := Ideal) z m0 m1 m2 m3 m4 m5) (k0_pay91 (F := Ideal) z m0 m1 m2 m3 m4 m5) (k0_pay92 (F := Ideal) z m0 m1 m2 m3 m4 m5))
        (k0_pay95 (F := Ideal) (k0_pay81 m0 m1 m2 m3 m4 m5) (k0_pay82 (F := Ideal) z) (k0_pay84 (F := Ideal) z m0 m1 m2 m3 m4 m5) (k0_pay85 (F := Ideal) z m0 m1 m2 m3 m4 m5) (k0_pay86 (F := Ideal)) (k0_pay87 (F := Ideal) z m0 m1 m2 m3 m4 m5) (k0_pay88 (F := Ideal) z m0 m1 m2 m3 m4 m5) (k0_pay89 (F := Ideal) z m0 m1 m2 m3 m4 m5) (k0_pay90 (F := Ideal) z m0 m1 m2 m3 m4 m5) (k0_pay91 (F := Ideal) z m0 m1 m2 m3 m4 m5) (k0_pay92 (F := Ideal) z m0 m1 m2 m3 m4 m5))
      = gathered (weights (k0_pay81 m0 m1 m2 m3 m4 m5) z) (seq v0 v1 v2 v3 v4 v5 v6 v7 v8 v9 v10 v11 v12 v13 v14 v15 v16) 17 := by
  unfold k0_pay96 k0_pay95 k0_pay94
  rw [pay93_eq]
  simp only [rows_eq]
  rfl

/-! ## The loads -/

/-- An entry of a page's block, by its row and column. -/
def entry (x : Vec Ideal S1x1x1024x128 .f32) (r c : ℕ) : EReal :=
  if h : r < 1024 ∧ c < 128 then x (ix4 0 0 ⟨r, h.1⟩ ⟨c, h.2⟩) else 0

theorem entry_eq (x : Vec Ideal S1x1x1024x128 .f32) (i : S1x1x1024x128.Idx) (r c : ℕ) (h2 : (i 2).val = r) (h3 : (i 3).val = c) :
    x i = entry x r c := by
  subst h2 h3
  have h0 : (i 0).val < 1 := (i 0).isLt
  have h1 : (i 1).val < 1 := (i 1).isLt
  unfold entry
  rw [dif_pos ⟨(i 2).isLt, (i 3).isLt⟩]
  refine congrArg x ?_
  funext a
  apply Fin.ext
  match a with
  | ⟨0, _⟩ => show (i 0).val = 0; omega
  | ⟨1, _⟩ => show (i 1).val = 0; omega
  | ⟨2, _⟩ => rfl
  | ⟨3, _⟩ => rfl

/-- Every eighth row of a page from the `o`-th on: one head's keys or values at 128 positions. -/
def load (x : Vec Ideal S1x1x1024x128 .f32) (o : ℕ) : Vec Ideal S1x1x128x128 .f32 :=
  fun i => entry x (8 * (i 2).val + o) (i 3).val

theorem load_eq (arg : Memref sig .tc .vmem S1x1x1024x128 .f32) (harg : arg.IsWhole) (x : Vec Ideal S1x1x1024x128 .f32) (o : ℕ)
    (inb : ∀ a, (![1, 1, 128, 128] : Fin 4 → ℕ) a = 0 ∨ (![0, 0, o, 0] : Fin 4 → ℕ) a + (![1, 1, 8, 1] : Fin 4 → ℕ) a * ((![1, 1, 128, 128] : Fin 4 → ℕ) a - 1) < S1x1x1024x128.size a) :
    View.readAt (Elt Ideal) arg.view (⟨![0, 0, o, 0], ![1, 1, 128, 128], ![1, 1, 8, 1], inb⟩ : LoadRect S1x1x1024x128) (harg.unread x) = load x o := by
  funext i
  rw [View.readAt_apply, harg.read_unread]
  refine entry_eq x _ _ _ ?_ ?_
  · show o + 8 * (i 2).val = _; omega
  · show 0 + 1 * (i 3).val = _; omega

/-- The heads side by side. -/
theorem join_apply (x : Vec Ideal S1x1x1024x128 .f32) (o : ℕ) (j : Fin 128) (e : Fin 512) :
    k0_pay13 (F := Ideal) (load x o) (load x (o + 1)) (load x (o + 2)) (load x (o + 3)) (ix2 j e)
      = entry x (8 * j.val + (o + e.val / 128)) (e.val % 128) := by
  have he := e.isLt
  unfold k0_pay13
  show concatenate S128x512 1 (List.ofFn fun n : Fin 4 => (⟨S128x128, shapeCast S128x128 (load x (o + n.val)) shapeCasts_S1x1x128x128_S128x128⟩ : (s : Shape) × FVec Ideal s .f32))
    concatenates_S128x128_S128x128_S128x128_S128x128_S128x512_d1 (ix2 j e) = _
  refine (concatenate_ofFn_apply (t := S128x512) (s₁ := S128x128) (1 : Fin 2)
    (fun n : Fin 4 => shapeCast S128x128 (load x (o + n.val)) shapeCasts_S1x1x128x128_S128x128) _ rfl 128 rfl (ix2 j e) ⟨e.val / 128, by omega⟩ rfl
    (ix2 j ⟨e.val % 128, by omega⟩) rfl (by
      intro b hb
      match b with
      | ⟨0, _⟩ => rfl
      | ⟨1, _⟩ => exact absurd rfl hb)).trans ?_
  refine (shapeCast_apply _ _ (ix2 j ⟨e.val % 128, by omega⟩) (ix4 0 0 j ⟨e.val % 128, by omega⟩) ?_).trans rfl
  rw [Shape.rowMajor_val_two, Shape.rowMajor_val_four]
  show ((0 * 1 + 0) * 128 + j.val) * 128 + e.val % 128 = j.val * 128 + e.val % 128
  omega

/-! ## The queries and the new keys and values -/

theorem head_row : ∀ r : Fin 32, k0_pay3 (ix2 r 0) = BitVec.ofNat 32 (r.val / 8) := by decide +kernel

/-- The head of a column. -/
def headCol : IVec S32x512 32 :=
  select (andi (cmpi .ne k0_pay7 k0_pay8) (cmpi .ne (remsi (iota .tc S32x512 32 [1] iota_S32x512_d1_w32) (broadcast S32x512 128#32)) (broadcast S32x512 0#32)))
    (subi k0_pay6 (broadcast S32x512 1#32)) k0_pay6

theorem head_col0 : ∀ e : Fin 512, headCol (ix2 0 e) = BitVec.ofNat 32 (e.val / 128) := by decide +kernel

theorem head_col (r : Fin 32) (e : Fin 512) : headCol (ix2 r e) = BitVec.ofNat 32 (e.val / 128) := by
  rw [← head_col0 e]
  rfl

theorem bits_eq {a b : ℕ} (ha : a < 2 ^ 32) (hb : b < 2 ^ 32) : IntOp.cmpi .eq (BitVec.ofNat 32 a) (BitVec.ofNat 32 b) = BitVec.ofBool (decide (a = b)) := by
  show BitVec.ofBool (BitVec.ofNat 32 a == BitVec.ofNat 32 b) = _
  congr 1
  by_cases h : a = b
  · subst h; simp
  · rw [decide_eq_false h, beq_eq_false_iff_ne]
    intro e
    have := congrArg BitVec.toNat e
    rw [BitVec.toNat_ofNat, BitVec.toNat_ofNat, Nat.mod_eq_of_lt ha, Nat.mod_eq_of_lt hb] at this
    exact h this

/-- The queries: a head's rows hold its columns and zero elsewhere. -/
theorem query_apply (x : FVec Ideal S8x512 .f32) (r : Fin 32) (e : Fin 512) :
    k0_pay9 (F := Ideal) k0_pay3 x (iota .tc S32x512 32 [1] iota_S32x512_d1_w32) 128#32 k0_pay6 k0_pay7 k0_pay8 (ix2 r e)
      = if e.val / 128 = r.val / 8 then at2 (M := 8) (N := 512) x (r.val % 8) e.val else 0 := by
  have hr := r.isLt
  have he := e.isLt
  have e1 : broadcastTo S32x512 k0_pay3 broadcasts_S32x1_S32x512 (ix2 r e) = BitVec.ofNat 32 (r.val / 8) :=
    (Norm.spread_apply (M := 32) (N := 512) _ broadcasts_S32x1_S32x512 r e).trans (head_row r)
  have e2 : concatenate S32x512 0 [⟨S8x512, x⟩, ⟨S8x512, x⟩, ⟨S8x512, x⟩, ⟨S8x512, x⟩] concatenates_S8x512_S8x512_S8x512_S8x512_S32x512_d0 (ix2 r e)
      = at2 (M := 8) (N := 512) x (r.val % 8) e.val := by
    refine (concatenate_ofFn_apply (t := S32x512) (s₁ := S8x512) (0 : Fin 2) (fun _ : Fin 4 => x)
      concatenates_S8x512_S8x512_S8x512_S8x512_S32x512_d0 rfl 8 rfl (ix2 r e) ⟨r.val / 8, by omega⟩ rfl
      (ix2 ⟨r.val % 8, by omega⟩ e) rfl (by
        intro b hb
        match b with
        | ⟨0, _⟩ => exact absurd rfl hb
        | ⟨1, _⟩ => rfl)).trans ?_
    exact at2_ix x _ _
  unfold k0_pay9
  show Scalar.select (IntOp.cmpi .eq (headCol (ix2 r e)) (broadcastTo S32x512 k0_pay3 broadcasts_S32x1_S32x512 (ix2 r e)))
    (concatenate S32x512 0 [⟨S8x512, x⟩, ⟨S8x512, x⟩, ⟨S8x512, x⟩, ⟨S8x512, x⟩] concatenates_S8x512_S8x512_S8x512_S8x512_S32x512_d0 (ix2 r e))
    (Ideal.ofBits .f32 0x00000000#32) = _
  rw [e1, e2, head_col, Ideal.ofBits_zero_f32, bits_eq (by omega) (by omega)]
  by_cases h : e.val / 128 = r.val / 8
  · rw [decide_eq_true h, if_pos h]; rfl
  · rw [decide_eq_false h, if_neg h]; rfl

/-- Eight rows and zeros below. -/
theorem padded_apply (x : FVec Ideal S8x512 .f32) (j : Fin 128) (e : Fin 512) :
    concatenate S128x512 0 [⟨S8x512, x⟩, ⟨S120x512, k0_pay10 (F := Ideal)⟩] concatenates_S8x512_S120x512_S128x512_d0 (ix2 j e)
      = at2 (M := 8) (N := 512) x j.val e.val := by
  have hj := j.isLt
  by_cases h : j.val < 8
  · refine (concatenate_pair_apply_left (t := S128x512) (s₁ := S8x512) (s₂ := S120x512) (0 : Fin 2) x _ _ (ix2 j e) rfl (ix2 ⟨j.val, h⟩ e) ?_).trans (at2_ix x _ _)
    intro b
    match b with
    | ⟨0, _⟩ => rfl
    | ⟨1, _⟩ => rfl
  · refine (concatenate_pair_apply_right (t := S128x512) (s₁ := S8x512) (s₂ := S120x512) (0 : Fin 2) x _ _ (ix2 j e) rfl rfl (ix2 ⟨j.val - 8, by omega⟩ e) ?_ ?_).trans ?_
    · intro b hb
      match b with
      | ⟨0, _⟩ => exact absurd rfl hb
      | ⟨1, _⟩ => rfl
    · show j.val - 8 + 8 = j.val; omega
    · unfold at2
      rw [dif_neg (fun hh => h hh.1)]
      exact Ideal.ofBits_zero_f32

theorem cut_apply (x : FVec Ideal S8x1536 .f32) (o : ℕ) (h : S8x1536.Slices ![0, o] S8x512) (r e : ℕ) :
    at2 (M := 8) (N := 512) (extractStridedSlice S8x512 ![0, o] x h) r e = if e < 512 then at2 (M := 8) (N := 1536) x r (o + e) else 0 := by
  unfold at2
  by_cases hr : r < 8
  · by_cases he : e < 512
    · have ho : o + 512 ≤ 1536 := by have := h.2; exact this 1
      rw [dif_pos ⟨hr, he⟩, if_pos he, dif_pos ⟨hr, by omega⟩]
      show x _ = x _
      refine congrArg x ?_
      funext a
      apply Fin.ext
      match a with
      | ⟨0, _⟩ => show 0 + r = r; omega
      | ⟨1, _⟩ => rfl
    · rw [dif_neg (fun hh => he hh.2), if_neg he]
  · rw [dif_neg (fun hh => hr hh.1)]
    split
    · rw [dif_neg (fun hh => hr hh.1)]
    · rfl

/-! ## The mask -/

/-- The mask: a key is seen where its position lies before the query's own. -/
def seen : IVec S544x128 1 :=
  k0_pay81 (k0_pay76 (iota .tc S544x1 32 [0] iota_S544x1_d0_w32) 32#32 k0_pay74 k0_pay75 1#32) 8#32
    (k0_pay77 (iota .tc S544x1 32 [0] iota_S544x1_d0_w32)) (k0_pay78 (iota .tc S544x1 32 [0] iota_S544x1_d0_w32))
    (k0_pay79 (iota .tc S544x1 32 [0] iota_S544x1_d0_w32)) k0_pay80

/-- The number of a chunk's first key. -/
def first : IVec S544x1 32 :=
  muli (select (andi (cmpi .ne k0_pay75 (broadcast S544x1 1#32))
      (cmpi .ne (remsi (iota .tc S544x1 32 [0] iota_S544x1_d0_w32) (broadcast S544x1 32#32)) (broadcast S544x1 0#32)))
    (subi k0_pay74 (broadcast S544x1 1#32)) k0_pay74) (broadcast S544x1 128#32)

theorem first_apply : ∀ R : Fin 544, first (ix2 R 0) = BitVec.ofNat 32 (R.val / 32 * 128) := by decide +kernel

/-- The position of a query. -/
def own : IVec S544x1 32 :=
  addi (broadcast S544x1 2048#32) (select (andi (xori (k0_pay79 (iota .tc S544x1 32 [0] iota_S544x1_d0_w32)) (broadcastTo S544x1 k0_pay80 broadcasts_S544x1_S544x1))
      (k0_pay78 (iota .tc S544x1 32 [0] iota_S544x1_d0_w32)))
    (addi (k0_pay77 (iota .tc S544x1 32 [0] iota_S544x1_d0_w32)) (broadcast S544x1 8#32)) (k0_pay77 (iota .tc S544x1 32 [0] iota_S544x1_d0_w32)))

theorem own_apply : ∀ R : Fin 544, own (ix2 R 0) = BitVec.ofNat 32 (2048 + R.val % 8) := by decide +kernel

theorem seen_apply (R : Fin 544) (l : Fin 128) :
    seen (ix2 R l) = BitVec.ofBool (decide (128 * (R.val / 32) + l.val < 2048 + R.val % 8)) := by
  have hR := R.isLt
  have hl := l.isLt
  have e1 : broadcastTo S544x128 first broadcasts_S544x1_S544x128 (ix2 R l) = BitVec.ofNat 32 (R.val / 32 * 128) :=
    (Norm.spread_apply (M := 544) (N := 128) _ broadcasts_S544x1_S544x128 R l).trans (first_apply R)
  have e2 : broadcastTo S544x128 own broadcasts_S544x1_S544x128 (ix2 R l) = BitVec.ofNat 32 (2048 + R.val % 8) :=
    (Norm.spread_apply (M := 544) (N := 128) _ broadcasts_S544x1_S544x128 R l).trans (own_apply R)
  have e3 : iota .tc S544x128 32 [1] iota_S544x128_d1_w32 (ix2 R l) = BitVec.ofNat 32 l.val := iota_single_apply ..
  show BitVec.ofBool (BitVec.slt (broadcastTo S544x128 first broadcasts_S544x1_S544x128 (ix2 R l) + iota .tc S544x128 32 [1] iota_S544x128_d1_w32 (ix2 R l))
    (broadcastTo S544x128 own broadcasts_S544x1_S544x128 (ix2 R l))) = _
  rw [e1, e2, e3, ← BitVec.ofNat_add, slt_ofNat (by omega) (by omega), Nat.mul_comm]

/-! ## The scores -/

theorem score_apply (q : FVec Ideal S32x512 .bf16) (k : FVec Ideal S128x512 .bf16) (r : Fin 32) (j : Fin 128) :
    k0_pay16 (F := Ideal) q k (ix2 r j) = (∑ d : Fin 512, q (ix2 r d) * k (ix2 j d)) * scale := by
  unfold k0_pay16
  rw [mulf_apply]
  refine congrArg (· * scale) ?_
  refine (Ideal.matmul_transposedRhs_apply (M := 32) (K := 512) (N := 128) none q k _ r j).trans ?_
  rw [show (constant S32x128 .f32 0x00000000#32 : FVec Ideal S32x128 .f32) (ix2 r j) = 0 from Ideal.ofBits_zero_f32, zero_add]

/-- A sum over 512 columns of which only a head's count. -/
theorem sum_head (f g : ℕ → EReal) (h : ℕ) (hh : h < 4) :
    (∑ e : Fin 512, (if e.val / 128 = h then f e.val else 0) * g e.val) = ∑ d : Fin 128, f (128 * h + d.val) * g (128 * h + d.val) := by
  rw [Fin.sum_univ_eq_sum_range (fun e => (if e / 128 = h then f e else 0) * g e) 512,
    Fin.sum_univ_eq_sum_range (fun d => f (128 * h + d) * g (128 * h + d)) 128]
  have e1 : ∀ e ∈ Finset.range 512, (if e / 128 = h then f e else 0) * g e = if e / 128 = h then f e * g e else 0 := by
    intro e _
    split
    · rfl
    · rw [zero_mul]
  rw [Finset.sum_congr rfl e1, ← Finset.sum_filter]
  have e2 := Finset.sum_Ico_eq_sum_range (fun e => f e * g e) (128 * h) (128 * h + 128)
  rw [Nat.add_sub_cancel_left] at e2
  rw [← e2]
  refine Finset.sum_congr ?_ fun _ _ => rfl
  ext u
  simp only [Finset.mem_filter, Finset.mem_Ico, Finset.mem_range]
  omega

/-- The chunk's part of the scores. -/
theorem scores_apply (q : FVec Ideal S32x512 .bf16) (k : ℕ → FVec Ideal S128x512 .bf16) (Q K : ℕ → ℕ → EReal)
    (hq : ∀ (r : Fin 32) (e : Fin 512), q (ix2 r e) = if e.val / 128 = r.val / 8 then Q (r.val % 8) e.val else 0)
    (hk : ∀ n, n < 17 → ∀ (l : Fin 128) (e : Fin 512), k n (ix2 l e) = K (128 * n + l.val) e.val) (R : Fin 544) (l : Fin 128) :
    scores q k (ix2 R l) = (∑ d : Fin 128, Q (R.val % 8) (128 * (R.val % 32 / 8) + d.val) * K (128 * (R.val / 32) + l.val) (128 * (R.val % 32 / 8) + d.val)) * scale := by
  have hR := R.isLt
  unfold scores
  refine (concatenate_ofFn_apply (t := S544x128) (s₁ := S32x128) (0 : Fin 2) (fun n : Fin 17 => k0_pay16 (F := Ideal) q (k n.val)) _ rfl 32 rfl
    (ix2 R l) ⟨R.val / 32, by omega⟩ rfl (ix2 ⟨R.val % 32, by omega⟩ l) rfl (by
      intro b hb
      match b with
      | ⟨0, _⟩ => exact absurd rfl hb
      | ⟨1, _⟩ => rfl)).trans ?_
  rw [score_apply]
  refine congrArg (· * scale) ?_
  rw [← sum_head (Q (R.val % 8)) (K (128 * (R.val / 32) + l.val)) (R.val % 32 / 8) (by omega)]
  refine Finset.sum_congr rfl fun e _ => ?_
  rw [hq, hk _ (by omega)]
  show (if e.val / 128 = R.val % 32 / 8 then Q (R.val % 32 % 8) e.val else 0) * _ = _
  rw [show R.val % 32 % 8 = R.val % 8 by omega]

/-! ## What is left and the weights -/

theorem take_apply (z : FVec Ideal S544x128 .f32) (i : S544x128.Idx) (x : ℝ) (h : z i = (x : EReal)) :
    k0_pay82 (F := Ideal) z i = ((logTake x : ℝ) : EReal) := by
  show min (z i) (Ideal.ofBits .f32 0x00000000#32) - Ideal.log (1 + Ideal.exp (Ideal.ofBits .f32 0x00000000#32 - max (z i) (-(z i)))) = _
  rw [h, Ideal.ofBits_zero_f32, coe_abs, ← EReal.coe_zero, ← EReal.coe_sub, Ideal.exp_coe, zero_sub, log_tail,
    show min (x : EReal) ((0 : ℝ) : EReal) = ((min x 0 : ℝ) : EReal) from (EReal.coe_strictMono.monotone.map_min).symm, ← EReal.coe_sub]
  congr 1
  unfold logTake
  rw [neg_add, ← sub_eq_add_neg]
  congr 1
  rcases le_total x 0 with hx | hx
  · rw [min_eq_left hx, max_eq_left (by linarith), neg_neg]
  · rw [min_eq_right hx, max_eq_right (by linarith), neg_zero]

theorem keep_take (x : ℝ) : logTake x - x = logKeep x := by
  unfold logTake logKeep
  rcases le_total x 0 with hx | hx
  · rw [max_eq_left (by linarith : (0:ℝ) ≤ -x), max_eq_right hx]; ring
  · rw [max_eq_right (by linarith : -x ≤ (0:ℝ)), max_eq_left hx]; ring

theorem later_apply (j' j : Fin 128) : later (ix2 j' j) = if j < j' then (1 : EReal) else 0 := by
  have e : later (ix2 j' j)
      = Scalar.select (BitVec.ofBool ((BitVec.ofNat 32 j.val).slt (BitVec.ofNat 32 j'.val))) (Ideal.ofBits .f32 0x3F800000#32) (Ideal.ofBits .f32 0x00000000#32) := by
    unfold later
    show Scalar.select (IntOp.cmpi .sgt (iota .tc S128x128 32 [0] iota_S128x128_d0_w32 (ix2 j' j)) (iota .tc S128x128 32 [1] iota_S128x128_d1_w32 (ix2 j' j))) _ _ = _
    rw [iota_single_apply, iota_single_apply]
    rfl
  rw [e, one_bits, Ideal.ofBits_zero_f32]
  have hs : (BitVec.ofNat 32 j.val).slt (BitVec.ofNat 32 j'.val) = decide (j < j') :=
    slt_ofNat (by have := j.isLt; omega) (by have := j'.isLt; omega)
  rw [hs]
  by_cases h : j < j'
  · rw [if_pos h, decide_eq_true h]; rfl
  · rw [if_neg h, decide_eq_false h]; rfl

theorem sum_later (B : ℕ) (f : ℕ → ℝ) (j : Fin 128) :
    (∑ j' : Fin 128, if j < j' then f (B + j'.val) else 0) = ∑ u ∈ Finset.Ico (B + j.val + 1) (B + 128), f u := by
  have e : ∀ j' : Fin 128, (if j < j' then f (B + j'.val) else 0) = (fun u => if B + j.val < B + u then f (B + u) else 0) j'.val := by
    intro j'
    exact if_congr (by rw [Fin.lt_def]; omega) rfl rfl
  have e2 := Finset.sum_Ico_eq_sum_range (fun u => if B + j.val < u then f u else 0) B (B + 128)
  rw [Nat.add_sub_cancel_left] at e2
  rw [Finset.sum_congr rfl fun j' _ => e j', Fin.sum_univ_eq_sum_range (fun u => if B + j.val < B + u then f (B + u) else 0) 128, ← e2, ← Finset.sum_filter]
  refine Finset.sum_congr ?_ fun _ _ => rfl
  ext u
  simp only [Finset.mem_filter, Finset.mem_Ico]
  have := j.isLt
  omega

section
variable (μ : IVec S544x128 1) (z : FVec Ideal S544x128 .f32) (ζ : ℕ → ℕ → ℝ)
  (hμ : ∀ (R : Fin 544) (l : Fin 128), μ (ix2 R l) = BitVec.ofBool (decide (128 * (R.val / 32) + l.val < 2048 + R.val % 8)))
  (hz : ∀ (R : Fin 544) (l : Fin 128), z (ix2 R l) = ((ζ (R.val % 32) (128 * (R.val / 32) + l.val) : ℝ) : EReal))
include hμ hz

theorem kept_apply (R : Fin 544) (l : Fin 128) :
    kept μ z (ix2 R l) = ((left (ζ (R.val % 32)) (2048 + R.val % 8) (128 * (R.val / 32) + l.val) : ℝ) : EReal) := by
  unfold kept
  show Scalar.select (μ (ix2 R l)) (k0_pay82 (F := Ideal) z (ix2 R l) - z (ix2 R l)) (Ideal.ofBits .f32 0x00000000#32) = _
  rw [hμ, take_apply z _ _ (hz R l), hz, ← EReal.coe_sub, keep_take, Ideal.ofBits_zero_f32]
  unfold left
  by_cases h : 128 * (R.val / 32) + l.val < 2048 + R.val % 8
  · rw [decide_eq_true h, if_pos h]; rfl
  · rw [decide_eq_false h, if_neg h]; rfl

theorem totals_apply (R : Fin 544) :
    totals (kept μ z) (ix2 R 0) = ((∑ u ∈ Finset.Ico (128 * (R.val / 32)) (128 * (R.val / 32) + 128), left (ζ (R.val % 32)) (2048 + R.val % 8) u : ℝ) : EReal) := by
  unfold totals
  refine (Norm.column_apply (M := 544) _ shapeCasts_S544_S544x1 R).trans ?_
  refine (Norm.rowSum_apply (M := 544) (N := 128) _ reduces_S544x128_S544 (.inl rfl) rfl R).trans ?_
  rw [Finset.sum_congr rfl fun l _ => kept_apply μ z ζ hμ hz R l, coe_sum,
    Fin.sum_univ_eq_sum_range (fun l => left (ζ (R.val % 32)) (2048 + R.val % 8) (128 * (R.val / 32) + l)) 128, Finset.sum_Ico_eq_sum_range, Nat.add_sub_cancel_left]

theorem carry_apply (r : Fin 32) (k : ℕ) (hk : k ≤ 17) :
    carry (totals (kept μ z)) k (ix2 r 0) = ((∑ u ∈ Finset.Ico (128 * (17 - k)) 2176, left (ζ r.val) (2048 + r.val % 8) u : ℝ) : EReal) := by
  have hr := r.isLt
  induction k with
  | zero =>
    rw [show 128 * (17 - 0) = 2176 from rfl, Finset.Ico_self, Finset.sum_empty]
    exact Ideal.ofBits_zero_f32
  | succ k ih =>
    have e : col (totals (kept μ z)) (32 * (16 - k)) (ix2 r 0)
        = ((∑ u ∈ Finset.Ico (128 * (16 - k)) (128 * (16 - k) + 128), left (ζ r.val) (2048 + r.val % 8) u : ℝ) : EReal) := by
      show at2 (M := 544) (N := 1) (totals (kept μ z)) (32 * (16 - k) + r.val) 0 = _
      have hlt : 32 * (16 - k) + r.val < 544 := by omega
      unfold at2
      rw [dif_pos ⟨hlt, by omega⟩]
      refine (totals_apply μ z ζ hμ hz ⟨32 * (16 - k) + r.val, hlt⟩).trans ?_
      show ((∑ u ∈ Finset.Ico (128 * ((32 * (16 - k) + r.val) / 32)) (128 * ((32 * (16 - k) + r.val) / 32) + 128),
        left (ζ ((32 * (16 - k) + r.val) % 32)) (2048 + (32 * (16 - k) + r.val) % 8) u : ℝ) : EReal) = _
      rw [show (32 * (16 - k) + r.val) / 32 = 16 - k by omega, show (32 * (16 - k) + r.val) % 32 = r.val by omega,
        show (32 * (16 - k) + r.val) % 8 = r.val % 8 by omega]
    rw [carry_succ, addf_apply, ih (by omega), e, ← EReal.coe_add, add_comm, show 17 - k = 16 - k + 1 by omega,
      Nat.mul_add, Finset.sum_Ico_consecutive _ (by omega) (by omega), show 17 - (k + 1) = 16 - k by omega]

theorem within_apply (R : Fin 544) (l : Fin 128) :
    within (kept μ z) (ix2 R l)
      = ((∑ u ∈ Finset.Ico (128 * (R.val / 32) + l.val + 1) (128 * (R.val / 32) + 128), left (ζ (R.val % 32)) (2048 + R.val % 8) u : ℝ) : EReal) := by
  have h0 : (constant S544x128 .f32 0x00000000#32 : FVec Ideal S544x128 .f32) (ix2 R l) = 0 := Ideal.ofBits_zero_f32
  have hl := kept_apply μ z ζ hμ hz R
  have e1 : matmul dot_S544x128_S128x128_S544x128_1_0_0_1_n_n none (truncf .bf16 (kept μ z) bitsLt_bf16_f32) later (constant S544x128 .f32 0x00000000#32) (ix2 R l)
      = ((∑ j' : Fin 128, if l < j' then left (ζ (R.val % 32)) (2048 + R.val % 8) (128 * (R.val / 32) + j'.val) else 0 : ℝ) : EReal) := by
    refine (Ideal.matmul_plain_apply (M := 544) (K := 128) (N := 128) none _ _ _ R l).trans ?_
    rw [h0, zero_add, ← coe_sum]
    refine Finset.sum_congr rfl fun j' _ => ?_
    rw [later_apply]
    show kept μ z (ix2 R j') * _ = _
    rw [hl j']
    split
    · rw [mul_one]
    · rw [mul_zero]; rfl
  have e2 : matmul dot_S544x128_S128x128_S544x128_1_0_0_1_n_n none
      (truncf .bf16 (subf (kept μ z) (extf .f32 (truncf .bf16 (kept μ z) bitsLt_bf16_f32) bitsLt_bf16_f32)) bitsLt_bf16_f32) later
      (constant S544x128 .f32 0x00000000#32) (ix2 R l) = 0 := by
    refine (Ideal.matmul_plain_apply (M := 544) (K := 128) (N := 128) none _ _ _ R l).trans ?_
    rw [h0, zero_add]
    refine Finset.sum_eq_zero fun j' _ => ?_
    show (kept μ z (ix2 R j') - kept μ z (ix2 R j')) * _ = _
    rw [hl j', ← EReal.coe_sub, sub_self, EReal.coe_zero, zero_mul]
  unfold within
  rw [addf_apply, e1, e2, add_zero]
  congr 1
  exact sum_later (128 * (R.val / 32)) (left (ζ (R.val % 32)) (2048 + R.val % 8)) l

theorem weights_apply (R : Fin 544) (l : Fin 128) :
    weights μ z (ix2 R l) = ((weight 2176 (ζ (R.val % 32)) (2048 + R.val % 8) (128 * (R.val / 32) + l.val) : ℝ) : EReal) := by
  have hR := R.isLt
  have hl := l.isLt
  have e1 : broadcastTo S544x128 (beyond (totals (kept μ z))) broadcasts_S544x1_S544x128 (ix2 R l)
      = ((∑ u ∈ Finset.Ico (128 * (R.val / 32) + 128) 2176, left (ζ (R.val % 32)) (2048 + R.val % 8) u : ℝ) : EReal) := by
    refine (Norm.spread_apply (M := 544) (N := 128) _ broadcasts_S544x1_S544x128 R l).trans ?_
    unfold beyond
    refine (concatenate_ofFn_apply (t := S544x1) (s₁ := S32x1) (0 : Fin 2) (fun n : Fin 17 => carry (totals (kept μ z)) (16 - n.val)) _ rfl 32 rfl
      (ix2 R 0) ⟨R.val / 32, by omega⟩ rfl (ix2 ⟨R.val % 32, by omega⟩ 0) rfl (by
        intro b hb
        match b with
        | ⟨0, _⟩ => exact absurd rfl hb
        | ⟨1, _⟩ => rfl)).trans ?_
    refine (carry_apply μ z ζ hμ hz ⟨R.val % 32, by omega⟩ (16 - R.val / 32) (by omega)).trans ?_
    show ((∑ u ∈ Finset.Ico (128 * (17 - (16 - R.val / 32))) 2176, left (ζ (R.val % 32)) (2048 + R.val % 32 % 8) u : ℝ) : EReal) = _
    rw [show 17 - (16 - R.val / 32) = R.val / 32 + 1 by omega, show R.val % 32 % 8 = R.val % 8 by omega, Nat.mul_add]
  unfold weights
  show Scalar.select (μ (ix2 R l)) (Ideal.exp (k0_pay82 (F := Ideal) z (ix2 R l)
    + (within (kept μ z) (ix2 R l) + broadcastTo S544x128 (beyond (totals (kept μ z))) broadcasts_S544x1_S544x128 (ix2 R l)))) (Ideal.ofBits .f32 0x00000000#32) = _
  rw [hμ, take_apply z _ _ (hz R l), within_apply μ z ζ hμ hz, e1, ← EReal.coe_add, ← EReal.coe_add, Ideal.exp_coe, Ideal.ofBits_zero_f32,
    Finset.sum_Ico_consecutive _ (by omega) (by omega), Real.exp_add]
  unfold weight
  by_cases h : 128 * (R.val / 32) + l.val < 2048 + R.val % 8
  · rw [decide_eq_true h, if_pos h]; rfl
  · rw [decide_eq_false h, if_neg h]; rfl

theorem gathered_apply (v : ℕ → FVec Ideal S128x512 .bf16) (V : ℕ → ℕ → EReal)
    (hv : ∀ n, n < 17 → ∀ (l : Fin 128) (e : Fin 512), v n (ix2 l e) = V (128 * n + l.val) e.val) (r : Fin 32) (e : Fin 512) (k : ℕ) (hk : k ≤ 17) :
    gathered (weights μ z) v k (ix2 r e) = ∑ u ∈ Finset.range (128 * k), ((weight 2176 (ζ r.val) (2048 + r.val % 8) u : ℝ) : EReal) * V u e.val := by
  have hr := r.isLt
  induction k with
  | zero => exact Ideal.ofBits_zero_f32
  | succ k ih =>
    have e1 : gathered (weights μ z) v (k + 1) (ix2 r e)
        = gathered (weights μ z) v k (ix2 r e) + ∑ j : Fin 128, rows (weights μ z) (32 * k) (ix2 r j) * v k (ix2 j e) := by
      show _ + _ = _
      refine congrArg (gathered (weights μ z) v k (ix2 r e) + ·) ?_
      refine (Ideal.matmul_plain_apply (M := 32) (K := 128) (N := 512) none _ _ _ r e).trans ?_
      rw [show (constant S32x512 .f32 0x00000000#32 : FVec Ideal S32x512 .f32) (ix2 r e) = 0 from Ideal.ofBits_zero_f32, zero_add]
    rw [e1, ih (by omega), Nat.mul_add, Nat.mul_one, Finset.sum_range_add]
    refine congrArg _ ?_
    rw [← Fin.sum_univ_eq_sum_range (fun j => ((weight 2176 (ζ r.val) (2048 + r.val % 8) (128 * k + j) : ℝ) : EReal) * V (128 * k + j) e.val) 128]
    refine Finset.sum_congr rfl fun j _ => ?_
    have hlt : 32 * k + r.val < 544 := by omega
    rw [hv k (by omega)]
    refine congrArg (· * V (128 * k + j.val) e.val) ?_
    show at2 (M := 544) (N := 128) (weights μ z) (32 * k + r.val) j.val = _
    unfold at2
    rw [dif_pos ⟨hlt, j.isLt⟩]
    refine (weights_apply μ z ζ hμ hz ⟨32 * k + r.val, hlt⟩ j).trans ?_
    show ((weight 2176 (ζ ((32 * k + r.val) % 32)) (2048 + (32 * k + r.val) % 8) (128 * ((32 * k + r.val) / 32) + j.val) : ℝ) : EReal) = _
    rw [show (32 * k + r.val) / 32 = k by omega, show (32 * k + r.val) % 32 = r.val by omega, show (32 * k + r.val) % 8 = r.val % 8 by omega]

end

/-- The weights of the last keys vanish: what lies from a query's own position on takes and leaves nothing. -/
theorem weight_extend (n n' : ℕ) (z : ℕ → ℝ) (t s : ℕ) (h : t ≤ n) (hn : n ≤ n') : weight n' z t s = weight n z t s := by
  unfold weight
  split
  · rename_i hs
    congr 2
    rw [← Finset.sum_Ico_consecutive (left z t) (by omega : s + 1 ≤ n) hn, Finset.sum_eq_zero (s := Finset.Ico n n'), add_zero]
    intro u hu
    unfold left
    rw [if_neg]
    have := (Finset.mem_Ico.mp hu).1
    omega
  · rfl

end Cert.Proof.SampleChunk
-- ==== Proof.SampleRun.lean ====
/-
  The sample's stick-breaking attention kernel at a grid point, at the ideal values: its stores are the four heads' rows and
  columns of one array, and that array is the attention of the sequence's queries.
-/
module

public import proofs.«01_k».proof.Proof.SampleChunk
public import proofs.«01_k».proof.Proof.SampleSpec
public import proofs.«01_k».proof.Proof.Gen.Kernel10Ideal.Frame

@[expose] public section

set_option maxRecDepth 16384

noncomputable section

namespace Cert.Proof.SampleRun

open Idealize.ShloMosaic Idealize.ShloMosaic.ValueIdx Idealize.ShloMosaic.TcCoe
open Cert.Kernel10Ideal Cert.Kernel10Ideal.Gen
open Cert.Proof.Stick Cert.Proof.SampleChunk Cert.Proof.SampleSpec Cert.Proof.Entries
open Cert.Proof.StickChunk (weight)

/-! ## Columns of a result block -/

/-- A store of 128 columns before others, read at an index. -/
theorem canon_columns (o : ℕ) (hp : ∀ a, (![0, 0, o] : Fin 3 → ℕ) a + (![1, 8, 128] : Fin 3 → ℕ) a ≤ S1x8x512.size a)
    (p : S1x8x128.Idx → Elt Ideal .f32) (L : List (View.Piece (Elt Ideal) S1x8x512 .f32)) (f : ℕ → ℕ → EReal) (t : Fin 8) (c : Fin 512)
    (hin : ∀ k : Fin 128, p (ix3 0 t k) = f t.val (o + k.val))
    (hout : ¬(o ≤ c.val ∧ c.val < o + 128) → View.canon (Val := Elt Ideal) L (ix3 0 t c) = f t.val c.val) :
    View.canon (Val := Elt Ideal) (⟨Rect.unit (s := S1x8x512) ![0, 0, o] ![1, 8, 128] hp, p⟩ :: L) (ix3 0 t c) = f t.val c.val := by
  by_cases h : o ≤ c.val ∧ c.val < o + 128
  · have e : (ix3 0 t c : S1x8x512.Idx) = (Rect.unit (s := S1x8x512) ![0, 0, o] ![1, 8, 128] hp).emb (ix3 0 t ⟨c.val - o, by omega⟩) := by
      funext a
      apply Fin.ext
      match a with
      | ⟨0, _⟩ => rfl
      | ⟨1, _⟩ => show t.val = 0 + 1 * t.val; omega
      | ⟨2, _⟩ => show c.val = o + 1 * (c.val - o); omega
    rw [e, View.canon_cons_emb]
    refine (hin ⟨c.val - o, by omega⟩).trans ?_
    congr 1
    show o + (c.val - o) = c.val
    omega
  · rw [View.canon_cons_of_not_mem]
    · exact hout h
    · rw [Rect.mem_set_unit]
      exact fun hm => h (hm 2)

/-- The rows and columns of head `h`, as a block. -/
theorem piece_apply (G : FVec Ideal S32x512 .f32) (h : ℕ) (hh : h < 4) (hs : S32x512.Slices ![8 * h, 128 * h] S8x128) (t : Fin 8) (k : Fin 128) :
    shapeCast S1x8x128 (extractStridedSlice S8x128 ![8 * h, 128 * h] G hs) shapeCasts_S8x128_S1x8x128 (ix3 0 t k)
      = at2 (M := 32) (N := 512) G (8 * h + t.val) (128 * h + k.val) := by
  have ht := t.isLt
  have hk := k.isLt
  refine (shapeCast_apply _ _ _ (ix2 t k) ?_).trans ?_
  · rw [Shape.rowMajor_val_two, Shape.rowMajor_val_three]
    show t.val * 128 + k.val = (0 * 8 + t.val) * 128 + k.val
    omega
  · unfold at2
    rw [dif_pos ⟨by omega, by omega⟩]
    refine congrArg G ?_
    funext a
    match a with
    | ⟨0, _⟩ => rfl
    | ⟨1, _⟩ => rfl

/-- The four heads stored, read at an index. -/
theorem stores_apply (G : FVec Ideal S32x512 .f32) (t : Fin 8) (c : Fin 512) :
    View.canon (Val := Elt Ideal)
      ([⟨Rect.unit ![0, 0, 384] ![1, 8, 128] inb_S1x8x512_S1x8x128_0_0_384, k0_pay2 (F := Ideal) G⟩,
       ⟨Rect.unit ![0, 0, 256] ![1, 8, 128] inb_S1x8x512_S1x8x128_0_0_256,
         k0_pay1 (F := Ideal) (extractStridedSlice S8x128 ![16, 256] G slices_S32x512_o16_256_S8x128)⟩,
       ⟨Rect.unit ![0, 0, 128] ![1, 8, 128] inb_S1x8x512_S1x8x128_0_0_128,
         shapeCast S1x8x128 (extractStridedSlice S8x128 ![8, 128] G slices_S32x512_o8_128_S8x128) shapeCasts_S8x128_S1x8x128⟩,
       ⟨Rect.unit ![0, 0, 0] ![1, 8, 128] inb_S1x8x512_S1x8x128_0_0_0,
         shapeCast S1x8x128 (extractStridedSlice S8x128 ![0, 0] G slices_S32x512_o0_0_S8x128) shapeCasts_S8x128_S1x8x128⟩] : List (View.Piece (Elt Ideal) S1x8x512 .f32))
      (ix3 0 t c)
      = at2 (M := 32) (N := 512) G (8 * (c.val / 128) + t.val) c.val := by
  have hc := c.isLt
  refine canon_columns 384 _ _ _ (fun t c => at2 (M := 32) (N := 512) G (8 * (c / 128) + t) c) t c (fun k => ?_) fun n3 => ?_
  · refine (piece_apply G 3 (by omega) _ t k).trans ?_
    have := k.isLt
    rw [show (384 + k.val) / 128 = 3 by omega]
  refine canon_columns 256 _ _ _ (fun t c => at2 (M := 32) (N := 512) G (8 * (c / 128) + t) c) t c (fun k => ?_) fun n2 => ?_
  · refine (piece_apply G 2 (by omega) _ t k).trans ?_
    have := k.isLt
    rw [show (256 + k.val) / 128 = 2 by omega]
  refine canon_columns 128 _ _ _ (fun t c => at2 (M := 32) (N := 512) G (8 * (c / 128) + t) c) t c (fun k => ?_) fun n1 => ?_
  · refine (piece_apply G 1 (by omega) _ t k).trans ?_
    have := k.isLt
    rw [show (128 + k.val) / 128 = 1 by omega]
  refine canon_columns 0 _ _ _ (fun t c => at2 (M := 32) (N := 512) G (8 * (c / 128) + t) c) t c (fun k => ?_) fun n0 => ?_
  · refine (piece_apply G 0 (by omega) _ t k).trans ?_
    have := k.isLt
    rw [show (0 + k.val) / 128 = 0 by omega]
  · omega

/-! ## The blocks as queries, keys and values -/

section blocks
variable (X : Proj) (Y : Pool) (P : SampleSpec.Table) (b : ℕ)

theorem read_apply (x0 : Vec Ideal S1x8x1536 .f32) (h0 : ∀ (t : Fin 8) (c : Fin 1536), x0 (ix3 0 t c) = proj X b t.val c.val) (t c : ℕ) :
    at2 (M := 8) (N := 1536) (k0_pay4 (F := Ideal) (View.ld (Val := Elt Ideal) x0 (Rect.unit (s := S1x8x1536) ![0, 0, 0] ![1, 8, 1536] inb_S1x8x1536_S1x8x1536_0_0_0))) t c
      = if t < 8 ∧ c < 1536 then proj X b t c else 0 := by
  unfold at2
  by_cases h : t < 8 ∧ c < 1536
  · rw [dif_pos h, if_pos h]
    refine Eq.trans ?_ (h0 ⟨t, h.1⟩ ⟨c, h.2⟩)
    unfold k0_pay4
    refine (shapeCast_apply _ _ _ (ix3 (0 : Fin 1) ⟨t, h.1⟩ ⟨c, h.2⟩) ?_).trans ?_
    · rw [Shape.rowMajor_val_two, Shape.rowMajor_val_three]
      show (0 * 8 + t) * 1536 + c = t * 1536 + c
      omega
    · refine congrArg x0 ?_
      funext a
      apply Fin.ext
      match a with
      | ⟨0, _⟩ => rfl
      | ⟨1, _⟩ => show 0 + 1 * t = t; omega
      | ⟨2, _⟩ => show 0 + 1 * c = c; omega
  · rw [dif_neg h, if_neg h]

theorem proj_out (t c : ℕ) (h : ¬t < 8) : proj X b t c = 0 := by
  unfold proj
  rw [dif_neg (fun hh => h hh.2.1)]

/-- A page's keys. -/
theorem keys_apply (x : Vec Ideal S1x1x1024x128 .f32) (n : ℕ) (hn : n < 16) (h : ∀ r c, entry x r c = pool Y (page P b n) r c) (l : Fin 128) (e : Fin 512) :
    k0_pay13 (F := Ideal) (load x 0) (load x 1) (load x 2) (load x 3) (ix2 l e) = key X Y P b (128 * n + l.val) e.val := by
  have hl := l.isLt
  refine (join_apply x 0 l e).trans ?_
  unfold key
  rw [if_pos (by omega), h, show (128 * n + l.val) / 128 = n by omega, show (128 * n + l.val) % 128 = l.val by omega, Nat.zero_add]

/-- A page's values. -/
theorem values_apply (x : Vec Ideal S1x1x1024x128 .f32) (n : ℕ) (hn : n < 16) (h : ∀ r c, entry x r c = pool Y (page P b n) r c) (l : Fin 128) (e : Fin 512) :
    k0_pay13 (F := Ideal) (load x 4) (load x 5) (load x 6) (load x 7) (ix2 l e) = value X Y P b (128 * n + l.val) e.val := by
  have hl := l.isLt
  refine (join_apply x 4 l e).trans ?_
  unfold value
  rw [if_pos (by omega), h, show (128 * n + l.val) / 128 = n by omega, show (128 * n + l.val) % 128 = l.val by omega]

/-- The new keys, and zeros below them. -/
theorem new_keys (x0 : Vec Ideal S1x8x1536 .f32) (h0 : ∀ (t : Fin 8) (c : Fin 1536), x0 (ix3 0 t c) = proj X b t.val c.val) (l : Fin 128) (e : Fin 512) :
    k0_pay11 (F := Ideal) (k0_pay4 (F := Ideal) (View.ld (Val := Elt Ideal) x0 (Rect.unit (s := S1x8x1536) ![0, 0, 0] ![1, 8, 1536] inb_S1x8x1536_S1x8x1536_0_0_0))) (ix2 l e)
      = key X Y P b (128 * 16 + l.val) e.val := by
  have he := e.isLt
  refine (padded_apply _ l e).trans ?_
  rw [cut_apply, if_pos he, read_apply X b x0 h0]
  unfold key
  refine Eq.trans ?_ (if_neg (by omega)).symm
  rw [show 128 * 16 + l.val - 2048 = l.val by omega]
  by_cases h : l.val < 8
  · rw [if_pos ⟨h, by omega⟩]
  · rw [if_neg (fun hh => h hh.1), proj_out X b _ _ h]

/-- The new values, and zeros below them. -/
theorem new_values (x0 : Vec Ideal S1x8x1536 .f32) (h0 : ∀ (t : Fin 8) (c : Fin 1536), x0 (ix3 0 t c) = proj X b t.val c.val) (l : Fin 128) (e : Fin 512) :
    k0_pay12 (F := Ideal) (k0_pay4 (F := Ideal) (View.ld (Val := Elt Ideal) x0 (Rect.unit (s := S1x8x1536) ![0, 0, 0] ![1, 8, 1536] inb_S1x8x1536_S1x8x1536_0_0_0))) (ix2 l e)
      = value X Y P b (128 * 16 + l.val) e.val := by
  have he := e.isLt
  refine (padded_apply _ l e).trans ?_
  rw [cut_apply, if_pos he, read_apply X b x0 h0]
  unfold value
  refine Eq.trans ?_ (if_neg (by omega)).symm
  rw [show 128 * 16 + l.val - 2048 = l.val by omega]
  by_cases h : l.val < 8
  · rw [if_pos ⟨h, by omega⟩]
  · rw [if_neg (fun hh => h hh.1), proj_out X b _ _ h]

/-- The queries, each head's rows at its own columns. -/
theorem queries (x0 : Vec Ideal S1x8x1536 .f32) (h0 : ∀ (t : Fin 8) (c : Fin 1536), x0 (ix3 0 t c) = proj X b t.val c.val) (r : Fin 32) (e : Fin 512) :
    k0_pay9 (F := Ideal) k0_pay3 (k0_pay5 (F := Ideal) (View.ld (Val := Elt Ideal) x0 (Rect.unit (s := S1x8x1536) ![0, 0, 0] ![1, 8, 1536] inb_S1x8x1536_S1x8x1536_0_0_0)))
        (iota .tc S32x512 32 [1] iota_S32x512_d1_w32) 128#32 k0_pay6 k0_pay7 k0_pay8 (ix2 r e)
      = if e.val / 128 = r.val / 8 then proj X b (r.val % 8) e.val else 0 := by
  have he := e.isLt
  refine (query_apply _ r e).trans ?_
  split
  · unfold k0_pay5
    refine (cut_apply _ 0 _ (r.val % 8) e.val).trans ?_
    rw [if_pos he, read_apply X b x0 h0, if_pos ⟨by omega, by omega⟩, Nat.zero_add]
  · rfl

/-- The weighted sums over the padded sequence are the attention. -/
theorem sums (hf : SampleSpec.Finite X Y) (q : FVec Ideal S32x512 .bf16) (k v : ℕ → FVec Ideal S128x512 .bf16)
    (hq : ∀ (r : Fin 32) (e : Fin 512), q (ix2 r e) = if e.val / 128 = r.val / 8 then proj X b (r.val % 8) e.val else 0)
    (hk : ∀ n, n < 17 → ∀ (l : Fin 128) (e : Fin 512), k n (ix2 l e) = key X Y P b (128 * n + l.val) e.val)
    (hv : ∀ n, n < 17 → ∀ (l : Fin 128) (e : Fin 512), v n (ix2 l e) = value X Y P b (128 * n + l.val) e.val) (t : Fin 8) (c : Fin 512) :
    at2 (M := 32) (N := 512) (gathered (weights seen (scores q k)) v 17) (8 * (c.val / 128) + t.val) c.val = result X Y P b t.val c.val := by
  have ht := t.isLt
  have hc := c.isLt
  have hz : ∀ (R : Fin 544) (l : Fin 128), scores q k (ix2 R l)
      = (((fun r s => scoreR X Y P b (r / 8) (r % 8) s) (R.val % 32) (128 * (R.val / 32) + l.val) : ℝ) : EReal) := fun R l => by
    refine (scores_apply q k (proj X b) (key X Y P b) hq hk R l).trans ?_
    dsimp only
    rw [← score_real X Y P hf _ _ _ _ (by omega), show R.val % 32 % 8 = R.val % 8 by omega]
    rfl
  unfold at2
  rw [dif_pos ⟨by omega, hc⟩]
  refine (gathered_apply seen (scores q k) (fun r s => scoreR X Y P b (r / 8) (r % 8) s) seen_apply hz v (value X Y P b) hv
    ⟨8 * (c.val / 128) + t.val, by omega⟩ c 17 (le_refl _)).trans ?_
  unfold result
  dsimp only
  rw [show (8 * (c.val / 128) + t.val) / 8 = c.val / 128 by omega, show (8 * (c.val / 128) + t.val) % 8 = t.val by omega]
  refine (Finset.sum_subset (Finset.range_subset_range.mpr (by omega)) fun u _ hu => ?_).symm.trans (Finset.sum_congr rfl fun u _ => ?_)
  · have hu' : ¬u < 2056 := fun h => hu (Finset.mem_range.mpr h)
    unfold weight
    rw [if_neg (by omega), EReal.coe_zero, zero_mul]
  · rw [weight_extend 2056 2176 _ _ _ (by omega) (by omega)]

end blocks

/-! ## What a grid point computes -/

section point
variable (c : Dev nD) (i : grid0.Coords)
  (arg2 : Memref sig .tc .vmem S1x8x1536 .f32) (harg2 : arg2.IsWhole)
  (arg3 : Memref sig .tc .vmem S1x1x1024x128 .f32) (harg3 : arg3.IsWhole)
  (arg4 : Memref sig .tc .vmem S1x1x1024x128 .f32) (harg4 : arg4.IsWhole)
  (arg5 : Memref sig .tc .vmem S1x1x1024x128 .f32) (harg5 : arg5.IsWhole)
  (arg6 : Memref sig .tc .vmem S1x1x1024x128 .f32) (harg6 : arg6.IsWhole)
  (arg7 : Memref sig .tc .vmem S1x1x1024x128 .f32) (harg7 : arg7.IsWhole)
  (arg8 : Memref sig .tc .vmem S1x1x1024x128 .f32) (harg8 : arg8.IsWhole)
  (arg9 : Memref sig .tc .vmem S1x1x1024x128 .f32) (harg9 : arg9.IsWhole)
  (arg10 : Memref sig .tc .vmem S1x1x1024x128 .f32) (harg10 : arg10.IsWhole)
  (arg11 : Memref sig .tc .vmem S1x1x1024x128 .f32) (harg11 : arg11.IsWhole)
  (arg12 : Memref sig .tc .vmem S1x1x1024x128 .f32) (harg12 : arg12.IsWhole)
  (arg13 : Memref sig .tc .vmem S1x1x1024x128 .f32) (harg13 : arg13.IsWhole)
  (arg14 : Memref sig .tc .vmem S1x1x1024x128 .f32) (harg14 : arg14.IsWhole)
  (arg15 : Memref sig .tc .vmem S1x1x1024x128 .f32) (harg15 : arg15.IsWhole)
  (arg16 : Memref sig .tc .vmem S1x1x1024x128 .f32) (harg16 : arg16.IsWhole)
  (arg17 : Memref sig .tc .vmem S1x1x1024x128 .f32) (harg17 : arg17.IsWhole)
  (arg18 : Memref sig .tc .vmem S1x1x1024x128 .f32) (harg18 : arg18.IsWhole)
  (arg19 : Memref sig .tc .vmem S1x8x512 .f32) (harg19 : arg19.IsWhole)
  (x0 : Vec Ideal S1x8x1536 .f32) (x1 x2 x3 x4 x5 x6 x7 x8 x9 x10 x11 x12 x13 x14 x15 x16 : Vec Ideal S1x1x1024x128 .f32) (xt0 : TbBuf0 (F := Ideal) c tbM0_0)

set_option maxHeartbeats 1000000 in
/-- The body's result, of the blocks' contents. -/
theorem out_apply (X : Proj) (Y : Pool) (P : SampleSpec.Table) (b : ℕ) (hf : SampleSpec.Finite X Y)
  (h0 : ∀ (t : Fin 8) (c : Fin 1536), x0 (ix3 0 t c) = proj X b t.val c.val)
  (h1 : ∀ r c, entry x1 r c = pool Y (page P b 0) r c)
  (h2 : ∀ r c, entry x2 r c = pool Y (page P b 1) r c)
  (h3 : ∀ r c, entry x3 r c = pool Y (page P b 2) r c)
  (h4 : ∀ r c, entry x4 r c = pool Y (page P b 3) r c)
  (h5 : ∀ r c, entry x5 r c = pool Y (page P b 4) r c)
  (h6 : ∀ r c, entry x6 r c = pool Y (page P b 5) r c)
  (h7 : ∀ r c, entry x7 r c = pool Y (page P b 6) r c)
  (h8 : ∀ r c, entry x8 r c = pool Y (page P b 7) r c)
  (h9 : ∀ r c, entry x9 r c = pool Y (page P b 8) r c)
  (h10 : ∀ r c, entry x10 r c = pool Y (page P b 9) r c)
  (h11 : ∀ r c, entry x11 r c = pool Y (page P b 10) r c)
  (h12 : ∀ r c, entry x12 r c = pool Y (page P b 11) r c)
  (h13 : ∀ r c, entry x13 r c = pool Y (page P b 12) r c)
  (h14 : ∀ r c, entry x14 r c = pool Y (page P b 13) r c)
  (h15 : ∀ r c, entry x15 r c = pool Y (page P b 14) r c)
  (h16 : ∀ r c, entry x16 r c = pool Y (page P b 15) r c) (t : Fin 8) (d : Fin 512) :
    out0_A_17 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 x0 x1 x2 x3 x4 x5 x6 x7 x8 x9 x10 x11 x12
      x13 x14 x15 x16 xt0 (ix3 0 t d)
      = result X Y P b t.val d.val := by
  unfold out0_A_17
  rw [View.read_writes_eq_canon _ _ _ (cover0_A_17 c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19 harg19 x0 x1 x2 x3 x4 x5 x6
    x7 x8 x9 x10 x11 x12 x13 x14 x15 x16 xt0)]
  unfold kernelRun0_A
  dsimp only
  sl_unfold_words
  simp only [View.readAt_eq_ld, harg2.read_unread, harg3.read_unread, harg4.read_unread, harg5.read_unread, harg6.read_unread, harg7.read_unread,
    harg8.read_unread, harg9.read_unread, harg10.read_unread, harg11.read_unread, harg12.read_unread, harg13.read_unread, harg14.read_unread,
    harg15.read_unread, harg16.read_unread, harg17.read_unread, harg18.read_unread]
  simp only [k0_pay97, k0_pay98, k0_pay99, load_eq, pay17_eq, pay21_eq, pay26_eq, pay31_eq, pay37_eq, pay43_eq, pay44_eq, pay46_eq, pay49_eq, pay51_eq,
    pay53_eq, pay56_eq, pay59_eq, pay63_eq, pay67_eq, pay72_eq, pay15_eq, pay19_eq, pay24_eq, pay29_eq, pay35_eq, pay41_eq, pay20_eq, pay25_eq,
    pay30_eq, pay36_eq, pay42_eq, pay45_eq, pay48_eq, pay50_eq, pay52_eq, pay54_eq, pay57_eq, pay60_eq, pay64_eq, pay68_eq, pay73_eq, pay93_eq,
    pay96_eq]
  refine (stores_apply _ t d).trans ?_
  refine sums X Y P b hf _ _ _ (queries X b x0 h0) (fun n hn l e => ?_) (fun n hn l e => ?_) t d
  · match n, hn with
    | 0, _ => exact keys_apply X Y P b x1 0 (by omega) h1 l e
    | 1, _ => exact keys_apply X Y P b x2 1 (by omega) h2 l e
    | 2, _ => exact keys_apply X Y P b x3 2 (by omega) h3 l e
    | 3, _ => exact keys_apply X Y P b x4 3 (by omega) h4 l e
    | 4, _ => exact keys_apply X Y P b x5 4 (by omega) h5 l e
    | 5, _ => exact keys_apply X Y P b x6 5 (by omega) h6 l e
    | 6, _ => exact keys_apply X Y P b x7 6 (by omega) h7 l e
    | 7, _ => exact keys_apply X Y P b x8 7 (by omega) h8 l e
    | 8, _ => exact keys_apply X Y P b x9 8 (by omega) h9 l e
    | 9, _ => exact keys_apply X Y P b x10 9 (by omega) h10 l e
    | 10, _ => exact keys_apply X Y P b x11 10 (by omega) h11 l e
    | 11, _ => exact keys_apply X Y P b x12 11 (by omega) h12 l e
    | 12, _ => exact keys_apply X Y P b x13 12 (by omega) h13 l e
    | 13, _ => exact keys_apply X Y P b x14 13 (by omega) h14 l e
    | 14, _ => exact keys_apply X Y P b x15 14 (by omega) h15 l e
    | 15, _ => exact keys_apply X Y P b x16 15 (by omega) h16 l e
    | 16, _ => exact new_keys X Y P b x0 h0 l e
    | n + 17, h => exact absurd h (by omega)
  · match n, hn with
    | 0, _ => exact values_apply X Y P b x1 0 (by omega) h1 l e
    | 1, _ => exact values_apply X Y P b x2 1 (by omega) h2 l e
    | 2, _ => exact values_apply X Y P b x3 2 (by omega) h3 l e
    | 3, _ => exact values_apply X Y P b x4 3 (by omega) h4 l e
    | 4, _ => exact values_apply X Y P b x5 4 (by omega) h5 l e
    | 5, _ => exact values_apply X Y P b x6 5 (by omega) h6 l e
    | 6, _ => exact values_apply X Y P b x7 6 (by omega) h7 l e
    | 7, _ => exact values_apply X Y P b x8 7 (by omega) h8 l e
    | 8, _ => exact values_apply X Y P b x9 8 (by omega) h9 l e
    | 9, _ => exact values_apply X Y P b x10 9 (by omega) h10 l e
    | 10, _ => exact values_apply X Y P b x11 10 (by omega) h11 l e
    | 11, _ => exact values_apply X Y P b x12 11 (by omega) h12 l e
    | 12, _ => exact values_apply X Y P b x13 12 (by omega) h13 l e
    | 13, _ => exact values_apply X Y P b x14 13 (by omega) h14 l e
    | 14, _ => exact values_apply X Y P b x15 14 (by omega) h15 l e
    | 15, _ => exact values_apply X Y P b x16 15 (by omega) h16 l e
    | 16, _ => exact new_values X Y P b x0 h0 l e
    | n + 17, h => exact absurd h (by omega)

end point

end Cert.Proof.SampleRun
-- ==== Proof.SampleRef.lean ====
/-
  The reference of the sample's stick-breaking attention at the ideal values: its stages read at an index, and its result.
-/
module

public import proofs.«01_k».proof.Proof.SampleSpec
public import proofs.«01_k».proof.Proof.StickRef
public import proofs.«01_k».proof.Proof.Gen.Reference10Ideal.Run
public import proofs.«01_k».proof.Proof.Gen.Reference10Ideal.Read
public import Idealize.ShloMosaic.Lib.ValueIdxRank6

@[expose] public section

set_option maxRecDepth 16384

noncomputable section

namespace Cert.Proof.SampleRef

open Idealize.ShloMosaic Idealize.ShloMosaic.ValueIdx
open Cert.Reference10Ideal Cert.Reference10Ideal.Read
open Cert.Proof.Stick Cert.Proof.StickChunk Cert.Proof.SampleSpec
open Cert.Proof.StickRef (select_ofBool)

/-! ## The pages gathered -/

/-- The table's entry for a place, as the gather takes it. -/
theorem start_ref (p : SampleSpec.Table) (hp : Named p) (i : S128x16x1.Idx) :
    min (val_main_v14 (F := Ideal) p i).toInt.toNat 2559 = page p (i 0).val (i 1).val := by
  have e : val_main_v14 (F := Ideal) p i = p (idx_main_v14 i) := by
    rw [val_main_v14_apply, val_main_v13_apply, val_main_v10_apply, val_main_v9_apply, val_main_c_apply]
    have hw := hp (i 0).val (i 1).val
    rw [← page_eq p (idx_main_v14 i) _ _ rfl rfl] at hw
    have hs : (p (idx_main_v14 i)).slt 0#32 = false := by
      rw [← Bool.not_eq_true, BitVec.slt_iff_toInt_lt]
      rw [BitVec.toInt_eq_toNat_cond]
      have : (0#32).toInt = 0 := by decide
      rw [this]
      split <;> omega
    show Scalar.select (BitVec.ofBool ((p (idx_main_v14 i)).slt 0#32)) _ _ = _
    rw [hs]
    rfl
  have hw := hp (i 0).val (i 1).val
  rw [e, ← page_eq p (idx_main_v14 i) _ _ rfl rfl] at *
  rw [BitVec.toInt_eq_toNat_cond]
  split <;> omega

abbrev gd := gather_S2560x128x2x4x128_S128x16x1_S128x16x128x2x4x128_2345_0_n_n_0_2_112824128

theorem gather_ref (y : Pool) (p : SampleSpec.Table) (hp : Named p) (i : S128x16x128x2x4x128.Idx) :
    val_main_v15 (F := Ideal) y p i
      = pool y (page p (i 0).val (i 1).val) (8 * (i 2).val + 4 * (i 3).val + (i 4).val) (i 5).val := by
  have h2 : (i 2).val < 128 := (i 2).isLt
  have h3 : (i 3).val < 2 := (i 3).isLt
  have h4 : (i 4).val < 4 := (i 4).isLt
  have h5 : (i 5).val < 128 := (i 5).isLt
  have hpg := hp (i 0).val (i 1).val
  have e : val_main_v15 (F := Ideal) y p i
      = val_main_v8 (F := Ideal) y (ix5 ⟨page p (i 0).val (i 1).val, hpg⟩ ⟨(i 2).val, h2⟩ ⟨(i 3).val, h3⟩ ⟨(i 4).val, h4⟩ ⟨(i 5).val, h5⟩) := by
    unfold val_main_v15 Host.gather
    congr 1
    funext a
    refine Fin.ext ?_
    show gd.start i (val_main_v14 (F := Ideal) p) a + gd.batchCoord i a + gd.offCoord i a = _
    rw [GatherDims.batchCoord_eq_zero _ _ _ List.not_mem_nil]
    have kept (a : Fin S2560x128x2x4x128.rank) (ha : a ∉ gd.startIndexMap) (hk : a ∈ gd.sKept) (n : ℕ)
        (hn : (i (gd.offsetDims[gd.sKept.idxOf a]'(by rw [gd.offset_length]; exact List.idxOf_lt_length_iff.2 hk))).val = n) :
        gd.start i (val_main_v14 (F := Ideal) p) a + 0 + gd.offCoord i a = n := by
      unfold GatherDims.start GatherDims.offCoord
      rw [dif_neg ha, dif_pos hk, Nat.zero_add]
      exact hn
    have first : gd.start i (val_main_v14 (F := Ideal) p) (0 : Fin S2560x128x2x4x128.rank) + 0 + gd.offCoord i (0 : Fin S2560x128x2x4x128.rank)
        = page p (i 0).val (i 1).val := by
      rw [GatherDims.offCoord_eq_zero _ _ _ (fun h => ((GatherDims.mem_sKept _ _).mp h).1 (List.mem_singleton.mpr rfl))]
      unfold GatherDims.start
      rw [dif_pos (show (0 : Fin S2560x128x2x4x128.rank) ∈ gd.startIndexMap from List.mem_singleton.mpr rfl)]
      exact start_ref p hp _
    match a with
    | ⟨0, _⟩ => exact first
    | ⟨1, _⟩ => exact kept 1 (by decide) (by decide) _ rfl
    | ⟨2, _⟩ => exact kept 2 (by decide) (by decide) _ rfl
    | ⟨3, _⟩ => exact kept 3 (by decide) (by decide) _ rfl
    | ⟨4, _⟩ => exact kept 4 (by decide) (by decide) _ rfl
  rw [e, val_main_v8_apply, val_main_v7_apply, val_main_v6_apply]
  refine pool_eq y _ _ _ _ rfl ?_ ?_ ?_
  · dsimp only
    omega
  · dsimp only
    omega
  · dsimp only
    omega

theorem past_ref (y : Pool) (p : SampleSpec.Table) (hp : Named p) (b : Fin 128) (s : Fin 2048) (g : Fin 2) (h : Fin 4) (d : Fin 128) :
    val_main_v16 (F := Ideal) y p (ix5 b s g h d) = pool y (page p b.val (s.val / 128)) (8 * (s.val % 128) + 4 * g.val + h.val) d.val := by
  have hs := s.isLt
  unfold val_main_v16
  refine (shapeCast_apply _ _ _ (ix6 b ⟨s.val / 128, by omega⟩ ⟨s.val % 128, by omega⟩ g h d) ?_).trans (gather_ref y p hp _)
  rw [Shape.rowMajor_val_five, Shape.rowMajor_val_six]
  show ((((b.val * 16 + s.val / 128) * 128 + s.val % 128) * 2 + g.val) * 4 + h.val) * 128 + d.val
    = (((b.val * 2048 + s.val) * 2 + g.val) * 4 + h.val) * 128 + d.val
  omega

variable (x : Proj) (y : Pool) (p : SampleSpec.Table)

theorem query_ref (b : Fin 128) (t : Fin 8) (h : Fin 4) (d : Fin 128) :
    val_main_v3 (F := Ideal) x (ix4 b t h d) = proj x b.val t.val (128 * h.val + d.val) := by
  rw [val_main_v3_apply, val_main_v0_apply]
  refine proj_eq x _ _ _ _ ?_ ?_ ?_
  · show (((b.val * 8 + t.val) * 4 + h.val) * 128 + d.val) / 4096 = b.val
    omega
  · show (((b.val * 8 + t.val) * 4 + h.val) * 128 + d.val) / 512 % 8 = t.val
    omega
  · show (((b.val * 8 + t.val) * 4 + h.val) * 128 + d.val) % 512 = 128 * h.val + d.val
    omega

theorem new_key (b : Fin 128) (t : Fin 8) (h : Fin 4) (d : Fin 128) :
    val_main_v4 (F := Ideal) x (ix4 b t h d) = proj x b.val t.val (512 + (128 * h.val + d.val)) := by
  rw [val_main_v4_apply, val_main_v1_apply]
  refine proj_eq x _ _ _ _ ?_ ?_ ?_
  · show (((b.val * 8 + t.val) * 4 + h.val) * 128 + d.val) / 4096 = b.val
    omega
  · show (((b.val * 8 + t.val) * 4 + h.val) * 128 + d.val) / 512 % 8 = t.val
    omega
  · show 512 + (((b.val * 8 + t.val) * 4 + h.val) * 128 + d.val) % 512 = 512 + (128 * h.val + d.val)
    omega

theorem new_value (b : Fin 128) (t : Fin 8) (h : Fin 4) (d : Fin 128) :
    val_main_v5 (F := Ideal) x (ix4 b t h d) = proj x b.val t.val (1024 + (128 * h.val + d.val)) := by
  rw [val_main_v5_apply, val_main_v2_apply]
  refine proj_eq x _ _ _ _ ?_ ?_ ?_
  · show (((b.val * 8 + t.val) * 4 + h.val) * 128 + d.val) / 4096 = b.val
    omega
  · show (((b.val * 8 + t.val) * 4 + h.val) * 128 + d.val) / 512 % 8 = t.val
    omega
  · show 1024 + (((b.val * 8 + t.val) * 4 + h.val) * 128 + d.val) % 512 = 1024 + (128 * h.val + d.val)
    omega

theorem past_key (hp : Named p) (b : Fin 128) (s : Fin 2048) (h : Fin 4) (d : Fin 128) :
    val_main_v18 (F := Ideal) y p (ix4 b s h d) = pool y (page p b.val (s.val / 128)) (8 * (s.val % 128) + h.val) d.val := by
  rw [val_main_v18_apply, val_main_v17_apply]
  have e : idx_main_v17 (idx_main_v18 (ix4 b s h d)) = ix5 b s 0 h d := by
    funext a
    apply Fin.ext
    match a with
    | ⟨0, _⟩ => show (((b.val * 2048 + s.val) * 4 + h.val) * 128 + d.val) / 1048576 = b.val; omega
    | ⟨1, _⟩ => show (((b.val * 2048 + s.val) * 4 + h.val) * 128 + d.val) / 512 % 2048 = s.val; omega
    | ⟨2, _⟩ => rfl
    | ⟨3, _⟩ => show (((b.val * 2048 + s.val) * 4 + h.val) * 128 + d.val) / 128 % 4 = h.val; omega
    | ⟨4, _⟩ => show (((b.val * 2048 + s.val) * 4 + h.val) * 128 + d.val) % 128 = d.val; omega
  rw [e, past_ref y p hp]
  rfl

theorem past_value (hp : Named p) (b : Fin 128) (s : Fin 2048) (h : Fin 4) (d : Fin 128) :
    val_main_v21 (F := Ideal) y p (ix4 b s h d) = pool y (page p b.val (s.val / 128)) (8 * (s.val % 128) + 4 + h.val) d.val := by
  rw [val_main_v21_apply, val_main_v20_apply]
  have e : idx_main_v20 (idx_main_v21 (ix4 b s h d)) = ix5 b s 1 h d := by
    funext a
    apply Fin.ext
    match a with
    | ⟨0, _⟩ => show (((b.val * 2048 + s.val) * 4 + h.val) * 128 + d.val) / 1048576 = b.val; omega
    | ⟨1, _⟩ => show (((b.val * 2048 + s.val) * 4 + h.val) * 128 + d.val) / 512 % 2048 = s.val; omega
    | ⟨2, _⟩ => rfl
    | ⟨3, _⟩ => show (((b.val * 2048 + s.val) * 4 + h.val) * 128 + d.val) / 128 % 4 = h.val; omega
    | ⟨4, _⟩ => show (((b.val * 2048 + s.val) * 4 + h.val) * 128 + d.val) % 128 = d.val; omega
  rw [e, past_ref y p hp]
  rfl

theorem key_ref (hp : Named p) (b : Fin 128) (s : Fin 2056) (h : Fin 4) (d : Fin 128) :
    val_main_v19 (F := Ideal) x y p (ix4 b s h d) = key x y p b.val s.val (128 * h.val + d.val) := by
  have hs := s.isLt
  unfold val_main_v19 key
  by_cases hl : s.val < 2048
  · rw [if_pos hl]
    refine (concatenate_pair_apply_left (t := S128x2056x4x128) (s₁ := S128x2048x4x128) (s₂ := S128x8x4x128) (1 : Fin 4) _ _ _ (ix4 b s h d) rfl
      (ix4 b ⟨s.val, hl⟩ h d) (fun a => ?_)).trans ((past_key y p hp b ⟨s.val, hl⟩ h d).trans ?_)
    · match a with
      | ⟨0, _⟩ => rfl
      | ⟨1, _⟩ => rfl
      | ⟨2, _⟩ => rfl
      | ⟨3, _⟩ => rfl
    · rw [show (128 * h.val + d.val) / 128 = h.val by omega, show (128 * h.val + d.val) % 128 = d.val by omega]
  · rw [if_neg hl]
    refine (concatenate_pair_apply_right (t := S128x2056x4x128) (s₁ := S128x2048x4x128) (s₂ := S128x8x4x128) (1 : Fin 4) _ _ _ (ix4 b s h d) rfl rfl
      (ix4 b ⟨s.val - 2048, by omega⟩ h d) (fun a ha => ?_) ?_).trans (new_key x b ⟨s.val - 2048, by omega⟩ h d)
    · match a with
      | ⟨0, _⟩ => rfl
      | ⟨1, _⟩ => exact absurd rfl ha
      | ⟨2, _⟩ => rfl
      | ⟨3, _⟩ => rfl
    · show s.val - 2048 + 2048 = s.val; omega

theorem value_ref (hp : Named p) (b : Fin 128) (s : Fin 2056) (h : Fin 4) (d : Fin 128) :
    val_main_v22 (F := Ideal) x y p (ix4 b s h d) = value x y p b.val s.val (128 * h.val + d.val) := by
  have hs := s.isLt
  unfold val_main_v22 value
  by_cases hl : s.val < 2048
  · rw [if_pos hl]
    refine (concatenate_pair_apply_left (t := S128x2056x4x128) (s₁ := S128x2048x4x128) (s₂ := S128x8x4x128) (1 : Fin 4) _ _ _ (ix4 b s h d) rfl
      (ix4 b ⟨s.val, hl⟩ h d) (fun a => ?_)).trans ((past_value y p hp b ⟨s.val, hl⟩ h d).trans ?_)
    · match a with
      | ⟨0, _⟩ => rfl
      | ⟨1, _⟩ => rfl
      | ⟨2, _⟩ => rfl
      | ⟨3, _⟩ => rfl
    · rw [show (128 * h.val + d.val) / 128 = h.val by omega, show (128 * h.val + d.val) % 128 = d.val by omega, Nat.add_assoc]
  · rw [if_neg hl]
    refine (concatenate_pair_apply_right (t := S128x2056x4x128) (s₁ := S128x2048x4x128) (s₂ := S128x8x4x128) (1 : Fin 4) _ _ _ (ix4 b s h d) rfl rfl
      (ix4 b ⟨s.val - 2048, by omega⟩ h d) (fun a ha => ?_) ?_).trans (new_value x b ⟨s.val - 2048, by omega⟩ h d)
    · match a with
      | ⟨0, _⟩ => rfl
      | ⟨1, _⟩ => exact absurd rfl ha
      | ⟨2, _⟩ => rfl
      | ⟨3, _⟩ => rfl
    · show s.val - 2048 + 2048 = s.val; omega

/-! ## Scores, weights and the result -/

/-- The scores. -/
theorem score_ref (hp : Named p) (hx : SampleSpec.Finite x y) (b : Fin 128) (h : Fin 4) (t : Fin 8) (s : Fin 2056) :
    val_main_v29 (F := Ideal) x y p (ix4 b h t s) = ((scoreR x y p b.val h.val t.val s.val : ℝ) : EReal) := by
  rw [← score_real x y p hx _ _ _ _ h.isLt, val_main_v29_apply, val_main_v28_apply, val_main_v27_apply]
  refine congrArg (· * scale) (Finset.sum_congr rfl fun d _ => ?_)
  refine congrArg₂ (fun p q : EReal => p * q) ?_ ?_
  · exact (congrArg _ (eq_ix4 _)).trans (query_ref x b t h d)
  · exact (congrArg _ (eq_ix4 _)).trans (key_ref x y p hp b s h d)

theorem mask_ref (i : S1x1x8x2056.Idx) (t : Fin 8) (s : Fin 2056) (ht : i 2 = t) (hs : i 3 = s) :
    val_main_v35 (F := Ideal) i = BitVec.ofBool (decide (s.val < 2048 + t.val)) := by
  subst ht hs
  rw [val_main_v35_apply, val_main_v34_apply, val_main_v33_apply, val_main_v32_apply, val_main_v31_apply, val_main_v30_apply,
    val_main_v26_apply, val_main_v25_apply, val_main_v24_apply, val_main_v23_apply, val_main_c_1_apply]
  show BitVec.ofBool (BitVec.slt (BitVec.ofNat 32 (i 3).val) (BitVec.ofNat 32 2048 + BitVec.ofNat 32 (i 2).val)) = _
  have h3 : (i 3).val < 2056 := (i 3).isLt
  have h2 : (i 2).val < 8 := (i 2).isLt
  rw [← BitVec.ofNat_add, slt_ofNat (by omega) (by omega)]

/-- The logarithm of what a score leaves. -/
theorem keep_ref (i : S128x4x8x2056.Idx) (z : ℝ) (hz : val_main_v29 (F := Ideal) x y p i = (z : EReal)) :
    val_main_v37 (F := Ideal) x y p i = ((logKeep z : ℝ) : EReal) := by
  have h0 : val_main_call0_v0 (F := Ideal) x y p i = (z : EReal) := by
    rw [val_main_call0_v0_apply, val_main_v36_apply, hz]; exact neg_neg _
  rw [val_main_v37_apply, val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply, val_main_call0_call0_cst_apply, h0]
  rw [← log_reference z, ← Ideal.ofBits_zero_f32]
  rfl

/-- The logarithm of what a score takes. -/
theorem take_ref (i : S128x4x8x2056.Idx) (z : ℝ) (hz : val_main_v29 (F := Ideal) x y p i = (z : EReal)) :
    val_main_v41 (F := Ideal) x y p i = ((logTake z : ℝ) : EReal) := by
  have h0 : val_main_call3_v0 (F := Ideal) x y p i = ((-z : ℝ) : EReal) := by
    rw [val_main_call3_v0_apply, hz]; exact (EReal.coe_neg z).symm
  rw [val_main_v41_apply, val_main_call3_v1_apply, val_main_call3_call0_v4_apply, val_main_call3_call0_v6_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v0_apply, val_main_call3_call0_v2_apply,
    val_main_call3_call0_v5_apply, val_main_call3_call0_cst_apply, h0]
  rw [← logKeep_neg, ← log_reference (-z), ← Ideal.ofBits_zero_f32]
  rfl

/-- With the mask. -/
theorem left_ref (hp : Named p) (hx : SampleSpec.Finite x y) (b : Fin 128) (h : Fin 4) (t : Fin 8) (s : Fin 2056) :
    val_main_v38 (F := Ideal) x y p (ix4 b h t s) = ((left (scoreR x y p b.val h.val t.val) (2048 + t.val) s.val : ℝ) : EReal) := by
  rw [val_main_v38_apply, val_main_call1_v1_apply, mask_ref _ t s rfl rfl, select_ofBool, keep_ref x y p _ _ (score_ref x y p hp hx b h t s),
    val_main_call1_v2_apply, val_main_call1_v0_apply, val_main_cst_2_apply]
  unfold left
  split
  · rfl
  · exact Ideal.ofBits_zero_f32

/-- Summed from the end. -/
theorem tail_ref (hp : Named p) (hx : SampleSpec.Finite x y) (b : Fin 128) (h : Fin 4) (t : Fin 8) (s : Fin 2056) :
    val_main_v39 (F := Ideal) x y p (ix4 b h t s)
      = ((∑ u ∈ Finset.Ico s.val 2056, left (scoreR x y p b.val h.val t.val) (2048 + t.val) u : ℝ) : EReal) := by
  have e := cumsum (A := 128) (B := 4) (C := 8) (N := 2056) (P := 2055) (val_main_v38 (F := Ideal) x y p)
    Gen.reduceWindows_S128x4x8x2056_S128x4x8x2056_w1s1p0_0_w1s1p0_0_w1s1p0_0_w2056s1p0_2055 b h t s
    (fun u => ((left (scoreR x y p b.val h.val t.val) (2048 + t.val) u : ℝ) : EReal)) (fun u => left_ref x y p hp hx b h t u)
  rw [coe_sum] at e
  refine Eq.trans ?_ e
  have init : val_main_call2_v0 (F := Ideal) = fun _ => (0 : EReal) := by
    funext i
    rw [val_main_call2_v0_apply, val_main_call2_cst_apply]
    exact Ideal.ofBits_zero_f32
  unfold val_main_v39 Host.reduceWindowAdd
  rw [init]
  exact congrFun (Ideal.hostReduceWindowAdd_def ..) _

/-- A weight. -/
theorem weight_ref (hp : Named p) (hx : SampleSpec.Finite x y) (b : Fin 128) (h : Fin 4) (t : Fin 8) (s : Fin 2056) :
    val_main_v44 (F := Ideal) x y p (ix4 b h t s) = ((weight 2056 (scoreR x y p b.val h.val t.val) (2048 + t.val) s.val : ℝ) : EReal) := by
  have hs := s.isLt
  rw [val_main_v44_apply, val_main_call4_v1_apply, mask_ref _ t s rfl rfl, select_ofBool, val_main_v43_apply, val_main_v42_apply,
    val_main_v40_apply, tail_ref x y p hp hx, left_ref x y p hp hx, take_ref x y p _ _ (score_ref x y p hp hx b h t s), val_main_call4_v2_apply,
    val_main_call4_v0_apply, val_main_cst_3_apply]
  unfold weight
  split
  · show Ideal.exp ((logTake (scoreR x y p b.val h.val t.val s.val) : EReal) + (((_ : ℝ) : EReal) - ((_ : ℝ) : EReal))) = _
    rw [← EReal.coe_sub, ← EReal.coe_add, Ideal.exp_coe, Finset.sum_eq_sum_Ico_succ_bot hs, add_sub_cancel_left, Real.exp_add]
  · exact Ideal.ofBits_zero_f32

/-- The reference's result is the attention. -/
theorem ref_out (hp : Named p) (hx : SampleSpec.Finite x y) : val_main_v47 (F := Ideal) x y p = attention x y p := by
  funext i
  have h0 : (i 0).val < 128 := (i 0).isLt
  have h1 : (i 1).val < 8 := (i 1).isLt
  have h2 : (i 2).val < 512 := (i 2).isLt
  let b : Fin 128 := i 0
  let t : Fin 8 := i 1
  let h : Fin 4 := ⟨(i 2).val / 128, by omega⟩
  let d : Fin 128 := ⟨(i 2).val % 128, by omega⟩
  rw [val_main_v47_apply]
  have e : idx_main_v47 i = ix4 b t h d := by
    funext a
    apply Fin.ext
    match a with
    | ⟨0, _⟩ => show _ = (i 0).val; dsimp only; omega
    | ⟨1, _⟩ => show _ = (i 1).val; dsimp only; omega
    | ⟨2, _⟩ => show _ = (i 2).val / 128; dsimp only; omega
    | ⟨3, _⟩ => show _ = (i 2).val % 128; dsimp only; omega
  rw [e, val_main_v46_apply, val_main_v45_apply]
  show _ = result x y p (i 0).val (i 1).val (i 2).val
  unfold result
  rw [← Fin.sum_univ_eq_sum_range
    (fun u => ((weight 2056 (scoreR x y p (i 0).val ((i 2).val / 128) (i 1).val) (2048 + (i 1).val) u : ℝ) : EReal) * value x y p (i 0).val u (i 2).val) 2056]
  refine Finset.sum_congr rfl fun s _ => ?_
  rw [mul_comm]
  refine congrArg₂ (fun p q : EReal => p * q) ?_ ?_
  · exact (congrArg _ (eq_ix4 _)).trans (weight_ref x y p hp hx b h t s)
  · refine ((congrArg _ (eq_ix4 _)).trans (value_ref x y p hp b s h d)).trans ?_
    show value x y p (i 0).val s.val (128 * ((i 2).val / 128) + (i 2).val % 128) = _
    rw [Nat.div_add_mod]

end Cert.Proof.SampleRef
-- ==== Proof.Sample.lean ====
/-
  The sample's stick-breaking attention call: each grid point computes the attention of one sequence's 8 new queries over the
  16 pages its row of the table names and its 8 new keys, and the reference computes the same array.
-/
module

public import proofs.«01_k».proof.Defs
public import proofs.«01_k».proof.Proof.SampleRun
public import proofs.«01_k».proof.Proof.SampleRef
public import proofs.«01_k».proof.Proof.SampleTable
public import Idealize.ShloMosaic.Lib.Quiescent
public import Idealize.ShloMosaic.Adequacy
public import Idealize.ShloMosaic.Init

@[expose] public section

set_option maxRecDepth 16384

noncomputable section

namespace Cert.Proof.Sample

open Idealize.ShloMosaic Idealize.ShloMosaic.ValueIdx Idealize.ShloMosaic.TcCoe Idealize.SL.Sem
open Cert.Proof.SampleChunk Cert.Proof.SampleSpec Cert.Proof.SampleRun

section
open Cert.Kernel10Ideal Cert.Kernel10Ideal.Gen

variable (m : (ℓ : Loc nD τ sig) → Buf (Elt Ideal) ℓ) (hO : Ok m)

/-- Point `t` is sequence `t`. -/
theorem coords_eq : ∀ t : Fin grid0.N, (grid0.coords t 0).val = t.val := by decide +kernel

/-- The window of the queries and the window of the result stand at sequence `t` at point `t`. -/
theorem seq (t : Fin grid0.N) : (BitVec.ofNat 32 (grid0.coords t 0).val).toNat = t.val := by
  have h : t.val < 128 := t.isLt
  rw [coords_eq, BitVec.toNat_ofNat]
  omega

/-- The projection the call is launched with. -/
abbrev fresh (c : Dev nD) : Proj := m ((c.tc : Thread nD τ).loc main_arg0)
/-- The pools of pages. -/
abbrev pages (c : Dev nD) : Pool := m ((c.tc : Thread nD τ).loc main_arg1)
/-- The page table. -/
abbrev table (c : Dev nD) : SampleSpec.Table := m ((c.tc : Thread nD τ).loc main_arg2)

theorem table_eq (c : Dev nD) : tbl m 0 = table m c := by
  obtain rfl : c = 0 := Subsingleton.elim _ _
  rfl

theorem blk0 (c : Dev nD) (t : Fin (cfgM m hO).N) (r : Fin 8) (d : Fin 1536) :
    iblk m hO c 0 t (ix3 0 r d) = proj (fresh m c) t.val r.val d.val := by
  refine proj_eq (fresh m c) ((((cfgM m hO).win 0).blk t).view.emb (ix3 0 r d : S1x8x1536.Idx)) _ _ _ ?_ ?_ ?_
  · show (BitVec.ofNat 32 (grid0.coords t 0).val).toNat * 1 + 1 * 0 = _
    rw [seq]; omega
  · show 0 * 8 + 1 * r.val = _
    omega
  · show 0 * 1536 + 1 * d.val = _
    omega

/-- A block that agrees with a page of the pool, by its rows and columns. -/
theorem entry_pool (Y : Pool) (n : ℕ) (hn : n < 2560) (x : Vec Ideal S1x1x1024x128 .f32) (h : ∀ i : S1x1x1024x128.Idx, x i = pool Y n (i 2).val (i 3).val)
    (r k : ℕ) : entry x r k = pool Y n r k := by
  unfold entry
  by_cases hr : r < 1024 ∧ k < 128
  · rw [dif_pos hr]
    exact h _
  · rw [dif_neg hr]
    unfold SampleSpec.pool
    rw [dif_neg fun h => hr h.2]

/-- An entry of the pools at a place of the block `f`, which is page `n` of the first layer. -/
theorem at_block (Y : Pool) (f : Fin 4 → ℕ) (n : ℕ) (hf : f = ![0, n, 0, 0]) (i : S1x1x1024x128.Idx) (e : S2x2560x1024x128.Idx)
    (he : ∀ a : Fin 4, (e a).val = f a * S1x1x1024x128.size a + 1 * (i a).val) : Y e = pool Y n (i 2).val (i 3).val := by
  subst hf
  have i0 : (i 0).val < 1 := (i 0).isLt
  have i1 : (i 1).val < 1 := (i 1).isLt
  refine pool_eq Y e _ _ _ ?_ ?_ ?_ ?_
  · refine (he 0).trans ?_
    show 0 * 1 + 1 * (i 0).val = 0
    omega
  · refine (he 1).trans ?_
    show n * 1 + 1 * (i 1).val = n
    omega
  · refine (he 2).trans ?_
    show 0 * 1024 + 1 * (i 2).val = (i 2).val
    omega
  · refine (he 3).trans ?_
    show 0 * 128 + 1 * (i 3).val = (i 3).val
    omega

theorem map_table (c : Dev nD) (t : Fin grid0.N) (n : ℕ) : page (tbl m 0) (grid0.coords t 0).val n = page (table m c) t.val n := by
  rw [coords_eq]
  exact congrArg (fun p => page p t.val n) (table_eq m c)

theorem blk1 (c : Dev nD) (hp : Named (table m c)) (t : Fin (cfgM m hO).N) (r k : ℕ) :
    entry (iblk m hO c 1 t) r k = pool (pages m c) (page (table m c) t.val 0) r k := by
  refine entry_pool _ _ (hp _ _) _ (fun i => ?_) r k
  rw [← map_table m c t 0]
  exact at_block (pages m c) _ _ (SampleTable.map1 (tbl m) (grid0.coords t)) i ((((cfgM m hO).win 1).blk t).view.emb i) fun _ => rfl

theorem blk2 (c : Dev nD) (hp : Named (table m c)) (t : Fin (cfgM m hO).N) (r k : ℕ) :
    entry (iblk m hO c 2 t) r k = pool (pages m c) (page (table m c) t.val 1) r k := by
  refine entry_pool _ _ (hp _ _) _ (fun i => ?_) r k
  rw [← map_table m c t 1]
  exact at_block (pages m c) _ _ (SampleTable.map2 (tbl m) (grid0.coords t)) i ((((cfgM m hO).win 2).blk t).view.emb i) fun _ => rfl

theorem blk3 (c : Dev nD) (hp : Named (table m c)) (t : Fin (cfgM m hO).N) (r k : ℕ) :
    entry (iblk m hO c 3 t) r k = pool (pages m c) (page (table m c) t.val 2) r k := by
  refine entry_pool _ _ (hp _ _) _ (fun i => ?_) r k
  rw [← map_table m c t 2]
  exact at_block (pages m c) _ _ (SampleTable.map3 (tbl m) (grid0.coords t)) i ((((cfgM m hO).win 3).blk t).view.emb i) fun _ => rfl

theorem blk4 (c : Dev nD) (hp : Named (table m c)) (t : Fin (cfgM m hO).N) (r k : ℕ) :
    entry (iblk m hO c 4 t) r k = pool (pages m c) (page (table m c) t.val 3) r k := by
  refine entry_pool _ _ (hp _ _) _ (fun i => ?_) r k
  rw [← map_table m c t 3]
  exact at_block (pages m c) _ _ (SampleTable.map4 (tbl m) (grid0.coords t)) i ((((cfgM m hO).win 4).blk t).view.emb i) fun _ => rfl

theorem blk5 (c : Dev nD) (hp : Named (table m c)) (t : Fin (cfgM m hO).N) (r k : ℕ) :
    entry (iblk m hO c 5 t) r k = pool (pages m c) (page (table m c) t.val 4) r k := by
  refine entry_pool _ _ (hp _ _) _ (fun i => ?_) r k
  rw [← map_table m c t 4]
  exact at_block (pages m c) _ _ (SampleTable.map5 (tbl m) (grid0.coords t)) i ((((cfgM m hO).win 5).blk t).view.emb i) fun _ => rfl

theorem blk6 (c : Dev nD) (hp : Named (table m c)) (t : Fin (cfgM m hO).N) (r k : ℕ) :
    entry (iblk m hO c 6 t) r k = pool (pages m c) (page (table m c) t.val 5) r k := by
  refine entry_pool _ _ (hp _ _) _ (fun i => ?_) r k
  rw [← map_table m c t 5]
  exact at_block (pages m c) _ _ (SampleTable.map6 (tbl m) (grid0.coords t)) i ((((cfgM m hO).win 6).blk t).view.emb i) fun _ => rfl

theorem blk7 (c : Dev nD) (hp : Named (table m c)) (t : Fin (cfgM m hO).N) (r k : ℕ) :
    entry (iblk m hO c 7 t) r k = pool (pages m c) (page (table m c) t.val 6) r k := by
  refine entry_pool _ _ (hp _ _) _ (fun i => ?_) r k
  rw [← map_table m c t 6]
  exact at_block (pages m c) _ _ (SampleTable.map7 (tbl m) (grid0.coords t)) i ((((cfgM m hO).win 7).blk t).view.emb i) fun _ => rfl

theorem blk8 (c : Dev nD) (hp : Named (table m c)) (t : Fin (cfgM m hO).N) (r k : ℕ) :
    entry (iblk m hO c 8 t) r k = pool (pages m c) (page (table m c) t.val 7) r k := by
  refine entry_pool _ _ (hp _ _) _ (fun i => ?_) r k
  rw [← map_table m c t 7]
  exact at_block (pages m c) _ _ (SampleTable.map8 (tbl m) (grid0.coords t)) i ((((cfgM m hO).win 8).blk t).view.emb i) fun _ => rfl

theorem blk9 (c : Dev nD) (hp : Named (table m c)) (t : Fin (cfgM m hO).N) (r k : ℕ) :
    entry (iblk m hO c 9 t) r k = pool (pages m c) (page (table m c) t.val 8) r k := by
  refine entry_pool _ _ (hp _ _) _ (fun i => ?_) r k
  rw [← map_table m c t 8]
  exact at_block (pages m c) _ _ (SampleTable.map9 (tbl m) (grid0.coords t)) i ((((cfgM m hO).win 9).blk t).view.emb i) fun _ => rfl

theorem blk10 (c : Dev nD) (hp : Named (table m c)) (t : Fin (cfgM m hO).N) (r k : ℕ) :
    entry (iblk m hO c 10 t) r k = pool (pages m c) (page (table m c) t.val 9) r k := by
  refine entry_pool _ _ (hp _ _) _ (fun i => ?_) r k
  rw [← map_table m c t 9]
  exact at_block (pages m c) _ _ (SampleTable.map10 (tbl m) (grid0.coords t)) i ((((cfgM m hO).win 10).blk t).view.emb i) fun _ => rfl

theorem blk11 (c : Dev nD) (hp : Named (table m c)) (t : Fin (cfgM m hO).N) (r k : ℕ) :
    entry (iblk m hO c 11 t) r k = pool (pages m c) (page (table m c) t.val 10) r k := by
  refine entry_pool _ _ (hp _ _) _ (fun i => ?_) r k
  rw [← map_table m c t 10]
  exact at_block (pages m c) _ _ (SampleTable.map11 (tbl m) (grid0.coords t)) i ((((cfgM m hO).win 11).blk t).view.emb i) fun _ => rfl

theorem blk12 (c : Dev nD) (hp : Named (table m c)) (t : Fin (cfgM m hO).N) (r k : ℕ) :
    entry (iblk m hO c 12 t) r k = pool (pages m c) (page (table m c) t.val 11) r k := by
  refine entry_pool _ _ (hp _ _) _ (fun i => ?_) r k
  rw [← map_table m c t 11]
  exact at_block (pages m c) _ _ (SampleTable.map12 (tbl m) (grid0.coords t)) i ((((cfgM m hO).win 12).blk t).view.emb i) fun _ => rfl

theorem blk13 (c : Dev nD) (hp : Named (table m c)) (t : Fin (cfgM m hO).N) (r k : ℕ) :
    entry (iblk m hO c 13 t) r k = pool (pages m c) (page (table m c) t.val 12) r k := by
  refine entry_pool _ _ (hp _ _) _ (fun i => ?_) r k
  rw [← map_table m c t 12]
  exact at_block (pages m c) _ _ (SampleTable.map13 (tbl m) (grid0.coords t)) i ((((cfgM m hO).win 13).blk t).view.emb i) fun _ => rfl

theorem blk14 (c : Dev nD) (hp : Named (table m c)) (t : Fin (cfgM m hO).N) (r k : ℕ) :
    entry (iblk m hO c 14 t) r k = pool (pages m c) (page (table m c) t.val 13) r k := by
  refine entry_pool _ _ (hp _ _) _ (fun i => ?_) r k
  rw [← map_table m c t 13]
  exact at_block (pages m c) _ _ (SampleTable.map14 (tbl m) (grid0.coords t)) i ((((cfgM m hO).win 14).blk t).view.emb i) fun _ => rfl

theorem blk15 (c : Dev nD) (hp : Named (table m c)) (t : Fin (cfgM m hO).N) (r k : ℕ) :
    entry (iblk m hO c 15 t) r k = pool (pages m c) (page (table m c) t.val 14) r k := by
  refine entry_pool _ _ (hp _ _) _ (fun i => ?_) r k
  rw [← map_table m c t 14]
  exact at_block (pages m c) _ _ (SampleTable.map15 (tbl m) (grid0.coords t)) i ((((cfgM m hO).win 15).blk t).view.emb i) fun _ => rfl

theorem blk16 (c : Dev nD) (hp : Named (table m c)) (t : Fin (cfgM m hO).N) (r k : ℕ) :
    entry (iblk m hO c 16 t) r k = pool (pages m c) (page (table m c) t.val 15) r k := by
  refine entry_pool _ _ (hp _ _) _ (fun i => ?_) r k
  rw [← map_table m c t 15]
  exact at_block (pages m c) _ _ (SampleTable.map16 (tbl m) (grid0.coords t)) i ((((cfgM m hO).win 16).blk t).view.emb i) fun _ => rfl

/-- What a grid point computes, at an index. -/
theorem point (c : Dev nD) (hp : Named (table m c)) (hf : SampleSpec.Finite (fresh m c) (pages m c)) (t : Fin (cfgM m hO).N) (r : Fin 8) (d : Fin 512) :
    outsAt0 m hO c t (ix3 0 r d) = result (fresh m c) (pages m c) (table m c) t.val r.val d.val := by
  unfold outsAt0
  exact out_apply c _ _ _ _ _ _ _ _ _ _ _ _ _ _ _ _ _ _ _ _ _ _ _ _ _ _ _ _ _ _ _ _ _ _ _ _ _ _ _ _ _ _ _ _ _ _ _ _ _ _ _ _ _ _ _
    (fresh m c) (pages m c) (table m c) t.val hf (fun r d => blk0 m hO c t r d)
    (fun r k => blk1 m hO c hp t r k)
    (fun r k => blk2 m hO c hp t r k)
    (fun r k => blk3 m hO c hp t r k)
    (fun r k => blk4 m hO c hp t r k)
    (fun r k => blk5 m hO c hp t r k)
    (fun r k => blk6 m hO c hp t r k)
    (fun r k => blk7 m hO c hp t r k)
    (fun r k => blk8 m hO c hp t r k)
    (fun r k => blk9 m hO c hp t r k)
    (fun r k => blk10 m hO c hp t r k)
    (fun r k => blk11 m hO c hp t r k)
    (fun r k => blk12 m hO c hp t r k)
    (fun r k => blk13 m hO c hp t r k)
    (fun r k => blk14 m hO c hp t r k)
    (fun r k => blk15 m hO c hp t r k)
    (fun r k => blk16 m hO c hp t r k)
    r d

/-- The call's result of the launched arguments. -/
abbrev G (c : Dev nD) : FVec Ideal ⟨3, ![128, 8, 512]⟩ .f32 := attention (fresh m c) (pages m c) (table m c)

/-- The place in the result array of a place of a block that stands at sequence `b`. -/
theorem at_seq (b : ℕ) (f : Fin 3 → ℕ) (hf : f = ![b, 0, 0]) (j : S1x8x512.Idx) (e : S128x8x512.Idx)
    (he : ∀ a : Fin 3, (e a).val = f a * S1x8x512.size a + 1 * (j a).val) : (e 0).val = b ∧ (e 1).val = (j 1).val ∧ (e 2).val = (j 2).val := by
  subst hf
  have j0 : (j 0).val < 1 := (j 0).isLt
  refine ⟨(he 0).trans ?_, (he 1).trans ?_, (he 2).trans ?_⟩
  · show b * 1 + 1 * (j 0).val = b
    omega
  · show 0 * 8 + 1 * (j 1).val = (j 1).val
    omega
  · show 0 * 512 + 1 * (j 2).val = (j 2).val
    omega

/-- The result's window at a point. -/
theorem map17 (t : Fin grid0.N) : cc0_transform_17 (grid0.coords t) = ![t.val, 0, 0] :=
  congrArg (fun n => (![n, 0, 0] : Fin 3 → ℕ)) (seq t)

/-- The place in the result array of a place of the block at point `t`. -/
abbrev place (t : Fin (cfgM m hO).N) (j : S1x8x512.Idx) : S128x8x512.Idx := (((cfgM m hO).win 17).blk t).view.emb j

theorem place_eq (t : Fin (cfgM m hO).N) (j : S1x8x512.Idx) :
    (place m hO t j 0).val = t.val ∧ (place m hO t j 1).val = (j 1).val ∧ (place m hO t j 2).val = (j 2).val :=
  at_seq t.val _ (map17 t) j _ fun _ => rfl

theorem at17 (c : Dev nD) (t : Fin (cfgM m hO).N) (j : S1x8x512.Idx) :
    G m c (place m hO t j) = result (fresh m c) (pages m c) (table m c) t.val (j 1).val (j 2).val := by
  show result (fresh m c) (pages m c) (table m c) (place m hO t j 0).val (place m hO t j 1).val (place m hO t j 2).val = _
  rw [(place_eq m hO t j).1, (place_eq m hO t j).2.1, (place_eq m hO t j).2.2]

theorem flushed17_eq (c : Dev nD) (hp : Named (table m c)) (hf : SampleSpec.Finite (fresh m c) (pages m c)) (t : Fin (cfgM m hO).N)
    (_ : ((cfgM m hO).win 17).flush t = true) :
    (dats m hO 0 c).flushed 17 t = (((cfgM m hO).win 17).blk t).view.read (Elt Ideal) (G m c) := by
  refine (congrArg (((cfgM m hO).win 17).cut (grid0.coords t)) (after0_17 m hO c t)).trans ?_
  refine funext fun (j : S1x8x512.Idx) => ?_
  show outsAt0 m hO c t j = G m c (place m hO t j)
  refine Eq.trans ?_ (at17 m hO c t j).symm
  have e : (j : S1x8x512.Idx) = ix3 0 (j 1) (j 2) := by
    have j0 : (j 0).val < 1 := (j 0).isLt
    funext a
    match a with
    | ⟨0, _⟩ => exact Fin.ext (show (j 0).val = 0 by omega)
    | ⟨1, _⟩ => rfl
    | ⟨2, _⟩ => rfl
  exact (congrArg (outsAt0 m hO c t) e).trans (point m hO c hp hf t (j 1) (j 2))

theorem covered17 (i : S128x8x512.Idx) :
    ∃ t : Fin (cfgM m hO).N, ((cfgM m hO).win 17).flush t = true ∧ i ∈ (((cfgM m hO).win 17).blk t).view.set := by
  have h0 : (i 0).val < 128 := (i 0).isLt
  have h1 : (i 1).val < 8 := (i 1).isLt
  have h2 : (i 2).val < 512 := (i 2).isLt
  let t : Fin (cfgM m hO).N := ⟨(i 0).val, h0⟩
  have e : place m hO t (ix3 0 (i 1) (i 2)) = i := by
    have h := place_eq m hO t (ix3 0 (i 1) (i 2))
    funext a
    match a with
    | ⟨0, _⟩ => exact Fin.ext h.1
    | ⟨1, _⟩ => exact Fin.ext h.2.1
    | ⟨2, _⟩ => exact Fin.ext h.2.2
  exact ⟨t, flush0_17 (adm m hO) t, Eq.subst (motive := fun z => z ∈ (((cfgM m hO).win 17).blk t).view.set) e
    ((((cfgM m hO).win 17).blk t).view.emb_mem_set _)⟩

/-- The result array after the run is the call's result. -/
theorem final17 (c : Dev nD) (hp : Named (table m c)) (hf : SampleSpec.Finite (fresh m c) (pages m c)) :
    (dats m hO 0 c).arrAt 17 (cfgM m hO).N = G m c :=
  (dats m hO 0 c).arrAt_eq_of_cover 17 (G m c) (flushed17_eq m hO c hp hf) (covered17 m hO)

/-- The run: the result array holds what the pipeline computes, and the arguments are as they were. -/
theorem run (ρ : Dev nD → PrngReg) : θ_run defs (onTc (τ := τ) (main (F := Ideal))) ⟨m, fun _ => 0, ρ⟩ (fun r => ∀ c : Dev nD,
      r.2.mem ((c.tc : Thread nD τ).loc main_v0) = (dats m hO 0 c).arrAt 17 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 17,
      ((h c).1 0).trans (((dats m hO 0 c).arrAt_in 0 rfl _).trans ((A_eq m hO c 0).trans (V_main_arg0 m c))),
      ((h c).1 16).trans (((dats m hO 0 c).arrAt_in 16 rfl _).trans ((A_eq m hO c 16).trans (V_main_arg1 m c))),
      ((h c).2 main_arg2 (by decide : main_arg2 ∈ Pipeline.restRefs sig spec0)).trans (V_main_arg2 m c)⟩) (run_main m ρ hO)

end

/-- At the ideal values, where every word of the table names a page and the queries and keys are finite, the kernel's result
    is the reference's. -/
theorem algebraic : Cert.algebraic_Kernel10Ideal_Reference10Ideal_pre_pages_named_and_finite := by
  intro m ρ m' ρ' hpre hin
  have hs : ∀ c, Named (table m c) ∧ SampleSpec.Finite (fresh m c) (pages m c) :=
    fun c => of_pre _ _ _ (hpre c).1 (hpre c).2.1 (hpre c).2.2
  have hO : Cert.Kernel10Ideal.Gen.Ok m := SampleTable.fits_launched m (hs 0).1
  refine ⟨fun c => G m c, ?_, ?_⟩
  · refine (θ_run Cert.Kernel10Ideal.defs _ _).mono (fun _ h c => ?_) (run m hO ρ)
    exact ⟨(h c).1.trans (final17 m hO c (hs c).1 (hs c).2), (h c).2⟩
  · refine (θ_run Cert.Reference10Ideal.defs _ _).mono (fun _ h c => ?_) (Cert.Reference10Ideal.Value.run (F := Ideal) m' ρ')
    refine ⟨(h c).1.trans ?_, (h c).2⟩
    refine (Cert.Reference10Ideal.Read.val_main_v47_eq m' c).trans ?_
    rw [(hin c).1, (hin c).2.1, (hin c).2.2]
    exact SampleRef.ref_out _ _ _ (hs c).1 (hs c).2

/-- The reference runs to its end and leaves its arguments and every counter as they were. -/
theorem quiescent : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

end Cert.Proof.Sample
-- ==== Proof.lean ====
module

public import proofs.«01_k».proof.Defs
public import proofs.«01_k».proof.Proof.StickAttention
public import proofs.«01_k».proof.Proof.FfnDown
public import proofs.«01_k».proof.Proof.FfnUpSample
public import proofs.«01_k».proof.Proof.Proj
public import proofs.«01_k».proof.Proof.OutProj
public import proofs.«01_k».proof.Proof.FfnUpPrompt
public import proofs.«01_k».proof.Proof.CompressPast
public import proofs.«01_k».proof.Proof.Compress
public import proofs.«01_k».proof.Proof.Gating
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel5.Frame
public import proofs.«01_k».proof.Proof.Gen.Kernel5Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.ProjBits
public import proofs.«01_k».proof.Proof.ProjIdeal
public import proofs.«01_k».proof.Proof.FfnUpPromptBits
public import proofs.«01_k».proof.Proof.FfnUpPromptIdeal
public import proofs.«01_k».proof.Proof.Gen.Kernel10.Frame
public import proofs.«01_k».proof.Proof.Gen.Kernel10Ideal.Frame
public import proofs.«01_k».proof.Proof.SampleTableBits
public import proofs.«01_k».proof.Proof.SampleTable
public import proofs.«01_k».proof.Proof.Sample
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_queries_and_keys_finite.Gen.facts, Cert.Pre_pages_named.Gen.facts, Cert.Pre_pages_named_and_finite.Gen.facts,
  fun m ρ _ => Cert.Kernel.Gen.frame m ρ,
  fun m ρ _ => Cert.KernelIdeal.Gen.frame m ρ, fun m ρ _ => Cert.KernelIdeal.Gen.frame m ρ,
  StickAttention.quiescent, fun m ρ _ => StickAttention.quiescent m ρ trivial,
  fun m ρ _ => Cert.Kernel2.Gen.frame m ρ, fun m ρ _ => Cert.Kernel2Ideal.Gen.frame m ρ, FfnDown.quiescent,
  fun m ρ _ => Cert.Kernel3.Gen.frame m ρ, fun m ρ _ => Cert.Kernel3Ideal.Gen.frame m ρ, FfnUpSample.quiescent,
  fun m ρ _ => ProjBits.frame m ρ, fun m ρ _ => ProjIdeal.frame m ρ, Proj.quiescent,
  fun m ρ _ => Cert.Kernel5.Gen.frame m ρ, fun m ρ _ => Cert.Kernel5Ideal.Gen.frame m ρ, OutProj.quiescent,
  fun m ρ _ => FfnUpPromptBits.frame m ρ, fun m ρ _ => FfnUpPromptIdeal.frame m ρ, FfnUpPrompt.quiescent,
  fun m ρ _ => Cert.Kernel7.Gen.frame m ρ, fun m ρ _ => Cert.Kernel7Ideal.Gen.frame m ρ, CompressPast.quiescent,
  fun m ρ _ => Cert.Kernel8.Gen.frame m ρ, fun m ρ _ => Cert.Kernel8Ideal.Gen.frame m ρ, Compress.quiescent,
  fun m ρ _ => Cert.Kernel9.Gen.frame m ρ, fun m ρ _ => Cert.Kernel9Ideal.Gen.frame m ρ, Gating.quiescent,
  fun m ρ h => Cert.Kernel10.Gen.frame m ρ (SampleTableBits.fits_launched m (SampleSpec.named_of_pre _ _ _ (h 0))),
  fun m ρ h => Cert.Kernel10Ideal.Gen.frame m ρ (SampleTable.fits_launched m (SampleSpec.named_of_pre _ _ _ (h 0))),
  fun m ρ h => Cert.Kernel10Ideal.Gen.frame m ρ (SampleTable.fits_launched m (SampleSpec.of_pre _ _ _ (h 0).1 (h 0).2.1 (h 0).2.2).1),
  Sample.quiescent, fun m ρ _ => Sample.quiescent m ρ trivial,
  trivial, StickAttention.algebraic,
  trivial, FfnDown.algebraic,
  trivial, FfnUpSample.algebraic,
  trivial, Proj.algebraic,
  trivial, OutProj.algebraic,
  trivial, FfnUpPrompt.algebraic,
  trivial, CompressPast.algebraic,
  trivial, Compress.algebraic,
  trivial, Gating.algebraic,
  trivial, Sample.algebraic⟩

end Cert.Proof

end
